-- ==== Defs.lean ====
def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_attention_inputs [hPre_attention_inputs : Cert.Pre_attention_inputs.Facts] (m : (ℓ : Loc Cert.AttnIdeal.nD Cert.AttnIdeal.τ Cert.AttnIdeal.sig) → Buf (Elt Ideal) ℓ) : Prop :=
  ∀ c : Dev Cert.AttnIdeal.nD,
    (Cert.Pre_attention_inputs.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2))) = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_attention_inputs [hPre_attention_inputs : Cert.Pre_attention_inputs.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_attention_inputs.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2))) = (fun _ => 1#1)

def Pre_FfnB (m : (ℓ : Loc Cert.FfnB.nD Cert.FfnB.τ Cert.FfnB.sig) → Buf (Elt Bits) ℓ) : Prop :=
  True

def Pre_FfnBIdeal (m : (ℓ : Loc Cert.FfnBIdeal.nD Cert.FfnBIdeal.τ Cert.FfnBIdeal.sig) → Buf (Elt Ideal) ℓ) : Prop :=
  True

def Pre_FfnBRefIdeal (m : (ℓ : Loc Cert.FfnBRefIdeal.nD Cert.FfnBRefIdeal.τ Cert.FfnBRefIdeal.sig) → Buf (Elt Ideal) ℓ) : Prop :=
  True

def Pre_FfnA (m : (ℓ : Loc Cert.FfnA.nD Cert.FfnA.τ Cert.FfnA.sig) → Buf (Elt Bits) ℓ) : Prop :=
  True

def Pre_FfnAIdeal (m : (ℓ : Loc Cert.FfnAIdeal.nD Cert.FfnAIdeal.τ Cert.FfnAIdeal.sig) → Buf (Elt Ideal) ℓ) : Prop :=
  True

def Pre_FfnARefIdeal (m : (ℓ : Loc Cert.FfnARefIdeal.nD Cert.FfnARefIdeal.τ Cert.FfnARefIdeal.sig) → Buf (Elt Ideal) ℓ) : Prop :=
  True

def Pre_Ple (m : (ℓ : Loc Cert.Ple.nD Cert.Ple.τ Cert.Ple.sig) → Buf (Elt Bits) ℓ) : Prop :=
  True

def Pre_PleIdeal (m : (ℓ : Loc Cert.PleIdeal.nD Cert.PleIdeal.τ Cert.PleIdeal.sig) → Buf (Elt Ideal) ℓ) : Prop :=
  True

def Pre_PleRefIdeal (m : (ℓ : Loc Cert.PleRefIdeal.nD Cert.PleRefIdeal.τ Cert.PleRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjIdeal_rope_rows [hPre_rope_rows : Cert.Pre_rope_rows.Facts] (m : (ℓ : Loc Cert.InProjIdeal.nD Cert.InProjIdeal.τ Cert.InProjIdeal.sig) → Buf (Elt Ideal) ℓ) : Prop :=
  ∀ c : Dev Cert.InProjIdeal.nD,
    (Cert.Pre_rope_rows.fn (F := Ideal) (m ((c.tc : Thread Cert.InProjIdeal.nD Cert.InProjIdeal.τ).loc Cert.InProjIdeal.main_arg0)) (m ((c.tc : Thread Cert.InProjIdeal.nD Cert.InProjIdeal.τ).loc Cert.InProjIdeal.main_arg1)) (m ((c.tc : Thread Cert.InProjIdeal.nD Cert.InProjIdeal.τ).loc Cert.InProjIdeal.main_arg2)) (m ((c.tc : Thread Cert.InProjIdeal.nD Cert.InProjIdeal.τ).loc Cert.InProjIdeal.main_arg3)) (m ((c.tc : Thread Cert.InProjIdeal.nD Cert.InProjIdeal.τ).loc Cert.InProjIdeal.main_arg4)) (m ((c.tc : Thread Cert.InProjIdeal.nD Cert.InProjIdeal.τ).loc Cert.InProjIdeal.main_arg5)) (m ((c.tc : Thread Cert.InProjIdeal.nD Cert.InProjIdeal.τ).loc Cert.InProjIdeal.main_arg6))) = (fun _ => 1#1)

def Pre_InProjRefIdeal (m : (ℓ : Loc Cert.InProjRefIdeal.nD Cert.InProjRefIdeal.τ Cert.InProjRefIdeal.sig) → Buf (Elt Ideal) ℓ) : Prop :=
  True

def Pre_InProjRefIdeal_rope_rows [hPre_rope_rows : Cert.Pre_rope_rows.Facts] (m : (ℓ : Loc Cert.InProjRefIdeal.nD Cert.InProjRefIdeal.τ Cert.InProjRefIdeal.sig) → Buf (Elt Ideal) ℓ) : Prop :=
  ∀ c : Dev Cert.InProjRefIdeal.nD,
    (Cert.Pre_rope_rows.fn (F := Ideal) (m ((c.tc : Thread Cert.InProjRefIdeal.nD Cert.InProjRefIdeal.τ).loc Cert.InProjRefIdeal.main_arg0)) (m ((c.tc : Thread Cert.InProjRefIdeal.nD Cert.InProjRefIdeal.τ).loc Cert.InProjRefIdeal.main_arg1)) (m ((c.tc : Thread Cert.InProjRefIdeal.nD Cert.InProjRefIdeal.τ).loc Cert.InProjRefIdeal.main_arg2)) (m ((c.tc : Thread Cert.InProjRefIdeal.nD Cert.InProjRefIdeal.τ).loc Cert.InProjRefIdeal.main_arg3)) (m ((c.tc : Thread Cert.InProjRefIdeal.nD Cert.InProjRefIdeal.τ).loc Cert.InProjRefIdeal.main_arg4)) (m ((c.tc : Thread Cert.InProjRefIdeal.nD Cert.InProjRefIdeal.τ).loc Cert.InProjRefIdeal.main_arg5)) (m ((c.tc : Thread Cert.InProjRefIdeal.nD Cert.InProjRefIdeal.τ).loc Cert.InProjRefIdeal.main_arg6))) = (fun _ => 1#1)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ r.2.sem = fun _ => 0)

def quiescent_AttnIdeal_pre_attention_inputs [hAttnIdeal : Cert.AttnIdeal.Facts] [hPre_attention_inputs : Cert.Pre_attention_inputs.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_attention_inputs m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2))
      ∧ r.2.sem = fun _ => 0)

def quiescent_AttnRefIdeal_pre_attention_inputs [hAttnRefIdeal : Cert.AttnRefIdeal.Facts] [hPre_attention_inputs : Cert.Pre_attention_inputs.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_attention_inputs m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2))
      ∧ r.2.sem = fun _ => 0)

def quiescent_FfnB [hFfnB : Cert.FfnB.Facts] : Prop :=
  ∀ (m : (ℓ : Loc Cert.FfnB.nD Cert.FfnB.τ Cert.FfnB.sig) → Buf (Elt Bits) ℓ) (g : Dev Cert.FfnB.nD → PrngReg), Pre_FfnB m →
    θ_run (Cert.FfnB.defs (F := Bits)) (onTc (τ := Cert.FfnB.τ) (Cert.FfnB.main (F := Bits))) ⟨m, fun _ => 0, g⟩ (fun r => (∀ c : Dev Cert.FfnB.nD,
      r.2.mem ((c.tc : Thread Cert.FfnB.nD Cert.FfnB.τ).loc Cert.FfnB.main_arg0) = m ((c.tc : Thread Cert.FfnB.nD Cert.FfnB.τ).loc Cert.FfnB.main_arg0)
      ∧ r.2.mem ((c.tc : Thread Cert.FfnB.nD Cert.FfnB.τ).loc Cert.FfnB.main_arg1) = m ((c.tc : Thread Cert.FfnB.nD Cert.FfnB.τ).loc Cert.FfnB.main_arg1)
      ∧ r.2.mem ((c.tc : Thread Cert.FfnB.nD Cert.FfnB.τ).loc Cert.FfnB.main_arg2) = m ((c.tc : Thread Cert.FfnB.nD Cert.FfnB.τ).loc Cert.FfnB.main_arg2)
      ∧ r.2.mem ((c.tc : Thread Cert.FfnB.nD Cert.FfnB.τ).loc Cert.FfnB.main_arg3) = m ((c.tc : Thread Cert.FfnB.nD Cert.FfnB.τ).loc Cert.FfnB.main_arg3)
      ∧ r.2.mem ((c.tc : Thread Cert.FfnB.nD Cert.FfnB.τ).loc Cert.FfnB.main_arg4) = m ((c.tc : Thread Cert.FfnB.nD Cert.FfnB.τ).loc Cert.FfnB.main_arg4)
      ∧ r.2.mem ((c.tc : Thread Cert.FfnB.nD Cert.FfnB.τ).loc Cert.FfnB.main_arg5) = m ((c.tc : Thread Cert.FfnB.nD Cert.FfnB.τ).loc Cert.FfnB.main_arg5))
      ∧ r.2.sem = fun _ => 0)

def quiescent_FfnBIdeal [hFfnBIdeal : Cert.FfnBIdeal.Facts] : Prop :=
  ∀ (m : (ℓ : Loc Cert.FfnBIdeal.nD Cert.FfnBIdeal.τ Cert.FfnBIdeal.sig) → Buf (Elt Ideal) ℓ) (g : Dev Cert.FfnBIdeal.nD → PrngReg), Pre_FfnBIdeal m →
    θ_run (Cert.FfnBIdeal.defs (F := Ideal)) (onTc (τ := Cert.FfnBIdeal.τ) (Cert.FfnBIdeal.main (F := Ideal))) ⟨m, fun _ => 0, g⟩ (fun r => (∀ c : Dev Cert.FfnBIdeal.nD,
      r.2.mem ((c.tc : Thread Cert.FfnBIdeal.nD Cert.FfnBIdeal.τ).loc Cert.FfnBIdeal.main_arg0) = m ((c.tc : Thread Cert.FfnBIdeal.nD Cert.FfnBIdeal.τ).loc Cert.FfnBIdeal.main_arg0)
      ∧ r.2.mem ((c.tc : Thread Cert.FfnBIdeal.nD Cert.FfnBIdeal.τ).loc Cert.FfnBIdeal.main_arg1) = m ((c.tc : Thread Cert.FfnBIdeal.nD Cert.FfnBIdeal.τ).loc Cert.FfnBIdeal.main_arg1)
      ∧ r.2.mem ((c.tc : Thread Cert.FfnBIdeal.nD Cert.FfnBIdeal.τ).loc Cert.FfnBIdeal.main_arg2) = m ((c.tc : Thread Cert.FfnBIdeal.nD Cert.FfnBIdeal.τ).loc Cert.FfnBIdeal.main_arg2)
      ∧ r.2.mem ((c.tc : Thread Cert.FfnBIdeal.nD Cert.FfnBIdeal.τ).loc Cert.FfnBIdeal.main_arg3) = m ((c.tc : Thread Cert.FfnBIdeal.nD Cert.FfnBIdeal.τ).loc Cert.FfnBIdeal.main_arg3)
      ∧ r.2.mem ((c.tc : Thread Cert.FfnBIdeal.nD Cert.FfnBIdeal.τ).loc Cert.FfnBIdeal.main_arg4) = m ((c.tc : Thread Cert.FfnBIdeal.nD Cert.FfnBIdeal.τ).loc Cert.FfnBIdeal.main_arg4)
      ∧ r.2.mem ((c.tc : Thread Cert.FfnBIdeal.nD Cert.FfnBIdeal.τ).loc Cert.FfnBIdeal.main_arg5) = m ((c.tc : Thread Cert.FfnBIdeal.nD Cert.FfnBIdeal.τ).loc Cert.FfnBIdeal.main_arg5))
      ∧ r.2.sem = fun _ => 0)

def quiescent_FfnBRefIdeal [hFfnBRefIdeal : Cert.FfnBRefIdeal.Facts] : Prop :=
  ∀ (m : (ℓ : Loc Cert.FfnBRefIdeal.nD Cert.FfnBRefIdeal.τ Cert.FfnBRefIdeal.sig) → Buf (Elt Ideal) ℓ) (g : Dev Cert.FfnBRefIdeal.nD → PrngReg), Pre_FfnBRefIdeal m →
    θ_run (Cert.FfnBRefIdeal.defs (F := Ideal)) (onTc (τ := Cert.FfnBRefIdeal.τ) (Cert.FfnBRefIdeal.main (F := Ideal))) ⟨m, fun _ => 0, g⟩ (fun r => (∀ c : Dev Cert.FfnBRefIdeal.nD,
      r.2.mem ((c.tc : Thread Cert.FfnBRefIdeal.nD Cert.FfnBRefIdeal.τ).loc Cert.FfnBRefIdeal.main_arg0) = m ((c.tc : Thread Cert.FfnBRefIdeal.nD Cert.FfnBRefIdeal.τ).loc Cert.FfnBRefIdeal.main_arg0)
      ∧ r.2.mem ((c.tc : Thread Cert.FfnBRefIdeal.nD Cert.FfnBRefIdeal.τ).loc Cert.FfnBRefIdeal.main_arg1) = m ((c.tc : Thread Cert.FfnBRefIdeal.nD Cert.FfnBRefIdeal.τ).loc Cert.FfnBRefIdeal.main_arg1)
      ∧ r.2.mem ((c.tc : Thread Cert.FfnBRefIdeal.nD Cert.FfnBRefIdeal.τ).loc Cert.FfnBRefIdeal.main_arg2) = m ((c.tc : Thread Cert.FfnBRefIdeal.nD Cert.FfnBRefIdeal.τ).loc Cert.FfnBRefIdeal.main_arg2)
      ∧ r.2.mem ((c.tc : Thread Cert.FfnBRefIdeal.nD Cert.FfnBRefIdeal.τ).loc Cert.FfnBRefIdeal.main_arg3) = m ((c.tc : Thread Cert.FfnBRefIdeal.nD Cert.FfnBRefIdeal.τ).loc Cert.FfnBRefIdeal.main_arg3)
      ∧ r.2.mem ((c.tc : Thread Cert.FfnBRefIdeal.nD Cert.FfnBRefIdeal.τ).loc Cert.FfnBRefIdeal.main_arg4) = m ((c.tc : Thread Cert.FfnBRefIdeal.nD Cert.FfnBRefIdeal.τ).loc Cert.FfnBRefIdeal.main_arg4)
      ∧ r.2.mem ((c.tc : Thread Cert.FfnBRefIdeal.nD Cert.FfnBRefIdeal.τ).loc Cert.FfnBRefIdeal.main_arg5) = m ((c.tc : Thread Cert.FfnBRefIdeal.nD Cert.FfnBRefIdeal.τ).loc Cert.FfnBRefIdeal.main_arg5))
      ∧ r.2.sem = fun _ => 0)

def quiescent_FfnA [hFfnA : Cert.FfnA.Facts] : Prop :=
  ∀ (m : (ℓ : Loc Cert.FfnA.nD Cert.FfnA.τ Cert.FfnA.sig) → Buf (Elt Bits) ℓ) (g : Dev Cert.FfnA.nD → PrngReg), Pre_FfnA m →
    θ_run (Cert.FfnA.defs (F := Bits)) (onTc (τ := Cert.FfnA.τ) (Cert.FfnA.main (F := Bits))) ⟨m, fun _ => 0, g⟩ (fun r => (∀ c : Dev Cert.FfnA.nD,
      r.2.mem ((c.tc : Thread Cert.FfnA.nD Cert.FfnA.τ).loc Cert.FfnA.main_arg0) = m ((c.tc : Thread Cert.FfnA.nD Cert.FfnA.τ).loc Cert.FfnA.main_arg0)
      ∧ r.2.mem ((c.tc : Thread Cert.FfnA.nD Cert.FfnA.τ).loc Cert.FfnA.main_arg1) = m ((c.tc : Thread Cert.FfnA.nD Cert.FfnA.τ).loc Cert.FfnA.main_arg1)
      ∧ r.2.mem ((c.tc : Thread Cert.FfnA.nD Cert.FfnA.τ).loc Cert.FfnA.main_arg2) = m ((c.tc : Thread Cert.FfnA.nD Cert.FfnA.τ).loc Cert.FfnA.main_arg2)
      ∧ r.2.mem ((c.tc : Thread Cert.FfnA.nD Cert.FfnA.τ).loc Cert.FfnA.main_arg3) = m ((c.tc : Thread Cert.FfnA.nD Cert.FfnA.τ).loc Cert.FfnA.main_arg3)
      ∧ r.2.mem ((c.tc : Thread Cert.FfnA.nD Cert.FfnA.τ).loc Cert.FfnA.main_arg4) = m ((c.tc : Thread Cert.FfnA.nD Cert.FfnA.τ).loc Cert.FfnA.main_arg4)
      ∧ r.2.mem ((c.tc : Thread Cert.FfnA.nD Cert.FfnA.τ).loc Cert.FfnA.main_arg5) = m ((c.tc : Thread Cert.FfnA.nD Cert.FfnA.τ).loc Cert.FfnA.main_arg5)
      ∧ r.2.mem ((c.tc : Thread Cert.FfnA.nD Cert.FfnA.τ).loc Cert.FfnA.main_arg6) = m ((c.tc : Thread Cert.FfnA.nD Cert.FfnA.τ).loc Cert.FfnA.main_arg6)
      ∧ r.2.mem ((c.tc : Thread Cert.FfnA.nD Cert.FfnA.τ).loc Cert.FfnA.main_arg7) = m ((c.tc : Thread Cert.FfnA.nD Cert.FfnA.τ).loc Cert.FfnA.main_arg7)
      ∧ r.2.mem ((c.tc : Thread Cert.FfnA.nD Cert.FfnA.τ).loc Cert.FfnA.main_arg8) = m ((c.tc : Thread Cert.FfnA.nD Cert.FfnA.τ).loc Cert.FfnA.main_arg8))
      ∧ r.2.sem = fun _ => 0)

def quiescent_FfnAIdeal [hFfnAIdeal : Cert.FfnAIdeal.Facts] : Prop :=
  ∀ (m : (ℓ : Loc Cert.FfnAIdeal.nD Cert.FfnAIdeal.τ Cert.FfnAIdeal.sig) → Buf (Elt Ideal) ℓ) (g : Dev Cert.FfnAIdeal.nD → PrngReg), Pre_FfnAIdeal m →
    θ_run (Cert.FfnAIdeal.defs (F := Ideal)) (onTc (τ := Cert.FfnAIdeal.τ) (Cert.FfnAIdeal.main (F := Ideal))) ⟨m, fun _ => 0, g⟩ (fun r => (∀ c : Dev Cert.FfnAIdeal.nD,
      r.2.mem ((c.tc : Thread Cert.FfnAIdeal.nD Cert.FfnAIdeal.τ).loc Cert.FfnAIdeal.main_arg0) = m ((c.tc : Thread Cert.FfnAIdeal.nD Cert.FfnAIdeal.τ).loc Cert.FfnAIdeal.main_arg0)
      ∧ r.2.mem ((c.tc : Thread Cert.FfnAIdeal.nD Cert.FfnAIdeal.τ).loc Cert.FfnAIdeal.main_arg1) = m ((c.tc : Thread Cert.FfnAIdeal.nD Cert.FfnAIdeal.τ).loc Cert.FfnAIdeal.main_arg1)
      ∧ r.2.mem ((c.tc : Thread Cert.FfnAIdeal.nD Cert.FfnAIdeal.τ).loc Cert.FfnAIdeal.main_arg2) = m ((c.tc : Thread Cert.FfnAIdeal.nD Cert.FfnAIdeal.τ).loc Cert.FfnAIdeal.main_arg2)
      ∧ r.2.mem ((c.tc : Thread Cert.FfnAIdeal.nD Cert.FfnAIdeal.τ).loc Cert.FfnAIdeal.main_arg3) = m ((c.tc : Thread Cert.FfnAIdeal.nD Cert.FfnAIdeal.τ).loc Cert.FfnAIdeal.main_arg3)
      ∧ r.2.mem ((c.tc : Thread Cert.FfnAIdeal.nD Cert.FfnAIdeal.τ).loc Cert.FfnAIdeal.main_arg4) = m ((c.tc : Thread Cert.FfnAIdeal.nD Cert.FfnAIdeal.τ).loc Cert.FfnAIdeal.main_arg4)
      ∧ r.2.mem ((c.tc : Thread Cert.FfnAIdeal.nD Cert.FfnAIdeal.τ).loc Cert.FfnAIdeal.main_arg5) = m ((c.tc : Thread Cert.FfnAIdeal.nD Cert.FfnAIdeal.τ).loc Cert.FfnAIdeal.main_arg5)
      ∧ r.2.mem ((c.tc : Thread Cert.FfnAIdeal.nD Cert.FfnAIdeal.τ).loc Cert.FfnAIdeal.main_arg6) = m ((c.tc : Thread Cert.FfnAIdeal.nD Cert.FfnAIdeal.τ).loc Cert.FfnAIdeal.main_arg6)
      ∧ r.2.mem ((c.tc : Thread Cert.FfnAIdeal.nD Cert.FfnAIdeal.τ).loc Cert.FfnAIdeal.main_arg7) = m ((c.tc : Thread Cert.FfnAIdeal.nD Cert.FfnAIdeal.τ).loc Cert.FfnAIdeal.main_arg7)
      ∧ r.2.mem ((c.tc : Thread Cert.FfnAIdeal.nD Cert.FfnAIdeal.τ).loc Cert.FfnAIdeal.main_arg8) = m ((c.tc : Thread Cert.FfnAIdeal.nD Cert.FfnAIdeal.τ).loc Cert.FfnAIdeal.main_arg8))
      ∧ r.2.sem = fun _ => 0)

def quiescent_FfnARefIdeal [hFfnARefIdeal : Cert.FfnARefIdeal.Facts] : Prop :=
  ∀ (m : (ℓ : Loc Cert.FfnARefIdeal.nD Cert.FfnARefIdeal.τ Cert.FfnARefIdeal.sig) → Buf (Elt Ideal) ℓ) (g : Dev Cert.FfnARefIdeal.nD → PrngReg), Pre_FfnARefIdeal m →
    θ_run (Cert.FfnARefIdeal.defs (F := Ideal)) (onTc (τ := Cert.FfnARefIdeal.τ) (Cert.FfnARefIdeal.main (F := Ideal))) ⟨m, fun _ => 0, g⟩ (fun r => (∀ c : Dev Cert.FfnARefIdeal.nD,
      r.2.mem ((c.tc : Thread Cert.FfnARefIdeal.nD Cert.FfnARefIdeal.τ).loc Cert.FfnARefIdeal.main_arg0) = m ((c.tc : Thread Cert.FfnARefIdeal.nD Cert.FfnARefIdeal.τ).loc Cert.FfnARefIdeal.main_arg0)
      ∧ r.2.mem ((c.tc : Thread Cert.FfnARefIdeal.nD Cert.FfnARefIdeal.τ).loc Cert.FfnARefIdeal.main_arg1) = m ((c.tc : Thread Cert.FfnARefIdeal.nD Cert.FfnARefIdeal.τ).loc Cert.FfnARefIdeal.main_arg1)
      ∧ r.2.mem ((c.tc : Thread Cert.FfnARefIdeal.nD Cert.FfnARefIdeal.τ).loc Cert.FfnARefIdeal.main_arg2) = m ((c.tc : Thread Cert.FfnARefIdeal.nD Cert.FfnARefIdeal.τ).loc Cert.FfnARefIdeal.main_arg2)
      ∧ r.2.mem ((c.tc : Thread Cert.FfnARefIdeal.nD Cert.FfnARefIdeal.τ).loc Cert.FfnARefIdeal.main_arg3) = m ((c.tc : Thread Cert.FfnARefIdeal.nD Cert.FfnARefIdeal.τ).loc Cert.FfnARefIdeal.main_arg3)
      ∧ r.2.mem ((c.tc : Thread Cert.FfnARefIdeal.nD Cert.FfnARefIdeal.τ).loc Cert.FfnARefIdeal.main_arg4) = m ((c.tc : Thread Cert.FfnARefIdeal.nD Cert.FfnARefIdeal.τ).loc Cert.FfnARefIdeal.main_arg4)
      ∧ r.2.mem ((c.tc : Thread Cert.FfnARefIdeal.nD Cert.FfnARefIdeal.τ).loc Cert.FfnARefIdeal.main_arg5) = m ((c.tc : Thread Cert.FfnARefIdeal.nD Cert.FfnARefIdeal.τ).loc Cert.FfnARefIdeal.main_arg5)
      ∧ r.2.mem ((c.tc : Thread Cert.FfnARefIdeal.nD Cert.FfnARefIdeal.τ).loc Cert.FfnARefIdeal.main_arg6) = m ((c.tc : Thread Cert.FfnARefIdeal.nD Cert.FfnARefIdeal.τ).loc Cert.FfnARefIdeal.main_arg6)
      ∧ r.2.mem ((c.tc : Thread Cert.FfnARefIdeal.nD Cert.FfnARefIdeal.τ).loc Cert.FfnARefIdeal.main_arg7) = m ((c.tc : Thread Cert.FfnARefIdeal.nD Cert.FfnARefIdeal.τ).loc Cert.FfnARefIdeal.main_arg7)
      ∧ r.2.mem ((c.tc : Thread Cert.FfnARefIdeal.nD Cert.FfnARefIdeal.τ).loc Cert.FfnARefIdeal.main_arg8) = m ((c.tc : Thread Cert.FfnARefIdeal.nD Cert.FfnARefIdeal.τ).loc Cert.FfnARefIdeal.main_arg8))
      ∧ r.2.sem = fun _ => 0)

def quiescent_Ple [hPle : Cert.Ple.Facts] : Prop :=
  ∀ (m : (ℓ : Loc Cert.Ple.nD Cert.Ple.τ Cert.Ple.sig) → Buf (Elt Bits) ℓ) (g : Dev Cert.Ple.nD → PrngReg), Pre_Ple m →
    θ_run (Cert.Ple.defs (F := Bits)) (onTc (τ := Cert.Ple.τ) (Cert.Ple.main (F := Bits))) ⟨m, fun _ => 0, g⟩ (fun r => (∀ c : Dev Cert.Ple.nD,
      r.2.mem ((c.tc : Thread Cert.Ple.nD Cert.Ple.τ).loc Cert.Ple.main_arg0) = m ((c.tc : Thread Cert.Ple.nD Cert.Ple.τ).loc Cert.Ple.main_arg0)
      ∧ r.2.mem ((c.tc : Thread Cert.Ple.nD Cert.Ple.τ).loc Cert.Ple.main_arg1) = m ((c.tc : Thread Cert.Ple.nD Cert.Ple.τ).loc Cert.Ple.main_arg1)
      ∧ r.2.mem ((c.tc : Thread Cert.Ple.nD Cert.Ple.τ).loc Cert.Ple.main_arg2) = m ((c.tc : Thread Cert.Ple.nD Cert.Ple.τ).loc Cert.Ple.main_arg2)
      ∧ r.2.mem ((c.tc : Thread Cert.Ple.nD Cert.Ple.τ).loc Cert.Ple.main_arg3) = m ((c.tc : Thread Cert.Ple.nD Cert.Ple.τ).loc Cert.Ple.main_arg3)
      ∧ r.2.mem ((c.tc : Thread Cert.Ple.nD Cert.Ple.τ).loc Cert.Ple.main_arg4) = m ((c.tc : Thread Cert.Ple.nD Cert.Ple.τ).loc Cert.Ple.main_arg4)
      ∧ r.2.mem ((c.tc : Thread Cert.Ple.nD Cert.Ple.τ).loc Cert.Ple.main_arg5) = m ((c.tc : Thread Cert.Ple.nD Cert.Ple.τ).loc Cert.Ple.main_arg5)
      ∧ r.2.mem ((c.tc : Thread Cert.Ple.nD Cert.Ple.τ).loc Cert.Ple.main_arg6) = m ((c.tc : Thread Cert.Ple.nD Cert.Ple.τ).loc Cert.Ple.main_arg6))
      ∧ r.2.sem = fun _ => 0)

def quiescent_PleIdeal [hPleIdeal : Cert.PleIdeal.Facts] : Prop :=
  ∀ (m : (ℓ : Loc Cert.PleIdeal.nD Cert.PleIdeal.τ Cert.PleIdeal.sig) → Buf (Elt Ideal) ℓ) (g : Dev Cert.PleIdeal.nD → PrngReg), Pre_PleIdeal m →
    θ_run (Cert.PleIdeal.defs (F := Ideal)) (onTc (τ := Cert.PleIdeal.τ) (Cert.PleIdeal.main (F := Ideal))) ⟨m, fun _ => 0, g⟩ (fun r => (∀ c : Dev Cert.PleIdeal.nD,
      r.2.mem ((c.tc : Thread Cert.PleIdeal.nD Cert.PleIdeal.τ).loc Cert.PleIdeal.main_arg0) = m ((c.tc : Thread Cert.PleIdeal.nD Cert.PleIdeal.τ).loc Cert.PleIdeal.main_arg0)
      ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
      ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
      ∧ r.2.mem ((c.tc : Thread Cert.PleIdeal.nD Cert.PleIdeal.τ).loc Cert.PleIdeal.main_arg3) = m ((c.tc : Thread Cert.PleIdeal.nD Cert.PleIdeal.τ).loc Cert.PleIdeal.main_arg3)
      ∧ r.2.mem ((c.tc : Thread Cert.PleIdeal.nD Cert.PleIdeal.τ).loc Cert.PleIdeal.main_arg4) = m ((c.tc : Thread Cert.PleIdeal.nD Cert.PleIdeal.τ).loc Cert.PleIdeal.main_arg4)
      ∧ r.2.mem ((c.tc : Thread Cert.PleIdeal.nD Cert.PleIdeal.τ).loc Cert.PleIdeal.main_arg5) = m ((c.tc : Thread Cert.PleIdeal.nD Cert.PleIdeal.τ).loc Cert.PleIdeal.main_arg5)
      ∧ r.2.mem ((c.tc : Thread Cert.PleIdeal.nD Cert.PleIdeal.τ).loc Cert.PleIdeal.main_arg6) = m ((c.tc : Thread Cert.PleIdeal.nD Cert.PleIdeal.τ).loc Cert.PleIdeal.main_arg6))
      ∧ r.2.sem = fun _ => 0)

def quiescent_PleRefIdeal [hPleRefIdeal : Cert.PleRefIdeal.Facts] : Prop :=
  ∀ (m : (ℓ : Loc Cert.PleRefIdeal.nD Cert.PleRefIdeal.τ Cert.PleRefIdeal.sig) → Buf (Elt Ideal) ℓ) (g : Dev Cert.PleRefIdeal.nD → PrngReg), Pre_PleRefIdeal m →
    θ_run (Cert.PleRefIdeal.defs (F := Ideal)) (onTc (τ := Cert.PleRefIdeal.τ) (Cert.PleRefIdeal.main (F := Ideal))) ⟨m, fun _ => 0, g⟩ (fun r => (∀ c : Dev Cert.PleRefIdeal.nD,
      r.2.mem ((c.tc : Thread Cert.PleRefIdeal.nD Cert.PleRefIdeal.τ).loc Cert.PleRefIdeal.main_arg0) = m ((c.tc : Thread Cert.PleRefIdeal.nD Cert.PleRefIdeal.τ).loc Cert.PleRefIdeal.main_arg0)
      ∧ r.2.mem ((c.tc : Thread Cert.PleRefIdeal.nD Cert.PleRefIdeal.τ).loc Cert.PleRefIdeal.main_arg1) = m ((c.tc : Thread Cert.PleRefIdeal.nD Cert.PleRefIdeal.τ).loc Cert.PleRefIdeal.main_arg1)
      ∧ r.2.mem ((c.tc : Thread Cert.PleRefIdeal.nD Cert.PleRefIdeal.τ).loc Cert.PleRefIdeal.main_arg2) = m ((c.tc : Thread Cert.PleRefIdeal.nD Cert.PleRefIdeal.τ).loc Cert.PleRefIdeal.main_arg2)
      ∧ r.2.mem ((c.tc : Thread Cert.PleRefIdeal.nD Cert.PleRefIdeal.τ).loc Cert.PleRefIdeal.main_arg3) = m ((c.tc : Thread Cert.PleRefIdeal.nD Cert.PleRefIdeal.τ).loc Cert.PleRefIdeal.main_arg3)
      ∧ r.2.mem ((c.tc : Thread Cert.PleRefIdeal.nD Cert.PleRefIdeal.τ).loc Cert.PleRefIdeal.main_arg4) = m ((c.tc : Thread Cert.PleRefIdeal.nD Cert.PleRefIdeal.τ).loc Cert.PleRefIdeal.main_arg4)
      ∧ r.2.mem ((c.tc : Thread Cert.PleRefIdeal.nD Cert.PleRefIdeal.τ).loc Cert.PleRefIdeal.main_arg5) = m ((c.tc : Thread Cert.PleRefIdeal.nD Cert.PleRefIdeal.τ).loc Cert.PleRefIdeal.main_arg5)
      ∧ r.2.mem ((c.tc : Thread Cert.PleRefIdeal.nD Cert.PleRefIdeal.τ).loc Cert.PleRefIdeal.main_arg6) = m ((c.tc : Thread Cert.PleRefIdeal.nD Cert.PleRefIdeal.τ).loc Cert.PleRefIdeal.main_arg6))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3)
      ∧ r.2.mem ((c.tc : Thread Cert.OutProj.nD Cert.OutProj.τ).loc Cert.OutProj.main_arg4) = m ((c.tc : Thread Cert.OutProj.nD Cert.OutProj.τ).loc Cert.OutProj.main_arg4)
      ∧ r.2.mem ((c.tc : Thread Cert.OutProj.nD Cert.OutProj.τ).loc Cert.OutProj.main_arg5) = m ((c.tc : Thread Cert.OutProj.nD Cert.OutProj.τ).loc Cert.OutProj.main_arg5))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
      ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
      ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
      ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3)
      ∧ r.2.mem ((c.tc : Thread Cert.OutProjRefIdeal.nD Cert.OutProjRefIdeal.τ).loc Cert.OutProjRefIdeal.main_arg4) = m ((c.tc : Thread Cert.OutProjRefIdeal.nD Cert.OutProjRefIdeal.τ).loc Cert.OutProjRefIdeal.main_arg4)
      ∧ r.2.mem ((c.tc : Thread Cert.OutProjRefIdeal.nD Cert.OutProjRefIdeal.τ).loc Cert.OutProjRefIdeal.main_arg5) = m ((c.tc : Thread Cert.OutProjRefIdeal.nD Cert.OutProjRefIdeal.τ).loc Cert.OutProjRefIdeal.main_arg5))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2)
      ∧ r.2.mem ((c.tc : Thread Cert.InProj.nD Cert.InProj.τ).loc Cert.InProj.main_arg3) = m ((c.tc : Thread Cert.InProj.nD Cert.InProj.τ).loc Cert.InProj.main_arg3)
      ∧ r.2.mem ((c.tc : Thread Cert.InProj.nD Cert.InProj.τ).loc Cert.InProj.main_arg4) = m ((c.tc : Thread Cert.InProj.nD Cert.InProj.τ).loc Cert.InProj.main_arg4)
      ∧ r.2.mem ((c.tc : Thread Cert.InProj.nD Cert.InProj.τ).loc Cert.InProj.main_arg5) = m ((c.tc : Thread Cert.InProj.nD Cert.InProj.τ).loc Cert.InProj.main_arg5)
      ∧ r.2.mem ((c.tc : Thread Cert.InProj.nD Cert.InProj.τ).loc Cert.InProj.main_arg6) = m ((c.tc : Thread Cert.InProj.nD Cert.InProj.τ).loc Cert.InProj.main_arg6))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
      ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4)
      ∧ r.2.mem ((c.tc : Thread Cert.InProjIdeal.nD Cert.InProjIdeal.τ).loc Cert.InProjIdeal.main_arg5) = m ((c.tc : Thread Cert.InProjIdeal.nD Cert.InProjIdeal.τ).loc Cert.InProjIdeal.main_arg5)
      ∧ r.2.mem ((c.tc : Thread Cert.InProjIdeal.nD Cert.InProjIdeal.τ).loc Cert.InProjIdeal.main_arg6) = m ((c.tc : Thread Cert.InProjIdeal.nD Cert.InProjIdeal.τ).loc Cert.InProjIdeal.main_arg6))
      ∧ r.2.sem = fun _ => 0)

def quiescent_InProjIdeal_pre_rope_rows [hInProjIdeal : Cert.InProjIdeal.Facts] [hPre_rope_rows : Cert.Pre_rope_rows.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal_rope_rows m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
      ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4)
      ∧ r.2.mem ((c.tc : Thread Cert.InProjIdeal.nD Cert.InProjIdeal.τ).loc Cert.InProjIdeal.main_arg5) = m ((c.tc : Thread Cert.InProjIdeal.nD Cert.InProjIdeal.τ).loc Cert.InProjIdeal.main_arg5)
      ∧ r.2.mem ((c.tc : Thread Cert.InProjIdeal.nD Cert.InProjIdeal.τ).loc Cert.InProjIdeal.main_arg6) = m ((c.tc : Thread Cert.InProjIdeal.nD Cert.InProjIdeal.τ).loc Cert.InProjIdeal.main_arg6))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2)
      ∧ r.2.mem ((c.tc : Thread Cert.InProjRefIdeal.nD Cert.InProjRefIdeal.τ).loc Cert.InProjRefIdeal.main_arg3) = m ((c.tc : Thread Cert.InProjRefIdeal.nD Cert.InProjRefIdeal.τ).loc Cert.InProjRefIdeal.main_arg3)
      ∧ r.2.mem ((c.tc : Thread Cert.InProjRefIdeal.nD Cert.InProjRefIdeal.τ).loc Cert.InProjRefIdeal.main_arg4) = m ((c.tc : Thread Cert.InProjRefIdeal.nD Cert.InProjRefIdeal.τ).loc Cert.InProjRefIdeal.main_arg4)
      ∧ r.2.mem ((c.tc : Thread Cert.InProjRefIdeal.nD Cert.InProjRefIdeal.τ).loc Cert.InProjRefIdeal.main_arg5) = m ((c.tc : Thread Cert.InProjRefIdeal.nD Cert.InProjRefIdeal.τ).loc Cert.InProjRefIdeal.main_arg5)
      ∧ r.2.mem ((c.tc : Thread Cert.InProjRefIdeal.nD Cert.InProjRefIdeal.τ).loc Cert.InProjRefIdeal.main_arg6) = m ((c.tc : Thread Cert.InProjRefIdeal.nD Cert.InProjRefIdeal.τ).loc Cert.InProjRefIdeal.main_arg6))
      ∧ r.2.sem = fun _ => 0)

def quiescent_InProjRefIdeal_pre_rope_rows [hInProjRefIdeal : Cert.InProjRefIdeal.Facts] [hPre_rope_rows : Cert.Pre_rope_rows.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal_rope_rows m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2)
      ∧ r.2.mem ((c.tc : Thread Cert.InProjRefIdeal.nD Cert.InProjRefIdeal.τ).loc Cert.InProjRefIdeal.main_arg3) = m ((c.tc : Thread Cert.InProjRefIdeal.nD Cert.InProjRefIdeal.τ).loc Cert.InProjRefIdeal.main_arg3)
      ∧ r.2.mem ((c.tc : Thread Cert.InProjRefIdeal.nD Cert.InProjRefIdeal.τ).loc Cert.InProjRefIdeal.main_arg4) = m ((c.tc : Thread Cert.InProjRefIdeal.nD Cert.InProjRefIdeal.τ).loc Cert.InProjRefIdeal.main_arg4)
      ∧ r.2.mem ((c.tc : Thread Cert.InProjRefIdeal.nD Cert.InProjRefIdeal.τ).loc Cert.InProjRefIdeal.main_arg5) = m ((c.tc : Thread Cert.InProjRefIdeal.nD Cert.InProjRefIdeal.τ).loc Cert.InProjRefIdeal.main_arg5)
      ∧ r.2.mem ((c.tc : Thread Cert.InProjRefIdeal.nD Cert.InProjRefIdeal.τ).loc Cert.InProjRefIdeal.main_arg6) = m ((c.tc : Thread Cert.InProjRefIdeal.nD Cert.InProjRefIdeal.τ).loc Cert.InProjRefIdeal.main_arg6))
      ∧ r.2.sem = fun _ => 0)

def preserves_Attn_AttnIdeal : Prop :=
  True

def algebraic_AttnIdeal_AttnRefIdeal_pre_attention_inputs [hAttnIdeal : Cert.AttnIdeal.Facts] [hAttnRefIdeal : Cert.AttnRefIdeal.Facts] [hPre_attention_inputs : Cert.Pre_attention_inputs.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_attention_inputs m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)) →
    ∃ (v0 : (c : Dev Cert.AttnIdeal.nD) → Buf (Elt Ideal) ((c.tc : Thread Cert.AttnIdeal.nD Cert.AttnIdeal.τ).loc Cert.AttnIdeal.main_v0)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v0) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v34) = v0 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2))

def preserves_FfnB_FfnBIdeal : Prop :=
  True

def algebraic_FfnBIdeal_FfnBRefIdeal [hFfnBIdeal : Cert.FfnBIdeal.Facts] [hFfnBRefIdeal : Cert.FfnBRefIdeal.Facts] : Prop :=
  ∀ (m : (ℓ : Loc Cert.FfnBIdeal.nD Cert.FfnBIdeal.τ Cert.FfnBIdeal.sig) → Buf (Elt Ideal) ℓ) (g : Dev Cert.FfnBIdeal.nD → PrngReg)
    (m' : (ℓ : Loc Cert.FfnBRefIdeal.nD Cert.FfnBRefIdeal.τ Cert.FfnBRefIdeal.sig) → Buf (Elt Ideal) ℓ) (g' : Dev Cert.FfnBRefIdeal.nD → PrngReg), Pre_FfnBIdeal m →
    (∀ c : Dev Cert.FfnBIdeal.nD,
      m' ((c.tc : Thread Cert.FfnBRefIdeal.nD Cert.FfnBRefIdeal.τ).loc Cert.FfnBRefIdeal.main_arg0) = m ((c.tc : Thread Cert.FfnBIdeal.nD Cert.FfnBIdeal.τ).loc Cert.FfnBIdeal.main_arg0)
      ∧ m' ((c.tc : Thread Cert.FfnBRefIdeal.nD Cert.FfnBRefIdeal.τ).loc Cert.FfnBRefIdeal.main_arg1) = m ((c.tc : Thread Cert.FfnBIdeal.nD Cert.FfnBIdeal.τ).loc Cert.FfnBIdeal.main_arg1)
      ∧ m' ((c.tc : Thread Cert.FfnBRefIdeal.nD Cert.FfnBRefIdeal.τ).loc Cert.FfnBRefIdeal.main_arg2) = m ((c.tc : Thread Cert.FfnBIdeal.nD Cert.FfnBIdeal.τ).loc Cert.FfnBIdeal.main_arg2)
      ∧ m' ((c.tc : Thread Cert.FfnBRefIdeal.nD Cert.FfnBRefIdeal.τ).loc Cert.FfnBRefIdeal.main_arg3) = m ((c.tc : Thread Cert.FfnBIdeal.nD Cert.FfnBIdeal.τ).loc Cert.FfnBIdeal.main_arg3)
      ∧ m' ((c.tc : Thread Cert.FfnBRefIdeal.nD Cert.FfnBRefIdeal.τ).loc Cert.FfnBRefIdeal.main_arg4) = m ((c.tc : Thread Cert.FfnBIdeal.nD Cert.FfnBIdeal.τ).loc Cert.FfnBIdeal.main_arg4)
      ∧ m' ((c.tc : Thread Cert.FfnBRefIdeal.nD Cert.FfnBRefIdeal.τ).loc Cert.FfnBRefIdeal.main_arg5) = m ((c.tc : Thread Cert.FfnBIdeal.nD Cert.FfnBIdeal.τ).loc Cert.FfnBIdeal.main_arg5)) →
    ∃ (v0 : (c : Dev Cert.FfnBIdeal.nD) → Buf (Elt Ideal) ((c.tc : Thread Cert.FfnBIdeal.nD Cert.FfnBIdeal.τ).loc Cert.FfnBIdeal.main_v2)),
      θ_run (Cert.FfnBIdeal.defs (F := Ideal)) (onTc (τ := Cert.FfnBIdeal.τ) (Cert.FfnBIdeal.main (F := Ideal))) ⟨m, fun _ => 0, g⟩ (fun r => ∀ c : Dev Cert.FfnBIdeal.nD,
          r.2.mem ((c.tc : Thread Cert.FfnBIdeal.nD Cert.FfnBIdeal.τ).loc Cert.FfnBIdeal.main_v2) = v0 c
          ∧ r.2.mem ((c.tc : Thread Cert.FfnBIdeal.nD Cert.FfnBIdeal.τ).loc Cert.FfnBIdeal.main_arg0) = m ((c.tc : Thread Cert.FfnBIdeal.nD Cert.FfnBIdeal.τ).loc Cert.FfnBIdeal.main_arg0)
          ∧ r.2.mem ((c.tc : Thread Cert.FfnBIdeal.nD Cert.FfnBIdeal.τ).loc Cert.FfnBIdeal.main_arg1) = m ((c.tc : Thread Cert.FfnBIdeal.nD Cert.FfnBIdeal.τ).loc Cert.FfnBIdeal.main_arg1)
          ∧ r.2.mem ((c.tc : Thread Cert.FfnBIdeal.nD Cert.FfnBIdeal.τ).loc Cert.FfnBIdeal.main_arg2) = m ((c.tc : Thread Cert.FfnBIdeal.nD Cert.FfnBIdeal.τ).loc Cert.FfnBIdeal.main_arg2)
          ∧ r.2.mem ((c.tc : Thread Cert.FfnBIdeal.nD Cert.FfnBIdeal.τ).loc Cert.FfnBIdeal.main_arg3) = m ((c.tc : Thread Cert.FfnBIdeal.nD Cert.FfnBIdeal.τ).loc Cert.FfnBIdeal.main_arg3)
          ∧ r.2.mem ((c.tc : Thread Cert.FfnBIdeal.nD Cert.FfnBIdeal.τ).loc Cert.FfnBIdeal.main_arg4) = m ((c.tc : Thread Cert.FfnBIdeal.nD Cert.FfnBIdeal.τ).loc Cert.FfnBIdeal.main_arg4)
          ∧ r.2.mem ((c.tc : Thread Cert.FfnBIdeal.nD Cert.FfnBIdeal.τ).loc Cert.FfnBIdeal.main_arg5) = m ((c.tc : Thread Cert.FfnBIdeal.nD Cert.FfnBIdeal.τ).loc Cert.FfnBIdeal.main_arg5))
      ∧ θ_run (Cert.FfnBRefIdeal.defs (F := Ideal)) (onTc (τ := Cert.FfnBRefIdeal.τ) (Cert.FfnBRefIdeal.main (F := Ideal))) ⟨m', fun _ => 0, g'⟩ (fun r => ∀ c : Dev Cert.FfnBRefIdeal.nD,
          r.2.mem ((c.tc : Thread Cert.FfnBRefIdeal.nD Cert.FfnBRefIdeal.τ).loc Cert.FfnBRefIdeal.main_v32) = v0 c
          ∧ r.2.mem ((c.tc : Thread Cert.FfnBRefIdeal.nD Cert.FfnBRefIdeal.τ).loc Cert.FfnBRefIdeal.main_arg0) = m' ((c.tc : Thread Cert.FfnBRefIdeal.nD Cert.FfnBRefIdeal.τ).loc Cert.FfnBRefIdeal.main_arg0)
          ∧ r.2.mem ((c.tc : Thread Cert.FfnBRefIdeal.nD Cert.FfnBRefIdeal.τ).loc Cert.FfnBRefIdeal.main_arg1) = m' ((c.tc : Thread Cert.FfnBRefIdeal.nD Cert.FfnBRefIdeal.τ).loc Cert.FfnBRefIdeal.main_arg1)
          ∧ r.2.mem ((c.tc : Thread Cert.FfnBRefIdeal.nD Cert.FfnBRefIdeal.τ).loc Cert.FfnBRefIdeal.main_arg2) = m' ((c.tc : Thread Cert.FfnBRefIdeal.nD Cert.FfnBRefIdeal.τ).loc Cert.FfnBRefIdeal.main_arg2)
          ∧ r.2.mem ((c.tc : Thread Cert.FfnBRefIdeal.nD Cert.FfnBRefIdeal.τ).loc Cert.FfnBRefIdeal.main_arg3) = m' ((c.tc : Thread Cert.FfnBRefIdeal.nD Cert.FfnBRefIdeal.τ).loc Cert.FfnBRefIdeal.main_arg3)
          ∧ r.2.mem ((c.tc : Thread Cert.FfnBRefIdeal.nD Cert.FfnBRefIdeal.τ).loc Cert.FfnBRefIdeal.main_arg4) = m' ((c.tc : Thread Cert.FfnBRefIdeal.nD Cert.FfnBRefIdeal.τ).loc Cert.FfnBRefIdeal.main_arg4)
          ∧ r.2.mem ((c.tc : Thread Cert.FfnBRefIdeal.nD Cert.FfnBRefIdeal.τ).loc Cert.FfnBRefIdeal.main_arg5) = m' ((c.tc : Thread Cert.FfnBRefIdeal.nD Cert.FfnBRefIdeal.τ).loc Cert.FfnBRefIdeal.main_arg5))

def preserves_FfnA_FfnAIdeal : Prop :=
  True

def algebraic_FfnAIdeal_FfnARefIdeal [hFfnAIdeal : Cert.FfnAIdeal.Facts] [hFfnARefIdeal : Cert.FfnARefIdeal.Facts] : Prop :=
  ∀ (m : (ℓ : Loc Cert.FfnAIdeal.nD Cert.FfnAIdeal.τ Cert.FfnAIdeal.sig) → Buf (Elt Ideal) ℓ) (g : Dev Cert.FfnAIdeal.nD → PrngReg)
    (m' : (ℓ : Loc Cert.FfnARefIdeal.nD Cert.FfnARefIdeal.τ Cert.FfnARefIdeal.sig) → Buf (Elt Ideal) ℓ) (g' : Dev Cert.FfnARefIdeal.nD → PrngReg), Pre_FfnAIdeal m →
    (∀ c : Dev Cert.FfnAIdeal.nD,
      m' ((c.tc : Thread Cert.FfnARefIdeal.nD Cert.FfnARefIdeal.τ).loc Cert.FfnARefIdeal.main_arg0) = m ((c.tc : Thread Cert.FfnAIdeal.nD Cert.FfnAIdeal.τ).loc Cert.FfnAIdeal.main_arg0)
      ∧ m' ((c.tc : Thread Cert.FfnARefIdeal.nD Cert.FfnARefIdeal.τ).loc Cert.FfnARefIdeal.main_arg1) = m ((c.tc : Thread Cert.FfnAIdeal.nD Cert.FfnAIdeal.τ).loc Cert.FfnAIdeal.main_arg1)
      ∧ m' ((c.tc : Thread Cert.FfnARefIdeal.nD Cert.FfnARefIdeal.τ).loc Cert.FfnARefIdeal.main_arg2) = m ((c.tc : Thread Cert.FfnAIdeal.nD Cert.FfnAIdeal.τ).loc Cert.FfnAIdeal.main_arg2)
      ∧ m' ((c.tc : Thread Cert.FfnARefIdeal.nD Cert.FfnARefIdeal.τ).loc Cert.FfnARefIdeal.main_arg3) = m ((c.tc : Thread Cert.FfnAIdeal.nD Cert.FfnAIdeal.τ).loc Cert.FfnAIdeal.main_arg3)
      ∧ m' ((c.tc : Thread Cert.FfnARefIdeal.nD Cert.FfnARefIdeal.τ).loc Cert.FfnARefIdeal.main_arg4) = m ((c.tc : Thread Cert.FfnAIdeal.nD Cert.FfnAIdeal.τ).loc Cert.FfnAIdeal.main_arg4)
      ∧ m' ((c.tc : Thread Cert.FfnARefIdeal.nD Cert.FfnARefIdeal.τ).loc Cert.FfnARefIdeal.main_arg5) = m ((c.tc : Thread Cert.FfnAIdeal.nD Cert.FfnAIdeal.τ).loc Cert.FfnAIdeal.main_arg5)
      ∧ m' ((c.tc : Thread Cert.FfnARefIdeal.nD Cert.FfnARefIdeal.τ).loc Cert.FfnARefIdeal.main_arg6) = m ((c.tc : Thread Cert.FfnAIdeal.nD Cert.FfnAIdeal.τ).loc Cert.FfnAIdeal.main_arg6)
      ∧ m' ((c.tc : Thread Cert.FfnARefIdeal.nD Cert.FfnARefIdeal.τ).loc Cert.FfnARefIdeal.main_arg7) = m ((c.tc : Thread Cert.FfnAIdeal.nD Cert.FfnAIdeal.τ).loc Cert.FfnAIdeal.main_arg7)
      ∧ m' ((c.tc : Thread Cert.FfnARefIdeal.nD Cert.FfnARefIdeal.τ).loc Cert.FfnARefIdeal.main_arg8) = m ((c.tc : Thread Cert.FfnAIdeal.nD Cert.FfnAIdeal.τ).loc Cert.FfnAIdeal.main_arg8)) →
    ∃ (v0 : (c : Dev Cert.FfnAIdeal.nD) → Buf (Elt Ideal) ((c.tc : Thread Cert.FfnAIdeal.nD Cert.FfnAIdeal.τ).loc Cert.FfnAIdeal.main_v7_0)) (v1 : (c : Dev Cert.FfnAIdeal.nD) → Buf (Elt Ideal) ((c.tc : Thread Cert.FfnAIdeal.nD Cert.FfnAIdeal.τ).loc Cert.FfnAIdeal.main_v7_1)) (v2 : (c : Dev Cert.FfnAIdeal.nD) → Buf (Elt Ideal) ((c.tc : Thread Cert.FfnAIdeal.nD Cert.FfnAIdeal.τ).loc Cert.FfnAIdeal.main_v7_2)) (v3 : (c : Dev Cert.FfnAIdeal.nD) → Buf (Elt Ideal) ((c.tc : Thread Cert.FfnAIdeal.nD Cert.FfnAIdeal.τ).loc Cert.FfnAIdeal.main_v7_3)),
      θ_run (Cert.FfnAIdeal.defs (F := Ideal)) (onTc (τ := Cert.FfnAIdeal.τ) (Cert.FfnAIdeal.main (F := Ideal))) ⟨m, fun _ => 0, g⟩ (fun r => ∀ c : Dev Cert.FfnAIdeal.nD,
          r.2.mem ((c.tc : Thread Cert.FfnAIdeal.nD Cert.FfnAIdeal.τ).loc Cert.FfnAIdeal.main_v7_0) = v0 c
          ∧ r.2.mem ((c.tc : Thread Cert.FfnAIdeal.nD Cert.FfnAIdeal.τ).loc Cert.FfnAIdeal.main_v7_1) = v1 c
          ∧ r.2.mem ((c.tc : Thread Cert.FfnAIdeal.nD Cert.FfnAIdeal.τ).loc Cert.FfnAIdeal.main_v7_2) = v2 c
          ∧ r.2.mem ((c.tc : Thread Cert.FfnAIdeal.nD Cert.FfnAIdeal.τ).loc Cert.FfnAIdeal.main_v7_3) = v3 c
          ∧ r.2.mem ((c.tc : Thread Cert.FfnAIdeal.nD Cert.FfnAIdeal.τ).loc Cert.FfnAIdeal.main_arg0) = m ((c.tc : Thread Cert.FfnAIdeal.nD Cert.FfnAIdeal.τ).loc Cert.FfnAIdeal.main_arg0)
          ∧ r.2.mem ((c.tc : Thread Cert.FfnAIdeal.nD Cert.FfnAIdeal.τ).loc Cert.FfnAIdeal.main_arg1) = m ((c.tc : Thread Cert.FfnAIdeal.nD Cert.FfnAIdeal.τ).loc Cert.FfnAIdeal.main_arg1)
          ∧ r.2.mem ((c.tc : Thread Cert.FfnAIdeal.nD Cert.FfnAIdeal.τ).loc Cert.FfnAIdeal.main_arg2) = m ((c.tc : Thread Cert.FfnAIdeal.nD Cert.FfnAIdeal.τ).loc Cert.FfnAIdeal.main_arg2)
          ∧ r.2.mem ((c.tc : Thread Cert.FfnAIdeal.nD Cert.FfnAIdeal.τ).loc Cert.FfnAIdeal.main_arg3) = m ((c.tc : Thread Cert.FfnAIdeal.nD Cert.FfnAIdeal.τ).loc Cert.FfnAIdeal.main_arg3)
          ∧ r.2.mem ((c.tc : Thread Cert.FfnAIdeal.nD Cert.FfnAIdeal.τ).loc Cert.FfnAIdeal.main_arg4) = m ((c.tc : Thread Cert.FfnAIdeal.nD Cert.FfnAIdeal.τ).loc Cert.FfnAIdeal.main_arg4)
          ∧ r.2.mem ((c.tc : Thread Cert.FfnAIdeal.nD Cert.FfnAIdeal.τ).loc Cert.FfnAIdeal.main_arg5) = m ((c.tc : Thread Cert.FfnAIdeal.nD Cert.FfnAIdeal.τ).loc Cert.FfnAIdeal.main_arg5)
          ∧ r.2.mem ((c.tc : Thread Cert.FfnAIdeal.nD Cert.FfnAIdeal.τ).loc Cert.FfnAIdeal.main_arg6) = m ((c.tc : Thread Cert.FfnAIdeal.nD Cert.FfnAIdeal.τ).loc Cert.FfnAIdeal.main_arg6)
          ∧ r.2.mem ((c.tc : Thread Cert.FfnAIdeal.nD Cert.FfnAIdeal.τ).loc Cert.FfnAIdeal.main_arg7) = m ((c.tc : Thread Cert.FfnAIdeal.nD Cert.FfnAIdeal.τ).loc Cert.FfnAIdeal.main_arg7)
          ∧ r.2.mem ((c.tc : Thread Cert.FfnAIdeal.nD Cert.FfnAIdeal.τ).loc Cert.FfnAIdeal.main_arg8) = m ((c.tc : Thread Cert.FfnAIdeal.nD Cert.FfnAIdeal.τ).loc Cert.FfnAIdeal.main_arg8))
      ∧ θ_run (Cert.FfnARefIdeal.defs (F := Ideal)) (onTc (τ := Cert.FfnARefIdeal.τ) (Cert.FfnARefIdeal.main (F := Ideal))) ⟨m', fun _ => 0, g'⟩ (fun r => ∀ c : Dev Cert.FfnARefIdeal.nD,
          r.2.mem ((c.tc : Thread Cert.FfnARefIdeal.nD Cert.FfnARefIdeal.τ).loc Cert.FfnARefIdeal.main_v31) = v0 c
          ∧ r.2.mem ((c.tc : Thread Cert.FfnARefIdeal.nD Cert.FfnARefIdeal.τ).loc Cert.FfnARefIdeal.main_v32) = v1 c
          ∧ r.2.mem ((c.tc : Thread Cert.FfnARefIdeal.nD Cert.FfnARefIdeal.τ).loc Cert.FfnARefIdeal.main_v33) = v2 c
          ∧ r.2.mem ((c.tc : Thread Cert.FfnARefIdeal.nD Cert.FfnARefIdeal.τ).loc Cert.FfnARefIdeal.main_v36) = v3 c
          ∧ r.2.mem ((c.tc : Thread Cert.FfnARefIdeal.nD Cert.FfnARefIdeal.τ).loc Cert.FfnARefIdeal.main_arg0) = m' ((c.tc : Thread Cert.FfnARefIdeal.nD Cert.FfnARefIdeal.τ).loc Cert.FfnARefIdeal.main_arg0)
          ∧ r.2.mem ((c.tc : Thread Cert.FfnARefIdeal.nD Cert.FfnARefIdeal.τ).loc Cert.FfnARefIdeal.main_arg1) = m' ((c.tc : Thread Cert.FfnARefIdeal.nD Cert.FfnARefIdeal.τ).loc Cert.FfnARefIdeal.main_arg1)
          ∧ r.2.mem ((c.tc : Thread Cert.FfnARefIdeal.nD Cert.FfnARefIdeal.τ).loc Cert.FfnARefIdeal.main_arg2) = m' ((c.tc : Thread Cert.FfnARefIdeal.nD Cert.FfnARefIdeal.τ).loc Cert.FfnARefIdeal.main_arg2)
          ∧ r.2.mem ((c.tc : Thread Cert.FfnARefIdeal.nD Cert.FfnARefIdeal.τ).loc Cert.FfnARefIdeal.main_arg3) = m' ((c.tc : Thread Cert.FfnARefIdeal.nD Cert.FfnARefIdeal.τ).loc Cert.FfnARefIdeal.main_arg3)
          ∧ r.2.mem ((c.tc : Thread Cert.FfnARefIdeal.nD Cert.FfnARefIdeal.τ).loc Cert.FfnARefIdeal.main_arg4) = m' ((c.tc : Thread Cert.FfnARefIdeal.nD Cert.FfnARefIdeal.τ).loc Cert.FfnARefIdeal.main_arg4)
          ∧ r.2.mem ((c.tc : Thread Cert.FfnARefIdeal.nD Cert.FfnARefIdeal.τ).loc Cert.FfnARefIdeal.main_arg5) = m' ((c.tc : Thread Cert.FfnARefIdeal.nD Cert.FfnARefIdeal.τ).loc Cert.FfnARefIdeal.main_arg5)
          ∧ r.2.mem ((c.tc : Thread Cert.FfnARefIdeal.nD Cert.FfnARefIdeal.τ).loc Cert.FfnARefIdeal.main_arg6) = m' ((c.tc : Thread Cert.FfnARefIdeal.nD Cert.FfnARefIdeal.τ).loc Cert.FfnARefIdeal.main_arg6)
          ∧ r.2.mem ((c.tc : Thread Cert.FfnARefIdeal.nD Cert.FfnARefIdeal.τ).loc Cert.FfnARefIdeal.main_arg7) = m' ((c.tc : Thread Cert.FfnARefIdeal.nD Cert.FfnARefIdeal.τ).loc Cert.FfnARefIdeal.main_arg7)
          ∧ r.2.mem ((c.tc : Thread Cert.FfnARefIdeal.nD Cert.FfnARefIdeal.τ).loc Cert.FfnARefIdeal.main_arg8) = m' ((c.tc : Thread Cert.FfnARefIdeal.nD Cert.FfnARefIdeal.τ).loc Cert.FfnARefIdeal.main_arg8))

def preserves_Ple_PleIdeal : Prop :=
  True

def algebraic_PleIdeal_PleRefIdeal [hPleIdeal : Cert.PleIdeal.Facts] [hPleRefIdeal : Cert.PleRefIdeal.Facts] : Prop :=
  ∀ (m : (ℓ : Loc Cert.PleIdeal.nD Cert.PleIdeal.τ Cert.PleIdeal.sig) → Buf (Elt Ideal) ℓ) (g : Dev Cert.PleIdeal.nD → PrngReg)
    (m' : (ℓ : Loc Cert.PleRefIdeal.nD Cert.PleRefIdeal.τ Cert.PleRefIdeal.sig) → Buf (Elt Ideal) ℓ) (g' : Dev Cert.PleRefIdeal.nD → PrngReg), Pre_PleIdeal m →
    (∀ c : Dev Cert.PleIdeal.nD,
      m' ((c.tc : Thread Cert.PleRefIdeal.nD Cert.PleRefIdeal.τ).loc Cert.PleRefIdeal.main_arg0) = m ((c.tc : Thread Cert.PleIdeal.nD Cert.PleIdeal.τ).loc Cert.PleIdeal.main_arg0)
      ∧ m' ((c.tc : Thread Cert.PleRefIdeal.nD Cert.PleRefIdeal.τ).loc Cert.PleRefIdeal.main_arg1) = m ((c.tc : Thread Cert.PleIdeal.nD Cert.PleIdeal.τ).loc Cert.PleIdeal.main_arg1)
      ∧ m' ((c.tc : Thread Cert.PleRefIdeal.nD Cert.PleRefIdeal.τ).loc Cert.PleRefIdeal.main_arg2) = m ((c.tc : Thread Cert.PleIdeal.nD Cert.PleIdeal.τ).loc Cert.PleIdeal.main_arg2)
      ∧ m' ((c.tc : Thread Cert.PleRefIdeal.nD Cert.PleRefIdeal.τ).loc Cert.PleRefIdeal.main_arg3) = m ((c.tc : Thread Cert.PleIdeal.nD Cert.PleIdeal.τ).loc Cert.PleIdeal.main_arg3)
      ∧ m' ((c.tc : Thread Cert.PleRefIdeal.nD Cert.PleRefIdeal.τ).loc Cert.PleRefIdeal.main_arg4) = m ((c.tc : Thread Cert.PleIdeal.nD Cert.PleIdeal.τ).loc Cert.PleIdeal.main_arg4)
      ∧ m' ((c.tc : Thread Cert.PleRefIdeal.nD Cert.PleRefIdeal.τ).loc Cert.PleRefIdeal.main_arg5) = m ((c.tc : Thread Cert.PleIdeal.nD Cert.PleIdeal.τ).loc Cert.PleIdeal.main_arg5)
      ∧ m' ((c.tc : Thread Cert.PleRefIdeal.nD Cert.PleRefIdeal.τ).loc Cert.PleRefIdeal.main_arg6) = m ((c.tc : Thread Cert.PleIdeal.nD Cert.PleIdeal.τ).loc Cert.PleIdeal.main_arg6)) →
    ∃ (v0 : (c : Dev Cert.PleIdeal.nD) → Buf (Elt Ideal) ((c.tc : Thread Cert.PleIdeal.nD Cert.PleIdeal.τ).loc Cert.PleIdeal.main_v5)),
      θ_run (Cert.PleIdeal.defs (F := Ideal)) (onTc (τ := Cert.PleIdeal.τ) (Cert.PleIdeal.main (F := Ideal))) ⟨m, fun _ => 0, g⟩ (fun r => ∀ c : Dev Cert.PleIdeal.nD,
          r.2.mem ((c.tc : Thread Cert.PleIdeal.nD Cert.PleIdeal.τ).loc Cert.PleIdeal.main_v5) = v0 c
          ∧ r.2.mem ((c.tc : Thread Cert.PleIdeal.nD Cert.PleIdeal.τ).loc Cert.PleIdeal.main_arg0) = m ((c.tc : Thread Cert.PleIdeal.nD Cert.PleIdeal.τ).loc Cert.PleIdeal.main_arg0)
          ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
          ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
          ∧ r.2.mem ((c.tc : Thread Cert.PleIdeal.nD Cert.PleIdeal.τ).loc Cert.PleIdeal.main_arg3) = m ((c.tc : Thread Cert.PleIdeal.nD Cert.PleIdeal.τ).loc Cert.PleIdeal.main_arg3)
          ∧ r.2.mem ((c.tc : Thread Cert.PleIdeal.nD Cert.PleIdeal.τ).loc Cert.PleIdeal.main_arg4) = m ((c.tc : Thread Cert.PleIdeal.nD Cert.PleIdeal.τ).loc Cert.PleIdeal.main_arg4)
          ∧ r.2.mem ((c.tc : Thread Cert.PleIdeal.nD Cert.PleIdeal.τ).loc Cert.PleIdeal.main_arg5) = m ((c.tc : Thread Cert.PleIdeal.nD Cert.PleIdeal.τ).loc Cert.PleIdeal.main_arg5)
          ∧ r.2.mem ((c.tc : Thread Cert.PleIdeal.nD Cert.PleIdeal.τ).loc Cert.PleIdeal.main_arg6) = m ((c.tc : Thread Cert.PleIdeal.nD Cert.PleIdeal.τ).loc Cert.PleIdeal.main_arg6))
      ∧ θ_run (Cert.PleRefIdeal.defs (F := Ideal)) (onTc (τ := Cert.PleRefIdeal.τ) (Cert.PleRefIdeal.main (F := Ideal))) ⟨m', fun _ => 0, g'⟩ (fun r => ∀ c : Dev Cert.PleRefIdeal.nD,
          r.2.mem ((c.tc : Thread Cert.PleRefIdeal.nD Cert.PleRefIdeal.τ).loc Cert.PleRefIdeal.main_v36) = v0 c
          ∧ r.2.mem ((c.tc : Thread Cert.PleRefIdeal.nD Cert.PleRefIdeal.τ).loc Cert.PleRefIdeal.main_arg0) = m' ((c.tc : Thread Cert.PleRefIdeal.nD Cert.PleRefIdeal.τ).loc Cert.PleRefIdeal.main_arg0)
          ∧ r.2.mem ((c.tc : Thread Cert.PleRefIdeal.nD Cert.PleRefIdeal.τ).loc Cert.PleRefIdeal.main_arg1) = m' ((c.tc : Thread Cert.PleRefIdeal.nD Cert.PleRefIdeal.τ).loc Cert.PleRefIdeal.main_arg1)
          ∧ r.2.mem ((c.tc : Thread Cert.PleRefIdeal.nD Cert.PleRefIdeal.τ).loc Cert.PleRefIdeal.main_arg2) = m' ((c.tc : Thread Cert.PleRefIdeal.nD Cert.PleRefIdeal.τ).loc Cert.PleRefIdeal.main_arg2)
          ∧ r.2.mem ((c.tc : Thread Cert.PleRefIdeal.nD Cert.PleRefIdeal.τ).loc Cert.PleRefIdeal.main_arg3) = m' ((c.tc : Thread Cert.PleRefIdeal.nD Cert.PleRefIdeal.τ).loc Cert.PleRefIdeal.main_arg3)
          ∧ r.2.mem ((c.tc : Thread Cert.PleRefIdeal.nD Cert.PleRefIdeal.τ).loc Cert.PleRefIdeal.main_arg4) = m' ((c.tc : Thread Cert.PleRefIdeal.nD Cert.PleRefIdeal.τ).loc Cert.PleRefIdeal.main_arg4)
          ∧ r.2.mem ((c.tc : Thread Cert.PleRefIdeal.nD Cert.PleRefIdeal.τ).loc Cert.PleRefIdeal.main_arg5) = m' ((c.tc : Thread Cert.PleRefIdeal.nD Cert.PleRefIdeal.τ).loc Cert.PleRefIdeal.main_arg5)
          ∧ r.2.mem ((c.tc : Thread Cert.PleRefIdeal.nD Cert.PleRefIdeal.τ).loc Cert.PleRefIdeal.main_arg6) = m' ((c.tc : Thread Cert.PleRefIdeal.nD Cert.PleRefIdeal.τ).loc Cert.PleRefIdeal.main_arg6))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)
      ∧ m' ((c.tc : Thread Cert.OutProjRefIdeal.nD Cert.OutProjRefIdeal.τ).loc Cert.OutProjRefIdeal.main_arg3) = m ((c.tc : Thread Cert.OutProjIdeal.nD Cert.OutProjIdeal.τ).loc Cert.OutProjIdeal.main_arg3)
      ∧ m' ((c.tc : Thread Cert.OutProjRefIdeal.nD Cert.OutProjRefIdeal.τ).loc Cert.OutProjRefIdeal.main_arg4) = m ((c.tc : Thread Cert.OutProjIdeal.nD Cert.OutProjIdeal.τ).loc Cert.OutProjIdeal.main_arg4)
      ∧ m' ((c.tc : Thread Cert.OutProjRefIdeal.nD Cert.OutProjRefIdeal.τ).loc Cert.OutProjRefIdeal.main_arg5) = m ((c.tc : Thread Cert.OutProjIdeal.nD Cert.OutProjIdeal.τ).loc Cert.OutProjIdeal.main_arg5)) →
    ∃ (v0 : (c : Dev Cert.OutProjIdeal.nD) → Buf (Elt Ideal) ((c.tc : Thread Cert.OutProjIdeal.nD Cert.OutProjIdeal.τ).loc Cert.OutProjIdeal.main_v3)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v3) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
          ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
          ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v28) = v0 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2)
          ∧ r.2.mem ((c.tc : Thread Cert.OutProjRefIdeal.nD Cert.OutProjRefIdeal.τ).loc Cert.OutProjRefIdeal.main_arg3) = m' ((c.tc : Thread Cert.OutProjRefIdeal.nD Cert.OutProjRefIdeal.τ).loc Cert.OutProjRefIdeal.main_arg3)
          ∧ r.2.mem ((c.tc : Thread Cert.OutProjRefIdeal.nD Cert.OutProjRefIdeal.τ).loc Cert.OutProjRefIdeal.main_arg4) = m' ((c.tc : Thread Cert.OutProjRefIdeal.nD Cert.OutProjRefIdeal.τ).loc Cert.OutProjRefIdeal.main_arg4)
          ∧ r.2.mem ((c.tc : Thread Cert.OutProjRefIdeal.nD Cert.OutProjRefIdeal.τ).loc Cert.OutProjRefIdeal.main_arg5) = m' ((c.tc : Thread Cert.OutProjRefIdeal.nD Cert.OutProjRefIdeal.τ).loc Cert.OutProjRefIdeal.main_arg5))

def preserves_InProj_InProjIdeal : Prop :=
  True

def algebraic_InProjIdeal_InProjRefIdeal_pre_rope_rows [hInProjIdeal : Cert.InProjIdeal.Facts] [hInProjRefIdeal : Cert.InProjRefIdeal.Facts] [hPre_rope_rows : Cert.Pre_rope_rows.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal_rope_rows m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)
      ∧ m' ((c.tc : Thread Cert.InProjRefIdeal.nD Cert.InProjRefIdeal.τ).loc Cert.InProjRefIdeal.main_arg3) = m ((c.tc : Thread Cert.InProjIdeal.nD Cert.InProjIdeal.τ).loc Cert.InProjIdeal.main_arg3)
      ∧ m' ((c.tc : Thread Cert.InProjRefIdeal.nD Cert.InProjRefIdeal.τ).loc Cert.InProjRefIdeal.main_arg4) = m ((c.tc : Thread Cert.InProjIdeal.nD Cert.InProjIdeal.τ).loc Cert.InProjIdeal.main_arg4)
      ∧ m' ((c.tc : Thread Cert.InProjRefIdeal.nD Cert.InProjRefIdeal.τ).loc Cert.InProjRefIdeal.main_arg5) = m ((c.tc : Thread Cert.InProjIdeal.nD Cert.InProjIdeal.τ).loc Cert.InProjIdeal.main_arg5)
      ∧ m' ((c.tc : Thread Cert.InProjRefIdeal.nD Cert.InProjRefIdeal.τ).loc Cert.InProjRefIdeal.main_arg6) = m ((c.tc : Thread Cert.InProjIdeal.nD Cert.InProjIdeal.τ).loc Cert.InProjIdeal.main_arg6)) →
    ∃ (v0 : (c : Dev Cert.InProjIdeal.nD) → Buf (Elt Ideal) ((c.tc : Thread Cert.InProjIdeal.nD Cert.InProjIdeal.τ).loc Cert.InProjIdeal.main_v12_0)) (v1 : (c : Dev Cert.InProjIdeal.nD) → Buf (Elt Ideal) ((c.tc : Thread Cert.InProjIdeal.nD Cert.InProjIdeal.τ).loc Cert.InProjIdeal.main_v12_1)) (v2 : (c : Dev Cert.InProjIdeal.nD) → Buf (Elt Ideal) ((c.tc : Thread Cert.InProjIdeal.nD Cert.InProjIdeal.τ).loc Cert.InProjIdeal.main_v12_2)) (v3 : (c : Dev Cert.InProjIdeal.nD) → Buf (Elt Ideal) ((c.tc : Thread Cert.InProjIdeal.nD Cert.InProjIdeal.τ).loc Cert.InProjIdeal.main_v12_3)) (v4 : (c : Dev Cert.InProjIdeal.nD) → Buf (Elt Ideal) ((c.tc : Thread Cert.InProjIdeal.nD Cert.InProjIdeal.τ).loc Cert.InProjIdeal.main_v12_4)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v12_0) = v0 c
          ∧ r.2.mem ((c.tc : Thread Cert.InProjIdeal.nD Cert.InProjIdeal.τ).loc Cert.InProjIdeal.main_v12_1) = v1 c
          ∧ r.2.mem ((c.tc : Thread Cert.InProjIdeal.nD Cert.InProjIdeal.τ).loc Cert.InProjIdeal.main_v12_2) = v2 c
          ∧ r.2.mem ((c.tc : Thread Cert.InProjIdeal.nD Cert.InProjIdeal.τ).loc Cert.InProjIdeal.main_v12_3) = v3 c
          ∧ r.2.mem ((c.tc : Thread Cert.InProjIdeal.nD Cert.InProjIdeal.τ).loc Cert.InProjIdeal.main_v12_4) = v4 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
          ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
          ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4)
          ∧ r.2.mem ((c.tc : Thread Cert.InProjIdeal.nD Cert.InProjIdeal.τ).loc Cert.InProjIdeal.main_arg5) = m ((c.tc : Thread Cert.InProjIdeal.nD Cert.InProjIdeal.τ).loc Cert.InProjIdeal.main_arg5)
          ∧ r.2.mem ((c.tc : Thread Cert.InProjIdeal.nD Cert.InProjIdeal.τ).loc Cert.InProjIdeal.main_arg6) = m ((c.tc : Thread Cert.InProjIdeal.nD Cert.InProjIdeal.τ).loc Cert.InProjIdeal.main_arg6))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v5) = v0 c
          ∧ r.2.mem ((c.tc : Thread Cert.InProjRefIdeal.nD Cert.InProjRefIdeal.τ).loc Cert.InProjRefIdeal.main_v95) = v1 c
          ∧ r.2.mem ((c.tc : Thread Cert.InProjRefIdeal.nD Cert.InProjRefIdeal.τ).loc Cert.InProjRefIdeal.main_v96) = v2 c
          ∧ r.2.mem ((c.tc : Thread Cert.InProjRefIdeal.nD Cert.InProjRefIdeal.τ).loc Cert.InProjRefIdeal.main_v97) = v3 c
          ∧ r.2.mem ((c.tc : Thread Cert.InProjRefIdeal.nD Cert.InProjRefIdeal.τ).loc Cert.InProjRefIdeal.main_v98) = v4 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2)
          ∧ r.2.mem ((c.tc : Thread Cert.InProjRefIdeal.nD Cert.InProjRefIdeal.τ).loc Cert.InProjRefIdeal.main_arg3) = m' ((c.tc : Thread Cert.InProjRefIdeal.nD Cert.InProjRefIdeal.τ).loc Cert.InProjRefIdeal.main_arg3)
          ∧ r.2.mem ((c.tc : Thread Cert.InProjRefIdeal.nD Cert.InProjRefIdeal.τ).loc Cert.InProjRefIdeal.main_arg4) = m' ((c.tc : Thread Cert.InProjRefIdeal.nD Cert.InProjRefIdeal.τ).loc Cert.InProjRefIdeal.main_arg4)
          ∧ r.2.mem ((c.tc : Thread Cert.InProjRefIdeal.nD Cert.InProjRefIdeal.τ).loc Cert.InProjRefIdeal.main_arg5) = m' ((c.tc : Thread Cert.InProjRefIdeal.nD Cert.InProjRefIdeal.τ).loc Cert.InProjRefIdeal.main_arg5)
          ∧ r.2.mem ((c.tc : Thread Cert.InProjRefIdeal.nD Cert.InProjRefIdeal.τ).loc Cert.InProjRefIdeal.main_arg6) = m' ((c.tc : Thread Cert.InProjRefIdeal.nD Cert.InProjRefIdeal.τ).loc Cert.InProjRefIdeal.main_arg6))

def Claim : Prop :=
  ∃ (hAttn : Cert.Attn.Facts) (hAttnIdeal : Cert.AttnIdeal.Facts) (hAttnRefIdeal : Cert.AttnRefIdeal.Facts) (hFfnB : Cert.FfnB.Facts) (hFfnBIdeal : Cert.FfnBIdeal.Facts) (hFfnBRefIdeal : Cert.FfnBRefIdeal.Facts) (hFfnA : Cert.FfnA.Facts) (hFfnAIdeal : Cert.FfnAIdeal.Facts) (hFfnARefIdeal : Cert.FfnARefIdeal.Facts) (hPle : Cert.Ple.Facts) (hPleIdeal : Cert.PleIdeal.Facts) (hPleRefIdeal : Cert.PleRefIdeal.Facts) (hOutProj : Cert.OutProj.Facts) (hOutProjIdeal : Cert.OutProjIdeal.Facts) (hOutProjRefIdeal : Cert.OutProjRefIdeal.Facts) (hInProj : Cert.InProj.Facts) (hInProjIdeal : Cert.InProjIdeal.Facts) (hInProjRefIdeal : Cert.InProjRefIdeal.Facts) (hPre_attention_inputs : Cert.Pre_attention_inputs.Facts) (hPre_rope_rows : Cert.Pre_rope_rows.Facts),
    quiescent_Attn (hAttn := hAttn)
    ∧ quiescent_AttnIdeal (hAttnIdeal := hAttnIdeal)
    ∧ quiescent_AttnIdeal_pre_attention_inputs (hAttnIdeal := hAttnIdeal) (hPre_attention_inputs := hPre_attention_inputs)
    ∧ quiescent_AttnRefIdeal (hAttnRefIdeal := hAttnRefIdeal)
    ∧ quiescent_AttnRefIdeal_pre_attention_inputs (hAttnRefIdeal := hAttnRefIdeal) (hPre_attention_inputs := hPre_attention_inputs)
    ∧ quiescent_FfnB (hFfnB := hFfnB)
    ∧ quiescent_FfnBIdeal (hFfnBIdeal := hFfnBIdeal)
    ∧ quiescent_FfnBRefIdeal (hFfnBRefIdeal := hFfnBRefIdeal)
    ∧ quiescent_FfnA (hFfnA := hFfnA)
    ∧ quiescent_FfnAIdeal (hFfnAIdeal := hFfnAIdeal)
    ∧ quiescent_FfnARefIdeal (hFfnARefIdeal := hFfnARefIdeal)
    ∧ quiescent_Ple (hPle := hPle)
    ∧ quiescent_PleIdeal (hPleIdeal := hPleIdeal)
    ∧ quiescent_PleRefIdeal (hPleRefIdeal := hPleRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_InProj (hInProj := hInProj)
    ∧ quiescent_InProjIdeal (hInProjIdeal := hInProjIdeal)
    ∧ quiescent_InProjIdeal_pre_rope_rows (hInProjIdeal := hInProjIdeal) (hPre_rope_rows := hPre_rope_rows)
    ∧ quiescent_InProjRefIdeal (hInProjRefIdeal := hInProjRefIdeal)
    ∧ quiescent_InProjRefIdeal_pre_rope_rows (hInProjRefIdeal := hInProjRefIdeal) (hPre_rope_rows := hPre_rope_rows)
    ∧ preserves_Attn_AttnIdeal
    ∧ algebraic_AttnIdeal_AttnRefIdeal_pre_attention_inputs (hAttnIdeal := hAttnIdeal) (hAttnRefIdeal := hAttnRefIdeal) (hPre_attention_inputs := hPre_attention_inputs)
    ∧ preserves_FfnB_FfnBIdeal
    ∧ algebraic_FfnBIdeal_FfnBRefIdeal (hFfnBIdeal := hFfnBIdeal) (hFfnBRefIdeal := hFfnBRefIdeal)
    ∧ preserves_FfnA_FfnAIdeal
    ∧ algebraic_FfnAIdeal_FfnARefIdeal (hFfnAIdeal := hFfnAIdeal) (hFfnARefIdeal := hFfnARefIdeal)
    ∧ preserves_Ple_PleIdeal
    ∧ algebraic_PleIdeal_PleRefIdeal (hPleIdeal := hPleIdeal) (hPleRefIdeal := hPleRefIdeal)
    ∧ preserves_OutProj_OutProjIdeal
    ∧ algebraic_OutProjIdeal_OutProjRefIdeal (hOutProjIdeal := hOutProjIdeal) (hOutProjRefIdeal := hOutProjRefIdeal)
    ∧ preserves_InProj_InProjIdeal
    ∧ algebraic_InProjIdeal_InProjRefIdeal_pre_rope_rows (hInProjIdeal := hInProjIdeal) (hInProjRefIdeal := hInProjRefIdeal) (hPre_rope_rows := hPre_rope_rows)
-- ==== Pre_attention_inputs.lean ====
abbrev S4x8x16x192x512 : Shape := ⟨5, ![4, 8, 16, 192, 512]⟩
abbrev S4x8x8192x192 : Shape := ⟨4, ![4, 8, 8192, 192]⟩
abbrev S4x8x32x144x256 : Shape := ⟨5, ![4, 8, 32, 144, 256]⟩
abbrev S_ : Shape := ⟨0, ![]⟩
abbrev S4x8x32x1x256 : Shape := ⟨5, ![4, 8, 32, 1, 256]⟩
abbrev S4x8x32x256 : Shape := ⟨4, ![4, 8, 32, 256]⟩

class Facts : Prop where
  bcast_S_S4x8x16x192x512 : S_.BroadcastsInDim S4x8x16x192x512 (![] : Fin 0 → Fin S4x8x16x192x512.rank)
  reducesTo_S4x8x16x192x512_S_d0_1_2_3_4 : S4x8x16x192x512.ReducesTo [0, 1, 2, 3, 4] S_
  h_S_ : 0 < S_.numel
  bcast_S_S4x8x8192x192 : S_.BroadcastsInDim S4x8x8192x192 (![] : Fin 0 → Fin S4x8x8192x192.rank)
  reducesTo_S4x8x8192x192_S_d0_1_2_3 : S4x8x8192x192.ReducesTo [0, 1, 2, 3] S_
  slices_S4x8x32x144x256_S4x8x32x1x256_0_0_0_128_0 : S4x8x32x144x256.Slices ![0, 0, 0, 128, 0] S4x8x32x1x256
  shapeCasts_S4x8x32x1x256_S4x8x32x256 : S4x8x32x1x256.ShapeCasts S4x8x32x256
  bcast_S_S4x8x32x256 : S_.BroadcastsInDim S4x8x32x256 (![] : Fin 0 → Fin S4x8x32x256.rank)
  reducesTo_S4x8x32x256_S_d0_1_2_3 : S4x8x32x256.ReducesTo [0, 1, 2, 3] S_

variable [Facts]

def fn {F : FTy → Type} [FloatOps F] (main_arg0 : FVec F S4x8x16x192x512 .bf16) (main_arg1 : FVec F S4x8x8192x192 .bf16) (main_arg2 : FVec F S4x8x32x144x256 .bf16) : IVec S_ 1 :=
  let main_v0 : FVec F S4x8x16x192x512 .bf16 := Host.absf main_arg0
  let main_cst : FVec F S_ .bf16 := constant S_ .bf16 0x7F80#16
  let main_v1 : FVec F S4x8x16x192x512 .bf16 := broadcastInDim S4x8x16x192x512 ![] bcast_S_S4x8x16x192x512 main_cst
  let main_v2 : IVec S4x8x16x192x512 1 := cmpf .olt main_v0 main_v1
  let main_c : IVec S_ 1 := constantI S_ 1 1#1
  let main_v3 : IVec S_ 1 := (fun x v => Host.reduce IntOp.andi x v reducesTo_S4x8x16x192x512_S_d0_1_2_3_4 h_S_) main_v2 main_c
  let main_v4 : FVec F S4x8x8192x192 .bf16 := Host.absf main_arg1
  let main_cst_0 : FVec F S_ .bf16 := constant S_ .bf16 0x7F80#16
  let main_v5 : FVec F S4x8x8192x192 .bf16 := broadcastInDim S4x8x8192x192 ![] bcast_S_S4x8x8192x192 main_cst_0
  let main_v6 : IVec S4x8x8192x192 1 := cmpf .olt main_v4 main_v5
  let main_c_1 : IVec S_ 1 := constantI S_ 1 1#1
  let main_v7 : IVec S_ 1 := (fun x v => Host.reduce IntOp.andi x v reducesTo_S4x8x8192x192_S_d0_1_2_3 h_S_) main_v6 main_c_1
  let main_v8 : IVec S_ 1 := andi main_v3 main_v7
  let main_v9 : FVec F S4x8x32x1x256 .bf16 := (extractStridedSlice S4x8x32x1x256 ![0, 0, 0, 128, 0] · slices_S4x8x32x144x256_S4x8x32x1x256_0_0_0_128_0) main_arg2
  let main_v10 : FVec F S4x8x32x256 .bf16 := shapeCast S4x8x32x256 main_v9 shapeCasts_S4x8x32x1x256_S4x8x32x256
  let main_cst_2 : FVec F S_ .bf16 := constant S_ .bf16 0x3F80#16
  let main_v11 : FVec F S4x8x32x256 .bf16 := broadcastInDim S4x8x32x256 ![] bcast_S_S4x8x32x256 main_cst_2
  let main_v12 : IVec S4x8x32x256 1 := cmpf .oeq main_v10 main_v11
  let main_c_3 : IVec S_ 1 := constantI S_ 1 1#1
  let main_v13 : IVec S_ 1 := (fun x v => Host.reduce IntOp.andi x v reducesTo_S4x8x32x256_S_d0_1_2_3 h_S_) main_v12 main_c_3
  let main_v14 : IVec S_ 1 := andi main_v8 main_v13
  main_v14
-- ==== Pre_rope_rows.lean ====
abbrev S32768x2048 : Shape := ⟨2, ![32768, 2048]⟩
abbrev S128x32768 : Shape := ⟨2, ![128, 32768]⟩
abbrev S2048x3136 : Shape := ⟨2, ![2048, 3136]⟩
abbrev S512 : Shape := ⟨1, ![512]⟩
abbrev S512x1536 : Shape := ⟨2, ![512, 1536]⟩
abbrev S512x2048 : Shape := ⟨2, ![512, 2048]⟩
abbrev S32x32768 : Shape := ⟨2, ![32, 32768]⟩
abbrev S_ : Shape := ⟨0, ![]⟩

class Facts : Prop where
  slices_S128x32768_S32x32768_32_0 : S128x32768.Slices ![32, 0] S32x32768
  slices_S128x32768_S32x32768_0_0 : S128x32768.Slices ![0, 0] S32x32768
  reducesTo_S32x32768_S_d0_1 : S32x32768.ReducesTo [0, 1] S_
  h_S_ : 0 < S_.numel
  slices_S128x32768_S32x32768_64_0 : S128x32768.Slices ![64, 0] S32x32768
  slices_S128x32768_S32x32768_96_0 : S128x32768.Slices ![96, 0] S32x32768

variable [Facts]

def fn {F : FTy → Type} [FloatOps F] (main_arg0 : FVec F S32768x2048 .f32) (main_arg1 : FVec F S128x32768 .f32) (main_arg2 : FVec F S2048x3136 .f32) (main_arg3 : FVec F S512 .f32) (main_arg4 : FVec F S512x1536 .f32) (main_arg5 : FVec F S512 .f32) (main_arg6 : FVec F S512x2048 .f32) : IVec S_ 1 :=
  let main_v0 : FVec F S32x32768 .f32 := (extractStridedSlice S32x32768 ![32, 0] · slices_S128x32768_S32x32768_32_0) main_arg1
  let main_v1 : FVec F S32x32768 .f32 := (extractStridedSlice S32x32768 ![0, 0] · slices_S128x32768_S32x32768_0_0) main_arg1
  let main_v2 : IVec S32x32768 1 := cmpf .oeq main_v0 main_v1
  let main_c : IVec S_ 1 := constantI S_ 1 1#1
  let main_v3 : IVec S_ 1 := (fun x v => Host.reduce IntOp.andi x v reducesTo_S32x32768_S_d0_1 h_S_) main_v2 main_c
  let main_v4 : FVec F S32x32768 .f32 := (extractStridedSlice S32x32768 ![64, 0] · slices_S128x32768_S32x32768_64_0) main_arg1
  let main_v5 : FVec F S32x32768 .f32 := (extractStridedSlice S32x32768 ![96, 0] · slices_S128x32768_S32x32768_96_0) main_arg1
  let main_v6 : FVec F S32x32768 .f32 := Host.negf main_v5
  let main_v7 : IVec S32x32768 1 := cmpf .oeq main_v4 main_v6
  let main_c_0 : IVec S_ 1 := constantI S_ 1 1#1
  let main_v8 : IVec S_ 1 := (fun x v => Host.reduce IntOp.andi x v reducesTo_S32x32768_S_d0_1 h_S_) main_v7 main_c_0
  let main_v9 : IVec S_ 1 := andi main_v3 main_v8
  main_v9
-- ==== Attn.lean ====
abbrev S4x8x16x192x512 : Shape := ⟨5, ![4, 8, 16, 192, 512]⟩
abbrev S4x8x8192x192 : Shape := ⟨4, ![4, 8, 8192, 192]⟩
abbrev S4x8x32x144x256 : Shape := ⟨5, ![4, 8, 32, 144, 256]⟩
abbrev S4x8192x1024 : Shape := ⟨3, ![4, 8192, 1024]⟩
abbrev S1x2x16x192x512 : Shape := ⟨5, ![1, 2, 16, 192, 512]⟩
abbrev S1x2x8192x192 : Shape := ⟨4, ![1, 2, 8192, 192]⟩
abbrev S1x2x32x144x256 : Shape := ⟨5, ![1, 2, 32, 144, 256]⟩
abbrev S1x8192x256 : Shape := ⟨3, ![1, 8192, 256]⟩
abbrev S256x512 : Shape := ⟨2, ![256, 512]⟩
abbrev S144x512 : Shape := ⟨2, ![144, 512]⟩
abbrev S1x1x1x192x512 : Shape := ⟨5, ![1, 1, 1, 192, 512]⟩
abbrev S192x512 : Shape := ⟨2, ![192, 512]⟩
abbrev S1x1x256x192 : Shape := ⟨4, ![1, 1, 256, 192]⟩
abbrev S256x192 : Shape := ⟨2, ![256, 192]⟩
abbrev S1x512 : Shape := ⟨2, ![1, 512]⟩
abbrev S512 : Shape := ⟨1, ![512]⟩
abbrev S1x1x1x144x256 : Shape := ⟨5, ![1, 1, 1, 144, 256]⟩
abbrev S144x256 : Shape := ⟨2, ![144, 256]⟩
abbrev S128x512 : Shape := ⟨2, ![128, 512]⟩
abbrev S512x128 : Shape := ⟨2, ![512, 128]⟩
abbrev S1x512x128 : Shape := ⟨3, ![1, 512, 128]⟩

abbrev nBuf : Space → Nat
  | .hbm => 4
  | .vmem => 14
  | .smem => 0
  | _ => 0

abbrev bufTy : (tb : Table) → Fin (tcTables nBuf tb) → BufTy
  | .hbm, ⟨0, _⟩ => ⟨S4x8x16x192x512, .bf16⟩
  | .hbm, ⟨1, _⟩ => ⟨S4x8x8192x192, .bf16⟩
  | .hbm, ⟨2, _⟩ => ⟨S4x8x32x144x256, .bf16⟩
  | .hbm, ⟨3, _⟩ => ⟨S4x8192x1024, .bf16⟩
  | .local _ .vmem, ⟨0, _⟩ => ⟨S1x2x16x192x512, .bf16⟩
  | .local _ .vmem, ⟨1, _⟩ => ⟨S1x2x16x192x512, .bf16⟩
  | .local _ .vmem, ⟨2, _⟩ => ⟨S1x2x8192x192, .bf16⟩
  | .local _ .vmem, ⟨3, _⟩ => ⟨S1x2x8192x192, .bf16⟩
  | .local _ .vmem, ⟨4, _⟩ => ⟨S1x2x32x144x256, .bf16⟩
  | .local _ .vmem, ⟨5, _⟩ => ⟨S1x2x32x144x256, .bf16⟩
  | .local _ .vmem, ⟨6, _⟩ => ⟨S1x8192x256, .bf16⟩
  | .local _ .vmem, ⟨7, _⟩ => ⟨S1x8192x256, .bf16⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S144x512, .f32⟩
  | .local _ .vmem, ⟨13, _⟩ => ⟨S144x512, .f32⟩
  | _, _ => ⟨S4x8x16x192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_scratch5 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 4], ![false, false]⟩

@[reducible] def k0_t1_loop : Scf.Loop 32 :=
  let c0_i32 : BitVec 32 := 0#32
  let c16_i32 : BitVec 32 := 16#32
  let v16 : BitVec 32 := Scalar.addi c0_i32 c16_i32
  let c1_i32 : BitVec 32 := 1#32
  ⟨c0_i32, v16, c1_i32⟩
def k0_off1 (k0_t1 : Fin k0_t1_loop.trips) : Fin 5 → Nat :=
  let c0_22 : Index := 0#32
  let c0_23 : Index := 0#32
  let c0_i32 : BitVec 32 := 0#32
  let c1_i32 : BitVec 32 := 1#32
  let arg12 : BitVec 32 := Scf.iv c0_i32 c1_i32 k0_t1
  let v17 : Index := Scalar.indexCast arg12
  let c0_24 : Index := 0#32
  let c0_25 : Index := 0#32
  ![0, 0, v17.toNat, 0, 0]
def k0_off2 (k0_t1 : Fin k0_t1_loop.trips) : Fin 5 → Nat :=
  let c0_26 : Index := 0#32
  let c1_27 : Index := 1#32
  let c0_i32 : BitVec 32 := 0#32
  let c1_i32 : BitVec 32 := 1#32
  let arg12 : BitVec 32 := Scf.iv c0_i32 c1_i32 k0_t1
  let v20 : Index := Scalar.indexCast arg12
  let c0_28 : Index := 0#32
  let c0_29 : Index := 0#32
  ![0, 1, v20.toNat, 0, 0]
@[reducible] def k0_t2_loop (k0_t1 : Fin k0_t1_loop.trips) : Scf.Loop 32 :=
  let c0_i32_44 : BitVec 32 := 0#32
  let c0_i32 : BitVec 32 := 0#32
  let c1_i32 : BitVec 32 := 1#32
  let arg12 : BitVec 32 := Scf.iv c0_i32 c1_i32 k0_t1
  let c0_i32_36 : BitVec 32 := 0#32
  let v32 : BitVec 1 := Scalar.cmpi .sgt arg12 c0_i32_36
  let v33 : BitVec 32 := Scalar.extui v32
  let c0_i32_37 : BitVec 32 := 0#32
  let v34 : BitVec 1 := Scalar.cmpi .slt arg12 c0_i32_37
  let v35 : BitVec 32 := Scalar.extui v34
  let v36 : BitVec 32 := Scalar.subi v33 v35
  let c2_i32 : BitVec 32 := 2#32
  let c0_i32_38 : BitVec 32 := 0#32
  let v37 : BitVec 1 := Scalar.cmpi .sgt c2_i32 c0_i32_38
  let v38 : BitVec 32 := Scalar.extui v37
  let c0_i32_39 : BitVec 32 := 0#32
  let v39 : BitVec 1 := Scalar.cmpi .slt c2_i32 c0_i32_39
  let v40 : BitVec 32 := Scalar.extui v39
  let v41 : BitVec 32 := Scalar.subi v38 v40
  let v42 : BitVec 1 := Scalar.cmpi .ne v36 v41
  let v43 : BitVec 32 := Scalar.remsi arg12 c2_i32
  let c0_i32_40 : BitVec 32 := 0#32
  let v44 : BitVec 1 := Scalar.cmpi .ne v43 c0_i32_40
  let v45 : BitVec 1 := Scalar.andi v42 v44
  let v31 : BitVec 32 := Scalar.divsi arg12 c2_i32
  let c1_i32_41 : BitVec 32 := 1#32
  let v46 : BitVec 32 := Scalar.subi v31 c1_i32_41
  let v47 : BitVec 32 := Scalar.select v45 v46 v31
  let v50 : BitVec 32 := Scalar.subi v47 c0_i32_44
  let c1_i32_45 : BitVec 32 := 1#32
  let v52 : BitVec 32 := Scalar.divsi v50 c1_i32_45
  let v53 : BitVec 32 := Scalar.muli v52 c1_i32_45
  let v54 : BitVec 32 := Scalar.addi c0_i32_44 v53
  let c1_i32_46 : BitVec 32 := 1#32
  ⟨c0_i32_44, v54, c1_i32_46⟩
def k0_off3 (k0_t1 : Fin k0_t1_loop.trips) (k0_t2 : Fin (k0_t2_loop k0_t1).trips) (c0_i32_167 : BitVec 32) : Fin 4 → Nat :=
  let c0_170 : Index := 0#32
  let c0_171 : Index := 0#32
  let c0_i32_44 : BitVec 32 := 0#32
  let c1_i32_46 : BitVec 32 := 1#32
  let arg13 : BitVec 32 := Scf.iv c0_i32_44 c1_i32_46 k0_t2
  let c2_i32_163 : BitVec 32 := 2#32
  let v242 : BitVec 32 := Scalar.muli arg13 c2_i32_163
  let c2_i32_166 : BitVec 32 := 2#32
  let v245 : BitVec 32 := Scalar.muli v242 c2_i32_166
  let v246 : BitVec 32 := Scalar.addi v245 c0_i32_167
  let c1_i32_168 : BitVec 32 := 1#32
  let v247 : BitVec 32 := Scalar.addi v246 c1_i32_168
  let c256_i32_169 : BitVec 32 := 256#32
  let v248 : BitVec 32 := Scalar.muli v247 c256_i32_169
  let v249 : Index := Scalar.indexCast v248
  let c0_172 : Index := 0#32
  ![0, 0, v249.toNat, 0]
def k0_off4 (k0_t1 : Fin k0_t1_loop.trips) (k0_t2 : Fin (k0_t2_loop k0_t1).trips) (c0_i32_167 : BitVec 32) : Fin 4 → Nat :=
  let c0_177 : Index := 0#32
  let c1_178 : Index := 1#32
  let c0_i32_44 : BitVec 32 := 0#32
  let c1_i32_46 : BitVec 32 := 1#32
  let arg13 : BitVec 32 := Scf.iv c0_i32_44 c1_i32_46 k0_t2
  let c2_i32_163 : BitVec 32 := 2#32
  let v242 : BitVec 32 := Scalar.muli arg13 c2_i32_163
  let c2_i32_166 : BitVec 32 := 2#32
  let v245 : BitVec 32 := Scalar.muli v242 c2_i32_166
  let v246 : BitVec 32 := Scalar.addi v245 c0_i32_167
  let c1_i32_168 : BitVec 32 := 1#32
  let v247 : BitVec 32 := Scalar.addi v246 c1_i32_168
  let c256_i32_176 : BitVec 32 := 256#32
  let v256 : BitVec 32 := Scalar.muli v247 c256_i32_176
  let v257 : Index := Scalar.indexCast v256
  let c0_179 : Index := 0#32
  ![0, 1, v257.toNat, 0]
def k0_off5 (k0_t1 : Fin k0_t1_loop.trips) (k0_t2 : Fin (k0_t2_loop k0_t1).trips) (c0_i32_165 : BitVec 32) : Fin 5 → Nat :=
  let c0_188 : Index := 0#32
  let c0_189 : Index := 0#32
  let c0_i32_44 : BitVec 32 := 0#32
  let c1_i32_46 : BitVec 32 := 1#32
  let arg13 : BitVec 32 := Scf.iv c0_i32_44 c1_i32_46 k0_t2
  let c2_i32_163 : BitVec 32 := 2#32
  let v242 : BitVec 32 := Scalar.muli arg13 c2_i32_163
  let c2_i32_164 : BitVec 32 := 2#32
  let v243 : BitVec 32 := Scalar.muli v242 c2_i32_164
  let v244 : BitVec 32 := Scalar.addi v243 c0_i32_165
  let v277 : Index := Scalar.indexCast v244
  let c0_190 : Index := 0#32
  let c0_191 : Index := 0#32
  ![0, 0, v277.toNat, 0, 0]
def k0_off6 (k0_t1 : Fin k0_t1_loop.trips) (k0_t2 : Fin (k0_t2_loop k0_t1).trips) (c0_i32_165 : BitVec 32) : Fin 5 → Nat :=
  let c0_200 : Index := 0#32
  let c1_201 : Index := 1#32
  let c0_i32_44 : BitVec 32 := 0#32
  let c1_i32_46 : BitVec 32 := 1#32
  let arg13 : BitVec 32 := Scf.iv c0_i32_44 c1_i32_46 k0_t2
  let c2_i32_163 : BitVec 32 := 2#32
  let v242 : BitVec 32 := Scalar.muli arg13 c2_i32_163
  let c2_i32_164 : BitVec 32 := 2#32
  let v243 : BitVec 32 := Scalar.muli v242 c2_i32_164
  let v244 : BitVec 32 := Scalar.addi v243 c0_i32_165
  let v298 : Index := Scalar.indexCast v244
  let c0_202 : Index := 0#32
  let c0_203 : Index := 0#32
  ![0, 1, v298.toNat, 0, 0]
@[reducible] def k0_t3_loop (k0_t1 : Fin k0_t1_loop.trips) : Scf.Loop 32 :=
  let c0_i32_44 : BitVec 32 := 0#32
  let c0_i32 : BitVec 32 := 0#32
  let c1_i32 : BitVec 32 := 1#32
  let arg12 : BitVec 32 := Scf.iv c0_i32 c1_i32 k0_t1
  let c0_i32_36 : BitVec 32 := 0#32
  let v32 : BitVec 1 := Scalar.cmpi .sgt arg12 c0_i32_36
  let v33 : BitVec 32 := Scalar.extui v32
  let c0_i32_37 : BitVec 32 := 0#32
  let v34 : BitVec 1 := Scalar.cmpi .slt arg12 c0_i32_37
  let v35 : BitVec 32 := Scalar.extui v34
  let v36 : BitVec 32 := Scalar.subi v33 v35
  let c2_i32 : BitVec 32 := 2#32
  let c0_i32_38 : BitVec 32 := 0#32
  let v37 : BitVec 1 := Scalar.cmpi .sgt c2_i32 c0_i32_38
  let v38 : BitVec 32 := Scalar.extui v37
  let c0_i32_39 : BitVec 32 := 0#32
  let v39 : BitVec 1 := Scalar.cmpi .slt c2_i32 c0_i32_39
  let v40 : BitVec 32 := Scalar.extui v39
  let v41 : BitVec 32 := Scalar.subi v38 v40
  let v42 : BitVec 1 := Scalar.cmpi .ne v36 v41
  let v43 : BitVec 32 := Scalar.remsi arg12 c2_i32
  let c0_i32_40 : BitVec 32 := 0#32
  let v44 : BitVec 1 := Scalar.cmpi .ne v43 c0_i32_40
  let v45 : BitVec 1 := Scalar.andi v42 v44
  let v31 : BitVec 32 := Scalar.divsi arg12 c2_i32
  let c1_i32_41 : BitVec 32 := 1#32
  let v46 : BitVec 32 := Scalar.subi v31 c1_i32_41
  let v47 : BitVec 32 := Scalar.select v45 v46 v31
  let v50 : BitVec 32 := Scalar.subi v47 c0_i32_44
  let c1_i32_45 : BitVec 32 := 1#32
  let v52 : BitVec 32 := Scalar.divsi v50 c1_i32_45
  let v53 : BitVec 32 := Scalar.muli v52 c1_i32_45
  let v54 : BitVec 32 := Scalar.addi c0_i32_44 v53
  let v51 : BitVec 32 := Scalar.addi c0_i32_44 v50
  let c1_i32_47 : BitVec 32 := 1#32
  ⟨v54, v51, c1_i32_47⟩
def k0_off7 (k0_t1 : Fin k0_t1_loop.trips) (k0_t3 : Fin (k0_t3_loop k0_t1).trips) (c0_i32_167 : BitVec 32) : Fin 4 → Nat :=
  let c0_170 : Index := 0#32
  let c0_171 : Index := 0#32
  let c0_i32_44 : BitVec 32 := 0#32
  let c0_i32 : BitVec 32 := 0#32
  let c1_i32 : BitVec 32 := 1#32
  let arg12 : BitVec 32 := Scf.iv c0_i32 c1_i32 k0_t1
  let c0_i32_36 : BitVec 32 := 0#32
  let v32 : BitVec 1 := Scalar.cmpi .sgt arg12 c0_i32_36
  let v33 : BitVec 32 := Scalar.extui v32
  let c0_i32_37 : BitVec 32 := 0#32
  let v34 : BitVec 1 := Scalar.cmpi .slt arg12 c0_i32_37
  let v35 : BitVec 32 := Scalar.extui v34
  let v36 : BitVec 32 := Scalar.subi v33 v35
  let c2_i32 : BitVec 32 := 2#32
  let c0_i32_38 : BitVec 32 := 0#32
  let v37 : BitVec 1 := Scalar.cmpi .sgt c2_i32 c0_i32_38
  let v38 : BitVec 32 := Scalar.extui v37
  let c0_i32_39 : BitVec 32 := 0#32
  let v39 : BitVec 1 := Scalar.cmpi .slt c2_i32 c0_i32_39
  let v40 : BitVec 32 := Scalar.extui v39
  let v41 : BitVec 32 := Scalar.subi v38 v40
  let v42 : BitVec 1 := Scalar.cmpi .ne v36 v41
  let v43 : BitVec 32 := Scalar.remsi arg12 c2_i32
  let c0_i32_40 : BitVec 32 := 0#32
  let v44 : BitVec 1 := Scalar.cmpi .ne v43 c0_i32_40
  let v45 : BitVec 1 := Scalar.andi v42 v44
  let v31 : BitVec 32 := Scalar.divsi arg12 c2_i32
  let c1_i32_41 : BitVec 32 := 1#32
  let v46 : BitVec 32 := Scalar.subi v31 c1_i32_41
  let v47 : BitVec 32 := Scalar.select v45 v46 v31
  let v50 : BitVec 32 := Scalar.subi v47 c0_i32_44
  let c1_i32_45 : BitVec 32 := 1#32
  let v52 : BitVec 32 := Scalar.divsi v50 c1_i32_45
  let v53 : BitVec 32 := Scalar.muli v52 c1_i32_45
  let v54 : BitVec 32 := Scalar.addi c0_i32_44 v53
  let c1_i32_47 : BitVec 32 := 1#32
  let arg13 : BitVec 32 := Scf.iv v54 c1_i32_47 k0_t3
  let c2_i32_163 : BitVec 32 := 2#32
  let v242 : BitVec 32 := Scalar.muli arg13 c2_i32_163
  let c2_i32_166 : BitVec 32 := 2#32
  let v245 : BitVec 32 := Scalar.muli v242 c2_i32_166
  let v246 : BitVec 32 := Scalar.addi v245 c0_i32_167
  let c1_i32_168 : BitVec 32 := 1#32
  let v247 : BitVec 32 := Scalar.addi v246 c1_i32_168
  let c256_i32_169 : BitVec 32 := 256#32
  let v248 : BitVec 32 := Scalar.muli v247 c256_i32_169
  let v249 : Index := Scalar.indexCast v248
  let c0_172 : Index := 0#32
  ![0, 0, v249.toNat, 0]
def k0_off8 (k0_t1 : Fin k0_t1_loop.trips) (k0_t3 : Fin (k0_t3_loop k0_t1).trips) (c0_i32_167 : BitVec 32) : Fin 4 → Nat :=
  let c0_177 : Index := 0#32
  let c1_178 : Index := 1#32
  let c0_i32_44 : BitVec 32 := 0#32
  let c0_i32 : BitVec 32 := 0#32
  let c1_i32 : BitVec 32 := 1#32
  let arg12 : BitVec 32 := Scf.iv c0_i32 c1_i32 k0_t1
  let c0_i32_36 : BitVec 32 := 0#32
  let v32 : BitVec 1 := Scalar.cmpi .sgt arg12 c0_i32_36
  let v33 : BitVec 32 := Scalar.extui v32
  let c0_i32_37 : BitVec 32 := 0#32
  let v34 : BitVec 1 := Scalar.cmpi .slt arg12 c0_i32_37
  let v35 : BitVec 32 := Scalar.extui v34
  let v36 : BitVec 32 := Scalar.subi v33 v35
  let c2_i32 : BitVec 32 := 2#32
  let c0_i32_38 : BitVec 32 := 0#32
  let v37 : BitVec 1 := Scalar.cmpi .sgt c2_i32 c0_i32_38
  let v38 : BitVec 32 := Scalar.extui v37
  let c0_i32_39 : BitVec 32 := 0#32
  let v39 : BitVec 1 := Scalar.cmpi .slt c2_i32 c0_i32_39
  let v40 : BitVec 32 := Scalar.extui v39
  let v41 : BitVec 32 := Scalar.subi v38 v40
  let v42 : BitVec 1 := Scalar.cmpi .ne v36 v41
  let v43 : BitVec 32 := Scalar.remsi arg12 c2_i32
  let c0_i32_40 : BitVec 32 := 0#32
  let v44 : BitVec 1 := Scalar.cmpi .ne v43 c0_i32_40
  let v45 : BitVec 1 := Scalar.andi v42 v44
  let v31 : BitVec 32 := Scalar.divsi arg12 c2_i32
  let c1_i32_41 : BitVec 32 := 1#32
  let v46 : BitVec 32 := Scalar.subi v31 c1_i32_41
  let v47 : BitVec 32 := Scalar.select v45 v46 v31
  let v50 : BitVec 32 := Scalar.subi v47 c0_i32_44
  let c1_i32_45 : BitVec 32 := 1#32
  let v52 : BitVec 32 := Scalar.divsi v50 c1_i32_45
  let v53 : BitVec 32 := Scalar.muli v52 c1_i32_45
  let v54 : BitVec 32 := Scalar.addi c0_i32_44 v53
  let c1_i32_47 : BitVec 32 := 1#32
  let arg13 : BitVec 32 := Scf.iv v54 c1_i32_47 k0_t3
  let c2_i32_163 : BitVec 32 := 2#32
  let v242 : BitVec 32 := Scalar.muli arg13 c2_i32_163
  let c2_i32_166 : BitVec 32 := 2#32
  let v245 : BitVec 32 := Scalar.muli v242 c2_i32_166
  let v246 : BitVec 32 := Scalar.addi v245 c0_i32_167
  let c1_i32_168 : BitVec 32 := 1#32
  let v247 : BitVec 32 := Scalar.addi v246 c1_i32_168
  let c256_i32_176 : BitVec 32 := 256#32
  let v256 : BitVec 32 := Scalar.muli v247 c256_i32_176
  let v257 : Index := Scalar.indexCast v256
  let c0_179 : Index := 0#32
  ![0, 1, v257.toNat, 0]
def k0_off9 (k0_t1 : Fin k0_t1_loop.trips) (k0_t3 : Fin (k0_t3_loop k0_t1).trips) (c0_i32_165 : BitVec 32) : Fin 5 → Nat :=
  let c0_188 : Index := 0#32
  let c0_189 : Index := 0#32
  let c0_i32_44 : BitVec 32 := 0#32
  let c0_i32 : BitVec 32 := 0#32
  let c1_i32 : BitVec 32 := 1#32
  let arg12 : BitVec 32 := Scf.iv c0_i32 c1_i32 k0_t1
  let c0_i32_36 : BitVec 32 := 0#32
  let v32 : BitVec 1 := Scalar.cmpi .sgt arg12 c0_i32_36
  let v33 : BitVec 32 := Scalar.extui v32
  let c0_i32_37 : BitVec 32 := 0#32
  let v34 : BitVec 1 := Scalar.cmpi .slt arg12 c0_i32_37
  let v35 : BitVec 32 := Scalar.extui v34
  let v36 : BitVec 32 := Scalar.subi v33 v35
  let c2_i32 : BitVec 32 := 2#32
  let c0_i32_38 : BitVec 32 := 0#32
  let v37 : BitVec 1 := Scalar.cmpi .sgt c2_i32 c0_i32_38
  let v38 : BitVec 32 := Scalar.extui v37
  let c0_i32_39 : BitVec 32 := 0#32
  let v39 : BitVec 1 := Scalar.cmpi .slt c2_i32 c0_i32_39
  let v40 : BitVec 32 := Scalar.extui v39
  let v41 : BitVec 32 := Scalar.subi v38 v40
  let v42 : BitVec 1 := Scalar.cmpi .ne v36 v41
  let v43 : BitVec 32 := Scalar.remsi arg12 c2_i32
  let c0_i32_40 : BitVec 32 := 0#32
  let v44 : BitVec 1 := Scalar.cmpi .ne v43 c0_i32_40
  let v45 : BitVec 1 := Scalar.andi v42 v44
  let v31 : BitVec 32 := Scalar.divsi arg12 c2_i32
  let c1_i32_41 : BitVec 32 := 1#32
  let v46 : BitVec 32 := Scalar.subi v31 c1_i32_41
  let v47 : BitVec 32 := Scalar.select v45 v46 v31
  let v50 : BitVec 32 := Scalar.subi v47 c0_i32_44
  let c1_i32_45 : BitVec 32 := 1#32
  let v52 : BitVec 32 := Scalar.divsi v50 c1_i32_45
  let v53 : BitVec 32 := Scalar.muli v52 c1_i32_45
  let v54 : BitVec 32 := Scalar.addi c0_i32_44 v53
  let c1_i32_47 : BitVec 32 := 1#32
  let arg13 : BitVec 32 := Scf.iv v54 c1_i32_47 k0_t3
  let c2_i32_163 : BitVec 32 := 2#32
  let v242 : BitVec 32 := Scalar.muli arg13 c2_i32_163
  let c2_i32_164 : BitVec 32 := 2#32
  let v243 : BitVec 32 := Scalar.muli v242 c2_i32_164
  let v244 : BitVec 32 := Scalar.addi v243 c0_i32_165
  let v277 : Index := Scalar.indexCast v244
  let c0_190 : Index := 0#32
  let c0_191 : Index := 0#32
  ![0, 0, v277.toNat, 0, 0]
def k0_off10 (k0_t1 : Fin k0_t1_loop.trips) (k0_t3 : Fin (k0_t3_loop k0_t1).trips) (c0_i32_165 : BitVec 32) : Fin 5 → Nat :=
  let c0_200 : Index := 0#32
  let c1_201 : Index := 1#32
  let c0_i32_44 : BitVec 32 := 0#32
  let c0_i32 : BitVec 32 := 0#32
  let c1_i32 : BitVec 32 := 1#32
  let arg12 : BitVec 32 := Scf.iv c0_i32 c1_i32 k0_t1
  let c0_i32_36 : BitVec 32 := 0#32
  let v32 : BitVec 1 := Scalar.cmpi .sgt arg12 c0_i32_36
  let v33 : BitVec 32 := Scalar.extui v32
  let c0_i32_37 : BitVec 32 := 0#32
  let v34 : BitVec 1 := Scalar.cmpi .slt arg12 c0_i32_37
  let v35 : BitVec 32 := Scalar.extui v34
  let v36 : BitVec 32 := Scalar.subi v33 v35
  let c2_i32 : BitVec 32 := 2#32
  let c0_i32_38 : BitVec 32 := 0#32
  let v37 : BitVec 1 := Scalar.cmpi .sgt c2_i32 c0_i32_38
  let v38 : BitVec 32 := Scalar.extui v37
  let c0_i32_39 : BitVec 32 := 0#32
  let v39 : BitVec 1 := Scalar.cmpi .slt c2_i32 c0_i32_39
  let v40 : BitVec 32 := Scalar.extui v39
  let v41 : BitVec 32 := Scalar.subi v38 v40
  let v42 : BitVec 1 := Scalar.cmpi .ne v36 v41
  let v43 : BitVec 32 := Scalar.remsi arg12 c2_i32
  let c0_i32_40 : BitVec 32 := 0#32
  let v44 : BitVec 1 := Scalar.cmpi .ne v43 c0_i32_40
  let v45 : BitVec 1 := Scalar.andi v42 v44
  let v31 : BitVec 32 := Scalar.divsi arg12 c2_i32
  let c1_i32_41 : BitVec 32 := 1#32
  let v46 : BitVec 32 := Scalar.subi v31 c1_i32_41
  let v47 : BitVec 32 := Scalar.select v45 v46 v31
  let v50 : BitVec 32 := Scalar.subi v47 c0_i32_44
  let c1_i32_45 : BitVec 32 := 1#32
  let v52 : BitVec 32 := Scalar.divsi v50 c1_i32_45
  let v53 : BitVec 32 := Scalar.muli v52 c1_i32_45
  let v54 : BitVec 32 := Scalar.addi c0_i32_44 v53
  let c1_i32_47 : BitVec 32 := 1#32
  let arg13 : BitVec 32 := Scf.iv v54 c1_i32_47 k0_t3
  let c2_i32_163 : BitVec 32 := 2#32
  let v242 : BitVec 32 := Scalar.muli arg13 c2_i32_163
  let c2_i32_164 : BitVec 32 := 2#32
  let v243 : BitVec 32 := Scalar.muli v242 c2_i32_164
  let v244 : BitVec 32 := Scalar.addi v243 c0_i32_165
  let v298 : Index := Scalar.indexCast v244
  let c0_202 : Index := 0#32
  let c0_203 : Index := 0#32
  ![0, 1, v298.toNat, 0, 0]
@[reducible] def k0_t4_loop (k0_t1 : Fin k0_t1_loop.trips) : Scf.Loop 32 :=
  let c0_i32 : BitVec 32 := 0#32
  let c1_i32 : BitVec 32 := 1#32
  let arg12 : BitVec 32 := Scf.iv c0_i32 c1_i32 k0_t1
  let c0_i32_36 : BitVec 32 := 0#32
  let v32 : BitVec 1 := Scalar.cmpi .sgt arg12 c0_i32_36
  let v33 : BitVec 32 := Scalar.extui v32
  let c0_i32_37 : BitVec 32 := 0#32
  let v34 : BitVec 1 := Scalar.cmpi .slt arg12 c0_i32_37
  let v35 : BitVec 32 := Scalar.extui v34
  let v36 : BitVec 32 := Scalar.subi v33 v35
  let c2_i32 : BitVec 32 := 2#32
  let c0_i32_38 : BitVec 32 := 0#32
  let v37 : BitVec 1 := Scalar.cmpi .sgt c2_i32 c0_i32_38
  let v38 : BitVec 32 := Scalar.extui v37
  let c0_i32_39 : BitVec 32 := 0#32
  let v39 : BitVec 1 := Scalar.cmpi .slt c2_i32 c0_i32_39
  let v40 : BitVec 32 := Scalar.extui v39
  let v41 : BitVec 32 := Scalar.subi v38 v40
  let v42 : BitVec 1 := Scalar.cmpi .ne v36 v41
  let v43 : BitVec 32 := Scalar.remsi arg12 c2_i32
  let c0_i32_40 : BitVec 32 := 0#32
  let v44 : BitVec 1 := Scalar.cmpi .ne v43 c0_i32_40
  let v45 : BitVec 1 := Scalar.andi v42 v44
  let v31 : BitVec 32 := Scalar.divsi arg12 c2_i32
  let c1_i32_41 : BitVec 32 := 1#32
  let v46 : BitVec 32 := Scalar.subi v31 c1_i32_41
  let v47 : BitVec 32 := Scalar.select v45 v46 v31
  let c2_i32_48 : BitVec 32 := 2#32
  let v57 : BitVec 32 := Scalar.muli v47 c2_i32_48
  let v58 : BitVec 32 := Scalar.subi arg12 v57
  let c1_i32_49 : BitVec 32 := 1#32
  let v60 : BitVec 32 := Scalar.divsi v58 c1_i32_49
  let v61 : BitVec 32 := Scalar.muli v60 c1_i32_49
  let v62 : BitVec 32 := Scalar.addi v57 v61
  let c1_i32_50 : BitVec 32 := 1#32
  ⟨v57, v62, c1_i32_50⟩
def k0_off11 (k0_t1 : Fin k0_t1_loop.trips) (k0_t4 : Fin (k0_t4_loop k0_t1).trips) (c0_i32_166 : BitVec 32) : Fin 4 → Nat :=
  let c0_169 : Index := 0#32
  let c0_170 : Index := 0#32
  let c0_i32 : BitVec 32 := 0#32
  let c1_i32 : BitVec 32 := 1#32
  let arg12 : BitVec 32 := Scf.iv c0_i32 c1_i32 k0_t1
  let c0_i32_36 : BitVec 32 := 0#32
  let v32 : BitVec 1 := Scalar.cmpi .sgt arg12 c0_i32_36
  let v33 : BitVec 32 := Scalar.extui v32
  let c0_i32_37 : BitVec 32 := 0#32
  let v34 : BitVec 1 := Scalar.cmpi .slt arg12 c0_i32_37
  let v35 : BitVec 32 := Scalar.extui v34
  let v36 : BitVec 32 := Scalar.subi v33 v35
  let c2_i32 : BitVec 32 := 2#32
  let c0_i32_38 : BitVec 32 := 0#32
  let v37 : BitVec 1 := Scalar.cmpi .sgt c2_i32 c0_i32_38
  let v38 : BitVec 32 := Scalar.extui v37
  let c0_i32_39 : BitVec 32 := 0#32
  let v39 : BitVec 1 := Scalar.cmpi .slt c2_i32 c0_i32_39
  let v40 : BitVec 32 := Scalar.extui v39
  let v41 : BitVec 32 := Scalar.subi v38 v40
  let v42 : BitVec 1 := Scalar.cmpi .ne v36 v41
  let v43 : BitVec 32 := Scalar.remsi arg12 c2_i32
  let c0_i32_40 : BitVec 32 := 0#32
  let v44 : BitVec 1 := Scalar.cmpi .ne v43 c0_i32_40
  let v45 : BitVec 1 := Scalar.andi v42 v44
  let v31 : BitVec 32 := Scalar.divsi arg12 c2_i32
  let c1_i32_41 : BitVec 32 := 1#32
  let v46 : BitVec 32 := Scalar.subi v31 c1_i32_41
  let v47 : BitVec 32 := Scalar.select v45 v46 v31
  let c2_i32_48 : BitVec 32 := 2#32
  let v57 : BitVec 32 := Scalar.muli v47 c2_i32_48
  let c1_i32_50 : BitVec 32 := 1#32
  let arg13 : BitVec 32 := Scf.iv v57 c1_i32_50 k0_t4
  let c2_i32_165 : BitVec 32 := 2#32
  let v244 : BitVec 32 := Scalar.muli arg13 c2_i32_165
  let v245 : BitVec 32 := Scalar.addi v244 c0_i32_166
  let c1_i32_167 : BitVec 32 := 1#32
  let v246 : BitVec 32 := Scalar.addi v245 c1_i32_167
  let c256_i32_168 : BitVec 32 := 256#32
  let v247 : BitVec 32 := Scalar.muli v246 c256_i32_168
  let v248 : Index := Scalar.indexCast v247
  let c0_171 : Index := 0#32
  ![0, 0, v248.toNat, 0]
def k0_off12 (k0_t1 : Fin k0_t1_loop.trips) (k0_t4 : Fin (k0_t4_loop k0_t1).trips) (c0_i32_166 : BitVec 32) : Fin 4 → Nat :=
  let c0_176 : Index := 0#32
  let c1_177 : Index := 1#32
  let c0_i32 : BitVec 32 := 0#32
  let c1_i32 : BitVec 32 := 1#32
  let arg12 : BitVec 32 := Scf.iv c0_i32 c1_i32 k0_t1
  let c0_i32_36 : BitVec 32 := 0#32
  let v32 : BitVec 1 := Scalar.cmpi .sgt arg12 c0_i32_36
  let v33 : BitVec 32 := Scalar.extui v32
  let c0_i32_37 : BitVec 32 := 0#32
  let v34 : BitVec 1 := Scalar.cmpi .slt arg12 c0_i32_37
  let v35 : BitVec 32 := Scalar.extui v34
  let v36 : BitVec 32 := Scalar.subi v33 v35
  let c2_i32 : BitVec 32 := 2#32
  let c0_i32_38 : BitVec 32 := 0#32
  let v37 : BitVec 1 := Scalar.cmpi .sgt c2_i32 c0_i32_38
  let v38 : BitVec 32 := Scalar.extui v37
  let c0_i32_39 : BitVec 32 := 0#32
  let v39 : BitVec 1 := Scalar.cmpi .slt c2_i32 c0_i32_39
  let v40 : BitVec 32 := Scalar.extui v39
  let v41 : BitVec 32 := Scalar.subi v38 v40
  let v42 : BitVec 1 := Scalar.cmpi .ne v36 v41
  let v43 : BitVec 32 := Scalar.remsi arg12 c2_i32
  let c0_i32_40 : BitVec 32 := 0#32
  let v44 : BitVec 1 := Scalar.cmpi .ne v43 c0_i32_40
  let v45 : BitVec 1 := Scalar.andi v42 v44
  let v31 : BitVec 32 := Scalar.divsi arg12 c2_i32
  let c1_i32_41 : BitVec 32 := 1#32
  let v46 : BitVec 32 := Scalar.subi v31 c1_i32_41
  let v47 : BitVec 32 := Scalar.select v45 v46 v31
  let c2_i32_48 : BitVec 32 := 2#32
  let v57 : BitVec 32 := Scalar.muli v47 c2_i32_48
  let c1_i32_50 : BitVec 32 := 1#32
  let arg13 : BitVec 32 := Scf.iv v57 c1_i32_50 k0_t4
  let c2_i32_165 : BitVec 32 := 2#32
  let v244 : BitVec 32 := Scalar.muli arg13 c2_i32_165
  let v245 : BitVec 32 := Scalar.addi v244 c0_i32_166
  let c1_i32_167 : BitVec 32 := 1#32
  let v246 : BitVec 32 := Scalar.addi v245 c1_i32_167
  let c256_i32_175 : BitVec 32 := 256#32
  let v255 : BitVec 32 := Scalar.muli v246 c256_i32_175
  let v256 : Index := Scalar.indexCast v255
  let c0_178 : Index := 0#32
  ![0, 1, v256.toNat, 0]
def k0_off13 (k0_t1 : Fin k0_t1_loop.trips) (k0_t4 : Fin (k0_t4_loop k0_t1).trips) (c0_i32_164 : BitVec 32) : Fin 5 → Nat :=
  let c0_187 : Index := 0#32
  let c0_188 : Index := 0#32
  let c0_i32 : BitVec 32 := 0#32
  let c1_i32 : BitVec 32 := 1#32
  let arg12 : BitVec 32 := Scf.iv c0_i32 c1_i32 k0_t1
  let c0_i32_36 : BitVec 32 := 0#32
  let v32 : BitVec 1 := Scalar.cmpi .sgt arg12 c0_i32_36
  let v33 : BitVec 32 := Scalar.extui v32
  let c0_i32_37 : BitVec 32 := 0#32
  let v34 : BitVec 1 := Scalar.cmpi .slt arg12 c0_i32_37
  let v35 : BitVec 32 := Scalar.extui v34
  let v36 : BitVec 32 := Scalar.subi v33 v35
  let c2_i32 : BitVec 32 := 2#32
  let c0_i32_38 : BitVec 32 := 0#32
  let v37 : BitVec 1 := Scalar.cmpi .sgt c2_i32 c0_i32_38
  let v38 : BitVec 32 := Scalar.extui v37
  let c0_i32_39 : BitVec 32 := 0#32
  let v39 : BitVec 1 := Scalar.cmpi .slt c2_i32 c0_i32_39
  let v40 : BitVec 32 := Scalar.extui v39
  let v41 : BitVec 32 := Scalar.subi v38 v40
  let v42 : BitVec 1 := Scalar.cmpi .ne v36 v41
  let v43 : BitVec 32 := Scalar.remsi arg12 c2_i32
  let c0_i32_40 : BitVec 32 := 0#32
  let v44 : BitVec 1 := Scalar.cmpi .ne v43 c0_i32_40
  let v45 : BitVec 1 := Scalar.andi v42 v44
  let v31 : BitVec 32 := Scalar.divsi arg12 c2_i32
  let c1_i32_41 : BitVec 32 := 1#32
  let v46 : BitVec 32 := Scalar.subi v31 c1_i32_41
  let v47 : BitVec 32 := Scalar.select v45 v46 v31
  let c2_i32_48 : BitVec 32 := 2#32
  let v57 : BitVec 32 := Scalar.muli v47 c2_i32_48
  let c1_i32_50 : BitVec 32 := 1#32
  let arg13 : BitVec 32 := Scf.iv v57 c1_i32_50 k0_t4
  let c2_i32_163 : BitVec 32 := 2#32
  let v242 : BitVec 32 := Scalar.muli arg13 c2_i32_163
  let v243 : BitVec 32 := Scalar.addi v242 c0_i32_164
  let v276 : Index := Scalar.indexCast v243
  let c0_189 : Index := 0#32
  let c0_190 : Index := 0#32
  ![0, 0, v276.toNat, 0, 0]
def k0_off14 (k0_t1 : Fin k0_t1_loop.trips) (k0_t4 : Fin (k0_t4_loop k0_t1).trips) (c0_i32_164 : BitVec 32) : Fin 5 → Nat :=
  let c0_199 : Index := 0#32
  let c1_200 : Index := 1#32
  let c0_i32 : BitVec 32 := 0#32
  let c1_i32 : BitVec 32 := 1#32
  let arg12 : BitVec 32 := Scf.iv c0_i32 c1_i32 k0_t1
  let c0_i32_36 : BitVec 32 := 0#32
  let v32 : BitVec 1 := Scalar.cmpi .sgt arg12 c0_i32_36
  let v33 : BitVec 32 := Scalar.extui v32
  let c0_i32_37 : BitVec 32 := 0#32
  let v34 : BitVec 1 := Scalar.cmpi .slt arg12 c0_i32_37
  let v35 : BitVec 32 := Scalar.extui v34
  let v36 : BitVec 32 := Scalar.subi v33 v35
  let c2_i32 : BitVec 32 := 2#32
  let c0_i32_38 : BitVec 32 := 0#32
  let v37 : BitVec 1 := Scalar.cmpi .sgt c2_i32 c0_i32_38
  let v38 : BitVec 32 := Scalar.extui v37
  let c0_i32_39 : BitVec 32 := 0#32
  let v39 : BitVec 1 := Scalar.cmpi .slt c2_i32 c0_i32_39
  let v40 : BitVec 32 := Scalar.extui v39
  let v41 : BitVec 32 := Scalar.subi v38 v40
  let v42 : BitVec 1 := Scalar.cmpi .ne v36 v41
  let v43 : BitVec 32 := Scalar.remsi arg12 c2_i32
  let c0_i32_40 : BitVec 32 := 0#32
  let v44 : BitVec 1 := Scalar.cmpi .ne v43 c0_i32_40
  let v45 : BitVec 1 := Scalar.andi v42 v44
  let v31 : BitVec 32 := Scalar.divsi arg12 c2_i32
  let c1_i32_41 : BitVec 32 := 1#32
  let v46 : BitVec 32 := Scalar.subi v31 c1_i32_41
  let v47 : BitVec 32 := Scalar.select v45 v46 v31
  let c2_i32_48 : BitVec 32 := 2#32
  let v57 : BitVec 32 := Scalar.muli v47 c2_i32_48
  let c1_i32_50 : BitVec 32 := 1#32
  let arg13 : BitVec 32 := Scf.iv v57 c1_i32_50 k0_t4
  let c2_i32_163 : BitVec 32 := 2#32
  let v242 : BitVec 32 := Scalar.muli arg13 c2_i32_163
  let v243 : BitVec 32 := Scalar.addi v242 c0_i32_164
  let v297 : Index := Scalar.indexCast v243
  let c0_201 : Index := 0#32
  let c0_202 : Index := 0#32
  ![0, 1, v297.toNat, 0, 0]
@[reducible] def k0_t5_loop (k0_t1 : Fin k0_t1_loop.trips) : Scf.Loop 32 :=
  let c0_i32 : BitVec 32 := 0#32
  let c1_i32 : BitVec 32 := 1#32
  let arg12 : BitVec 32 := Scf.iv c0_i32 c1_i32 k0_t1
  let c0_i32_36 : BitVec 32 := 0#32
  let v32 : BitVec 1 := Scalar.cmpi .sgt arg12 c0_i32_36
  let v33 : BitVec 32 := Scalar.extui v32
  let c0_i32_37 : BitVec 32 := 0#32
  let v34 : BitVec 1 := Scalar.cmpi .slt arg12 c0_i32_37
  let v35 : BitVec 32 := Scalar.extui v34
  let v36 : BitVec 32 := Scalar.subi v33 v35
  let c2_i32 : BitVec 32 := 2#32
  let c0_i32_38 : BitVec 32 := 0#32
  let v37 : BitVec 1 := Scalar.cmpi .sgt c2_i32 c0_i32_38
  let v38 : BitVec 32 := Scalar.extui v37
  let c0_i32_39 : BitVec 32 := 0#32
  let v39 : BitVec 1 := Scalar.cmpi .slt c2_i32 c0_i32_39
  let v40 : BitVec 32 := Scalar.extui v39
  let v41 : BitVec 32 := Scalar.subi v38 v40
  let v42 : BitVec 1 := Scalar.cmpi .ne v36 v41
  let v43 : BitVec 32 := Scalar.remsi arg12 c2_i32
  let c0_i32_40 : BitVec 32 := 0#32
  let v44 : BitVec 1 := Scalar.cmpi .ne v43 c0_i32_40
  let v45 : BitVec 1 := Scalar.andi v42 v44
  let v31 : BitVec 32 := Scalar.divsi arg12 c2_i32
  let c1_i32_41 : BitVec 32 := 1#32
  let v46 : BitVec 32 := Scalar.subi v31 c1_i32_41
  let v47 : BitVec 32 := Scalar.select v45 v46 v31
  let c2_i32_48 : BitVec 32 := 2#32
  let v57 : BitVec 32 := Scalar.muli v47 c2_i32_48
  let v58 : BitVec 32 := Scalar.subi arg12 v57
  let c1_i32_49 : BitVec 32 := 1#32
  let v60 : BitVec 32 := Scalar.divsi v58 c1_i32_49
  let v61 : BitVec 32 := Scalar.muli v60 c1_i32_49
  let v62 : BitVec 32 := Scalar.addi v57 v61
  let v59 : BitVec 32 := Scalar.addi v57 v58
  let c1_i32_51 : BitVec 32 := 1#32
  ⟨v62, v59, c1_i32_51⟩
def k0_off15 (k0_t1 : Fin k0_t1_loop.trips) (k0_t5 : Fin (k0_t5_loop k0_t1).trips) (c0_i32_166 : BitVec 32) : Fin 4 → Nat :=
  let c0_169 : Index := 0#32
  let c0_170 : Index := 0#32
  let c0_i32 : BitVec 32 := 0#32
  let c1_i32 : BitVec 32 := 1#32
  let arg12 : BitVec 32 := Scf.iv c0_i32 c1_i32 k0_t1
  let c0_i32_36 : BitVec 32 := 0#32
  let v32 : BitVec 1 := Scalar.cmpi .sgt arg12 c0_i32_36
  let v33 : BitVec 32 := Scalar.extui v32
  let c0_i32_37 : BitVec 32 := 0#32
  let v34 : BitVec 1 := Scalar.cmpi .slt arg12 c0_i32_37
  let v35 : BitVec 32 := Scalar.extui v34
  let v36 : BitVec 32 := Scalar.subi v33 v35
  let c2_i32 : BitVec 32 := 2#32
  let c0_i32_38 : BitVec 32 := 0#32
  let v37 : BitVec 1 := Scalar.cmpi .sgt c2_i32 c0_i32_38
  let v38 : BitVec 32 := Scalar.extui v37
  let c0_i32_39 : BitVec 32 := 0#32
  let v39 : BitVec 1 := Scalar.cmpi .slt c2_i32 c0_i32_39
  let v40 : BitVec 32 := Scalar.extui v39
  let v41 : BitVec 32 := Scalar.subi v38 v40
  let v42 : BitVec 1 := Scalar.cmpi .ne v36 v41
  let v43 : BitVec 32 := Scalar.remsi arg12 c2_i32
  let c0_i32_40 : BitVec 32 := 0#32
  let v44 : BitVec 1 := Scalar.cmpi .ne v43 c0_i32_40
  let v45 : BitVec 1 := Scalar.andi v42 v44
  let v31 : BitVec 32 := Scalar.divsi arg12 c2_i32
  let c1_i32_41 : BitVec 32 := 1#32
  let v46 : BitVec 32 := Scalar.subi v31 c1_i32_41
  let v47 : BitVec 32 := Scalar.select v45 v46 v31
  let c2_i32_48 : BitVec 32 := 2#32
  let v57 : BitVec 32 := Scalar.muli v47 c2_i32_48
  let v58 : BitVec 32 := Scalar.subi arg12 v57
  let c1_i32_49 : BitVec 32 := 1#32
  let v60 : BitVec 32 := Scalar.divsi v58 c1_i32_49
  let v61 : BitVec 32 := Scalar.muli v60 c1_i32_49
  let v62 : BitVec 32 := Scalar.addi v57 v61
  let c1_i32_51 : BitVec 32 := 1#32
  let arg13 : BitVec 32 := Scf.iv v62 c1_i32_51 k0_t5
  let c2_i32_165 : BitVec 32 := 2#32
  let v244 : BitVec 32 := Scalar.muli arg13 c2_i32_165
  let v245 : BitVec 32 := Scalar.addi v244 c0_i32_166
  let c1_i32_167 : BitVec 32 := 1#32
  let v246 : BitVec 32 := Scalar.addi v245 c1_i32_167
  let c256_i32_168 : BitVec 32 := 256#32
  let v247 : BitVec 32 := Scalar.muli v246 c256_i32_168
  let v248 : Index := Scalar.indexCast v247
  let c0_171 : Index := 0#32
  ![0, 0, v248.toNat, 0]
def k0_off16 (k0_t1 : Fin k0_t1_loop.trips) (k0_t5 : Fin (k0_t5_loop k0_t1).trips) (c0_i32_166 : BitVec 32) : Fin 4 → Nat :=
  let c0_176 : Index := 0#32
  let c1_177 : Index := 1#32
  let c0_i32 : BitVec 32 := 0#32
  let c1_i32 : BitVec 32 := 1#32
  let arg12 : BitVec 32 := Scf.iv c0_i32 c1_i32 k0_t1
  let c0_i32_36 : BitVec 32 := 0#32
  let v32 : BitVec 1 := Scalar.cmpi .sgt arg12 c0_i32_36
  let v33 : BitVec 32 := Scalar.extui v32
  let c0_i32_37 : BitVec 32 := 0#32
  let v34 : BitVec 1 := Scalar.cmpi .slt arg12 c0_i32_37
  let v35 : BitVec 32 := Scalar.extui v34
  let v36 : BitVec 32 := Scalar.subi v33 v35
  let c2_i32 : BitVec 32 := 2#32
  let c0_i32_38 : BitVec 32 := 0#32
  let v37 : BitVec 1 := Scalar.cmpi .sgt c2_i32 c0_i32_38
  let v38 : BitVec 32 := Scalar.extui v37
  let c0_i32_39 : BitVec 32 := 0#32
  let v39 : BitVec 1 := Scalar.cmpi .slt c2_i32 c0_i32_39
  let v40 : BitVec 32 := Scalar.extui v39
  let v41 : BitVec 32 := Scalar.subi v38 v40
  let v42 : BitVec 1 := Scalar.cmpi .ne v36 v41
  let v43 : BitVec 32 := Scalar.remsi arg12 c2_i32
  let c0_i32_40 : BitVec 32 := 0#32
  let v44 : BitVec 1 := Scalar.cmpi .ne v43 c0_i32_40
  let v45 : BitVec 1 := Scalar.andi v42 v44
  let v31 : BitVec 32 := Scalar.divsi arg12 c2_i32
  let c1_i32_41 : BitVec 32 := 1#32
  let v46 : BitVec 32 := Scalar.subi v31 c1_i32_41
  let v47 : BitVec 32 := Scalar.select v45 v46 v31
  let c2_i32_48 : BitVec 32 := 2#32
  let v57 : BitVec 32 := Scalar.muli v47 c2_i32_48
  let v58 : BitVec 32 := Scalar.subi arg12 v57
  let c1_i32_49 : BitVec 32 := 1#32
  let v60 : BitVec 32 := Scalar.divsi v58 c1_i32_49
  let v61 : BitVec 32 := Scalar.muli v60 c1_i32_49
  let v62 : BitVec 32 := Scalar.addi v57 v61
  let c1_i32_51 : BitVec 32 := 1#32
  let arg13 : BitVec 32 := Scf.iv v62 c1_i32_51 k0_t5
  let c2_i32_165 : BitVec 32 := 2#32
  let v244 : BitVec 32 := Scalar.muli arg13 c2_i32_165
  let v245 : BitVec 32 := Scalar.addi v244 c0_i32_166
  let c1_i32_167 : BitVec 32 := 1#32
  let v246 : BitVec 32 := Scalar.addi v245 c1_i32_167
  let c256_i32_175 : BitVec 32 := 256#32
  let v255 : BitVec 32 := Scalar.muli v246 c256_i32_175
  let v256 : Index := Scalar.indexCast v255
  let c0_178 : Index := 0#32
  ![0, 1, v256.toNat, 0]
def k0_off17 (k0_t1 : Fin k0_t1_loop.trips) (k0_t5 : Fin (k0_t5_loop k0_t1).trips) (c0_i32_164 : BitVec 32) : Fin 5 → Nat :=
  let c0_187 : Index := 0#32
  let c0_188 : Index := 0#32
  let c0_i32 : BitVec 32 := 0#32
  let c1_i32 : BitVec 32 := 1#32
  let arg12 : BitVec 32 := Scf.iv c0_i32 c1_i32 k0_t1
  let c0_i32_36 : BitVec 32 := 0#32
  let v32 : BitVec 1 := Scalar.cmpi .sgt arg12 c0_i32_36
  let v33 : BitVec 32 := Scalar.extui v32
  let c0_i32_37 : BitVec 32 := 0#32
  let v34 : BitVec 1 := Scalar.cmpi .slt arg12 c0_i32_37
  let v35 : BitVec 32 := Scalar.extui v34
  let v36 : BitVec 32 := Scalar.subi v33 v35
  let c2_i32 : BitVec 32 := 2#32
  let c0_i32_38 : BitVec 32 := 0#32
  let v37 : BitVec 1 := Scalar.cmpi .sgt c2_i32 c0_i32_38
  let v38 : BitVec 32 := Scalar.extui v37
  let c0_i32_39 : BitVec 32 := 0#32
  let v39 : BitVec 1 := Scalar.cmpi .slt c2_i32 c0_i32_39
  let v40 : BitVec 32 := Scalar.extui v39
  let v41 : BitVec 32 := Scalar.subi v38 v40
  let v42 : BitVec 1 := Scalar.cmpi .ne v36 v41
  let v43 : BitVec 32 := Scalar.remsi arg12 c2_i32
  let c0_i32_40 : BitVec 32 := 0#32
  let v44 : BitVec 1 := Scalar.cmpi .ne v43 c0_i32_40
  let v45 : BitVec 1 := Scalar.andi v42 v44
  let v31 : BitVec 32 := Scalar.divsi arg12 c2_i32
  let c1_i32_41 : BitVec 32 := 1#32
  let v46 : BitVec 32 := Scalar.subi v31 c1_i32_41
  let v47 : BitVec 32 := Scalar.select v45 v46 v31
  let c2_i32_48 : BitVec 32 := 2#32
  let v57 : BitVec 32 := Scalar.muli v47 c2_i32_48
  let v58 : BitVec 32 := Scalar.subi arg12 v57
  let c1_i32_49 : BitVec 32 := 1#32
  let v60 : BitVec 32 := Scalar.divsi v58 c1_i32_49
  let v61 : BitVec 32 := Scalar.muli v60 c1_i32_49
  let v62 : BitVec 32 := Scalar.addi v57 v61
  let c1_i32_51 : BitVec 32 := 1#32
  let arg13 : BitVec 32 := Scf.iv v62 c1_i32_51 k0_t5
  let c2_i32_163 : BitVec 32 := 2#32
  let v242 : BitVec 32 := Scalar.muli arg13 c2_i32_163
  let v243 : BitVec 32 := Scalar.addi v242 c0_i32_164
  let v276 : Index := Scalar.indexCast v243
  let c0_189 : Index := 0#32
  let c0_190 : Index := 0#32
  ![0, 0, v276.toNat, 0, 0]
def k0_off18 (k0_t1 : Fin k0_t1_loop.trips) (k0_t5 : Fin (k0_t5_loop k0_t1).trips) (c0_i32_164 : BitVec 32) : Fin 5 → Nat :=
  let c0_199 : Index := 0#32
  let c1_200 : Index := 1#32
  let c0_i32 : BitVec 32 := 0#32
  let c1_i32 : BitVec 32 := 1#32
  let arg12 : BitVec 32 := Scf.iv c0_i32 c1_i32 k0_t1
  let c0_i32_36 : BitVec 32 := 0#32
  let v32 : BitVec 1 := Scalar.cmpi .sgt arg12 c0_i32_36
  let v33 : BitVec 32 := Scalar.extui v32
  let c0_i32_37 : BitVec 32 := 0#32
  let v34 : BitVec 1 := Scalar.cmpi .slt arg12 c0_i32_37
  let v35 : BitVec 32 := Scalar.extui v34
  let v36 : BitVec 32 := Scalar.subi v33 v35
  let c2_i32 : BitVec 32 := 2#32
  let c0_i32_38 : BitVec 32 := 0#32
  let v37 : BitVec 1 := Scalar.cmpi .sgt c2_i32 c0_i32_38
  let v38 : BitVec 32 := Scalar.extui v37
  let c0_i32_39 : BitVec 32 := 0#32
  let v39 : BitVec 1 := Scalar.cmpi .slt c2_i32 c0_i32_39
  let v40 : BitVec 32 := Scalar.extui v39
  let v41 : BitVec 32 := Scalar.subi v38 v40
  let v42 : BitVec 1 := Scalar.cmpi .ne v36 v41
  let v43 : BitVec 32 := Scalar.remsi arg12 c2_i32
  let c0_i32_40 : BitVec 32 := 0#32
  let v44 : BitVec 1 := Scalar.cmpi .ne v43 c0_i32_40
  let v45 : BitVec 1 := Scalar.andi v42 v44
  let v31 : BitVec 32 := Scalar.divsi arg12 c2_i32
  let c1_i32_41 : BitVec 32 := 1#32
  let v46 : BitVec 32 := Scalar.subi v31 c1_i32_41
  let v47 : BitVec 32 := Scalar.select v45 v46 v31
  let c2_i32_48 : BitVec 32 := 2#32
  let v57 : BitVec 32 := Scalar.muli v47 c2_i32_48
  let v58 : BitVec 32 := Scalar.subi arg12 v57
  let c1_i32_49 : BitVec 32 := 1#32
  let v60 : BitVec 32 := Scalar.divsi v58 c1_i32_49
  let v61 : BitVec 32 := Scalar.muli v60 c1_i32_49
  let v62 : BitVec 32 := Scalar.addi v57 v61
  let c1_i32_51 : BitVec 32 := 1#32
  let arg13 : BitVec 32 := Scf.iv v62 c1_i32_51 k0_t5
  let c2_i32_163 : BitVec 32 := 2#32
  let v242 : BitVec 32 := Scalar.muli arg13 c2_i32_163
  let v243 : BitVec 32 := Scalar.addi v242 c0_i32_164
  let v297 : Index := Scalar.indexCast v243
  let c0_201 : Index := 0#32
  let c0_202 : Index := 0#32
  ![0, 1, v297.toNat, 0, 0]
def k0_off19 (k0_t1 : Fin k0_t1_loop.trips) : Fin 5 → Nat :=
  let c0_53 : Index := 0#32
  let c0_54 : Index := 0#32
  let c0_i32 : BitVec 32 := 0#32
  let c1_i32 : BitVec 32 := 1#32
  let arg12 : BitVec 32 := Scf.iv c0_i32 c1_i32 k0_t1
  let c1_i32_52 : BitVec 32 := 1#32
  let v65 : BitVec 32 := Scalar.addi arg12 c1_i32_52
  let c15_i32 : BitVec 32 := 15#32
  let v66 : BitVec 32 := Scalar.minsi v65 c15_i32
  let v67 : Index := Scalar.indexCast v66
  let c0_55 : Index := 0#32
  let c0_56 : Index := 0#32
  ![0, 0, v67.toNat, 0, 0]
def k0_off20 (k0_t1 : Fin k0_t1_loop.trips) : Fin 5 → Nat :=
  let c0_57 : Index := 0#32
  let c1_58 : Index := 1#32
  let c0_i32 : BitVec 32 := 0#32
  let c1_i32 : BitVec 32 := 1#32
  let arg12 : BitVec 32 := Scf.iv c0_i32 c1_i32 k0_t1
  let c1_i32_52 : BitVec 32 := 1#32
  let v65 : BitVec 32 := Scalar.addi arg12 c1_i32_52
  let c15_i32 : BitVec 32 := 15#32
  let v66 : BitVec 32 := Scalar.minsi v65 c15_i32
  let v70 : Index := Scalar.indexCast v66
  let c0_59 : Index := 0#32
  let c0_60 : Index := 0#32
  ![0, 1, v70.toNat, 0, 0]
def k0_off21 (k0_t1 : Fin k0_t1_loop.trips) : Fin 4 → Nat :=
  let c0_66 : Index := 0#32
  let c0_67 : Index := 0#32
  let c0_i32 : BitVec 32 := 0#32
  let c1_i32 : BitVec 32 := 1#32
  let arg12 : BitVec 32 := Scf.iv c0_i32 c1_i32 k0_t1
  let c2_i32_61 : BitVec 32 := 2#32
  let v73 : BitVec 32 := Scalar.muli arg12 c2_i32_61
  let c0_i32_62 : BitVec 32 := 0#32
  let v74 : BitVec 32 := Scalar.addi v73 c0_i32_62
  let c1_i32_63 : BitVec 32 := 1#32
  let v75 : BitVec 32 := Scalar.addi v74 c1_i32_63
  let c256_i32 : BitVec 32 := 256#32
  let v78 : BitVec 32 := Scalar.muli v75 c256_i32
  let v79 : Index := Scalar.indexCast v78
  let c0_68 : Index := 0#32
  ![0, 0, v79.toNat, 0]
def k0_off22 (k0_t1 : Fin k0_t1_loop.trips) : Fin 4 → Nat :=
  let c0_73 : Index := 0#32
  let c1_74 : Index := 1#32
  let c0_i32 : BitVec 32 := 0#32
  let c1_i32 : BitVec 32 := 1#32
  let arg12 : BitVec 32 := Scf.iv c0_i32 c1_i32 k0_t1
  let c2_i32_61 : BitVec 32 := 2#32
  let v73 : BitVec 32 := Scalar.muli arg12 c2_i32_61
  let c0_i32_62 : BitVec 32 := 0#32
  let v74 : BitVec 32 := Scalar.addi v73 c0_i32_62
  let c1_i32_63 : BitVec 32 := 1#32
  let v75 : BitVec 32 := Scalar.addi v74 c1_i32_63
  let c256_i32_72 : BitVec 32 := 256#32
  let v86 : BitVec 32 := Scalar.muli v75 c256_i32_72
  let v87 : Index := Scalar.indexCast v86
  let c0_75 : Index := 0#32
  ![0, 1, v87.toNat, 0]
def k0_off23 (k0_t1 : Fin k0_t1_loop.trips) (c0_i32_65 : BitVec 32) : Fin 5 → Nat :=
  let c0_86 : Index := 0#32
  let c0_87 : Index := 0#32
  let c0_i32 : BitVec 32 := 0#32
  let c1_i32 : BitVec 32 := 1#32
  let arg12 : BitVec 32 := Scf.iv c0_i32 c1_i32 k0_t1
  let c2_i32_64 : BitVec 32 := 2#32
  let v76 : BitVec 32 := Scalar.muli arg12 c2_i32_64
  let v77 : BitVec 32 := Scalar.addi v76 c0_i32_65
  let v114 : Index := Scalar.indexCast v77
  let c0_88 : Index := 0#32
  let c0_89 : Index := 0#32
  ![0, 0, v114.toNat, 0, 0]
def k0_off24 (k0_t1 : Fin k0_t1_loop.trips) (c0_i32_65 : BitVec 32) : Fin 5 → Nat :=
  let c0_100 : Index := 0#32
  let c1_101 : Index := 1#32
  let c0_i32 : BitVec 32 := 0#32
  let c1_i32 : BitVec 32 := 1#32
  let arg12 : BitVec 32 := Scf.iv c0_i32 c1_i32 k0_t1
  let c2_i32_64 : BitVec 32 := 2#32
  let v76 : BitVec 32 := Scalar.muli arg12 c2_i32_64
  let v77 : BitVec 32 := Scalar.addi v76 c0_i32_65
  let v142 : Index := Scalar.indexCast v77
  let c0_102 : Index := 0#32
  let c0_103 : Index := 0#32
  ![0, 1, v142.toNat, 0, 0]
def k0_off25 (k0_t1 : Fin k0_t1_loop.trips) : Fin 3 → Nat :=
  let c0_154 : Index := 0#32
  let c0_i32 : BitVec 32 := 0#32
  let c1_i32 : BitVec 32 := 1#32
  let arg12 : BitVec 32 := Scf.iv c0_i32 c1_i32 k0_t1
  let c512_i32 : BitVec 32 := 512#32
  let v226 : BitVec 32 := Scalar.muli arg12 c512_i32
  let v227 : Index := Scalar.indexCast v226
  let c0_155 : Index := 0#32
  ![0, v227.toNat, 0]
def k0_off26 (k0_t1 : Fin k0_t1_loop.trips) : Fin 3 → Nat :=
  let c0_161 : Index := 0#32
  let c0_i32 : BitVec 32 := 0#32
  let c1_i32 : BitVec 32 := 1#32
  let arg12 : BitVec 32 := Scf.iv c0_i32 c1_i32 k0_t1
  let c512_i32_160 : BitVec 32 := 512#32
  let v237 : BitVec 32 := Scalar.muli arg12 c512_i32_160
  let v238 : Index := Scalar.indexCast v237
  let c128_162 : Index := 128#32
  ![0, v238.toNat, 128]
def cc0_transform_0 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2x16x192x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2x8192x192 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2x32x144x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8192x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== AttnRefIdeal.lean ====
abbrev S4x8x16x192x512 : Shape := ⟨5, ![4, 8, 16, 192, 512]⟩
abbrev S4x8x8192x192 : Shape := ⟨4, ![4, 8, 8192, 192]⟩
abbrev S4x8x32x144x256 : Shape := ⟨5, ![4, 8, 32, 144, 256]⟩
abbrev S4x8x16x512x192 : Shape := ⟨5, ![4, 8, 16, 512, 192]⟩
abbrev S4x8x32x128x256 : Shape := ⟨5, ![4, 8, 32, 128, 256]⟩
abbrev S4x8x32x256x128 : Shape := ⟨5, ![4, 8, 32, 256, 128]⟩
abbrev S4x8x8192x128 : Shape := ⟨4, ![4, 8, 8192, 128]⟩
abbrev S4x8x8192x8192 : Shape := ⟨4, ![4, 8, 8192, 8192]⟩
abbrev S_ : Shape := ⟨0, ![]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S4x8x8192 : Shape := ⟨3, ![4, 8, 8192]⟩
abbrev S4x8x8192x1 : Shape := ⟨4, ![4, 8, 8192, 1]⟩
abbrev S4x8x128x8192 : Shape := ⟨4, ![4, 8, 128, 8192]⟩
abbrev S4x8192x8x128 : Shape := ⟨4, ![4, 8192, 8, 128]⟩
abbrev S4x8192x1024 : Shape := ⟨3, ![4, 8192, 1024]⟩

abbrev nBuf : Space → Nat
  | .hbm => 46
  | .vmem => 0
  | .smem => 0
  | _ => 0

abbrev bufTy : (tb : Table) → Fin (tcTables nBuf tb) → BufTy
  | .hbm, ⟨0, _⟩ => ⟨S4x8x16x192x512, .bf16⟩
  | .hbm, ⟨1, _⟩ => ⟨S4x8x8192x192, .bf16⟩
  | .hbm, ⟨2, _⟩ => ⟨S4x8x32x144x256, .bf16⟩
  | .hbm, ⟨3, _⟩ => ⟨S4x8x16x192x512, .f32⟩
  | .hbm, ⟨4, _⟩ => ⟨S4x8x16x512x192, .f32⟩
  | .hbm, ⟨5, _⟩ => ⟨S4x8x8192x192, .f32⟩
  | .hbm, ⟨6, _⟩ => ⟨S4x8x8192x192, .f32⟩
  | .hbm, ⟨7, _⟩ => ⟨S4x8x32x144x256, .f32⟩
  | .hbm, ⟨8, _⟩ => ⟨S4x8x32x128x256, .f32⟩
  | .hbm, ⟨9, _⟩ => ⟨S4x8x32x256x128, .f32⟩
  | .hbm, ⟨10, _⟩ => ⟨S4x8x8192x128, .f32⟩
  | .hbm, ⟨11, _⟩ => ⟨S4x8x8192x8192, .f32⟩
  | .hbm, ⟨12, _⟩ => ⟨S_, .f32⟩
  | .hbm, ⟨13, _⟩ => ⟨S_, .f32⟩
  | .hbm, ⟨14, _⟩ => ⟨S4x8x8192x8192, .f32⟩
  | .hbm, ⟨15, _⟩ => ⟨S4x8x8192x8192, .f32⟩
  | .hbm, ⟨16, _⟩ => ⟨S8192, .i32⟩
  | .hbm, ⟨17, _⟩ => ⟨S1x8192, .i32⟩
  | .hbm, ⟨18, _⟩ => ⟨S8192, .i32⟩
  | .hbm, ⟨19, _⟩ => ⟨S8192x1, .i32⟩
  | .hbm, ⟨20, _⟩ => ⟨S8192x8192, .i32⟩
  | .hbm, ⟨21, _⟩ => ⟨S8192x8192, .i32⟩
  | .hbm, ⟨22, _⟩ => ⟨S8192x8192, .i1⟩
  | .hbm, ⟨23, _⟩ => ⟨S_, .f32⟩
  | .hbm, ⟨24, _⟩ => ⟨S_, .f32⟩
  | .hbm, ⟨25, _⟩ => ⟨S4x8x8192x8192, .i1⟩
  | .hbm, ⟨26, _⟩ => ⟨S4x8x8192x8192, .f32⟩
  | .hbm, ⟨27, _⟩ => ⟨S4x8x8192x8192, .f32⟩
  | .hbm, ⟨28, _⟩ => ⟨S_, .f32⟩
  | .hbm, ⟨29, _⟩ => ⟨S4x8x8192, .f32⟩
  | .hbm, ⟨30, _⟩ => ⟨S_, .f32⟩
  | .hbm, ⟨31, _⟩ => ⟨S4x8x8192, .f32⟩
  | .hbm, ⟨32, _⟩ => ⟨S4x8x8192, .f32⟩
  | .hbm, ⟨33, _⟩ => ⟨S4x8x8192x1, .f32⟩
  | .hbm, ⟨34, _⟩ => ⟨S4x8x8192x8192, .f32⟩
  | .hbm, ⟨35, _⟩ => ⟨S4x8x8192x8192, .f32⟩
  | .hbm, ⟨36, _⟩ => ⟨S4x8x8192x8192, .f32⟩
  | .hbm, ⟨37, _⟩ => ⟨S_, .f32⟩
  | .hbm, ⟨38, _⟩ => ⟨S4x8x8192, .f32⟩
  | .hbm, ⟨39, _⟩ => ⟨S4x8x8192x1, .f32⟩
  | .hbm, ⟨40, _⟩ => ⟨S4x8x8192x8192, .f32⟩
  | .hbm, ⟨41, _⟩ => ⟨S4x8x8192x8192, .f32⟩
  | .hbm, ⟨42, _⟩ => ⟨S4x8x128x8192, .f32⟩
  | .hbm, ⟨43, _⟩ => ⟨S4x8192x8x128, .f32⟩
  | .hbm, ⟨44, _⟩ => ⟨S4x8192x1024, .f32⟩
  | .hbm, ⟨45, _⟩ => ⟨S4x8192x1024, .bf16⟩
  | _, _ => ⟨S4x8x16x192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_cst_0 : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_v19 : Ref sig .tc := ⟨.hbm, 27, rfl⟩
abbrev main_cst_1 : Ref sig .tc := ⟨.hbm, 28, rfl⟩
abbrev main_v20 : Ref sig .tc := ⟨.hbm, 29, rfl⟩
abbrev main_cst_2 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_3 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩

abbrev nD : Nat := 1
abbrev τ : Topo := Topo.v7x

variable {F : FTy → Type} [FloatOps F]
-- ==== FfnB.lean ====
abbrev S32768x2048 : Shape := ⟨2, ![32768, 2048]⟩
abbrev S2048x5632 : Shape := ⟨2, ![2048, 5632]⟩
abbrev S5632x2048 : Shape := ⟨2, ![5632, 2048]⟩
abbrev S2048 : Shape := ⟨1, ![2048]⟩
abbrev S1x2048 : Shape := ⟨2, ![1, 2048]⟩
abbrev S1024x2048 : Shape := ⟨2, ![1024, 2048]⟩
abbrev S2048x512 : Shape := ⟨2, ![2048, 512]⟩
abbrev S512x2048 : Shape := ⟨2, ![512, 2048]⟩
abbrev S1024x512 : Shape := ⟨2, ![1024, 512]⟩
abbrev S256x2048 : Shape := ⟨2, ![256, 2048]⟩
abbrev S256 : Shape := ⟨1, ![256]⟩
abbrev S256x1 : Shape := ⟨2, ![256, 1]⟩

abbrev nBuf : Space → Nat
  | .hbm => 9
  | .vmem => 13
  | .smem => 0
  | _ => 0

abbrev bufTy : (tb : Table) → Fin (tcTables nBuf tb) → BufTy
  | .hbm, ⟨0, _⟩ => ⟨S32768x2048, .f32⟩
  | .hbm, ⟨1, _⟩ => ⟨S2048x5632, .bf16⟩
  | .hbm, ⟨2, _⟩ => ⟨S2048x5632, .bf16⟩
  | .hbm, ⟨3, _⟩ => ⟨S5632x2048, .bf16⟩
  | .hbm, ⟨4, _⟩ => ⟨S2048, .f32⟩
  | .hbm, ⟨5, _⟩ => ⟨S2048, .f32⟩
  | .hbm, ⟨6, _⟩ => ⟨S1x2048, .f32⟩
  | .hbm, ⟨7, _⟩ => ⟨S1x2048, .f32⟩
  | .hbm, ⟨8, _⟩ => ⟨S32768x2048, .f32⟩
  | .local _ .vmem, ⟨0, _⟩ => ⟨S1024x2048, .f32⟩
  | .local _ .vmem, ⟨1, _⟩ => ⟨S1024x2048, .f32⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S512x2048, .bf16⟩
  | .local _ .vmem, ⟨7, _⟩ => ⟨S512x2048, .bf16⟩
  | .local _ .vmem, ⟨8, _⟩ => ⟨S1x2048, .f32⟩
  | .local _ .vmem, ⟨9, _⟩ => ⟨S1x2048, .f32⟩
  | .local _ .vmem, ⟨10, _⟩ => ⟨S1024x2048, .f32⟩
  | .local _ .vmem, ⟨11, _⟩ => ⟨S1024x2048, .f32⟩
  | .local _ .vmem, ⟨12, _⟩ => ⟨S1024x2048, .bf16⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![32, 11], ![false, false]⟩

def k0_cond2 (i : grid0.Coords) : BitVec 1 :=
  let arg1 : BitVec 32 := BitVec.ofNat 32 (i 1).val
  let c10_i32 : BitVec 32 := 10#32
  let v24 : BitVec 1 := Scalar.cmpi .eq arg1 c10_i32
  let v25 : BitVec 32 := Scalar.extui v24
  let c0_i32_17 : BitVec 32 := 0#32
  let v26 : BitVec 1 := Scalar.cmpi .ne v25 c0_i32_17
  v26

@[reducible] def k0_t1_loop : Scf.Loop 32 :=
  let c0_i32_18 : BitVec 32 := 0#32
  let c4_i32 : BitVec 32 := 4#32
  let v27 : BitVec 32 := Scalar.addi c0_i32_18 c4_i32
  let c1_i32 : BitVec 32 := 1#32
  ⟨c0_i32_18, v27, c1_i32⟩
def k0_mult1 (k0_t1 : Fin k0_t1_loop.trips) : BitVec 32 :=
  let c0_i32_18 : BitVec 32 := 0#32
  let c1_i32 : BitVec 32 := 1#32
  let arg10 : BitVec 32 := Scf.iv c0_i32_18 c1_i32 k0_t1
  let c256_i32 : BitVec 32 := 256#32
  let v28 : BitVec 32 := Scalar.muli arg10 c256_i32
  v28
def k0_off1 (k0_t1 : Fin k0_t1_loop.trips) : Fin 2 → Nat :=
  let c0_i32_18 : BitVec 32 := 0#32
  let c1_i32 : BitVec 32 := 1#32
  let arg10 : BitVec 32 := Scf.iv c0_i32_18 c1_i32 k0_t1
  let c256_i32 : BitVec 32 := 256#32
  let v28 : BitVec 32 := Scalar.muli arg10 c256_i32
  let v29 : BitVec 32 := v28
  let v30 : Index := Scalar.indexCast v29
  let c0_20 : Index := 0#32
  ![v30.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== FfnBRefIdeal.lean ====
abbrev S32768x2048 : Shape := ⟨2, ![32768, 2048]⟩
abbrev S2048x5632 : Shape := ⟨2, ![2048, 5632]⟩
abbrev S5632x2048 : Shape := ⟨2, ![5632, 2048]⟩
abbrev S2048 : Shape := ⟨1, ![2048]⟩
abbrev S_ : Shape := ⟨0, ![]⟩
abbrev S32768x5632 : Shape := ⟨2, ![32768, 5632]⟩
abbrev S32768 : Shape := ⟨1, ![32768]⟩
abbrev S32768x1 : Shape := ⟨2, ![32768, 1]⟩
abbrev S1x2048 : Shape := ⟨2, ![1, 2048]⟩

abbrev nBuf : Space → Nat
  | .hbm => 53
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S2048x5632, .bf16⟩
  | .hbm, ⟨2, _⟩ => ⟨S2048x5632, .bf16⟩
  | .hbm, ⟨3, _⟩ => ⟨S5632x2048, .bf16⟩
  | .hbm, ⟨4, _⟩ => ⟨S2048, .f32⟩
  | .hbm, ⟨5, _⟩ => ⟨S2048, .f32⟩
  | .hbm, ⟨6, _⟩ => ⟨S2048x5632, .f32⟩
  | .hbm, ⟨7, _⟩ => ⟨S2048x5632, .f32⟩
  | .hbm, ⟨8, _⟩ => ⟨S5632x2048, .f32⟩
  | .hbm, ⟨9, _⟩ => ⟨S_, .f32⟩
  | .hbm, ⟨10, _⟩ => ⟨S32768x2048, .f32⟩
  | .hbm, ⟨11, _⟩ => ⟨S32768x2048, .f32⟩
  | .hbm, ⟨12, _⟩ => ⟨S32768x5632, .f32⟩
  | .hbm, ⟨13, _⟩ => ⟨S32768x5632, .f32⟩
  | .hbm, ⟨14, _⟩ => ⟨S32768x5632, .f32⟩
  | .hbm, ⟨15, _⟩ => ⟨S_, .f32⟩
  | .hbm, ⟨16, _⟩ => ⟨S32768x5632, .f32⟩
  | .hbm, ⟨17, _⟩ => ⟨S32768x5632, .f32⟩
  | .hbm, ⟨18, _⟩ => ⟨S_, .f32⟩
  | .hbm, ⟨19, _⟩ => ⟨S32768x5632, .f32⟩
  | .hbm, ⟨20, _⟩ => ⟨S32768x5632, .f32⟩
  | .hbm, ⟨21, _⟩ => ⟨S32768x5632, .f32⟩
  | .hbm, ⟨22, _⟩ => ⟨S32768x5632, .f32⟩
  | .hbm, ⟨23, _⟩ => ⟨S32768x5632, .f32⟩
  | .hbm, ⟨24, _⟩ => ⟨S32768x2048, .f32⟩
  | .hbm, ⟨25, _⟩ => ⟨S32768x2048, .f32⟩
  | .hbm, ⟨26, _⟩ => ⟨S_, .f32⟩
  | .hbm, ⟨27, _⟩ => ⟨S32768, .f32⟩
  | .hbm, ⟨28, _⟩ => ⟨S32768x1, .f32⟩
  | .hbm, ⟨29, _⟩ => ⟨S_, .f32⟩
  | .hbm, ⟨30, _⟩ => ⟨S32768x1, .f32⟩
  | .hbm, ⟨31, _⟩ => ⟨S32768x1, .f32⟩
  | .hbm, ⟨32, _⟩ => ⟨S32768x2048, .f32⟩
  | .hbm, ⟨33, _⟩ => ⟨S32768x2048, .f32⟩
  | .hbm, ⟨34, _⟩ => ⟨S32768x2048, .f32⟩
  | .hbm, ⟨35, _⟩ => ⟨S_, .f32⟩
  | .hbm, ⟨36, _⟩ => ⟨S32768, .f32⟩
  | .hbm, ⟨37, _⟩ => ⟨S32768x1, .f32⟩
  | .hbm, ⟨38, _⟩ => ⟨S_, .f32⟩
  | .hbm, ⟨39, _⟩ => ⟨S32768x1, .f32⟩
  | .hbm, ⟨40, _⟩ => ⟨S32768x1, .f32⟩
  | .hbm, ⟨41, _⟩ => ⟨S_, .f32⟩
  | .hbm, ⟨42, _⟩ => ⟨S32768x1, .f32⟩
  | .hbm, ⟨43, _⟩ => ⟨S32768x1, .f32⟩
  | .hbm, ⟨44, _⟩ => ⟨S32768x1, .f32⟩
  | .hbm, ⟨45, _⟩ => ⟨S32768x2048, .f32⟩
  | .hbm, ⟨46, _⟩ => ⟨S32768x2048, .f32⟩
  | .hbm, ⟨47, _⟩ => ⟨S1x2048, .f32⟩
  | .hbm, ⟨48, _⟩ => ⟨S32768x2048, .f32⟩
  | .hbm, ⟨49, _⟩ => ⟨S32768x2048, .f32⟩
  | .hbm, ⟨50, _⟩ => ⟨S1x2048, .f32⟩
  | .hbm, ⟨51, _⟩ => ⟨S32768x2048, .f32⟩
  | .hbm, ⟨52, _⟩ => ⟨S32768x2048, .f32⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_call0_v0 : Ref sig .tc := ⟨.hbm, 13, rfl⟩
abbrev main_call0_v1 : Ref sig .tc := ⟨.hbm, 14, rfl⟩
abbrev main_call0_cst : Ref sig .tc := ⟨.hbm, 15, rfl⟩
abbrev main_call0_v2 : Ref sig .tc := ⟨.hbm, 16, rfl⟩
abbrev main_call0_v3 : Ref sig .tc := ⟨.hbm, 17, rfl⟩
abbrev main_call0_cst_0 : Ref sig .tc := ⟨.hbm, 18, rfl⟩
abbrev main_call0_v4 : Ref sig .tc := ⟨.hbm, 19, rfl⟩
abbrev main_call0_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_0 : Ref sig .tc := ⟨.hbm, 26, rfl⟩
abbrev main_v11 : Ref sig .tc := ⟨.hbm, 27, rfl⟩
abbrev main_v12 : Ref sig .tc := ⟨.hbm, 28, rfl⟩
abbrev main_cst_1 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_2 : Ref sig .tc := ⟨.hbm, 35, rfl⟩
abbrev main_v18 : Ref sig .tc := ⟨.hbm, 36, rfl⟩
abbrev main_v19 : Ref sig .tc := ⟨.hbm, 37, rfl⟩
abbrev main_cst_3 : Ref sig .tc := ⟨.hbm, 38, rfl⟩
abbrev main_v20 : Ref sig .tc := ⟨.hbm, 39, rfl⟩
abbrev main_v21 : Ref sig .tc := ⟨.hbm, 40, rfl⟩
abbrev main_cst_4 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩

abbrev nD : Nat := 1
abbrev τ : Topo := Topo.v7x

variable {F : FTy → Type} [FloatOps F]
-- ==== FfnA.lean ====
abbrev S32768x2048 : Shape := ⟨2, ![32768, 2048]⟩
abbrev S2048x5632 : Shape := ⟨2, ![2048, 5632]⟩
abbrev S5632x2048 : Shape := ⟨2, ![5632, 2048]⟩
abbrev S2048 : Shape := ⟨1, ![2048]⟩
abbrev S_ : Shape := ⟨0, ![]⟩
abbrev S1x2048 : Shape := ⟨2, ![1, 2048]⟩
abbrev S1024x2048 : Shape := ⟨2, ![1024, 2048]⟩
abbrev S2048x512 : Shape := ⟨2, ![2048, 512]⟩
abbrev S512x2048 : Shape := ⟨2, ![512, 2048]⟩
abbrev S64x512 : Shape := ⟨2, ![64, 512]⟩
abbrev S16x2048 : Shape := ⟨2, ![16, 2048]⟩
abbrev S1024x512 : Shape := ⟨2, ![1024, 512]⟩
abbrev S256x2048 : Shape := ⟨2, ![256, 2048]⟩
abbrev S256 : Shape := ⟨1, ![256]⟩
abbrev S256x1 : Shape := ⟨2, ![256, 1]⟩

abbrev nBuf : Space → Nat
  | .hbm => 21
  | .vmem => 25
  | .smem => 0
  | _ => 0

abbrev bufTy : (tb : Table) → Fin (tcTables nBuf tb) → BufTy
  | .hbm, ⟨0, _⟩ => ⟨S32768x2048, .f32⟩
  | .hbm, ⟨1, _⟩ => ⟨S2048x5632, .f32⟩
  | .hbm, ⟨2, _⟩ => ⟨S2048x5632, .f32⟩
  | .hbm, ⟨3, _⟩ => ⟨S5632x2048, .f32⟩
  | .hbm, ⟨4, _⟩ => ⟨S2048, .f32⟩
  | .hbm, ⟨5, _⟩ => ⟨S2048, .f32⟩
  | .hbm, ⟨6, _⟩ => ⟨S2048x5632, .f32⟩
  | .hbm, ⟨7, _⟩ => ⟨S2048x5632, .f32⟩
  | .hbm, ⟨8, _⟩ => ⟨S5632x2048, .f32⟩
  | .hbm, ⟨9, _⟩ => ⟨S2048x5632, .bf16⟩
  | .hbm, ⟨10, _⟩ => ⟨S2048x5632, .bf16⟩
  | .hbm, ⟨11, _⟩ => ⟨S_, .f32⟩
  | .hbm, ⟨12, _⟩ => ⟨S5632x2048, .f32⟩
  | .hbm, ⟨13, _⟩ => ⟨S5632x2048, .f32⟩
  | .hbm, ⟨14, _⟩ => ⟨S5632x2048, .bf16⟩
  | .hbm, ⟨15, _⟩ => ⟨S1x2048, .f32⟩
  | .hbm, ⟨16, _⟩ => ⟨S1x2048, .f32⟩
  | .hbm, ⟨17, _⟩ => ⟨S32768x2048, .f32⟩
  | .hbm, ⟨18, _⟩ => ⟨S2048x5632, .bf16⟩
  | .hbm, ⟨19, _⟩ => ⟨S2048x5632, .bf16⟩
  | .hbm, ⟨20, _⟩ => ⟨S5632x2048, .bf16⟩
  | .local _ .vmem, ⟨0, _⟩ => ⟨S1024x2048, .f32⟩
  | .local _ .vmem, ⟨1, _⟩ => ⟨S1024x2048, .f32⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S512x2048, .bf16⟩
  | .local _ .vmem, ⟨7, _⟩ => ⟨S512x2048, .bf16⟩
  | .local _ .vmem, ⟨8, _⟩ => ⟨S1x2048, .f32⟩
  | .local _ .vmem, ⟨9, _⟩ => ⟨S1x2048, .f32⟩
  | .local _ .vmem, ⟨10, _⟩ => ⟨S64x512, .f32⟩
  | .local _ .vmem, ⟨11, _⟩ => ⟨S64x512, .f32⟩
  | .local _ .vmem, ⟨12, _⟩ => ⟨S64x512, .f32⟩
  | .local _ .vmem, ⟨13, _⟩ => ⟨S64x512, .f32⟩
  | .local _ .vmem, ⟨14, _⟩ => ⟨S16x2048, .f32⟩
  | .local _ .vmem, ⟨15, _⟩ => ⟨S16x2048, .f32⟩
  | .local _ .vmem, ⟨16, _⟩ => ⟨S1024x2048, .f32⟩
  | .local _ .vmem, ⟨17, _⟩ => ⟨S1024x2048, .f32⟩
  | .local _ .vmem, ⟨18, _⟩ => ⟨S64x512, .bf16⟩
  | .local _ .vmem, ⟨19, _⟩ => ⟨S64x512, .bf16⟩
  | .local _ .vmem, ⟨20, _⟩ => ⟨S64x512, .bf16⟩
  | .local _ .vmem, ⟨21, _⟩ => ⟨S64x512, .bf16⟩
  | .local _ .vmem, ⟨22, _⟩ => ⟨S16x2048, .bf16⟩
  | .local _ .vmem, ⟨23, _⟩ => ⟨S16x2048, .bf16⟩
  | .local _ .vmem, ⟨24, _⟩ => ⟨S1024x2048, .bf16⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7_0 : Ref sig .tc := ⟨.hbm, 17, rfl⟩
abbrev main_v7_1 : Ref sig .tc := ⟨.hbm, 18, rfl⟩
abbrev main_v7_2 : Ref sig .tc := ⟨.hbm, 19, rfl⟩
abbrev main_v7_3 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_scratch0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23

abbrev nD : Nat := 1
abbrev τ : Topo := Topo.v7x

variable {F : FTy → Type} [FloatOps F]

abbrev grid0 : Pipeline.Grid := ⟨2, ![32, 11], ![false, false]⟩

def k0_cond2 (i : grid0.Coords) : BitVec 1 :=
  let arg1 : BitVec 32 := BitVec.ofNat 32 (i 1).val
  let c10_i32 : BitVec 32 := 10#32
  let v42 : BitVec 1 := Scalar.cmpi .eq arg1 c10_i32
  let v43 : BitVec 32 := Scalar.extui v42
  let c0_i32_32 : BitVec 32 := 0#32
  let v44 : BitVec 1 := Scalar.cmpi .ne v43 c0_i32_32
  v44

@[reducible] def k0_t1_loop : Scf.Loop 32 :=
  let c0_i32_33 : BitVec 32 := 0#32
  let c4_i32 : BitVec 32 := 4#32
  let v45 : BitVec 32 := Scalar.addi c0_i32_33 c4_i32
  let c1_i32 : BitVec 32 := 1#32
  ⟨c0_i32_33, v45, c1_i32⟩
def k0_mult1 (k0_t1 : Fin k0_t1_loop.trips) : BitVec 32 :=
  let c0_i32_33 : BitVec 32 := 0#32
  let c1_i32 : BitVec 32 := 1#32
  let arg16 : BitVec 32 := Scf.iv c0_i32_33 c1_i32 k0_t1
  let c256_i32 : BitVec 32 := 256#32
  let v46 : BitVec 32 := Scalar.muli arg16 c256_i32
  v46
def k0_off1 (k0_t1 : Fin k0_t1_loop.trips) : Fin 2 → Nat :=
  let c0_i32_33 : BitVec 32 := 0#32
  let c1_i32 : BitVec 32 := 1#32
  let arg16 : BitVec 32 := Scf.iv c0_i32_33 c1_i32 k0_t1
  let c256_i32 : BitVec 32 := 256#32
  let v46 : BitVec 32 := Scalar.muli arg16 c256_i32
  let v47 : BitVec 32 := v46
  let v48 : Index := Scalar.indexCast v47
  let c0_35 : Index := 0#32
  ![v48.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.muli arg0 c11_i32
  let v1 : BitVec 32 := Scalar.addi v0 arg1
  let c0_i32 : BitVec 32 := 0#32
  let c0_i32_0 : BitVec 32 := 0#32
  ![v1.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_12 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.muli arg0 c11_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S64x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S64x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S16x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1024x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S64x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S64x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S16x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== FfnARefIdeal.lean ====
abbrev S32768x2048 : Shape := ⟨2, ![32768, 2048]⟩
abbrev S2048x5632 : Shape := ⟨2, ![2048, 5632]⟩
abbrev S5632x2048 : Shape := ⟨2, ![5632, 2048]⟩
abbrev S2048 : Shape := ⟨1, ![2048]⟩
abbrev S_ : Shape := ⟨0, ![]⟩
abbrev S32768x5632 : Shape := ⟨2, ![32768, 5632]⟩
abbrev S32768 : Shape := ⟨1, ![32768]⟩
abbrev S32768x1 : Shape := ⟨2, ![32768, 1]⟩
abbrev S1x2048 : Shape := ⟨2, ![1, 2048]⟩

abbrev nBuf : Space → Nat
  | .hbm => 62
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S2048x5632, .f32⟩
  | .hbm, ⟨2, _⟩ => ⟨S2048x5632, .f32⟩
  | .hbm, ⟨3, _⟩ => ⟨S5632x2048, .f32⟩
  | .hbm, ⟨4, _⟩ => ⟨S2048, .f32⟩
  | .hbm, ⟨5, _⟩ => ⟨S2048, .f32⟩
  | .hbm, ⟨6, _⟩ => ⟨S2048x5632, .f32⟩
  | .hbm, ⟨7, _⟩ => ⟨S2048x5632, .f32⟩
  | .hbm, ⟨8, _⟩ => ⟨S5632x2048, .f32⟩
  | .hbm, ⟨9, _⟩ => ⟨S_, .f32⟩
  | .hbm, ⟨10, _⟩ => ⟨S32768x2048, .f32⟩
  | .hbm, ⟨11, _⟩ => ⟨S32768x2048, .f32⟩
  | .hbm, ⟨12, _⟩ => ⟨S32768x5632, .f32⟩
  | .hbm, ⟨13, _⟩ => ⟨S32768x5632, .f32⟩
  | .hbm, ⟨14, _⟩ => ⟨S32768x5632, .f32⟩
  | .hbm, ⟨15, _⟩ => ⟨S_, .f32⟩
  | .hbm, ⟨16, _⟩ => ⟨S32768x5632, .f32⟩
  | .hbm, ⟨17, _⟩ => ⟨S32768x5632, .f32⟩
  | .hbm, ⟨18, _⟩ => ⟨S_, .f32⟩
  | .hbm, ⟨19, _⟩ => ⟨S32768x5632, .f32⟩
  | .hbm, ⟨20, _⟩ => ⟨S32768x5632, .f32⟩
  | .hbm, ⟨21, _⟩ => ⟨S32768x5632, .f32⟩
  | .hbm, ⟨22, _⟩ => ⟨S32768x5632, .f32⟩
  | .hbm, ⟨23, _⟩ => ⟨S32768x5632, .f32⟩
  | .hbm, ⟨24, _⟩ => ⟨S32768x2048, .f32⟩
  | .hbm, ⟨25, _⟩ => ⟨S_, .f32⟩
  | .hbm, ⟨26, _⟩ => ⟨S32768x2048, .f32⟩
  | .hbm, ⟨27, _⟩ => ⟨S32768x2048, .f32⟩
  | .hbm, ⟨28, _⟩ => ⟨S32768x2048, .f32⟩
  | .hbm, ⟨29, _⟩ => ⟨S_, .f32⟩
  | .hbm, ⟨30, _⟩ => ⟨S32768, .f32⟩
  | .hbm, ⟨31, _⟩ => ⟨S32768x1, .f32⟩
  | .hbm, ⟨32, _⟩ => ⟨S_, .f32⟩
  | .hbm, ⟨33, _⟩ => ⟨S32768x1, .f32⟩
  | .hbm, ⟨34, _⟩ => ⟨S32768x1, .f32⟩
  | .hbm, ⟨35, _⟩ => ⟨S32768x2048, .f32⟩
  | .hbm, ⟨36, _⟩ => ⟨S32768x2048, .f32⟩
  | .hbm, ⟨37, _⟩ => ⟨S32768x2048, .f32⟩
  | .hbm, ⟨38, _⟩ => ⟨S_, .f32⟩
  | .hbm, ⟨39, _⟩ => ⟨S32768, .f32⟩
  | .hbm, ⟨40, _⟩ => ⟨S32768x1, .f32⟩
  | .hbm, ⟨41, _⟩ => ⟨S_, .f32⟩
  | .hbm, ⟨42, _⟩ => ⟨S32768x1, .f32⟩
  | .hbm, ⟨43, _⟩ => ⟨S32768x1, .f32⟩
  | .hbm, ⟨44, _⟩ => ⟨S_, .f32⟩
  | .hbm, ⟨45, _⟩ => ⟨S32768x1, .f32⟩
  | .hbm, ⟨46, _⟩ => ⟨S32768x1, .f32⟩
  | .hbm, ⟨47, _⟩ => ⟨S32768x1, .f32⟩
  | .hbm, ⟨48, _⟩ => ⟨S32768x2048, .f32⟩
  | .hbm, ⟨49, _⟩ => ⟨S32768x2048, .f32⟩
  | .hbm, ⟨50, _⟩ => ⟨S1x2048, .f32⟩
  | .hbm, ⟨51, _⟩ => ⟨S32768x2048, .f32⟩
  | .hbm, ⟨52, _⟩ => ⟨S32768x2048, .f32⟩
  | .hbm, ⟨53, _⟩ => ⟨S1x2048, .f32⟩
  | .hbm, ⟨54, _⟩ => ⟨S32768x2048, .f32⟩
  | .hbm, ⟨55, _⟩ => ⟨S32768x2048, .f32⟩
  | .hbm, ⟨56, _⟩ => ⟨S2048x5632, .bf16⟩
  | .hbm, ⟨57, _⟩ => ⟨S2048x5632, .bf16⟩
  | .hbm, ⟨58, _⟩ => ⟨S_, .f32⟩
  | .hbm, ⟨59, _⟩ => ⟨S5632x2048, .f32⟩
  | .hbm, ⟨60, _⟩ => ⟨S5632x2048, .f32⟩
  | .hbm, ⟨61, _⟩ => ⟨S5632x2048, .bf16⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_call0_v0 : Ref sig .tc := ⟨.hbm, 13, rfl⟩
abbrev main_call0_v1 : Ref sig .tc := ⟨.hbm, 14, rfl⟩
abbrev main_call0_cst : Ref sig .tc := ⟨.hbm, 15, rfl⟩
abbrev main_call0_v2 : Ref sig .tc := ⟨.hbm, 16, rfl⟩
abbrev main_call0_v3 : Ref sig .tc := ⟨.hbm, 17, rfl⟩
abbrev main_call0_cst_0 : Ref sig .tc := ⟨.hbm, 18, rfl⟩
abbrev main_call0_v4 : Ref sig .tc := ⟨.hbm, 19, rfl⟩
abbrev main_call0_v5 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_cst_0 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_cst_1 : Ref sig .tc := ⟨.hbm, 29, rfl⟩
abbrev main_v10 : Ref sig .tc := ⟨.hbm, 30, rfl⟩
abbrev main_v11 : Ref sig .tc := ⟨.hbm, 31, rfl⟩
abbrev main_cst_2 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_cst_3 : Ref sig .tc := ⟨.hbm, 38, rfl⟩
abbrev main_v17 : Ref sig .tc := ⟨.hbm, 39, rfl⟩
abbrev main_v18 : Ref sig .tc := ⟨.hbm, 40, rfl⟩
abbrev main_cst_4 : Ref sig .tc := ⟨.hbm, 41, rfl⟩
abbrev main_v19 : Ref sig .tc := ⟨.hbm, 42, rfl⟩
abbrev main_v20 : Ref sig .tc := ⟨.hbm, 43, rfl⟩
abbrev main_cst_5 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_cst_6 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩

abbrev nD : Nat := 1
abbrev τ : Topo := Topo.v7x

variable {F : FTy → Type} [FloatOps F]
-- ==== Ple.lean ====
abbrev S32768x2048 : Shape := ⟨2, ![32768, 2048]⟩
abbrev S32768x256 : Shape := ⟨2, ![32768, 256]⟩
abbrev S2048x2048 : Shape := ⟨2, ![2048, 2048]⟩
abbrev S2048 : Shape := ⟨1, ![2048]⟩
abbrev S256x2048 : Shape := ⟨2, ![256, 2048]⟩
abbrev S1x2048 : Shape := ⟨2, ![1, 2048]⟩
abbrev S512x2048 : Shape := ⟨2, ![512, 2048]⟩
abbrev S512x256 : Shape := ⟨2, ![512, 256]⟩
abbrev S256x256 : Shape := ⟨2, ![256, 256]⟩
abbrev S256 : Shape := ⟨1, ![256]⟩
abbrev S256x1 : Shape := ⟨2, ![256, 1]⟩

abbrev nBuf : Space → Nat
  | .hbm => 13
  | .vmem => 11
  | .smem => 0
  | _ => 0

abbrev bufTy : (tb : Table) → Fin (tcTables nBuf tb) → BufTy
  | .hbm, ⟨0, _⟩ => ⟨S32768x2048, .f32⟩
  | .hbm, ⟨1, _⟩ => ⟨S32768x256, .f32⟩
  | .hbm, ⟨2, _⟩ => ⟨S2048x2048, .f32⟩
  | .hbm, ⟨3, _⟩ => ⟨S2048, .f32⟩
  | .hbm, ⟨4, _⟩ => ⟨S256x2048, .f32⟩
  | .hbm, ⟨5, _⟩ => ⟨S2048, .f32⟩
  | .hbm, ⟨6, _⟩ => ⟨S2048, .f32⟩
  | .hbm, ⟨7, _⟩ => ⟨S2048x2048, .bf16⟩
  | .hbm, ⟨8, _⟩ => ⟨S1x2048, .f32⟩
  | .hbm, ⟨9, _⟩ => ⟨S256x2048, .bf16⟩
  | .hbm, ⟨10, _⟩ => ⟨S1x2048, .f32⟩
  | .hbm, ⟨11, _⟩ => ⟨S1x2048, .f32⟩
  | .hbm, ⟨12, _⟩ => ⟨S32768x2048, .f32⟩
  | .local _ .vmem, ⟨0, _⟩ => ⟨S512x2048, .f32⟩
  | .local _ .vmem, ⟨1, _⟩ => ⟨S512x2048, .f32⟩
  | .local _ .vmem, ⟨2, _⟩ => ⟨S512x256, .f32⟩
  | .local _ .vmem, ⟨3, _⟩ => ⟨S512x256, .f32⟩
  | .local _ .vmem, ⟨4, _⟩ => ⟨S2048x2048, .bf16⟩
  | .local _ .vmem, ⟨5, _⟩ => ⟨S1x2048, .f32⟩
  | .local _ .vmem, ⟨6, _⟩ => ⟨S256x2048, .bf16⟩
  | .local _ .vmem, ⟨7, _⟩ => ⟨S1x2048, .f32⟩
  | .local _ .vmem, ⟨8, _⟩ => ⟨S1x2048, .f32⟩
  | .local _ .vmem, ⟨9, _⟩ => ⟨S512x2048, .f32⟩
  | .local _ .vmem, ⟨10, _⟩ => ⟨S512x2048, .f32⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== PleRefIdeal.lean ====
abbrev S32768x2048 : Shape := ⟨2, ![32768, 2048]⟩
abbrev S32768x256 : Shape := ⟨2, ![32768, 256]⟩
abbrev S2048x2048 : Shape := ⟨2, ![2048, 2048]⟩
abbrev S2048 : Shape := ⟨1, ![2048]⟩
abbrev S256x2048 : Shape := ⟨2, ![256, 2048]⟩
abbrev S1x2048 : Shape := ⟨2, ![1, 2048]⟩
abbrev S_ : Shape := ⟨0, ![]⟩
abbrev S32768 : Shape := ⟨1, ![32768]⟩
abbrev S32768x1 : Shape := ⟨2, ![32768, 1]⟩

abbrev nBuf : Space → Nat
  | .hbm => 52
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S32768x256, .f32⟩
  | .hbm, ⟨2, _⟩ => ⟨S2048x2048, .f32⟩
  | .hbm, ⟨3, _⟩ => ⟨S2048, .f32⟩
  | .hbm, ⟨4, _⟩ => ⟨S256x2048, .f32⟩
  | .hbm, ⟨5, _⟩ => ⟨S2048, .f32⟩
  | .hbm, ⟨6, _⟩ => ⟨S2048, .f32⟩
  | .hbm, ⟨7, _⟩ => ⟨S32768x2048, .f32⟩
  | .hbm, ⟨8, _⟩ => ⟨S1x2048, .f32⟩
  | .hbm, ⟨9, _⟩ => ⟨S32768x2048, .f32⟩
  | .hbm, ⟨10, _⟩ => ⟨S32768x2048, .f32⟩
  | .hbm, ⟨11, _⟩ => ⟨S32768x2048, .f32⟩
  | .hbm, ⟨12, _⟩ => ⟨S32768x2048, .f32⟩
  | .hbm, ⟨13, _⟩ => ⟨S_, .f32⟩
  | .hbm, ⟨14, _⟩ => ⟨S32768x2048, .f32⟩
  | .hbm, ⟨15, _⟩ => ⟨S32768x2048, .f32⟩
  | .hbm, ⟨16, _⟩ => ⟨S_, .f32⟩
  | .hbm, ⟨17, _⟩ => ⟨S32768x2048, .f32⟩
  | .hbm, ⟨18, _⟩ => ⟨S32768x2048, .f32⟩
  | .hbm, ⟨19, _⟩ => ⟨S32768x2048, .f32⟩
  | .hbm, ⟨20, _⟩ => ⟨S32768x2048, .f32⟩
  | .hbm, ⟨21, _⟩ => ⟨S_, .f32⟩
  | .hbm, ⟨22, _⟩ => ⟨S32768x2048, .f32⟩
  | .hbm, ⟨23, _⟩ => ⟨S32768x2048, .f32⟩
  | .hbm, ⟨24, _⟩ => ⟨S32768x2048, .f32⟩
  | .hbm, ⟨25, _⟩ => ⟨S_, .f32⟩
  | .hbm, ⟨26, _⟩ => ⟨S32768, .f32⟩
  | .hbm, ⟨27, _⟩ => ⟨S32768x1, .f32⟩
  | .hbm, ⟨28, _⟩ => ⟨S_, .f32⟩
  | .hbm, ⟨29, _⟩ => ⟨S32768x1, .f32⟩
  | .hbm, ⟨30, _⟩ => ⟨S32768x1, .f32⟩
  | .hbm, ⟨31, _⟩ => ⟨S32768x2048, .f32⟩
  | .hbm, ⟨32, _⟩ => ⟨S32768x2048, .f32⟩
  | .hbm, ⟨33, _⟩ => ⟨S32768x2048, .f32⟩
  | .hbm, ⟨34, _⟩ => ⟨S_, .f32⟩
  | .hbm, ⟨35, _⟩ => ⟨S32768, .f32⟩
  | .hbm, ⟨36, _⟩ => ⟨S32768x1, .f32⟩
  | .hbm, ⟨37, _⟩ => ⟨S_, .f32⟩
  | .hbm, ⟨38, _⟩ => ⟨S32768x1, .f32⟩
  | .hbm, ⟨39, _⟩ => ⟨S32768x1, .f32⟩
  | .hbm, ⟨40, _⟩ => ⟨S_, .f32⟩
  | .hbm, ⟨41, _⟩ => ⟨S32768x1, .f32⟩
  | .hbm, ⟨42, _⟩ => ⟨S32768x1, .f32⟩
  | .hbm, ⟨43, _⟩ => ⟨S32768x1, .f32⟩
  | .hbm, ⟨44, _⟩ => ⟨S32768x2048, .f32⟩
  | .hbm, ⟨45, _⟩ => ⟨S32768x2048, .f32⟩
  | .hbm, ⟨46, _⟩ => ⟨S1x2048, .f32⟩
  | .hbm, ⟨47, _⟩ => ⟨S32768x2048, .f32⟩
  | .hbm, ⟨48, _⟩ => ⟨S32768x2048, .f32⟩
  | .hbm, ⟨49, _⟩ => ⟨S1x2048, .f32⟩
  | .hbm, ⟨50, _⟩ => ⟨S32768x2048, .f32⟩
  | .hbm, ⟨51, _⟩ => ⟨S32768x2048, .f32⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_4 : Ref sig .tc := ⟨.hbm, 34, rfl⟩
abbrev main_v22 : Ref sig .tc := ⟨.hbm, 35, rfl⟩
abbrev main_v23 : Ref sig .tc := ⟨.hbm, 36, rfl⟩
abbrev main_cst_5 : Ref sig .tc := ⟨.hbm, 37, rfl⟩
abbrev main_v24 : Ref sig .tc := ⟨.hbm, 38, rfl⟩
abbrev main_v25 : Ref sig .tc := ⟨.hbm, 39, rfl⟩
abbrev main_cst_6 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩

abbrev nD : Nat := 1
abbrev τ : Topo := Topo.v7x

variable {F : FTy → Type} [FloatOps F]
-- ==== OutProj.lean ====
abbrev S32768x2048 : Shape := ⟨2, ![32768, 2048]⟩
abbrev S32768x1024 : Shape := ⟨2, ![32768, 1024]⟩
abbrev S2048x2048 : Shape := ⟨2, ![2048, 2048]⟩
abbrev S2048 : Shape := ⟨1, ![2048]⟩
abbrev S1x2048 : Shape := ⟨2, ![1, 2048]⟩
abbrev S512x2048 : Shape := ⟨2, ![512, 2048]⟩
abbrev S512x1024 : Shape := ⟨2, ![512, 1024]⟩
abbrev S256x1024 : Shape := ⟨2, ![256, 1024]⟩
abbrev S1024x2048 : Shape := ⟨2, ![1024, 2048]⟩
abbrev S256x2048 : Shape := ⟨2, ![256, 2048]⟩
abbrev S256 : Shape := ⟨1, ![256]⟩
abbrev S256x1 : Shape := ⟨2, ![256, 1]⟩

abbrev nBuf : Space → Nat
  | .hbm => 10
  | .vmem => 11
  | .smem => 0
  | _ => 0

abbrev bufTy : (tb : Table) → Fin (tcTables nBuf tb) → BufTy
  | .hbm, ⟨0, _⟩ => ⟨S32768x2048, .f32⟩
  | .hbm, ⟨1, _⟩ => ⟨S32768x1024, .bf16⟩
  | .hbm, ⟨2, _⟩ => ⟨S32768x1024, .bf16⟩
  | .hbm, ⟨3, _⟩ => ⟨S2048x2048, .f32⟩
  | .hbm, ⟨4, _⟩ => ⟨S2048, .f32⟩
  | .hbm, ⟨5, _⟩ => ⟨S2048, .f32⟩
  | .hbm, ⟨6, _⟩ => ⟨S2048x2048, .bf16⟩
  | .hbm, ⟨7, _⟩ => ⟨S1x2048, .f32⟩
  | .hbm, ⟨8, _⟩ => ⟨S1x2048, .f32⟩
  | .hbm, ⟨9, _⟩ => ⟨S32768x2048, .f32⟩
  | .local _ .vmem, ⟨0, _⟩ => ⟨S512x2048, .f32⟩
  | .local _ .vmem, ⟨1, _⟩ => ⟨S512x2048, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S2048x2048, .bf16⟩
  | .local _ .vmem, ⟨7, _⟩ => ⟨S1x2048, .f32⟩
  | .local _ .vmem, ⟨8, _⟩ => ⟨S1x2048, .f32⟩
  | .local _ .vmem, ⟨9, _⟩ => ⟨S512x2048, .f32⟩
  | .local _ .vmem, ⟨10, _⟩ => ⟨S512x2048, .f32⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== OutProjRefIdeal.lean ====
abbrev S32768x2048 : Shape := ⟨2, ![32768, 2048]⟩
abbrev S32768x1024 : Shape := ⟨2, ![32768, 1024]⟩
abbrev S2048x2048 : Shape := ⟨2, ![2048, 2048]⟩
abbrev S2048 : Shape := ⟨1, ![2048]⟩
abbrev S_ : Shape := ⟨0, ![]⟩
abbrev S32768 : Shape := ⟨1, ![32768]⟩
abbrev S32768x1 : Shape := ⟨2, ![32768, 1]⟩
abbrev S1x2048 : Shape := ⟨2, ![1, 2048]⟩

abbrev nBuf : Space → Nat
  | .hbm => 41
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S32768x1024, .bf16⟩
  | .hbm, ⟨2, _⟩ => ⟨S32768x1024, .bf16⟩
  | .hbm, ⟨3, _⟩ => ⟨S2048x2048, .f32⟩
  | .hbm, ⟨4, _⟩ => ⟨S2048, .f32⟩
  | .hbm, ⟨5, _⟩ => ⟨S2048, .f32⟩
  | .hbm, ⟨6, _⟩ => ⟨S32768x1024, .f32⟩
  | .hbm, ⟨7, _⟩ => ⟨S32768x1024, .f32⟩
  | .hbm, ⟨8, _⟩ => ⟨S32768x2048, .f32⟩
  | .hbm, ⟨9, _⟩ => ⟨S32768x2048, .f32⟩
  | .hbm, ⟨10, _⟩ => ⟨S_, .f32⟩
  | .hbm, ⟨11, _⟩ => ⟨S32768x2048, .f32⟩
  | .hbm, ⟨12, _⟩ => ⟨S32768x2048, .f32⟩
  | .hbm, ⟨13, _⟩ => ⟨S32768x2048, .f32⟩
  | .hbm, ⟨14, _⟩ => ⟨S_, .f32⟩
  | .hbm, ⟨15, _⟩ => ⟨S32768, .f32⟩
  | .hbm, ⟨16, _⟩ => ⟨S32768x1, .f32⟩
  | .hbm, ⟨17, _⟩ => ⟨S_, .f32⟩
  | .hbm, ⟨18, _⟩ => ⟨S32768x1, .f32⟩
  | .hbm, ⟨19, _⟩ => ⟨S32768x1, .f32⟩
  | .hbm, ⟨20, _⟩ => ⟨S32768x2048, .f32⟩
  | .hbm, ⟨21, _⟩ => ⟨S32768x2048, .f32⟩
  | .hbm, ⟨22, _⟩ => ⟨S32768x2048, .f32⟩
  | .hbm, ⟨23, _⟩ => ⟨S_, .f32⟩
  | .hbm, ⟨24, _⟩ => ⟨S32768, .f32⟩
  | .hbm, ⟨25, _⟩ => ⟨S32768x1, .f32⟩
  | .hbm, ⟨26, _⟩ => ⟨S_, .f32⟩
  | .hbm, ⟨27, _⟩ => ⟨S32768x1, .f32⟩
  | .hbm, ⟨28, _⟩ => ⟨S32768x1, .f32⟩
  | .hbm, ⟨29, _⟩ => ⟨S_, .f32⟩
  | .hbm, ⟨30, _⟩ => ⟨S32768x1, .f32⟩
  | .hbm, ⟨31, _⟩ => ⟨S32768x1, .f32⟩
  | .hbm, ⟨32, _⟩ => ⟨S32768x1, .f32⟩
  | .hbm, ⟨33, _⟩ => ⟨S32768x2048, .f32⟩
  | .hbm, ⟨34, _⟩ => ⟨S32768x2048, .f32⟩
  | .hbm, ⟨35, _⟩ => ⟨S1x2048, .f32⟩
  | .hbm, ⟨36, _⟩ => ⟨S32768x2048, .f32⟩
  | .hbm, ⟨37, _⟩ => ⟨S32768x2048, .f32⟩
  | .hbm, ⟨38, _⟩ => ⟨S1x2048, .f32⟩
  | .hbm, ⟨39, _⟩ => ⟨S32768x2048, .f32⟩
  | .hbm, ⟨40, _⟩ => ⟨S32768x2048, .f32⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_v16 : Ref sig .tc := ⟨.hbm, 27, rfl⟩
abbrev main_v17 : Ref sig .tc := ⟨.hbm, 28, rfl⟩
abbrev main_cst_4 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩

abbrev nD : Nat := 1
abbrev τ : Topo := Topo.v7x

variable {F : FTy → Type} [FloatOps F]
-- ==== InProj.lean ====
abbrev S32768x2048 : Shape := ⟨2, ![32768, 2048]⟩
abbrev S128x32768 : Shape := ⟨2, ![128, 32768]⟩
abbrev S2048x3136 : Shape := ⟨2, ![2048, 3136]⟩
abbrev S512 : Shape := ⟨1, ![512]⟩
abbrev S512x1536 : Shape := ⟨2, ![512, 1536]⟩
abbrev S512x2048 : Shape := ⟨2, ![512, 2048]⟩
abbrev S512x8x192 : Shape := ⟨3, ![512, 8, 192]⟩
abbrev S512x8x64 : Shape := ⟨3, ![512, 8, 64]⟩
abbrev S512x8x32 : Shape := ⟨3, ![512, 8, 32]⟩
abbrev S512x8x256 : Shape := ⟨3, ![512, 8, 256]⟩
abbrev S1x512 : Shape := ⟨2, ![1, 512]⟩
abbrev S32768x1024 : Shape := ⟨2, ![32768, 1024]⟩
abbrev S4x8x16x192x512 : Shape := ⟨5, ![4, 8, 16, 192, 512]⟩
abbrev S4x8x8192x192 : Shape := ⟨4, ![4, 8, 8192, 192]⟩
abbrev S4x8x32x144x256 : Shape := ⟨5, ![4, 8, 32, 144, 256]⟩
abbrev S128x512 : Shape := ⟨2, ![128, 512]⟩
abbrev S512x1024 : Shape := ⟨2, ![512, 1024]⟩
abbrev S1x8x1x192x512 : Shape := ⟨5, ![1, 8, 1, 192, 512]⟩
abbrev S1x8x512x192 : Shape := ⟨4, ![1, 8, 512, 192]⟩
abbrev S1x8x2x144x256 : Shape := ⟨5, ![1, 8, 2, 144, 256]⟩
abbrev S512x128 : Shape := ⟨2, ![512, 128]⟩
abbrev S2048x1024 : Shape := ⟨2, ![2048, 1024]⟩
abbrev S2048x512 : Shape := ⟨2, ![2048, 512]⟩
abbrev S512x512 : Shape := ⟨2, ![512, 512]⟩
abbrev S2048x64 : Shape := ⟨2, ![2048, 64]⟩
abbrev S512x64 : Shape := ⟨2, ![512, 64]⟩
abbrev S512x32 : Shape := ⟨2, ![512, 32]⟩
abbrev S512x1 : Shape := ⟨2, ![512, 1]⟩
abbrev S512x256 : Shape := ⟨2, ![512, 256]⟩
abbrev S512x192 : Shape := ⟨2, ![512, 192]⟩
abbrev S192x512 : Shape := ⟨2, ![192, 512]⟩
abbrev S1x1x1x192x512 : Shape := ⟨5, ![1, 1, 1, 192, 512]⟩
abbrev S1x1x512x192 : Shape := ⟨4, ![1, 1, 512, 192]⟩
abbrev S128x256 : Shape := ⟨2, ![128, 256]⟩
abbrev S1x1x1x128x256 : Shape := ⟨5, ![1, 1, 1, 128, 256]⟩
abbrev S16x256 : Shape := ⟨2, ![16, 256]⟩
abbrev S1x1x1x16x256 : Shape := ⟨5, ![1, 1, 1, 16, 256]⟩

abbrev nBuf : Space → Nat
  | .hbm => 24
  | .vmem => 19
  | .smem => 0
  | _ => 0

abbrev bufTy : (tb : Table) → Fin (tcTables nBuf tb) → BufTy
  | .hbm, ⟨0, _⟩ => ⟨S32768x2048, .f32⟩
  | .hbm, ⟨1, _⟩ => ⟨S128x32768, .f32⟩
  | .hbm, ⟨2, _⟩ => ⟨S2048x3136, .f32⟩
  | .hbm, ⟨3, _⟩ => ⟨S512, .f32⟩
  | .hbm, ⟨4, _⟩ => ⟨S512x1536, .f32⟩
  | .hbm, ⟨5, _⟩ => ⟨S512, .f32⟩
  | .hbm, ⟨6, _⟩ => ⟨S512x2048, .f32⟩
  | .hbm, ⟨7, _⟩ => ⟨S512x1536, .bf16⟩
  | .hbm, ⟨8, _⟩ => ⟨S512x8x192, .bf16⟩
  | .hbm, ⟨9, _⟩ => ⟨S512x8x64, .bf16⟩
  | .hbm, ⟨10, _⟩ => ⟨S512x8x32, .bf16⟩
  | .hbm, ⟨11, _⟩ => ⟨S512x8x32, .bf16⟩
  | .hbm, ⟨12, _⟩ => ⟨S512x8x64, .bf16⟩
  | .hbm, ⟨13, _⟩ => ⟨S512x8x256, .bf16⟩
  | .hbm, ⟨14, _⟩ => ⟨S512x2048, .bf16⟩
  | .hbm, ⟨15, _⟩ => ⟨S2048x3136, .bf16⟩
  | .hbm, ⟨16, _⟩ => ⟨S512x2048, .bf16⟩
  | .hbm, ⟨17, _⟩ => ⟨S1x512, .f32⟩
  | .hbm, ⟨18, _⟩ => ⟨S1x512, .f32⟩
  | .hbm, ⟨19, _⟩ => ⟨S32768x1024, .f32⟩
  | .hbm, ⟨20, _⟩ => ⟨S32768x1024, .bf16⟩
  | .hbm, ⟨21, _⟩ => ⟨S4x8x16x192x512, .bf16⟩
  | .hbm, ⟨22, _⟩ => ⟨S4x8x8192x192, .bf16⟩
  | .hbm, ⟨23, _⟩ => ⟨S4x8x32x144x256, .bf16⟩
  | .local _ .vmem, ⟨0, _⟩ => ⟨S512x2048, .f32⟩
  | .local _ .vmem, ⟨1, _⟩ => ⟨S512x2048, .f32⟩
  | .local _ .vmem, ⟨2, _⟩ => ⟨S2048x3136, .bf16⟩
  | .local _ .vmem, ⟨3, _⟩ => ⟨S512x2048, .bf16⟩
  | .local _ .vmem, ⟨4, _⟩ => ⟨S512x2048, .bf16⟩
  | .local _ .vmem, ⟨5, _⟩ => ⟨S1x512, .f32⟩
  | .local _ .vmem, ⟨6, _⟩ => ⟨S1x512, .f32⟩
  | .local _ .vmem, ⟨7, _⟩ => ⟨S128x512, .f32⟩
  | .local _ .vmem, ⟨8, _⟩ => ⟨S128x512, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | .local _ .vmem, ⟨13, _⟩ => ⟨S1x8x1x192x512, .bf16⟩
  | .local _ .vmem, ⟨14, _⟩ => ⟨S1x8x1x192x512, .bf16⟩
  | .local _ .vmem, ⟨15, _⟩ => ⟨S1x8x512x192, .bf16⟩
  | .local _ .vmem, ⟨16, _⟩ => ⟨S1x8x512x192, .bf16⟩
  | .local _ .vmem, ⟨17, _⟩ => ⟨S1x8x2x144x256, .bf16⟩
  | .local _ .vmem, ⟨18, _⟩ => ⟨S1x8x2x144x256, .bf16⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12_0 : Ref sig .tc := ⟨.hbm, 19, rfl⟩
abbrev main_v12_1 : Ref sig .tc := ⟨.hbm, 20, rfl⟩
abbrev main_v12_2 : Ref sig .tc := ⟨.hbm, 21, rfl⟩
abbrev main_v12_3 : Ref sig .tc := ⟨.hbm, 22, rfl⟩
abbrev main_v12_4 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 5 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  let c0_i32_13 : BitVec 32 := 0#32
  ![v16.toNat, c0_i32_10.toNat, v26.toNat, c0_i32_11.toNat, c0_i32_12.toNat]

def cc0_transform_10 (i : grid0.Coords) : Fin 4 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_11 (i : grid0.Coords) : Fin 5 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  let c0_i32_13 : BitVec 32 := 0#32
  ![v16.toNat, c0_i32_10.toNat, v26.toNat, c0_i32_11.toNat, c0_i32_12.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x3136 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S128x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x8x1x192x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x8x512x192 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x8x2x144x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== InProjRefIdeal.lean ====
abbrev S32768x2048 : Shape := ⟨2, ![32768, 2048]⟩
abbrev S128x32768 : Shape := ⟨2, ![128, 32768]⟩
abbrev S2048x3136 : Shape := ⟨2, ![2048, 3136]⟩
abbrev S512 : Shape := ⟨1, ![512]⟩
abbrev S512x1536 : Shape := ⟨2, ![512, 1536]⟩
abbrev S512x2048 : Shape := ⟨2, ![512, 2048]⟩
abbrev S32x32768 : Shape := ⟨2, ![32, 32768]⟩
abbrev S32768x32 : Shape := ⟨2, ![32768, 32]⟩
abbrev S32768x3136 : Shape := ⟨2, ![32768, 3136]⟩
abbrev S32768x1024 : Shape := ⟨2, ![32768, 1024]⟩
abbrev S32768x512 : Shape := ⟨2, ![32768, 512]⟩
abbrev S32768x64 : Shape := ⟨2, ![32768, 64]⟩
abbrev S_ : Shape := ⟨0, ![]⟩
abbrev S32768 : Shape := ⟨1, ![32768]⟩
abbrev S32768x1 : Shape := ⟨2, ![32768, 1]⟩
abbrev S1x512 : Shape := ⟨2, ![1, 512]⟩
abbrev S32768x1536 : Shape := ⟨2, ![32768, 1536]⟩
abbrev S32768x8x192 : Shape := ⟨3, ![32768, 8, 192]⟩
abbrev S32768x8x64 : Shape := ⟨3, ![32768, 8, 64]⟩
abbrev S32768x1x32 : Shape := ⟨3, ![32768, 1, 32]⟩
abbrev S32768x8x32 : Shape := ⟨3, ![32768, 8, 32]⟩
abbrev S32768x8x128 : Shape := ⟨3, ![32768, 8, 128]⟩
abbrev S32768x8x256 : Shape := ⟨3, ![32768, 8, 256]⟩
abbrev S32768x1x64 : Shape := ⟨3, ![32768, 1, 64]⟩
abbrev S4x16x512x8x192 : Shape := ⟨5, ![4, 16, 512, 8, 192]⟩
abbrev S4x8x16x192x512 : Shape := ⟨5, ![4, 8, 16, 192, 512]⟩
abbrev S4x8192x8x192 : Shape := ⟨4, ![4, 8192, 8, 192]⟩
abbrev S4x8x8192x192 : Shape := ⟨4, ![4, 8, 8192, 192]⟩
abbrev S4x32x256x8x128 : Shape := ⟨5, ![4, 32, 256, 8, 128]⟩
abbrev S4x8x32x128x256 : Shape := ⟨5, ![4, 8, 32, 128, 256]⟩
abbrev S4x8x32x16x256 : Shape := ⟨5, ![4, 8, 32, 16, 256]⟩
abbrev S4x8x32x144x256 : Shape := ⟨5, ![4, 8, 32, 144, 256]⟩

abbrev nBuf : Space → Nat
  | .hbm => 118
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S128x32768, .f32⟩
  | .hbm, ⟨2, _⟩ => ⟨S2048x3136, .f32⟩
  | .hbm, ⟨3, _⟩ => ⟨S512, .f32⟩
  | .hbm, ⟨4, _⟩ => ⟨S512x1536, .f32⟩
  | .hbm, ⟨5, _⟩ => ⟨S512, .f32⟩
  | .hbm, ⟨6, _⟩ => ⟨S512x2048, .f32⟩
  | .hbm, ⟨7, _⟩ => ⟨S32x32768, .f32⟩
  | .hbm, ⟨8, _⟩ => ⟨S32768x32, .f32⟩
  | .hbm, ⟨9, _⟩ => ⟨S32x32768, .f32⟩
  | .hbm, ⟨10, _⟩ => ⟨S32768x32, .f32⟩
  | .hbm, ⟨11, _⟩ => ⟨S32768x3136, .f32⟩
  | .hbm, ⟨12, _⟩ => ⟨S32768x1024, .f32⟩
  | .hbm, ⟨13, _⟩ => ⟨S32768x1024, .f32⟩
  | .hbm, ⟨14, _⟩ => ⟨S32768x512, .f32⟩
  | .hbm, ⟨15, _⟩ => ⟨S32768x512, .f32⟩
  | .hbm, ⟨16, _⟩ => ⟨S32768x64, .f32⟩
  | .hbm, ⟨17, _⟩ => ⟨S32768x512, .f32⟩
  | .hbm, ⟨18, _⟩ => ⟨S_, .f32⟩
  | .hbm, ⟨19, _⟩ => ⟨S32768, .f32⟩
  | .hbm, ⟨20, _⟩ => ⟨S32768x1, .f32⟩
  | .hbm, ⟨21, _⟩ => ⟨S_, .f32⟩
  | .hbm, ⟨22, _⟩ => ⟨S32768x1, .f32⟩
  | .hbm, ⟨23, _⟩ => ⟨S32768x1, .f32⟩
  | .hbm, ⟨24, _⟩ => ⟨S_, .f32⟩
  | .hbm, ⟨25, _⟩ => ⟨S32768x1, .f32⟩
  | .hbm, ⟨26, _⟩ => ⟨S32768x1, .f32⟩
  | .hbm, ⟨27, _⟩ => ⟨S32768x1, .f32⟩
  | .hbm, ⟨28, _⟩ => ⟨S32768x512, .f32⟩
  | .hbm, ⟨29, _⟩ => ⟨S32768x512, .f32⟩
  | .hbm, ⟨30, _⟩ => ⟨S1x512, .f32⟩
  | .hbm, ⟨31, _⟩ => ⟨S32768x512, .f32⟩
  | .hbm, ⟨32, _⟩ => ⟨S32768x512, .f32⟩
  | .hbm, ⟨33, _⟩ => ⟨S32768x1536, .f32⟩
  | .hbm, ⟨34, _⟩ => ⟨S32768x8x192, .f32⟩
  | .hbm, ⟨35, _⟩ => ⟨S32768x8x64, .f32⟩
  | .hbm, ⟨36, _⟩ => ⟨S32768x1x32, .f32⟩
  | .hbm, ⟨37, _⟩ => ⟨S32768x1x32, .f32⟩
  | .hbm, ⟨38, _⟩ => ⟨S32768x8x32, .f32⟩
  | .hbm, ⟨39, _⟩ => ⟨S32768x8x32, .f32⟩
  | .hbm, ⟨40, _⟩ => ⟨S32768x8x32, .f32⟩
  | .hbm, ⟨41, _⟩ => ⟨S32768x8x32, .f32⟩
  | .hbm, ⟨42, _⟩ => ⟨S32768x8x32, .f32⟩
  | .hbm, ⟨43, _⟩ => ⟨S32768x8x32, .f32⟩
  | .hbm, ⟨44, _⟩ => ⟨S32768x8x32, .f32⟩
  | .hbm, ⟨45, _⟩ => ⟨S32768x8x32, .f32⟩
  | .hbm, ⟨46, _⟩ => ⟨S32768x8x32, .f32⟩
  | .hbm, ⟨47, _⟩ => ⟨S32768x8x32, .f32⟩
  | .hbm, ⟨48, _⟩ => ⟨S32768x8x32, .f32⟩
  | .hbm, ⟨49, _⟩ => ⟨S32768x8x32, .f32⟩
  | .hbm, ⟨50, _⟩ => ⟨S32768x8x64, .f32⟩
  | .hbm, ⟨51, _⟩ => ⟨S32768x8x128, .f32⟩
  | .hbm, ⟨52, _⟩ => ⟨S32768x8x192, .f32⟩
  | .hbm, ⟨53, _⟩ => ⟨S_, .f32⟩
  | .hbm, ⟨54, _⟩ => ⟨S32768x8x192, .f32⟩
  | .hbm, ⟨55, _⟩ => ⟨S32768x8x192, .f32⟩
  | .hbm, ⟨56, _⟩ => ⟨S32768x512, .f32⟩
  | .hbm, ⟨57, _⟩ => ⟨S_, .f32⟩
  | .hbm, ⟨58, _⟩ => ⟨S32768, .f32⟩
  | .hbm, ⟨59, _⟩ => ⟨S32768x1, .f32⟩
  | .hbm, ⟨60, _⟩ => ⟨S_, .f32⟩
  | .hbm, ⟨61, _⟩ => ⟨S32768x1, .f32⟩
  | .hbm, ⟨62, _⟩ => ⟨S32768x1, .f32⟩
  | .hbm, ⟨63, _⟩ => ⟨S_, .f32⟩
  | .hbm, ⟨64, _⟩ => ⟨S32768x1, .f32⟩
  | .hbm, ⟨65, _⟩ => ⟨S32768x1, .f32⟩
  | .hbm, ⟨66, _⟩ => ⟨S32768x1, .f32⟩
  | .hbm, ⟨67, _⟩ => ⟨S32768x512, .f32⟩
  | .hbm, ⟨68, _⟩ => ⟨S32768x512, .f32⟩
  | .hbm, ⟨69, _⟩ => ⟨S1x512, .f32⟩
  | .hbm, ⟨70, _⟩ => ⟨S32768x512, .f32⟩
  | .hbm, ⟨71, _⟩ => ⟨S32768x512, .f32⟩
  | .hbm, ⟨72, _⟩ => ⟨S32768x2048, .f32⟩
  | .hbm, ⟨73, _⟩ => ⟨S32768x8x256, .f32⟩
  | .hbm, ⟨74, _⟩ => ⟨S32768x32, .f32⟩
  | .hbm, ⟨75, _⟩ => ⟨S32768x32, .f32⟩
  | .hbm, ⟨76, _⟩ => ⟨S32768x32, .f32⟩
  | .hbm, ⟨77, _⟩ => ⟨S32768x32, .f32⟩
  | .hbm, ⟨78, _⟩ => ⟨S32768x32, .f32⟩
  | .hbm, ⟨79, _⟩ => ⟨S32768x32, .f32⟩
  | .hbm, ⟨80, _⟩ => ⟨S32768x32, .f32⟩
  | .hbm, ⟨81, _⟩ => ⟨S32768x32, .f32⟩
  | .hbm, ⟨82, _⟩ => ⟨S32768x64, .f32⟩
  | .hbm, ⟨83, _⟩ => ⟨S32768x1x64, .f32⟩
  | .hbm, ⟨84, _⟩ => ⟨S32768x8x64, .f32⟩
  | .hbm, ⟨85, _⟩ => ⟨S32768x8x128, .f32⟩
  | .hbm, ⟨86, _⟩ => ⟨S32768x8x192, .f32⟩
  | .hbm, ⟨87, _⟩ => ⟨S4x16x512x8x192, .f32⟩
  | .hbm, ⟨88, _⟩ => ⟨S4x8x16x192x512, .f32⟩
  | .hbm, ⟨89, _⟩ => ⟨S4x8192x8x192, .f32⟩
  | .hbm, ⟨90, _⟩ => ⟨S4x8x8192x192, .f32⟩
  | .hbm, ⟨91, _⟩ => ⟨S32768x8x128, .f32⟩
  | .hbm, ⟨92, _⟩ => ⟨S4x32x256x8x128, .f32⟩
  | .hbm, ⟨93, _⟩ => ⟨S4x8x32x128x256, .f32⟩
  | .hbm, ⟨94, _⟩ => ⟨S_, .f32⟩
  | .hbm, ⟨95, _⟩ => ⟨S4x8x32x16x256, .f32⟩
  | .hbm, ⟨96, _⟩ => ⟨S4x8x32x144x256, .f32⟩
  | .hbm, ⟨97, _⟩ => ⟨S32768x1024, .f32⟩
  | .hbm, ⟨98, _⟩ => ⟨S32768x1024, .f32⟩
  | .hbm, ⟨99, _⟩ => ⟨S_, .f32⟩
  | .hbm, ⟨100, _⟩ => ⟨S32768x1024, .f32⟩
  | .hbm, ⟨101, _⟩ => ⟨S32768x1024, .f32⟩
  | .hbm, ⟨102, _⟩ => ⟨S32768x1024, .f32⟩
  | .hbm, ⟨103, _⟩ => ⟨S_, .f32⟩
  | .hbm, ⟨104, _⟩ => ⟨S32768x1024, .f32⟩
  | .hbm, ⟨105, _⟩ => ⟨S32768x1024, .f32⟩
  | .hbm, ⟨106, _⟩ => ⟨S32768x1024, .f32⟩
  | .hbm, ⟨107, _⟩ => ⟨S_, .f32⟩
  | .hbm, ⟨108, _⟩ => ⟨S32768x1024, .f32⟩
  | .hbm, ⟨109, _⟩ => ⟨S32768x1024, .f32⟩
  | .hbm, ⟨110, _⟩ => ⟨S_, .f32⟩
  | .hbm, ⟨111, _⟩ => ⟨S32768x1024, .f32⟩
  | .hbm, ⟨112, _⟩ => ⟨S32768x1024, .f32⟩
  | .hbm, ⟨113, _⟩ => ⟨S32768x1024, .f32⟩
  | .hbm, ⟨114, _⟩ => ⟨S32768x1024, .bf16⟩
  | .hbm, ⟨115, _⟩ => ⟨S4x8x16x192x512, .bf16⟩
  | .hbm, ⟨116, _⟩ => ⟨S4x8x8192x192, .bf16⟩
  | .hbm, ⟨117, _⟩ => ⟨S4x8x32x144x256, .bf16⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_cst_0 : Ref sig .tc := ⟨.hbm, 21, rfl⟩
abbrev main_v13 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_cst_2 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_cst_3 : Ref sig .tc := ⟨.hbm, 57, rfl⟩
abbrev main_v46 : Ref sig .tc := ⟨.hbm, 58, rfl⟩
abbrev main_v47 : Ref sig .tc := ⟨.hbm, 59, rfl⟩
abbrev main_cst_4 : Ref sig .tc := ⟨.hbm, 60, rfl⟩
abbrev main_v48 : Ref sig .tc := ⟨.hbm, 61, rfl⟩
abbrev main_v49 : Ref sig .tc := ⟨.hbm, 62, rfl⟩
abbrev main_cst_5 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_cst_6 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_cst_7 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_cst_8 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_cst_9 : Ref sig .tc := ⟨.hbm, 107, rfl⟩
abbrev main_v90 : Ref sig .tc := ⟨.hbm, 108, rfl⟩
abbrev main_v91 : Ref sig .tc := ⟨.hbm, 109, rfl⟩
abbrev main_cst_10 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩
abbrev main_v95 : Ref sig .tc := ⟨.hbm, 114, rfl⟩
abbrev main_v96 : Ref sig .tc := ⟨.hbm, 115, rfl⟩
abbrev main_v97 : Ref sig .tc := ⟨.hbm, 116, rfl⟩
abbrev main_v98 : Ref sig .tc := ⟨.hbm, 117, rfl⟩

abbrev nD : Nat := 1
abbrev τ : Topo := Topo.v7x

variable {F : FTy → Type} [FloatOps F]
-- ==== Proof.AttnIdealState.lean ====
/-
  What one grid point of the attention kernel keeps, as a function of the three blocks it reads.

  The kernel walks the 16 query tiles (512 rows each) of a head pair. For one tile and one head it goes through the key
  blocks (256 rows each) up to the diagonal and keeps three values: the running maximum of the scores of each query, the
  scores of the NEXT key block (computed one block ahead), and the accumulator, 144 rows by 512 queries, whose row 128 is
  the running denominator. `HS` is that triple, `step` what one block does to it, `S x2 x3 x4 h t n` the triple of head
  `h` at query tile `t` after `n` blocks below the diagonal; `fin` is the accumulator after the two diagonal blocks and
  `outV` the block of the result. The offsets that the kernel computes for its reads are put in closed form here, so that
  each read is one of `qT`, `kT`, `vT`: the query tile, the key block and the value block with a number.
-/
module

public import proofs.«01_k».proof.Proof.Gen.AttnIdeal.Frame
public import proofs.«01_k».proof.Proof.Gen.AttnIdeal.Skeleton
public import Idealize.ShloMosaic.Lib.Tactic

@[expose] public section

set_option maxRecDepth 16384

noncomputable section

namespace Cert.Proof.AttnIdeal

open Cert.AttnIdeal Cert.AttnIdeal.Gen
open Idealize.ShloMosaic Idealize.ShloMosaic.TcCoe Idealize.ShloMosaic.Tactic

variable {F : FTy → Type} [FloatOps F]

/-! ## The reads -/

theorem qT_inb (h : Fin 2) (t : ℕ) : ∀ a, (![0, h.val, t % 16, 0, 0] : Fin 5 → ℕ) a + S1x1x1x192x512.size a ≤ S1x2x16x192x512.size a := by
  have := h.isLt; have := Nat.mod_lt t (y := 16) (by decide); intro a; fin_cases a
  · show 0 + 1 ≤ 1; omega
  · show h.val + 1 ≤ 2; omega
  · show t % 16 + 1 ≤ 16; omega
  · show 0 + 192 ≤ 192; omega
  · show 0 + 512 ≤ 512; omega
theorem kT_inb (h : Fin 2) (n : ℕ) : ∀ a, (![0, h.val, 256 * (n % 32), 0] : Fin 4 → ℕ) a + S1x1x256x192.size a ≤ S1x2x8192x192.size a := by
  have := h.isLt; have := Nat.mod_lt n (y := 32) (by decide); intro a; fin_cases a
  · show 0 + 1 ≤ 1; omega
  · show h.val + 1 ≤ 2; omega
  · show 256 * (n % 32) + 256 ≤ 8192; omega
  · show 0 + 192 ≤ 192; omega
theorem vT_inb (h : Fin 2) (n : ℕ) : ∀ a, (![0, h.val, n % 32, 0, 0] : Fin 5 → ℕ) a + S1x1x1x144x256.size a ≤ S1x2x32x144x256.size a := by
  have := h.isLt; have := Nat.mod_lt n (y := 32) (by decide); intro a; fin_cases a
  · show 0 + 1 ≤ 1; omega
  · show h.val + 1 ≤ 2; omega
  · show n % 32 + 1 ≤ 32; omega
  · show 0 + 144 ≤ 144; omega
  · show 0 + 256 ≤ 256; omega

/-- Query tile `t` of head `h`, as the kernel multiplies it: 192 features by 512 queries. -/
def qT (x2 : Vec F S1x2x16x192x512 .bf16) (h : Fin 2) (t : ℕ) : Vec F S1x1x1x192x512 .bf16 :=
  View.ld x2 (Rect.unit (s := S1x2x16x192x512) ![0, h.val, t % 16, 0, 0] S1x1x1x192x512.size (qT_inb h t))
/-- Key block `n` of head `h`: 256 keys by 192 features. -/
def kT (x3 : Vec F S1x2x8192x192 .bf16) (h : Fin 2) (n : ℕ) : Vec F S1x1x256x192 .bf16 :=
  View.ld x3 (Rect.unit (s := S1x2x8192x192) ![0, h.val, 256 * (n % 32), 0] S1x1x256x192.size (kT_inb h n))
/-- Value block `n` of head `h`, transposed and with the row of ones: 144 rows by 256 keys. -/
def vT (x4 : Vec F S1x2x32x144x256 .bf16) (h : Fin 2) (n : ℕ) : Vec F S1x1x1x144x256 .bf16 :=
  View.ld x4 (Rect.unit (s := S1x2x32x144x256) ![0, h.val, n % 32, 0, 0] S1x1x1x144x256.size (vT_inb h n))

omit [FloatOps F] in
/-- A read depends on its rectangle's offsets only. -/
theorem ld_congr {s : Shape} {e : EltTy} (x : Vec F s e) {o o' : Fin s.rank → ℕ} {sz : Fin s.rank → ℕ} (e' : o = o')
    (h : ∀ a, o a + sz a ≤ s.size a) (h' : ∀ a, o' a + sz a ≤ s.size a) :
    View.ld x (Rect.unit (s := s) o sz h) = View.ld x (Rect.unit (s := s) o' sz h') := by subst e'; rfl

/-! ### The offsets in closed form -/

theorem trips1 : k0_t1_loop.trips = 16 := by decide +kernel
theorem trips2 : ∀ t : Fin k0_t1_loop.trips, (k0_t2_loop t).trips = t.val / 2 := by decide +kernel
theorem trips3 : ∀ t : Fin k0_t1_loop.trips, (k0_t3_loop t).trips = 0 := by decide +kernel
theorem trips4 : ∀ t : Fin k0_t1_loop.trips, (k0_t4_loop t).trips = t.val - 2 * (t.val / 2) := by decide +kernel
theorem trips5 : ∀ t : Fin k0_t1_loop.trips, (k0_t5_loop t).trips = 0 := by decide +kernel

theorem off3 : ∀ (t : Fin k0_t1_loop.trips) (k : Fin (k0_t2_loop t).trips) (r : Fin 4),
    k0_off3 t k (BitVec.ofNat 32 r.val) = ![0, 0, 256 * (4 * k.val + r.val + 1), 0] := by decide +kernel
theorem off4 : ∀ (t : Fin k0_t1_loop.trips) (k : Fin (k0_t2_loop t).trips) (r : Fin 4),
    k0_off4 t k (BitVec.ofNat 32 r.val) = ![0, 1, 256 * (4 * k.val + r.val + 1), 0] := by decide +kernel
theorem off5 : ∀ (t : Fin k0_t1_loop.trips) (k : Fin (k0_t2_loop t).trips) (r : Fin 4),
    k0_off5 t k (BitVec.ofNat 32 r.val) = ![0, 0, 4 * k.val + r.val, 0, 0] := by decide +kernel
theorem off6 : ∀ (t : Fin k0_t1_loop.trips) (k : Fin (k0_t2_loop t).trips) (r : Fin 4),
    k0_off6 t k (BitVec.ofNat 32 r.val) = ![0, 1, 4 * k.val + r.val, 0, 0] := by decide +kernel
theorem off11 : ∀ (t : Fin k0_t1_loop.trips) (k : Fin (k0_t4_loop t).trips) (r : Fin 2),
    k0_off11 t k (BitVec.ofNat 32 r.val) = ![0, 0, 256 * (4 * (k0_t2_loop t).trips + 2 * k.val + r.val + 1), 0] := by decide +kernel
theorem off12 : ∀ (t : Fin k0_t1_loop.trips) (k : Fin (k0_t4_loop t).trips) (r : Fin 2),
    k0_off12 t k (BitVec.ofNat 32 r.val) = ![0, 1, 256 * (4 * (k0_t2_loop t).trips + 2 * k.val + r.val + 1), 0] := by decide +kernel
theorem off13 : ∀ (t : Fin k0_t1_loop.trips) (k : Fin (k0_t4_loop t).trips) (r : Fin 2),
    k0_off13 t k (BitVec.ofNat 32 r.val) = ![0, 0, 4 * (k0_t2_loop t).trips + 2 * k.val + r.val, 0, 0] := by decide +kernel
theorem off14 : ∀ (t : Fin k0_t1_loop.trips) (k : Fin (k0_t4_loop t).trips) (r : Fin 2),
    k0_off14 t k (BitVec.ofNat 32 r.val) = ![0, 1, 4 * (k0_t2_loop t).trips + 2 * k.val + r.val, 0, 0] := by decide +kernel

theorem lt32_2 (t : Fin k0_t1_loop.trips) (k : Fin (k0_t2_loop t).trips) (r : ℕ) (hr : r < 4) : 4 * k.val + r + 1 < 32 := by
  have h := k.isLt; have ht := t.isLt; have h1 := trips1; have h2 := trips2 t; omega
theorem lt32_4 (t : Fin k0_t1_loop.trips) (k : Fin (k0_t4_loop t).trips) (r : ℕ) (hr : r < 2) : 4 * (k0_t2_loop t).trips + 2 * k.val + r + 1 < 32 := by
  have h := k.isLt; have ht := t.isLt; have h1 := trips1; have h2 := trips2 t; have h4 := trips4 t; omega

section Reads
variable (x2 : Vec F S1x2x16x192x512 .bf16) (x3 : Vec F S1x2x8192x192 .bf16) (x4 : Vec F S1x2x32x144x256 .bf16)

omit [FloatOps F] in
theorem ld_q (h : Fin 2) (t : ℕ) (ht : t < 16) {o : Fin 5 → ℕ} (e : o = ![0, h.val, t, 0, 0]) (hh) :
    View.ld x2 (Rect.unit (s := S1x2x16x192x512) o S1x1x1x192x512.size hh) = qT x2 h t :=
  ld_congr x2 (by rw [e, Nat.mod_eq_of_lt ht]) _ _
omit [FloatOps F] in
theorem ld_k (h : Fin 2) (n : ℕ) (hn : n < 32) {o : Fin 4 → ℕ} (e : o = ![0, h.val, 256 * n, 0]) (hh) :
    View.ld x3 (Rect.unit (s := S1x2x8192x192) o S1x1x256x192.size hh) = kT x3 h n :=
  ld_congr x3 (by rw [e, Nat.mod_eq_of_lt hn]) _ _
omit [FloatOps F] in
theorem ld_v (h : Fin 2) (n : ℕ) (hn : n < 32) {o : Fin 5 → ℕ} (e : o = ![0, h.val, n, 0, 0]) (hh) :
    View.ld x4 (Rect.unit (s := S1x2x32x144x256) o S1x1x1x144x256.size hh) = vT x4 h n :=
  ld_congr x4 (by rw [e, Nat.mod_eq_of_lt hn]) _ _

end Reads

/-! ## The kernel's copies of one computation

The kernel's text computes the same thing at many places: the scores of a key block, the new maximum, the update of an
accumulator. Each place is equal to the one that `step` names. -/

section Copies
variable (q : FVec F S192x512 .bf16) (kb : Vec F S1x1x256x192 .bf16) (vb : Vec F S1x1x1x144x256 .bf16) (m : FVec F S1x512 .f32)
  (s : FVec F S256x512 .f32) (a : FVec F S144x512 .f32)

theorem sc5 : k0_pay5 q kb = k0_pay6 q kb := rfl
theorem sc13 : k0_pay13 q kb = k0_pay6 q kb := rfl
theorem sc14 : k0_pay14 q kb = k0_pay6 q kb := rfl
theorem sc22 : k0_pay22 q kb = k0_pay6 q kb := rfl
theorem sc23 : k0_pay23 q kb = k0_pay6 q kb := rfl
theorem sc28 : k0_pay28 q kb = k0_pay6 q kb := rfl
theorem sc29 : k0_pay29 q kb = k0_pay6 q kb := rfl
theorem sc63 : k0_pay63 q kb = k0_pay6 q kb := rfl
theorem sc64 : k0_pay64 q kb = k0_pay6 q kb := rfl
theorem sc71 : k0_pay71 q kb = k0_pay6 q kb := rfl
theorem sc72 : k0_pay72 q kb = k0_pay6 q kb := rfl
theorem sc107 : k0_pay107 q kb = k0_pay6 q kb := rfl
theorem sc117 : k0_pay117 q kb = k0_pay6 q kb := rfl
theorem sc106 : k0_pay106 (k0_pay105 q kb) = k0_pay6 q kb := rfl
theorem sc116 : k0_pay116 (k0_pay115 q kb) = k0_pay6 q kb := rfl
theorem sc1 (x : Vec F S1x1x1x192x512 .bf16) : k0_pay1 x kb = k0_pay6 (k0_pay89 x) kb := rfl
theorem sc2 (x : Vec F S1x1x1x192x512 .bf16) : k0_pay2 x kb = k0_pay6 (k0_pay89 x) kb := rfl
theorem mx7 : k0_pay7 m s = k0_pay11 m s := rfl
theorem mx15 : k0_pay15 m s = k0_pay11 m s := rfl
theorem mx20 : k0_pay20 m s = k0_pay11 m s := rfl
theorem mx24 : k0_pay24 m s = k0_pay11 m s := rfl
theorem mx26 : k0_pay26 m s = k0_pay11 m s := rfl
theorem mx30 : k0_pay30 m s = k0_pay11 m s := rfl
theorem mx32 : k0_pay32 m s = k0_pay11 m s := rfl
theorem mx65 : k0_pay65 m s = k0_pay11 m s := rfl
theorem mx69 : k0_pay69 m s = k0_pay11 m s := rfl
theorem mx73 : k0_pay73 m s = k0_pay11 m s := rfl
theorem mx98 : k0_pay98 m s = k0_pay11 m s := rfl
theorem ac21 : k0_pay21 m s a vb = k0_pay12 m s a vb := rfl
theorem ac25 : k0_pay25 m s a vb = k0_pay12 m s a vb := rfl
theorem ac27 : k0_pay27 m s a vb = k0_pay12 m s a vb := rfl
theorem ac31 : k0_pay31 m s a vb = k0_pay12 m s a vb := rfl
theorem ac70 : k0_pay70 m s a vb = k0_pay12 m s a vb := rfl
theorem ac99 : k0_pay99 m s a vb = k0_pay12 m s a vb := rfl
theorem ac10 : k0_pay10 (k0_pay8 m s) (k0_pay9 m s) a vb = k0_pay12 m s a vb := rfl
theorem ac19 : k0_pay19 (k0_pay16 m s) (k0_pay17 m s a) (k0_pay18 vb) = k0_pay12 m s a vb := rfl
theorem ac95 : k0_pay95 m (k0_pay11 m s) (k0_pay33 m s) a vb = k0_pay12 m s a vb := rfl
theorem ac68 : k0_pay68 (k0_pay66 m s) a (k0_pay67 m s) vb = k0_pay12 m s a vb := rfl
theorem ac97 : k0_pay97 (k0_pay74 m s a) (k0_pay75 m s vb) = k0_pay12 m s a vb := rfl
theorem q90 (x : Vec F S1x1x1x192x512 .bf16) : k0_pay90 x = k0_pay89 x := rfl
theorem q103 (x : Vec F S1x1x1x192x512 .bf16) : k0_pay103 x = k0_pay89 x := rfl
theorem q104 (x : Vec F S1x1x1x192x512 .bf16) : k0_pay104 x = k0_pay89 x := rfl
theorem m94 : k0_pay94 (F := F) = k0_pay93 := rfl
theorem a92 : k0_pay92 (F := F) = k0_pay91 := rfl
theorem d109 : k0_pay109 m s = k0_pay113 m s := rfl
theorem d110 : k0_pay111 (k0_pay110 m s a vb) = k0_pay114 m s a vb := rfl
theorem d118 : k0_pay119 (k0_pay118 m s a vb) = k0_pay120 m s a vb := rfl
theorem o3 (x : Vec F S128x512 .f32) (y : Vec F S1x512 .f32) : k0_pay3 (k0_pay121 x y) = k0_pay4 x y := rfl

end Copies

/-! ## The state of one head at one query tile -/

/-- Running maximum, scores one block ahead, accumulator. -/
structure HS (F : FTy → Type) [FloatOps F] where
  m : FVec F S1x512 .f32
  s : FVec F S256x512 .f32
  a : FVec F S144x512 .f32

/-- One block below the diagonal: the maximum and the accumulator take in the scores at hand, and the scores of the next
    key block `kn` are computed. -/
def step (q : FVec F S192x512 .bf16) (kn : Vec F S1x1x256x192 .bf16) (vn : Vec F S1x1x1x144x256 .bf16) (z : HS F) : HS F :=
  ⟨k0_pay11 z.m z.s, k0_pay6 q kn, k0_pay12 z.m z.s z.a vn⟩

section St
variable (x2 : Vec F S1x2x16x192x512 .bf16) (x3 : Vec F S1x2x8192x192 .bf16) (x4 : Vec F S1x2x32x144x256 .bf16) (h : Fin 2)

/-- The query tile as the matrix that the products take. -/
def qm (t : ℕ) : FVec F S192x512 .bf16 := k0_pay89 (qT x2 h t)

/-- The state after `n` blocks. -/
def S (t : ℕ) : ℕ → HS F
  | 0 => ⟨k0_pay93, k0_pay6 (qm x2 h t) (kT x3 h 0), k0_pay91⟩
  | n + 1 => step (qm x2 h t) (kT x3 h (n + 1)) (vT x4 h n) (S t n)

theorem S_succ (t n : ℕ) : S x2 x3 x4 h t (n + 1) = step (qm x2 h t) (kT x3 h (n + 1)) (vT x4 h n) (S x2 x3 x4 h t n) := rfl
/-- Two blocks, and four. -/
theorem S_two (t n : ℕ) : S x2 x3 x4 h t (n + 2) = step (qm x2 h t) (kT x3 h (n + 1 + 1)) (vT x4 h (n + 1))
    (step (qm x2 h t) (kT x3 h (n + 0 + 1)) (vT x4 h (n + 0)) (S x2 x3 x4 h t n)) := rfl
theorem S_four (t n : ℕ) : S x2 x3 x4 h t (n + 4) = step (qm x2 h t) (kT x3 h (n + 3 + 1)) (vT x4 h (n + 3))
    (step (qm x2 h t) (kT x3 h (n + 2 + 1)) (vT x4 h (n + 2)) (S x2 x3 x4 h t (n + 2))) := rfl

/-- The accumulator after the two diagonal blocks, masked above the diagonal. -/
def fin (t : ℕ) : FVec F S144x512 .f32 :=
  let z := S x2 x3 x4 h t (2 * t)
  k0_pay120 (k0_pay113 z.m z.s) (k0_pay6 (qm x2 h t) (kT x3 h (2 * t + 1))) (k0_pay114 z.m z.s z.a (vT x4 h (2 * t))) (vT x4 h (2 * t + 1))

/-- Rows 0 to 127 of an accumulator, and its row 128. -/
abbrev RN : Rect S144x512 := Rect.unit (s := S144x512) ![0, 0] S128x512.size inb_S144x512_S128x512_0_0
abbrev RD : Rect S144x512 := Rect.unit (s := S144x512) ![128, 0] S1x512.size inb_S144x512_S1x512_128_0

/-- What head `h` writes at query tile `t`: 512 queries by 128 features. -/
def tileV (t : ℕ) : FVec F S1x512x128 .bf16 :=
  k0_pay4 (View.ld (fin x2 x3 x4 h t) RN) (View.ld (fin x2 x3 x4 h t) RD)

end St

/-- The block of the result that a grid point writes: row `r`, column `d` is row `r % 512`, column `d % 128` of what head
    `d / 128` writes at query tile `r / 512`. -/
def outV (x2 : Vec F S1x2x16x192x512 .bf16) (x3 : Vec F S1x2x8192x192 .bf16) (x4 : Vec F S1x2x32x144x256 .bf16) : Vec F S1x8192x256 .bf16 :=
  fun y => tileV x2 x3 x4 ⟨(y 2).val / 128 % 2, Nat.mod_lt _ (by decide)⟩ ((y 1).val / 512)
    (Fin.cons ⟨0, by decide⟩ (Fin.cons ⟨(y 1).val % 512, Nat.mod_lt _ (by decide)⟩ (Fin.cons ⟨(y 2).val % 128, Nat.mod_lt _ (by decide)⟩ finZeroElim)))

end Cert.Proof.AttnIdeal

end
-- ==== Proof.AttnIdealLoops.lean ====
/-
  The key loops of the attention kernel, by their invariants.

  Before trip `k` of the loop over groups of four key blocks the scratch buffers hold the state of both heads after `4 * k`
  blocks (`Attn.S`): scores in slot 0, accumulators, and the running maxima carried. The loop over pairs of blocks goes
  on from there. The two loops over what is left of a group run no trip.
-/
module

public import proofs.«01_k».proof.Proof.AttnIdealState
public import proofs.«01_k».proof.Proof.Gen.AttnIdeal.Loops
public import Idealize.ShloMosaic.Lib.VecWindow

@[expose] public section

set_option maxRecDepth 16384

noncomputable section

namespace Cert.Proof.AttnIdeal

open Cert.AttnIdeal Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ
abbrev 𝒱₀ : Variants := Variants.none

/-- A buffer held whole at given contents. -/
abbrev held (c : Dev nD) {s : Shape} {e : EltTy} (m : Memref sig .tc .vmem s e) (f : m.view.ty.Contents (Elt F)) : sProp 𝕄 :=
  m.view.loc (c : Thread nD τ) ↦[m.view.set]{fullShare} f

/-! ## A buffer that was stored whole -/

abbrev RS : Rect S256x512 := Rect.unit (s := S256x512) ![0, 0] S256x512.size inb_S256x512_S256x512_0_0
abbrev RA : Rect S144x512 := Rect.unit (s := S144x512) ![0, 0] S144x512.size inb_S144x512_S144x512_0_0

/-- A score buffer after a whole store, whatever was stored before. -/
abbrev putS (m : Memref sig .tc .vmem S256x512 .f32) (p : FVec F S256x512 .f32) : m.view.ty.Contents (Elt F) :=
  m.view.writes (Elt F) m.view.junk [⟨RS, p⟩]
/-- An accumulator after a whole store. -/
abbrev putA (m : Memref sig .tc .vmem S144x512 .f32) (p : FVec F S144x512 .f32) : m.view.ty.Contents (Elt F) :=
  m.view.writes (Elt F) m.view.junk [⟨RA, p⟩]

theorem covS : LoadRect.covChk [RS] (LoadRect.whole S256x512) (.leaf 0) = true := by decide +kernel
theorem covA : LoadRect.covChk [RA] (LoadRect.whole S144x512) (.leaf 0) = true := by decide +kernel

theorem putS_eq {m : Memref sig .tc .vmem S256x512 .f32} (hm : m.IsWhole) (f : m.view.ty.Contents (Elt F)) (p p' : FVec F S256x512 .f32)
    (L : List (View.Piece (Elt F) S256x512 .f32)) (e : p = p') : m.view.writes (Elt F) f (⟨RS, p⟩ :: L) = putS m p' := by
  subst e
  exact Memref.writes_eq_junk_of_covChk (m := m) hm (m.view.writes (Elt F) f L) [⟨RS, p⟩] (.leaf 0) covS
theorem putA_eq {m : Memref sig .tc .vmem S144x512 .f32} (hm : m.IsWhole) (f : m.view.ty.Contents (Elt F)) (p p' : FVec F S144x512 .f32)
    (L : List (View.Piece (Elt F) S144x512 .f32)) (e : p = p') : m.view.writes (Elt F) f (⟨RA, p⟩ :: L) = putA m p' := by
  subst e
  exact Memref.writes_eq_junk_of_covChk (m := m) hm (m.view.writes (Elt F) f L) [⟨RA, p⟩] (.leaf 0) covA
/-! ## What a read returns -/

theorem readFull {s : Shape} {e : EltTy} (m : Memref sig .tc .vmem s e) {o o' : Fin s.rank → ℕ} (h : ∀ a, o a + s.size a ≤ s.size a)
    (h' : ∀ a, o' a + s.size a ≤ s.size a) (p : (Rect.unit o' s.size h').shape.Idx → Elt F e) (L : List (View.Piece (Elt F) s e)) :
    m.view.readCov (⟨Rect.unit o' s.size h', p⟩ :: L) (Rect.unit o s.size h).toLoadRect = p := View.readCov_full m.view h h' p L
theorem readS (m : Memref sig .tc .vmem S256x512 .f32) (h) (h') (p : Vec F S256x512 .f32) (L : List (View.Piece (Elt F) S256x512 .f32)) :
    m.view.readCov (⟨Rect.unit ![0, 0] (no_index S256x512.size) h', p⟩ :: L) (Rect.unit ![0, 0] (no_index S256x512.size) h).toLoadRect = p := readFull m h h' p L
theorem readA (m : Memref sig .tc .vmem S144x512 .f32) (h) (h') (p : Vec F S144x512 .f32) (L : List (View.Piece (Elt F) S144x512 .f32)) :
    m.view.readCov (⟨Rect.unit ![0, 0] (no_index S144x512.size) h', p⟩ :: L) (Rect.unit ![0, 0] (no_index S144x512.size) h).toLoadRect = p := readFull m h h' p L

section Rd
variable {m3 : Memref sig .tc .vmem S1x2x8192x192 .bf16} {f3 : m3.view.ty.Contents (Elt F)} {X3 : Vec F S1x2x8192x192 .bf16}
  {m4 : Memref sig .tc .vmem S1x2x32x144x256 .bf16} {f4 : m4.view.ty.Contents (Elt F)} {X4 : Vec F S1x2x32x144x256 .bf16}

theorem rd3 (e : m3.view.read (Elt F) f3 = X3) (t : Fin k0_t1_loop.trips) (k : Fin (k0_t2_loop t).trips) (w : BitVec 32) (r : ℕ) (hr : r < 4) (hw : w = BitVec.ofNat 32 r) (hh) :
    View.readAt (Elt F) m3.view (Rect.unit (s := S1x2x8192x192) (k0_off3 t k w) S1x1x256x192.size hh).toLoadRect f3 = kT X3 0 (4 * k.val + r + 1) := by
  subst e hw
  exact ld_k _ 0 _ (by have := lt32_2 t k r hr; omega) (off3 t k ⟨r, hr⟩) hh
theorem rd4 (e : m3.view.read (Elt F) f3 = X3) (t : Fin k0_t1_loop.trips) (k : Fin (k0_t2_loop t).trips) (w : BitVec 32) (r : ℕ) (hr : r < 4) (hw : w = BitVec.ofNat 32 r) (hh) :
    View.readAt (Elt F) m3.view (Rect.unit (s := S1x2x8192x192) (k0_off4 t k w) S1x1x256x192.size hh).toLoadRect f3 = kT X3 1 (4 * k.val + r + 1) := by
  subst e hw
  exact ld_k _ 1 _ (by have := lt32_2 t k r hr; omega) (off4 t k ⟨r, hr⟩) hh
theorem rd5 (e : m4.view.read (Elt F) f4 = X4) (t : Fin k0_t1_loop.trips) (k : Fin (k0_t2_loop t).trips) (w : BitVec 32) (r : ℕ) (hr : r < 4) (hw : w = BitVec.ofNat 32 r) (hh) :
    View.readAt (Elt F) m4.view (Rect.unit (s := S1x2x32x144x256) (k0_off5 t k w) S1x1x1x144x256.size hh).toLoadRect f4 = vT X4 0 (4 * k.val + r) := by
  subst e hw
  exact ld_v _ 0 _ (by have := lt32_2 t k r hr; omega) (off5 t k ⟨r, hr⟩) hh
theorem rd6 (e : m4.view.read (Elt F) f4 = X4) (t : Fin k0_t1_loop.trips) (k : Fin (k0_t2_loop t).trips) (w : BitVec 32) (r : ℕ) (hr : r < 4) (hw : w = BitVec.ofNat 32 r) (hh) :
    View.readAt (Elt F) m4.view (Rect.unit (s := S1x2x32x144x256) (k0_off6 t k w) S1x1x1x144x256.size hh).toLoadRect f4 = vT X4 1 (4 * k.val + r) := by
  subst e hw
  exact ld_v _ 1 _ (by have := lt32_2 t k r hr; omega) (off6 t k ⟨r, hr⟩) hh
theorem rd11 (e : m3.view.read (Elt F) f3 = X3) (t : Fin k0_t1_loop.trips) (k : Fin (k0_t4_loop t).trips) (w : BitVec 32) (r : ℕ) (hr : r < 2) (hw : w = BitVec.ofNat 32 r) (hh) :
    View.readAt (Elt F) m3.view (Rect.unit (s := S1x2x8192x192) (k0_off11 t k w) S1x1x256x192.size hh).toLoadRect f3 = kT X3 0 (4 * (k0_t2_loop t).trips + 2 * k.val + r + 1) := by
  subst e hw
  exact ld_k _ 0 _ (by have := lt32_4 t k r hr; omega) (off11 t k ⟨r, hr⟩) hh
theorem rd12 (e : m3.view.read (Elt F) f3 = X3) (t : Fin k0_t1_loop.trips) (k : Fin (k0_t4_loop t).trips) (w : BitVec 32) (r : ℕ) (hr : r < 2) (hw : w = BitVec.ofNat 32 r) (hh) :
    View.readAt (Elt F) m3.view (Rect.unit (s := S1x2x8192x192) (k0_off12 t k w) S1x1x256x192.size hh).toLoadRect f3 = kT X3 1 (4 * (k0_t2_loop t).trips + 2 * k.val + r + 1) := by
  subst e hw
  exact ld_k _ 1 _ (by have := lt32_4 t k r hr; omega) (off12 t k ⟨r, hr⟩) hh
theorem rd13 (e : m4.view.read (Elt F) f4 = X4) (t : Fin k0_t1_loop.trips) (k : Fin (k0_t4_loop t).trips) (w : BitVec 32) (r : ℕ) (hr : r < 2) (hw : w = BitVec.ofNat 32 r) (hh) :
    View.readAt (Elt F) m4.view (Rect.unit (s := S1x2x32x144x256) (k0_off13 t k w) S1x1x1x144x256.size hh).toLoadRect f4 = vT X4 0 (4 * (k0_t2_loop t).trips + 2 * k.val + r) := by
  subst e hw
  exact ld_v _ 0 _ (by have := lt32_4 t k r hr; omega) (off13 t k ⟨r, hr⟩) hh
theorem rd14 (e : m4.view.read (Elt F) f4 = X4) (t : Fin k0_t1_loop.trips) (k : Fin (k0_t4_loop t).trips) (w : BitVec 32) (r : ℕ) (hr : r < 2) (hw : w = BitVec.ofNat 32 r) (hh) :
    View.readAt (Elt F) m4.view (Rect.unit (s := S1x2x32x144x256) (k0_off14 t k w) S1x1x1x144x256.size hh).toLoadRect f4 = vT X4 1 (4 * (k0_t2_loop t).trips + 2 * k.val + r) := by
  subst e hw
  exact ld_v _ 1 _ (by have := lt32_4 t k r hr; omega) (off14 t k ⟨r, hr⟩) hh
end Rd

/-! ## Groups of four blocks -/

section Loops
variable (c : Dev nD) (X2 : Vec F S1x2x16x192x512 .bf16) (X3 : Vec F S1x2x8192x192 .bf16) (X4 : Vec F S1x2x32x144x256 .bf16)
  (i : grid0.Coords) (arg2 : Memref sig .tc .vmem S1x2x16x192x512 .bf16) (harg2 : arg2.IsWhole) (arg3 : Memref sig .tc .vmem S1x2x8192x192 .bf16) (harg3 : arg3.IsWhole) (arg4 : Memref sig .tc .vmem S1x2x32x144x256 .bf16) (harg4 : arg4.IsWhole) (arg5 : Memref sig .tc .vmem S1x8192x256 .bf16) (harg5 : arg5.IsWhole) (arg6 : Memref sig .tc .vmem S256x512 .f32) (harg6 : arg6.IsWhole) (arg7 : Memref sig .tc .vmem S256x512 .f32) (harg7 : arg7.IsWhole) (arg8 : Memref sig .tc .vmem S256x512 .f32) (harg8 : arg8.IsWhole) (arg9 : Memref sig .tc .vmem S256x512 .f32) (harg9 : arg9.IsWhole) (arg10 : Memref sig .tc .vmem S144x512 .f32) (harg10 : arg10.IsWhole) (arg11 : Memref sig .tc .vmem S144x512 .f32) (harg11 : arg11.IsWhole)

/-- What the key loops hold after `n` blocks: the arguments at their contents, slot 0 of the scores, the accumulators, and
    slot 1 at anything. -/
abbrev keyInv (f3 : arg3.view.ty.Contents (Elt F)) (f4 : arg4.view.ty.Contents (Elt F)) (t n : ℕ) (acc : FVec F S1x512 .f32 × FVec F S1x512 .f32)
    (v19 v22 : FVec F S192x512 .bf16) : sProp 𝕄 :=
  iprop(held c arg3 f3 ∗ held c arg4 f4
    ∗ (∃ f, held c arg6 f ∗ ⌜f = putS arg6 (S X2 X3 X4 0 t n).s⌝) ∗ (∃ f, held c arg8 f ∗ ⌜f = putS arg8 (S X2 X3 X4 1 t n).s⌝)
    ∗ (∃ f, held c arg7 f) ∗ (∃ f, held c arg9 f)
    ∗ (∃ f, held c arg10 f ∗ ⌜f = putA arg10 (S X2 X3 X4 0 t n).a⌝) ∗ (∃ f, held c arg11 f ∗ ⌜f = putA arg11 (S X2 X3 X4 1 t n).a⌝)
    ∗ ⌜acc = ((S X2 X3 X4 0 t n).m, (S X2 X3 X4 1 t n).m)⌝ ∗ ⌜v19 = qm X2 0 t⌝ ∗ ⌜v22 = qm X2 1 t⌝
    ∗ ⌜arg3.view.read (Elt F) f3 = X3⌝ ∗ ⌜arg4.view.read (Elt F) f4 = X4⌝)

set_option maxHeartbeats 4000000 in
theorem trip2 (f3 : arg3.view.ty.Contents (Elt F)) (f4 : arg4.view.ty.Contents (Elt F))
    (k0_t1 : Fin k0_t1_loop.trips) (arg12 : BitVec 32) (v19 v22 : FVec F S192x512 .bf16) (v47 : BitVec 32)
    (v48 v49 : FVec F S1x512 .f32) (c0 : BitVec 32) (k : Fin (k0_t2_loop k0_t1).trips) (acc : FVec F S1x512 .f32 × FVec F S1x512 .f32) :
    keyInv c X2 X3 X4 arg3 arg4 arg6 arg7 arg8 arg9 arg10 arg11 f3 f4 k0_t1.val (4 * k.val) acc v19 v22
      ⊢ wp frame (wpE (defs₀ (F := F)) 𝒱₀ (c : Thread nD τ) none) Set.univ
          (k0_t2_body i arg2 harg2 arg3 harg3 arg4 harg4 arg5 harg5 arg6 harg6 arg7 harg7 arg8 harg8 arg9 harg9 arg10 harg10 arg11 harg11 k0_t1 arg12 v19 v22 v47 v48 v49 c0 k acc)
          (fun acc' => keyInv c X2 X3 X4 arg3 arg4 arg6 arg7 arg8 arg9 arg10 arg11 f3 f4 k0_t1.val (4 * (k.val + 1)) acc' v19 v22) := by
  obtain ⟨m0, m1⟩ := acc
  unfold keyInv k0_t2_body
  iintro ⟨H3, H4, ⟨%f6, H6, %e6⟩, ⟨%f8, H8, %e8⟩, ⟨%f7, H7⟩, ⟨%f9, H9⟩, ⟨%f10, H10, %e10⟩, ⟨%f11, H11, %e11⟩, %em, %eq0, %eq1, %e3, %e4⟩
  subst e6 e8 e10 e11
  obtain ⟨rfl, rfl⟩ := Prod.mk.inj em
  subst eq0 eq1
  sl_exec
  sl_unfold_run_names
  sl_step
  simp only [readS, readA, putS_eq harg6 _ _ _ _ rfl, putS_eq harg8 _ _ _ _ rfl, putA_eq harg10 _ _ _ _ rfl, putA_eq harg11 _ _ _ _ rfl,
    rd3 e3 k0_t1 k 0#32 0 (by decide) rfl, rd3 e3 k0_t1 k 1#32 1 (by decide) rfl, rd3 e3 k0_t1 k 2#32 2 (by decide) rfl, rd3 e3 k0_t1 k 3#32 3 (by decide) rfl,
    rd4 e3 k0_t1 k 0#32 0 (by decide) rfl, rd4 e3 k0_t1 k 1#32 1 (by decide) rfl, rd4 e3 k0_t1 k 2#32 2 (by decide) rfl, rd4 e3 k0_t1 k 3#32 3 (by decide) rfl,
    rd5 e4 k0_t1 k 0#32 0 (by decide) rfl, rd5 e4 k0_t1 k 1#32 1 (by decide) rfl, rd5 e4 k0_t1 k 2#32 2 (by decide) rfl, rd5 e4 k0_t1 k 3#32 3 (by decide) rfl,
    rd6 e4 k0_t1 k 0#32 0 (by decide) rfl, rd6 e4 k0_t1 k 1#32 1 (by decide) rfl, rd6 e4 k0_t1 k 2#32 2 (by decide) rfl, rd6 e4 k0_t1 k 3#32 3 (by decide) rfl,
    sc5, sc13, sc14, sc22, sc23, sc28, sc29, mx7, mx15, mx20, mx24, mx26, mx30, mx32, ac21, ac25, ac27, ac31, ac10, ac19, ac95]
  rw [Nat.mul_succ]
  simp only [S_four, S_two, step]
  isplitl [H3]
  · iexact H3
  isplitl [H4]
  · iexact H4
  isplitl [H6]
  · iexists _; isplitl [H6]
    · iexact H6
    · ipureintro; rfl
  isplitl [H8]
  · iexists _; isplitl [H8]
    · iexact H8
    · ipureintro; rfl
  isplitl [H7]
  · iexists _; iexact H7
  isplitl [H9]
  · iexists _; iexact H9
  isplitl [H10]
  · iexists _; isplitl [H10]
    · iexact H10
    · ipureintro
      rfl
  isplitl [H11]
  · iexists _; isplitl [H11]
    · iexact H11
    · ipureintro; rfl
  ipureintro
  exact ⟨trivial, trivial, trivial, e3, e4⟩

/-! ## Pairs of blocks -/

set_option maxHeartbeats 4000000 in
theorem trip4 (f3 : arg3.view.ty.Contents (Elt F)) (f4 : arg4.view.ty.Contents (Elt F))
    (k0_t1 : Fin k0_t1_loop.trips) (arg12 : BitVec 32) (v19 v22 : FVec F S192x512 .bf16) (v47 : BitVec 32)
    (v48 v49 : FVec F S1x512 .f32) (c0 v57 : BitVec 32) (k : Fin (k0_t4_loop k0_t1).trips) (acc : FVec F S1x512 .f32 × FVec F S1x512 .f32) :
    keyInv c X2 X3 X4 arg3 arg4 arg6 arg7 arg8 arg9 arg10 arg11 f3 f4 k0_t1.val (4 * (k0_t2_loop k0_t1).trips + 2 * k.val) acc v19 v22
      ⊢ wp frame (wpE (defs₀ (F := F)) 𝒱₀ (c : Thread nD τ) none) Set.univ
          (k0_t4_body i arg2 harg2 arg3 harg3 arg4 harg4 arg5 harg5 arg6 harg6 arg7 harg7 arg8 harg8 arg9 harg9 arg10 harg10 arg11 harg11 k0_t1 arg12 v19 v22 v47 v48 v49 c0 v57 k acc)
          (fun acc' => keyInv c X2 X3 X4 arg3 arg4 arg6 arg7 arg8 arg9 arg10 arg11 f3 f4 k0_t1.val (4 * (k0_t2_loop k0_t1).trips + 2 * (k.val + 1)) acc' v19 v22) := by
  obtain ⟨m0, m1⟩ := acc
  unfold keyInv k0_t4_body
  iintro ⟨H3, H4, ⟨%f6, H6, %e6⟩, ⟨%f8, H8, %e8⟩, ⟨%f7, H7⟩, ⟨%f9, H9⟩, ⟨%f10, H10, %e10⟩, ⟨%f11, H11, %e11⟩, %em, %eq0, %eq1, %e3, %e4⟩
  subst e6 e8 e10 e11
  obtain ⟨rfl, rfl⟩ := Prod.mk.inj em
  subst eq0 eq1
  sl_exec
  sl_unfold_run_names
  sl_step
  simp only [readS, readA, putS_eq harg6 _ _ _ _ rfl, putS_eq harg8 _ _ _ _ rfl, putA_eq harg10 _ _ _ _ rfl, putA_eq harg11 _ _ _ _ rfl,
    rd11 e3 k0_t1 k 0#32 0 (by decide) rfl, rd11 e3 k0_t1 k 1#32 1 (by decide) rfl,
    rd12 e3 k0_t1 k 0#32 0 (by decide) rfl, rd12 e3 k0_t1 k 1#32 1 (by decide) rfl,
    rd13 e4 k0_t1 k 0#32 0 (by decide) rfl, rd13 e4 k0_t1 k 1#32 1 (by decide) rfl,
    rd14 e4 k0_t1 k 0#32 0 (by decide) rfl, rd14 e4 k0_t1 k 1#32 1 (by decide) rfl,
    sc63, sc64, sc71, sc72, mx65, mx69, mx73, mx98, ac70, ac99, ac68, ac97]
  rw [Nat.mul_succ, ← Nat.add_assoc]
  simp only [S_two, step]
  isplitl [H3]
  · iexact H3
  isplitl [H4]
  · iexact H4
  isplitl [H6]
  · iexists _; isplitl [H6]
    · iexact H6
    · ipureintro; rfl
  isplitl [H8]
  · iexists _; isplitl [H8]
    · iexact H8
    · ipureintro; rfl
  isplitl [H7]
  · iexists _; iexact H7
  isplitl [H9]
  · iexists _; iexact H9
  isplitl [H10]
  · iexists _; isplitl [H10]
    · iexact H10
    · ipureintro
      rfl
  isplitl [H11]
  · iexists _; isplitl [H11]
    · iexact H11
    · ipureintro; rfl
  ipureintro
  exact ⟨trivial, trivial, trivial, e3, e4⟩

/-! ## All the blocks below the diagonal -/

theorem blocks (t : Fin k0_t1_loop.trips) : 4 * (k0_t2_loop t).trips + 2 * (k0_t4_loop t).trips = 2 * t.val := by
  have h2 := trips2 t; have h4 := trips4 t; omega

set_option maxHeartbeats 4000000 in
/-- From the first block's scores and empty accumulators to the state at the diagonal; and what is read ahead there: the
    next query tile of both heads, and head 0's scores of the second diagonal block. -/
theorem part22 (f2 : arg2.view.ty.Contents (Elt F)) (f3 : arg3.view.ty.Contents (Elt F)) (f4 : arg4.view.ty.Contents (Elt F))
    (k0_t1 : Fin k0_t1_loop.trips) (arg12 : BitVec 32) (v19 v22 : FVec F S192x512 .bf16) (v47 : BitVec 32)
    (v48 v49 : FVec F S1x512 .f32) (c0 : BitVec 32) :
    (iprop(held c arg2 f2 ∗ ⌜arg2.view.read (Elt F) f2 = X2⌝
      ∗ keyInv c X2 X3 X4 arg3 arg4 arg6 arg7 arg8 arg9 arg10 arg11 f3 f4 k0_t1.val 0 (v48, v49) v19 v22) : sProp 𝕄)
      ⊢ wp frame (wpE (defs₀ (F := F)) 𝒱₀ (c : Thread nD τ) none) Set.univ
          (k0_part22 i arg2 harg2 arg3 harg3 arg4 harg4 arg5 harg5 arg6 harg6 arg7 harg7 arg8 harg8 arg9 harg9 arg10 harg10 arg11 harg11 k0_t1 arg12 v19 v22 v47 v48 v49 c0)
          (fun r => iprop(held c arg2 f2
            ∗ keyInv c X2 X3 X4 arg3 arg4 arg6 arg7 arg8 arg9 arg10 arg11 f3 f4 k0_t1.val (2 * k0_t1.val) (r.1, r.2.1) v19 v22
            ∗ ⌜r.2.2.1 = qm X2 0 (min (k0_t1.val + 1) 15)⌝ ∗ ⌜r.2.2.2.1 = qm X2 1 (min (k0_t1.val + 1) 15)⌝
            ∗ ⌜k0_pay106 r.2.2.2.2.2.2 = k0_pay6 (qm X2 0 k0_t1.val) (kT X3 0 (2 * k0_t1.val + 1))⌝)) := by
  iintro ⟨H2, %e2, H3, H4, ⟨%f6, H6, %e6⟩, ⟨%f8, H8, %e8⟩, ⟨%f7, H7⟩, ⟨%f9, H9⟩, ⟨%f10, H10, %e10⟩, ⟨%f11, H11, %e11⟩, %em, %eq0, %eq1, %e3, %e4⟩
  have t3 := trips3 k0_t1
  have t5 := trips5 k0_t1
  have ht : k0_t1.val < 16 := lt_of_lt_of_eq k0_t1.isLt trips1
  obtain ⟨rfl, rfl⟩ := Prod.mk.inj em
  clear em
  subst e6 e8 e10 e11 eq0 eq1 e2 e3 e4
  let q0 := qm (arg2.view.read (Elt F) f2) 0 k0_t1.val
  let q1 := qm (arg2.view.read (Elt F) f2) 1 k0_t1.val
  let s0 := S (arg2.view.read (Elt F) f2) (arg3.view.read (Elt F) f3) (arg4.view.read (Elt F) f4) 0 k0_t1.val
  let s1 := S (arg2.view.read (Elt F) f2) (arg3.view.read (Elt F) f3) (arg4.view.read (Elt F) f4) 1 k0_t1.val
  let i2 : LoopInvTy_k0_t2 (F := F) Unit ℕ (UR sig nD τ) ℕ 𝒱₀ c none Set.univ i arg2 harg2 arg3 harg3 arg4 harg4 arg5 harg5 arg6 harg6 arg7 harg7 arg8 harg8 arg9 harg9 arg10 harg10 arg11 harg11 k0_t1 arg12 q0 q1 v47 (s0 0).m (s1 0).m c0 ((s0 0).m, (s1 0).m) :=
    ⟨fun k acc => keyInv c (arg2.view.read (Elt F) f2) (arg3.view.read (Elt F) f3) (arg4.view.read (Elt F) f4) arg3 arg4 arg6 arg7 arg8 arg9 arg10 arg11 f3 f4 k0_t1.val (4 * k) acc q0 q1,
     fun k acc => trip2 c _ _ _ i arg2 harg2 arg3 harg3 arg4 harg4 arg5 harg5 arg6 harg6 arg7 harg7 arg8 harg8 arg9 harg9 arg10 harg10 arg11 harg11 f3 f4 k0_t1 arg12 _ _ v47 _ _ c0 k acc⟩
  sl_exec
  clear i2
  let i4 : LoopInvTy_k0_t4 (F := F) Unit ℕ (UR sig nD τ) ℕ 𝒱₀ c none Set.univ i arg2 harg2 arg3 harg3 arg4 harg4 arg5 harg5 arg6 harg6 arg7 harg7 arg8 harg8 arg9 harg9 arg10 harg10 arg11 harg11 k0_t1 arg12 q0 q1 v47 (s0 0).m (s1 0).m c0 (part22.sl.v57 v47)
      ((s0 (4 * (k0_t2_loop k0_t1).trips)).m, (s1 (4 * (k0_t2_loop k0_t1).trips)).m) :=
    ⟨fun k acc => keyInv c (arg2.view.read (Elt F) f2) (arg3.view.read (Elt F) f3) (arg4.view.read (Elt F) f4) arg3 arg4 arg6 arg7 arg8 arg9 arg10 arg11 f3 f4 k0_t1.val (4 * (k0_t2_loop k0_t1).trips + 2 * k) acc q0 q1,
     fun k acc => trip4 c _ _ _ i arg2 harg2 arg3 harg3 arg4 harg4 arg5 harg5 arg6 harg6 arg7 harg7 arg8 harg8 arg9 harg9 arg10 harg10 arg11 harg11 f3 f4 k0_t1 arg12 _ _ v47 _ _ c0 _ k acc⟩
  sl_exec
  clear i4
  sl_unfold_run_names
  have hb : 4 * (k0_t2_loop k0_t1).trips + 2 * Scf.trips (k0_t4_loop k0_t1).lb (k0_t4_loop k0_t1).ub (k0_t4_loop k0_t1).st = 2 * k0_t1.val := blocks k0_t1
  simp only [hb]
  sl_step
  isplitl [H2]
  · iexact H2
  isplitl [H3 H4 H6 H7 H8 H9 H10 H11]
  · isplitl [H3]
    · iexact H3
    isplitl [H4]
    · iexact H4
    isplitl [H6]
    · iexists _; isplitl [H6]
      · iexact H6
      · ipureintro; rfl
    isplitl [H8]
    · iexists _; isplitl [H8]
      · iexact H8
      · ipureintro; rfl
    isplitl [H7]
    · iexists _; iexact H7
    isplitl [H9]
    · iexists _; iexact H9
    isplitl [H10]
    · iexists _; isplitl [H10]
      · iexact H10
      · ipureintro; rfl
    isplitl [H11]
    · iexists _; isplitl [H11]
      · iexact H11
      · ipureintro; rfl
    ipureintro
    exact ⟨rfl, rfl, rfl, rfl, rfl⟩
  ipureintro
  have h21 : k0_off21 k0_t1 = ![0, (0 : Fin 2).val, 256 * (2 * k0_t1.val + 1), 0] := (k0_off21_eq k0_t1).trans (by
    rw [show 256 * (2 * k0_t1.val + 1) = 512 * k0_t1.val + 256 by omega]; rfl)
  refine ⟨?_, ?_, ?_⟩
  · exact congrArg k0_pay89 (ld_q (arg2.view.read (Elt F) f2) 0 (min (k0_t1.val + 1) 15) (by omega) (k0_off19_eq k0_t1) _)
  · exact congrArg k0_pay89 (ld_q (arg2.view.read (Elt F) f2) 1 (min (k0_t1.val + 1) 15) (by omega) (k0_off20_eq k0_t1) _)
  · exact congrArg (k0_pay6 (qm (arg2.view.read (Elt F) f2) 0 k0_t1.val)) (ld_k (arg3.view.read (Elt F) f3) 0 (2 * k0_t1.val + 1) (by omega) h21 _)

end Loops

end Cert.Proof.AttnIdeal

end
-- ==== Proof.AttnIdealBody.lean ====
/-
  The attention kernel's body: a query tile, the loop over the tiles, and the block of the result that they leave.
-/
module

public import proofs.«01_k».proof.Proof.AttnIdealLoops
public import proofs.«01_k».proof.Proof.Gen.AttnIdeal.Loops
public import Idealize.ShloMosaic.Lib.VecWindow

@[expose] public section

set_option maxRecDepth 16384

noncomputable section

namespace Cert.Proof.AttnIdeal

open Cert.AttnIdeal Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

theorem readN (m : Memref sig .tc .vmem S144x512 .f32) (h) (h') (p : Vec F S144x512 .f32) (L : List (View.Piece (Elt F) S144x512 .f32)) :
    m.view.readCov (⟨Rect.unit ![0, 0] (no_index S144x512.size) h', p⟩ :: L) (Rect.unit (s := S144x512) ![0, 0] (no_index S128x512.size) h).toLoadRect = View.ld p RN :=
  congrArg (View.ld · RN) (View.read_writes_full m.view _ _ p L)
theorem readD (m : Memref sig .tc .vmem S144x512 .f32) (h) (h') (p : Vec F S144x512 .f32) (L : List (View.Piece (Elt F) S144x512 .f32)) :
    m.view.readCov (⟨Rect.unit ![0, 0] (no_index S144x512.size) h', p⟩ :: L) (Rect.unit (s := S144x512) ![128, 0] (no_index S1x512.size) h).toLoadRect = View.ld p RD :=
  congrArg (View.ld · RD) (View.read_writes_full m.view _ _ p L)

/-- The block of the result at row `512 * t + x 1`, column `128 * h + x 2`. -/
theorem outV_at (x2 : Vec F S1x2x16x192x512 .bf16) (x3 : Vec F S1x2x8192x192 .bf16) (x4 : Vec F S1x2x32x144x256 .bf16)
    (h : Fin 2) (t : ℕ) (y : S1x8192x256.Idx) (x : S1x512x128.Idx) (h1 : (y 1).val = 512 * t + (x 1).val) (h2 : (y 2).val = 128 * h.val + (x 2).val) :
    outV x2 x3 x4 y = tileV x2 x3 x4 h t x := by
  have b1 : (x 1).val < 512 := (x 1).isLt
  have b2 : (x 2).val < 128 := (x 2).isLt
  have b0 : (x 0).val < 1 := (x 0).isLt
  have e1 : (y 1).val / 512 = t := by omega
  have e2 : (⟨(y 2).val / 128 % 2, Nat.mod_lt _ (by decide)⟩ : Fin 2) = h := Fin.ext (by show (y 2).val / 128 % 2 = h.val; omega)
  unfold outV
  rw [e1, e2]
  refine congrArg (tileV x2 x3 x4 h t) (funext fun a => Fin.ext ?_)
  match a with
  | ⟨0, _⟩ => show 0 = (x 0).val; omega
  | ⟨1, _⟩ => show (y 1).val % 512 = (x 1).val; omega
  | ⟨2, _⟩ => show (y 2).val % 128 = (x 2).val; omega

/-- Both heads' tiles stored: the rows up to the end of tile `t` are written. -/
theorem out_step (x2 : Vec F S1x2x16x192x512 .bf16) (x3 : Vec F S1x2x8192x192 .bf16) (x4 : Vec F S1x2x32x144x256 .bf16)
    (m : Memref sig .tc .vmem S1x8192x256 .bf16) (f : m.view.ty.Contents (Elt F)) (t : Fin k0_t1_loop.trips) (p0 p1 : FVec F S1x512x128 .bf16) (hh0) (hh1)
    (e0 : p0 = tileV x2 x3 x4 0 t.val) (e1 : p1 = tileV x2 x3 x4 1 t.val)
    (e : ∀ y : S1x8192x256.Idx, (y 1).val < 512 * t.val → m.view.read (Elt F) f y = outV x2 x3 x4 y)
    (y : S1x8192x256.Idx) (hy : (y 1).val < 512 * (t.val + 1)) :
    m.view.read (Elt F) (m.view.writes (Elt F) f [⟨Rect.unit (k0_off26 t) S1x512x128.size hh1, p1⟩, ⟨Rect.unit (k0_off25 t) S1x512x128.size hh0, p0⟩]) y
      = outV x2 x3 x4 y := by
  have b0 : (y 0).val < 1 := (y 0).isLt
  have b2 : (y 2).val < 256 := (y 2).isLt
  by_cases h1 : (y 1).val < 512 * t.val
  · rw [View.read_writes_cons_unit_of_not_mem m.view f hh1 p1 _ y (k0_off26_eq t) 1 (Or.inl h1),
      View.read_writes_cons_unit_of_not_mem m.view f hh0 p0 _ y (k0_off25_eq t) 1 (Or.inl h1)]
    exact e y h1
  by_cases h2 : (y 2).val < 128
  · let x : S1x512x128.Idx := Fin.cons ⟨0, by decide⟩ (Fin.cons ⟨(y 1).val - 512 * t.val, by show _ < 512; omega⟩ (Fin.cons ⟨(y 2).val, h2⟩ finZeroElim))
    have x1 : (x 1).val = (y 1).val - 512 * t.val := rfl
    have x2' : (x 2).val = (y 2).val := rfl
    rw [View.read_writes_cons_unit_of_not_mem m.view f hh1 p1 _ y (k0_off26_eq t) 2 (Or.inl h2),
      View.read_writes_cons_unit_of_mem m.view f hh0 p0 _ y x (k0_off25_eq t) (fun a => by
        match a with
        | ⟨0, _⟩ => show (y 0).val = 0 + 0; omega
        | ⟨1, _⟩ => show (y 1).val = 512 * t.val + ((y 1).val - 512 * t.val); omega
        | ⟨2, _⟩ => show (y 2).val = 0 + (y 2).val; omega), e0]
    exact (outV_at x2 x3 x4 0 t.val y x (by rw [x1]; omega) (by rw [x2']; exact (Nat.zero_add _).symm)).symm
  · let x : S1x512x128.Idx := Fin.cons ⟨0, by decide⟩ (Fin.cons ⟨(y 1).val - 512 * t.val, by show _ < 512; omega⟩ (Fin.cons ⟨(y 2).val - 128, by show _ < 128; omega⟩ finZeroElim))
    have x1 : (x 1).val = (y 1).val - 512 * t.val := rfl
    have x2' : (x 2).val = (y 2).val - 128 := rfl
    rw [View.read_writes_cons_unit_of_mem m.view f hh1 p1 _ y x (k0_off26_eq t) (fun a => by
        match a with
        | ⟨0, _⟩ => show (y 0).val = 0 + 0; omega
        | ⟨1, _⟩ => show (y 1).val = 512 * t.val + ((y 1).val - 512 * t.val); omega
        | ⟨2, _⟩ => show (y 2).val = 128 + ((y 2).val - 128); omega), e1]
    exact (outV_at x2 x3 x4 1 t.val y x (by rw [x1]; omega) (by rw [x2']; show (y 2).val = 128 * 1 + ((y 2).val - 128); omega)).symm

section Body
variable (c : Dev nD) (X2 : Vec F S1x2x16x192x512 .bf16) (X3 : Vec F S1x2x8192x192 .bf16) (X4 : Vec F S1x2x32x144x256 .bf16)
  (i : grid0.Coords) (arg2 : Memref sig .tc .vmem S1x2x16x192x512 .bf16) (harg2 : arg2.IsWhole) (arg3 : Memref sig .tc .vmem S1x2x8192x192 .bf16) (harg3 : arg3.IsWhole) (arg4 : Memref sig .tc .vmem S1x2x32x144x256 .bf16) (harg4 : arg4.IsWhole) (arg5 : Memref sig .tc .vmem S1x8192x256 .bf16) (harg5 : arg5.IsWhole) (arg6 : Memref sig .tc .vmem S256x512 .f32) (harg6 : arg6.IsWhole) (arg7 : Memref sig .tc .vmem S256x512 .f32) (harg7 : arg7.IsWhole) (arg8 : Memref sig .tc .vmem S256x512 .f32) (harg8 : arg8.IsWhole) (arg9 : Memref sig .tc .vmem S256x512 .f32) (harg9 : arg9.IsWhole) (arg10 : Memref sig .tc .vmem S144x512 .f32) (harg10 : arg10.IsWhole) (arg11 : Memref sig .tc .vmem S144x512 .f32) (harg11 : arg11.IsWhole)

/-! ## A query tile -/

/-- Before query tile `t`: the arguments, both heads' scores of tile `t` against the first key block, the other scratch at
    anything, and the block of the result with the rows of the tiles before `t` written. -/
abbrev tileInv (f2 : arg2.view.ty.Contents (Elt F)) (f3 : arg3.view.ty.Contents (Elt F)) (f4 : arg4.view.ty.Contents (Elt F)) (t : ℕ) : sProp 𝕄 :=
  iprop(held c arg2 f2 ∗ held c arg3 f3 ∗ held c arg4 f4
    ∗ (∃ f, held c arg6 f ∗ ⌜f = putS arg6 (k0_pay6 (qm X2 0 (min t 15)) (kT X3 0 0))⌝)
    ∗ (∃ f, held c arg8 f ∗ ⌜f = putS arg8 (k0_pay6 (qm X2 1 (min t 15)) (kT X3 1 0))⌝)
    ∗ (∃ f, held c arg7 f) ∗ (∃ f, held c arg9 f) ∗ (∃ f, held c arg10 f) ∗ (∃ f, held c arg11 f)
    ∗ (∃ f, held c arg5 f ∗ ⌜∀ y : S1x8192x256.Idx, (y 1).val < 512 * t → arg5.view.read (Elt F) f y = outV X2 X3 X4 y⌝)
    ∗ ⌜arg2.view.read (Elt F) f2 = X2⌝ ∗ ⌜arg3.view.read (Elt F) f3 = X3⌝ ∗ ⌜arg4.view.read (Elt F) f4 = X4⌝)

set_option maxHeartbeats 1000000 in
theorem trip1 (f2 : arg2.view.ty.Contents (Elt F)) (f3 : arg3.view.ty.Contents (Elt F)) (f4 : arg4.view.ty.Contents (Elt F))
    (k0_t1 : Fin k0_t1_loop.trips) (acc : Unit) :
    tileInv c X2 X3 X4 arg2 arg3 arg4 arg5 arg6 arg7 arg8 arg9 arg10 arg11 f2 f3 f4 k0_t1.val
      ⊢ wp frame (wpE (defs₀ (F := F)) 𝒱₀ (c : Thread nD τ) none) Set.univ
          (k0_t1_body i arg2 harg2 arg3 harg3 arg4 harg4 arg5 harg5 arg6 harg6 arg7 harg7 arg8 harg8 arg9 harg9 arg10 harg10 arg11 harg11 k0_t1 acc)
          (fun _ => tileInv c X2 X3 X4 arg2 arg3 arg4 arg5 arg6 arg7 arg8 arg9 arg10 arg11 f2 f3 f4 (k0_t1.val + 1)) := by
  unfold k0_t1_body
  iintro ⟨H2, H3, H4, ⟨%f6, H6, %e6⟩, ⟨%f8, H8, %e8⟩, ⟨%f7, H7⟩, ⟨%f9, H9⟩, ⟨%f10, H10⟩, ⟨%f11, H11⟩, ⟨%f5, H5, %e5⟩, %e2, %e3, %e4⟩
  have ht : k0_t1.val < 16 := lt_of_lt_of_eq k0_t1.isLt trips1
  have hmin : min k0_t1.val 15 = k0_t1.val := by omega
  rw [hmin] at e6 e8
  subst e6 e8 e2 e3 e4
  set_option sl_exec.stopBefore "k0_part22" in sl_exec
  rw [wp_bind]
  iapply (wp_wand_r frame (wpE (defs₀ (F := F)) 𝒱₀ (c : Thread nD τ) none) Set.univ)
  isplitl [H2 H3 H4 H6 H7 H8 H9 H10 H11]
  · iapply (part22 c (arg2.view.read (Elt F) f2) (arg3.view.read (Elt F) f3) (arg4.view.read (Elt F) f4) i arg2 harg2 arg3 harg3 arg4 harg4 arg5 harg5 arg6 harg6 arg7 harg7 arg8 harg8 arg9 harg9 arg10 harg10 arg11 harg11 f2 f3 f4 k0_t1)
    isplitl [H2]
    · iexact H2
    isplitl []
    · ipureintro; rfl
    isplitl [H3]
    · iexact H3
    isplitl [H4]
    · iexact H4
    isplitl [H6]
    · iexists _; isplitl [H6]
      · iexact H6
      · ipureintro; rfl
    isplitl [H8]
    · iexists _; isplitl [H8]
      · iexact H8
      · ipureintro; rfl
    isplitl [H7]
    · iexists _; iexact H7
    isplitl [H9]
    · iexists _; iexact H9
    isplitl [H10]
    · iexists _; isplitl [H10]
      · iexact H10
      · ipureintro; exact putA_eq harg10 _ _ _ _ rfl
    isplitl [H11]
    · iexists _; isplitl [H11]
      · iexact H11
      · ipureintro; exact putA_eq harg11 _ _ _ _ rfl
    ipureintro
    refine ⟨rfl, ?_, ?_, rfl, rfl⟩
    · exact congrArg k0_pay89 (ld_q (arg2.view.read (Elt F) f2) 0 k0_t1.val ht (k0_off1_eq k0_t1) _)
    · exact congrArg k0_pay89 (ld_q (arg2.view.read (Elt F) f2) 1 k0_t1.val ht (k0_off2_eq k0_t1) _)
  iintro %r ⟨H2, ⟨H3, H4, ⟨%g6, H6, %e6⟩, ⟨%g8, H8, %e8⟩, ⟨%g7, H7⟩, ⟨%g9, H9⟩, ⟨%g10, H10, %e10⟩, ⟨%g11, H11, %e11⟩, %em, %eq0, %eq1, %_, %_⟩, %er0, %er1, %er2⟩
  obtain ⟨m0, m1, q0, q1, b0, b1, r0⟩ := r
  obtain ⟨rfl, rfl⟩ := Prod.mk.inj em
  rw [eq1]
  clear em eq0 eq1
  subst e6 e8 e10 e11
  dsimp only at er0 er1 er2
  subst er0 er1
  sl_exec
  sl_unfold_run_names
  sl_step
  have r1 : ∀ hh, View.readAt (Elt F) arg2.view (Rect.unit (s := S1x2x16x192x512) (k0_off1 k0_t1) S1x1x1x192x512.size hh).toLoadRect f2 = qT (arg2.view.read (Elt F) f2) 0 k0_t1.val :=
    fun hh => ld_q (arg2.view.read (Elt F) f2) 0 k0_t1.val ht (k0_off1_eq k0_t1) hh
  have r22 : ∀ hh, View.readAt (Elt F) arg3.view (Rect.unit (s := S1x2x8192x192) (k0_off22 k0_t1) S1x1x256x192.size hh).toLoadRect f3 = kT (arg3.view.read (Elt F) f3) 1 (2 * k0_t1.val + 1) :=
    fun hh => ld_k (arg3.view.read (Elt F) f3) 1 (2 * k0_t1.val + 1) (by omega) ((k0_off22_eq k0_t1).trans (by
      rw [show 512 * k0_t1.val + 256 = 256 * (2 * k0_t1.val + 1) by omega]; rfl)) hh
  have r0 : ∀ hh, View.readAt (Elt F) arg3.view (Rect.unit (s := S1x2x8192x192) ![0, 0, 0, 0] S1x1x256x192.size hh).toLoadRect f3 = kT (arg3.view.read (Elt F) f3) 0 0 :=
    fun hh => ld_k (arg3.view.read (Elt F) f3) 0 0 (by omega) rfl hh
  have r0' : ∀ hh, View.readAt (Elt F) arg3.view (Rect.unit (s := S1x2x8192x192) ![0, 1, 0, 0] S1x1x256x192.size hh).toLoadRect f3 = kT (arg3.view.read (Elt F) f3) 1 0 :=
    fun hh => ld_k (arg3.view.read (Elt F) f3) 1 0 (by omega) rfl hh
  have r230 : ∀ hh, View.readAt (Elt F) arg4.view (Rect.unit (s := S1x2x32x144x256) (k0_off23 k0_t1 0#32) S1x1x1x144x256.size hh).toLoadRect f4 = vT (arg4.view.read (Elt F) f4) 0 (2 * k0_t1.val) :=
    fun hh => ld_v (arg4.view.read (Elt F) f4) 0 (2 * k0_t1.val) (by omega) (k0_off23_eq k0_t1 0) hh
  have r231 : ∀ hh, View.readAt (Elt F) arg4.view (Rect.unit (s := S1x2x32x144x256) (k0_off23 k0_t1 1#32) S1x1x1x144x256.size hh).toLoadRect f4 = vT (arg4.view.read (Elt F) f4) 0 (2 * k0_t1.val + 1) :=
    fun hh => ld_v (arg4.view.read (Elt F) f4) 0 (2 * k0_t1.val + 1) (by omega) (k0_off23_eq k0_t1 1) hh
  have r240 : ∀ hh, View.readAt (Elt F) arg4.view (Rect.unit (s := S1x2x32x144x256) (k0_off24 k0_t1 0#32) S1x1x1x144x256.size hh).toLoadRect f4 = vT (arg4.view.read (Elt F) f4) 1 (2 * k0_t1.val) :=
    fun hh => ld_v (arg4.view.read (Elt F) f4) 1 (2 * k0_t1.val) (by omega) (k0_off24_eq k0_t1 0) hh
  have r241 : ∀ hh, View.readAt (Elt F) arg4.view (Rect.unit (s := S1x2x32x144x256) (k0_off24 k0_t1 1#32) S1x1x1x144x256.size hh).toLoadRect f4 = vT (arg4.view.read (Elt F) f4) 1 (2 * k0_t1.val + 1) :=
    fun hh => ld_v (arg4.view.read (Elt F) f4) 1 (2 * k0_t1.val + 1) (by omega) (k0_off24_eq k0_t1 1) hh
  simp only [readS, readA, readN, readD, r22, r0, r0', r230, r231, r240, r241, er2, d109, d110, d118, o3, sc107, sc116, sc117]
  isplitl [H2]
  · iexact H2
  isplitl [H3]
  · iexact H3
  isplitl [H4]
  · iexact H4
  isplitl [H6]
  · iexists _; isplitl [H6]
    · iexact H6
    · ipureintro; exact putS_eq harg6 _ _ _ _ rfl
  isplitl [H8]
  · iexists _; isplitl [H8]
    · iexact H8
    · ipureintro; exact putS_eq harg8 _ _ _ _ rfl
  isplitl [H7]
  · iexists _; iexact H7
  isplitl [H9]
  · iexists _; iexact H9
  isplitl [H10]
  · iexists _; iexact H10
  isplitl [H11]
  · iexists _; iexact H11
  isplitl [H5]
  · iexists _; isplitl [H5]
    · iexact H5
    · ipureintro
      exact fun y hy => out_step (arg2.view.read (Elt F) f2) (arg3.view.read (Elt F) f3) (arg4.view.read (Elt F) f4) arg5 f5 k0_t1 _ _ _ _ (by unfold tileV fin; rfl) (by unfold tileV fin; rfl) e5 y hy
  ipureintro
  exact ⟨rfl, rfl, rfl⟩

set_option maxHeartbeats 1000000 in
/-- What the body does at a grid point: it leaves its arguments, and its block of the result is `outV` of them. -/
theorem body_run :
    (iprop((∃ f, held c arg2 f ∗ ⌜arg2.view.read (Elt F) f = X2⌝) ∗ (∃ f, held c arg3 f ∗ ⌜arg3.view.read (Elt F) f = X3⌝)
      ∗ (∃ f, held c arg4 f ∗ ⌜arg4.view.read (Elt F) f = X4⌝) ∗ (∃ f, held c arg5 f)
      ∗ (∃ f, held c arg6 f) ∗ (∃ f, held c arg7 f) ∗ (∃ f, held c arg8 f) ∗ (∃ f, held c arg9 f) ∗ (∃ f, held c arg10 f) ∗ (∃ f, held c arg11 f)) : sProp 𝕄)
      ⊢ wp frame (wpE (defs₀ (F := F)) 𝒱₀ (c : Thread nD τ) none) Set.univ
          (cc0_mla_attention (F := F) i arg2 harg2 arg3 harg3 arg4 harg4 arg5 harg5 arg6 harg6 arg7 harg7 arg8 harg8 arg9 harg9 arg10 harg10 arg11 harg11)
          (fun _ => iprop((∃ f, held c arg2 f ∗ ⌜arg2.view.read (Elt F) f = X2⌝) ∗ (∃ f, held c arg3 f ∗ ⌜arg3.view.read (Elt F) f = X3⌝)
      ∗ (∃ f, held c arg4 f ∗ ⌜arg4.view.read (Elt F) f = X4⌝) ∗ (∃ f, held c arg5 f ∗ ⌜arg5.view.read (Elt F) f = outV X2 X3 X4⌝)
      ∗ (∃ f, held c arg6 f) ∗ (∃ f, held c arg7 f) ∗ (∃ f, held c arg8 f) ∗ (∃ f, held c arg9 f) ∗ (∃ f, held c arg10 f) ∗ (∃ f, held c arg11 f))) := by
  simp only [cc0_mla_attention_eq_skeleton]
  unfold cc0_mla_attention_skel
  iintro ⟨⟨%f2, H2, %e2⟩, ⟨%f3, H3, %e3⟩, ⟨%f4, H4, %e4⟩, ⟨%f5, H5⟩, ⟨%f6, H6⟩, ⟨%f7, H7⟩, ⟨%f8, H8⟩, ⟨%f9, H9⟩, ⟨%f10, H10⟩, ⟨%f11, H11⟩⟩
  subst e2 e3 e4
  let i1 : LoopInvTy_k0_t1 (F := F) Unit ℕ (UR sig nD τ) ℕ 𝒱₀ c none Set.univ i arg2 harg2 arg3 harg3 arg4 harg4 arg5 harg5 arg6 harg6 arg7 harg7 arg8 harg8 arg9 harg9 arg10 harg10 arg11 harg11 :=
    ⟨fun k acc => tileInv c (arg2.view.read (Elt F) f2) (arg3.view.read (Elt F) f3) (arg4.view.read (Elt F) f4) arg2 arg3 arg4 arg5 arg6 arg7 arg8 arg9 arg10 arg11 f2 f3 f4 k,
     fun k acc => trip1 c _ _ _ i arg2 harg2 arg3 harg3 arg4 harg4 arg5 harg5 arg6 harg6 arg7 harg7 arg8 harg8 arg9 harg9 arg10 harg10 arg11 harg11 f2 f3 f4 k acc⟩
  sl_exec
  clear i1
  sl_step
  isplitl [H2]
  · iexists _; isplitl [H2]
    · iexact H2
    · ipureintro; rfl
  isplitl [H3]
  · iexists _; isplitl [H3]
    · iexact H3
    · ipureintro; rfl
  isplitl [H4]
  · iexists _; isplitl [H4]
    · iexact H4
    · ipureintro; rfl
  isplitl [H5]
  · iexists _; isplitl [H5]
    · iexact H5
    · ipureintro
      funext y
      refine hL12 y ?_
      rw [show Scf.trips k0_t1_loop.lb k0_t1_loop.ub k0_t1_loop.st = 16 from trips1]
      exact (y 1).isLt
  isplitl [H6]
  · iexists _; iexact H6
  isplitl [H7]
  · iexists _; iexact H7
  isplitl [H8]
  · iexists _; iexact H8
  isplitl [H9]
  · iexists _; iexact H9
  isplitl [H10]
  · iexists _; iexact H10
  iexists _; iexact H11

end Body

end Cert.Proof.AttnIdeal

end
-- ==== Proof.AttnIdealFrame.lean ====
/-
  The attention kernel's launch: the proof data of its pipeline, the run, and its frame.
-/
module

public import proofs.«01_k».proof.Proof.AttnIdealBody
public import proofs.«01_k».proof.Proof.Gen.AttnIdeal.Points
public import Idealize.ShloMosaic.Lib.Pipeline.FrameBody
public import Idealize.ShloMosaic.Lib.Claim
public import proofs.«01_k».proof.Proof.Gen.AttnIdeal.Loops
public import Idealize.ShloMosaic.Lib.VecWindow

@[expose] public section

set_option maxRecDepth 16384

noncomputable section

namespace Cert.Proof.AttnIdeal

open Cert.AttnIdeal Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- `body_run`, over the buffers as owned at what a read of them returns. -/
theorem sound_kernel (c : Dev nD) (X2 : Vec F S1x2x16x192x512 .bf16) (X3 : Vec F S1x2x8192x192 .bf16) (X4 : Vec F S1x2x32x144x256 .bf16)
    (i : grid0.Coords) (arg2 : Memref sig .tc .vmem S1x2x16x192x512 .bf16) (harg2 : arg2.IsWhole) (arg3 : Memref sig .tc .vmem S1x2x8192x192 .bf16) (harg3 : arg3.IsWhole) (arg4 : Memref sig .tc .vmem S1x2x32x144x256 .bf16) (harg4 : arg4.IsWhole) (arg5 : Memref sig .tc .vmem S1x8192x256 .bf16) (harg5 : arg5.IsWhole) (arg6 : Memref sig .tc .vmem S256x512 .f32) (harg6 : arg6.IsWhole) (arg7 : Memref sig .tc .vmem S256x512 .f32) (harg7 : arg7.IsWhole) (arg8 : Memref sig .tc .vmem S256x512 .f32) (harg8 : arg8.IsWhole) (arg9 : Memref sig .tc .vmem S256x512 .f32) (harg9 : arg9.IsWhole) (arg10 : Memref sig .tc .vmem S144x512 .f32) (harg10 : arg10.IsWhole) (arg11 : Memref sig .tc .vmem S144x512 .f32) (harg11 : arg11.IsWhole) (K : PUnit → sProp 𝕄) :
    iprop(owns (c : Thread nD τ) arg2 fullShare X2 ∗ owns (c : Thread nD τ) arg3 fullShare X3 ∗ owns (c : Thread nD τ) arg4 fullShare X4
        ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg2 fullShare X2 ∗ owns (c : Thread nD τ) arg3 fullShare X3 ∗ owns (c : Thread nD τ) arg4 fullShare X4
            ∗ owns (c : Thread nD τ) arg5 fullShare (outV X2 X3 X4) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)) -∗ K ⟨⟩))
      ⊢ wp frame (wpE (defs₀ (F := F)) Variants.none c none) Set.univ (cc0_mla_attention (F := F) i arg2 harg2 arg3 harg3 arg4 harg4 arg5 harg5 arg6 harg6 arg7 harg7 arg8 harg8 arg9 harg9 arg10 harg10 arg11 harg11) K := by
  unfold owns
  iintro ⟨⟨%f2, %e2, H2⟩, ⟨%f3, %e3, H3⟩, ⟨%f4, %e4, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, Hk⟩
  iapply (wp_wand_r frame (wpE (defs₀ (F := F)) 𝒱₀ (c : Thread nD τ) none) Set.univ)
  isplitr [Hk]
  · iapply (body_run c X2 X3 X4 i arg2 harg2 arg3 harg3 arg4 harg4 arg5 harg5 arg6 harg6 arg7 harg7 arg8 harg8 arg9 harg9 arg10 harg10 arg11 harg11)
    isplitl [H2]
    · iexists f2; isplitl [H2]
      · iexact H2
      · ipureintro; exact e2
    isplitl [H3]
    · iexists f3; isplitl [H3]
      · iexact H3
      · ipureintro; exact e3
    isplitl [H4]
    · iexists f4; isplitl [H4]
      · iexact H4
      · ipureintro; exact e4
    isplitl [H5]
    · iexists f5; iexact H5
    isplitl [H6]
    · iexists f6; iexact H6
    isplitl [H7]
    · iexists f7; iexact H7
    isplitl [H8]
    · iexists f8; iexact H8
    isplitl [H9]
    · iexists f9; iexact H9
    isplitl [H10]
    · iexists f10; iexact H10
    iexists f11; iexact H11
  iintro %r ⟨⟨%g2, H2, %h2⟩, ⟨%g3, H3, %h3⟩, ⟨%g4, H4, %h4⟩, ⟨%g5, H5, %h5⟩, ⟨%g6, H6⟩, ⟨%g7, H7⟩, ⟨%g8, H8⟩, ⟨%g9, H9⟩, ⟨%g10, H10⟩, ⟨%g11, H11⟩⟩
  iapply Hk
  isplitl [H2]
  · iexists g2; isplitr
    · ipureintro; exact h2
    · iexact H2
  isplitl [H3]
  · iexists g3; isplitr
    · ipureintro; exact h3
    · iexact H3
  isplitl [H4]
  · iexists g4; isplitr
    · ipureintro; exact h4
    · iexact H4
  isplitl [H5]
  · iexists g5; isplitr
    · ipureintro; exact h5
    · iexact H5
  isplitl [H6]
  · iexists _; iexists g6; isplitr
    · ipureintro; rfl
    · iexact H6
  isplitl [H7]
  · iexists _; iexists g7; isplitr
    · ipureintro; rfl
    · iexact H7
  isplitl [H8]
  · iexists _; iexists g8; isplitr
    · ipureintro; rfl
    · iexact H8
  isplitl [H9]
  · iexists _; iexists g9; isplitr
    · ipureintro; rfl
    · iexact H9
  isplitl [H10]
  · iexists _; iexists g10; isplitr
    · ipureintro; rfl
    · iexact H10
  iexists _; iexists g11; isplitr
  · ipureintro; rfl
  · iexact H11

/-! ## The launch -/

variable (m : (ℓ : Loc nD τ sig) → Buf (Elt F) ℓ) (ρ : Dev nD → PrngReg)

/-- The region's invariant: the scratch buffers at anything, and the generator's register. -/
theorem PhiA_eq (c : Dev nD) :
    (Pipeline.ΦA spec0 c : sProp 𝕄)
      = iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d)) ∗ (∃ r, prngReg c r)) := by
  unfold Pipeline.ΦA; rw [scopedRest0_eq]; simp only [owns_whole]; try rfl

/-- The pipeline's proof data: each input's staging buffer at its block, the output's at `outV` of the blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outV (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = outV (iblk m c 0 t) (iblk m c 1 t) (iblk m c 2 t) := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))
/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  rw [show (dats m 0 c).Φ t.castSucc = Pipeline.ΦA spec0 c from rfl, PhiA_eq]
  iintro ⟨⟨⟨HS6, HS7, HS8, HS9, HS10, HS11⟩, Hr⟩, Ho, ⟨%d0, H0⟩, ⟨%d1, H1⟩, ⟨%d2, H2⟩, ⟨%d3, H3⟩⟩
  iapply (sound_kernel c (iblk m c 0 t) (iblk m c 1 t) (iblk m c 2 t) (grid0.coords t) _ _ _ _ _ _ _ _ _ _ _ _ _ _ _ _ _ _ _ _ _)
  isplitl [H0]; · iexact H0
  isplitl [H1]; · iexact H1
  isplitl [H2]; · iexact H2
  isplitl [H3]; · iexists _; iexact H3
  isplitl [HS6]; · iexact HS6
  isplitl [HS7]; · iexact HS7
  isplitl [HS8]; · iexact HS8
  isplitl [HS9]; · iexact HS9
  isplitl [HS10]; · iexact HS10
  isplitl [HS11]; · iexact HS11
  iintro ⟨H0, H1, H2, H3, HS6, HS7, HS8, HS9, HS10, HS11⟩
  isplitl [HS6 HS7 HS8 HS9 HS10 HS11 Hr]
  · isplitr [Hr]
    · isplitl [HS6]; · iexact HS6
      isplitl [HS7]; · iexact HS7
      isplitl [HS8]; · iexact HS8
      isplitl [HS9]; · iexact HS9
      isplitl [HS10]; · iexact HS10
      iexact HS11
    · iexact Hr
  isplitl [Ho]; · iexact Ho
  isplitl [H0]; · iexact H0
  isplitl [H1]; · iexact H1
  isplitl [H2]; · iexact H2
  iexact H3

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 800000 in
/-- The launch: it terminates, with the pipeline's arrays at what the proof data says, and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The frame: it terminates without fault, leaves its arguments, and every counter at zero. -/
theorem frame_claim : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  θ_run_and (frame_of m ρ (dats m) (A_eq m) (run_main m ρ)) ((θ_run defs _ _).mono (fun _ h => h.2) (run_main_quiescent m ρ))

end Cert.Proof.AttnIdeal

end
-- ==== Proof.Online.lean ====
/-
  The softmax kept block by block, over the extended reals.

  `top σ n` is the maximum of the first `n` scores and `acc σ v n` the sum of the first `n` values, each weighted by 2 to
  its score less that maximum. A score is a real number or −∞ (a masked key), the first one a real. `top_add` and
  `acc_add` say what one more block of keys does to both; `acc_masked` that masked keys at the end change nothing;
  `acc_div` that the quotient of two such sums is the sum of the values weighted by the softmax of the scores, in base e
  with the scores times the logarithm of 2.
-/
module

public import Idealize.ShloMosaic.PureOps.Ideal.Laws

@[expose] public section

noncomputable section

namespace Cert.Proof.Online

open Idealize.ShloMosaic

/-! ## Powers of 2 of extended reals -/

theorem real_of {x : EReal} (h : x ≠ ⊤) (h' : x ≠ ⊥) : ∃ r : ℝ, x = (r : EReal) :=
  ⟨x.toReal, (EReal.coe_toReal h h').symm⟩

/-- 2 to a score less a real, a nonnegative real. -/
def pw (x : EReal) (M : ℝ) : ℝ := if x = ⊥ then 0 else Real.rpow 2 (x.toReal - M)

theorem pw_nonneg (x : EReal) (M : ℝ) : 0 ≤ pw x M := by
  unfold pw; split
  · exact le_rfl
  · exact Real.rpow_nonneg (by norm_num) _
theorem pw_pos {x : EReal} (h : x ≠ ⊥) (M : ℝ) : 0 < pw x M := by
  unfold pw; rw [if_neg h]; exact Real.rpow_pos_of_pos (by norm_num) _

theorem exp2_sub {x : EReal} (hx : x ≠ ⊤) (M : ℝ) : Ideal.exp2 (x - (M : EReal)) = (pw x M : EReal) := by
  unfold pw
  by_cases h : x = ⊥
  · subst h; rw [if_pos rfl, EReal.bot_sub, Ideal.exp2_bot]; rfl
  · obtain ⟨r, rfl⟩ := real_of hx h
    rw [if_neg h, ← EReal.coe_sub, Ideal.exp2_coe, EReal.toReal_coe]

theorem pw_mul (x : EReal) (M M' : ℝ) : pw (M : EReal) M' * pw x M = pw x M' := by
  unfold pw
  rw [if_neg (EReal.coe_ne_bot M), EReal.toReal_coe]
  by_cases h : x = ⊥
  · rw [if_pos h, if_pos h, mul_zero]
  · rw [if_neg h, if_neg h]
    show (2 : ℝ) ^ (M - M') * (2 : ℝ) ^ (x.toReal - M) = (2 : ℝ) ^ (x.toReal - M')
    rw [← Real.rpow_add (by norm_num)]; congr 1; ring

/-- Base e, the score and the maximum times the logarithm of 2. -/
theorem exp_sub {x : EReal} (hx : x ≠ ⊤) (M : ℝ) :
    Ideal.exp (x * (Real.log 2 : ℝ) - (M : EReal) * (Real.log 2 : ℝ)) = (pw x M : EReal) := by
  unfold pw
  by_cases h : x = ⊥
  · subst h
    rw [if_pos rfl, EReal.bot_mul_coe_of_pos (Real.log_pos (by norm_num)), ← EReal.coe_mul, EReal.bot_sub, Ideal.exp_bot]; rfl
  · obtain ⟨r, rfl⟩ := real_of hx h
    rw [if_neg h, ← EReal.coe_mul, ← EReal.coe_mul, ← EReal.coe_sub, Ideal.exp_coe, EReal.toReal_coe]
    congr 1
    show Real.exp _ = (2 : ℝ) ^ (r - M)
    rw [Real.rpow_def_of_pos (by norm_num)]; congr 1; ring

/-! ## A nonnegative real distributes over a sum -/

theorem coe_mul_sum {ι : Type} (s : Finset ι) (c : ℝ) (hc : 0 ≤ c) (f : ι → EReal) :
    (c : EReal) * ∑ i ∈ s, f i = ∑ i ∈ s, (c : EReal) * f i := by
  classical
  induction s using Finset.induction_on with
  | empty => simp
  | insert a s ha ih =>
    rw [Finset.sum_insert ha, Finset.sum_insert ha, ← ih]
    exact EReal.left_distrib_of_nonneg_of_ne_top (EReal.coe_nonneg.2 hc) (EReal.coe_ne_top c) _ _

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-! ## The running maximum and the running sum -/

/-- The maximum of the first `n` scores, −∞ of none. -/
def top (σ : ℕ → EReal) (n : ℕ) : EReal := (Finset.range n).sup σ

/-- The first `n` values, each times 2 to its score less the maximum. -/
def acc (σ : ℕ → EReal) (v : ℕ → EReal) (n : ℕ) : EReal :=
  ∑ j ∈ Finset.range n, v j * Ideal.exp2 (σ j - top σ n)

variable {σ : ℕ → EReal}

theorem top_zero : top σ 0 = ⊥ := by simp [top]
theorem acc_zero (v : ℕ → EReal) : acc σ v 0 = 0 := by simp [acc]

theorem range_image (n b : ℕ) : Finset.range (n + b) = Finset.range n ∪ Finset.univ.image (fun r : Fin b => n + r.val) := by
  ext j
  simp only [Finset.mem_range, Finset.mem_union, Finset.mem_image, Finset.mem_univ, true_and]
  constructor
  · intro h
    by_cases h' : j < n
    · exact .inl h'
    · exact .inr ⟨⟨j - n, by omega⟩, by show n + (j - n) = j; omega⟩
  · rintro (h | ⟨r, rfl⟩)
    · omega
    · have := r.isLt; omega

theorem top_add (n b : ℕ) : max (top σ n) (Finset.univ.sup fun r : Fin b => σ (n + r.val)) = top σ (n + b) := by
  unfold top
  rw [range_image, Finset.sup_union, Finset.sup_image]; rfl

theorem sum_add (f : ℕ → EReal) (n b : ℕ) :
    ∑ j ∈ Finset.range (n + b), f j = ∑ j ∈ Finset.range n, f j + ∑ r : Fin b, f (n + r.val) := by
  rw [Finset.sum_range_add]
  exact congrArg _ (Finset.sum_range fun x => f (n + x))

theorem top_real (hσ : ∀ j, σ j ≠ ⊤) (h0 : σ 0 ≠ ⊥) {n : ℕ} (hn : 0 < n) : ∃ M : ℝ, top σ n = (M : EReal) := by
  refine real_of ?_ ?_
  · unfold top
    exact ((Finset.sup_lt_iff (bot_lt_top)).2 fun j _ => lt_top_iff_ne_top.2 (hσ j)).ne
  · have h : σ 0 ≤ top σ n := Finset.le_sup (f := σ) (Finset.mem_range.2 hn)
    exact fun e => h0 (le_bot_iff.1 (e ▸ h))

/-- One more block of `b` keys. -/
theorem acc_add (hσ : ∀ j, σ j ≠ ⊤) (h0 : σ 0 ≠ ⊥) (v : ℕ → EReal) (n b : ℕ) (hb : 0 < b) :
    Ideal.exp2 (top σ n - top σ (n + b)) * acc σ v n
      + ∑ r : Fin b, v (n + r.val) * Ideal.exp2 (σ (n + r.val) - top σ (n + b)) = acc σ v (n + b) := by
  obtain ⟨M', hM'⟩ := top_real hσ h0 (n := n + b) (by omega)
  conv_rhs => unfold acc
  rw [sum_add]
  refine congrArg₂ (· + ·) ?_ rfl
  rcases Nat.eq_zero_or_pos n with rfl | hn
  · rw [acc_zero, mul_zero, Finset.range_zero, Finset.sum_empty]
  · obtain ⟨M, hM⟩ := top_real hσ h0 hn
    unfold acc
    rw [hM, hM', exp2_sub (EReal.coe_ne_top M), coe_mul_sum _ _ (pw_nonneg _ _)]
    refine Finset.sum_congr rfl fun j _ => ?_
    rw [exp2_sub (hσ j), exp2_sub (hσ j), mul_left_comm, ← EReal.coe_mul, pw_mul]

theorem top_masked (n N : ℕ) (h : n ≤ N) (hm : ∀ j, n ≤ j → σ j = ⊥) : top σ N = top σ n := by
  refine le_antisymm (Finset.sup_le fun j _ => ?_) (Finset.sup_mono fun j hj => ?_)
  · by_cases h' : n ≤ j
    · rw [hm j h']; exact bot_le
    · exact Finset.le_sup (f := σ) (Finset.mem_range.2 (by omega))
  · rw [Finset.mem_range] at hj ⊢; omega

/-- Masked keys at the end change nothing. -/
theorem acc_masked (hσ : ∀ j, σ j ≠ ⊤) (h0 : σ 0 ≠ ⊥) (v : ℕ → EReal) (n N : ℕ) (hn : 0 < n) (h : n ≤ N)
    (hm : ∀ j, n ≤ j → σ j = ⊥) : acc σ v N = acc σ v n := by
  unfold acc
  rw [top_masked n N h hm]
  obtain ⟨M, hM⟩ := top_real hσ h0 hn
  symm
  refine Finset.sum_subset (fun j hj => ?_) fun j _ hj => ?_
  · rw [Finset.mem_range] at hj ⊢; omega
  · rw [hm j (by rw [Finset.mem_range] at hj; omega), hM, EReal.bot_sub, Ideal.exp2_bot, mul_zero]

/-! ## The quotient -/

theorem top_mul (L : ℝ) (hL : 0 < L) (n : ℕ) : top (fun j => σ j * (L : EReal)) n = top σ n * (L : EReal) := by
  have hm : Monotone fun x : EReal => x * (L : EReal) := fun a b h =>
    mul_le_mul_of_nonneg_right h (EReal.coe_nonneg.2 hL.le)
  unfold top
  exact (Finset.comp_sup_eq_sup_comp_of_is_total (fun x : EReal => x * (L : EReal)) hm
    (EReal.bot_mul_coe_of_pos hL)).symm

/-- The sum of the values weighted by the softmax of the scores, the scores times the logarithm of 2 in base e. -/
theorem acc_div (hσ : ∀ j, σ j ≠ ⊤) (h0 : σ 0 ≠ ⊥) (v : ℕ → EReal) (N : ℕ) (hN : 0 < N) :
    Ideal.div (acc σ v N) (acc σ (fun _ => 1) N)
      = ∑ k : Fin N, v k.val * Ideal.div
          (Ideal.exp (σ k.val * (Real.log 2 : ℝ) - top (fun j => σ j * (Real.log 2 : ℝ)) N))
          (∑ l : Fin N, Ideal.exp (σ l.val * (Real.log 2 : ℝ) - top (fun j => σ j * (Real.log 2 : ℝ)) N)) := by
  obtain ⟨M, hM⟩ := top_real hσ h0 hN
  have hD : acc σ (fun _ => 1) N = ((∑ j ∈ Finset.range N, pw (σ j) M : ℝ) : EReal) := by
    unfold acc
    rw [coe_sum]
    exact Finset.sum_congr rfl fun j _ => by rw [one_mul, hM, exp2_sub (hσ j)]
  have hpos : 0 < ∑ j ∈ Finset.range N, pw (σ j) M :=
    Finset.sum_pos' (fun j _ => pw_nonneg _ _) ⟨0, Finset.mem_range.2 hN, pw_pos h0 M⟩
  rw [top_mul _ (Real.log_pos (by norm_num)), hM]
  simp only [fun j : ℕ => exp_sub (hσ j) M]
  have hD' : (∑ x : Fin N, ((pw (σ x.val) M : ℝ) : EReal)) = ((∑ j ∈ Finset.range N, pw (σ j) M : ℝ) : EReal) := by
    rw [coe_sum, Finset.sum_range]
  rw [hD', hD, Ideal.div_coe hpos.ne', mul_comm]
  unfold acc
  rw [coe_mul_sum _ _ (by positivity), Finset.sum_range]
  refine Finset.sum_congr rfl fun j _ => ?_
  rw [Ideal.div_coe hpos.ne', hM, exp2_sub (hσ _), mul_comm, mul_assoc]

end Cert.Proof.Online

end
-- ==== Proof.AttnIdealPure.lean ====
/-
  What the operations of one block compute over the extended reals, entry by entry.

  A column of a tile is one query. `sc q kb r j` is the score of key `r` of a block for query `j`; `k0_pay11`, `k0_pay113`
  are the running maximum after a block, `k0_pay12`, `k0_pay114`, `k0_pay120` the accumulator after a block below the
  diagonal and after each of the two blocks on it, where a key after the query counts as −∞; `k0_pay4` is the quotient,
  transposed.
-/
module

public import proofs.«01_k».proof.Proof.AttnIdealState
public import Idealize.ShloMosaic.Lib.Pointwise
public import Idealize.ShloMosaic.Lib.WordCmp
public import proofs.«01_k».proof.Proof.Online

@[expose] public section

set_option maxRecDepth 16384

noncomputable section

namespace Cert.Proof.AttnIdeal

open Cert.AttnIdeal Cert.AttnIdeal.Gen
open Idealize.ShloMosaic Idealize.ShloMosaic.TcCoe Idealize.ShloMosaic.Tactic

theorem neg_inf : Ideal.ofBits .f32 0xFF800000#32 = ⊥ := by
  simp [Ideal.ofBits, Ideal.ieee]

/-- A key after the query is −∞, the comparison of two numbers of rows read as one of naturals. -/
theorem select_le (a b : ℕ) (ha : a < 10000) (hb : b < 10000) (x : EReal) :
    Scalar.select (IntOp.cmpi .sle (BitVec.ofNat 32 a) (BitVec.ofNat 32 b)) x (Ideal.ofBits .f32 0xFF800000#32)
      = if a ≤ b then x else ⊥ := by
  rw [neg_inf]
  by_cases h : a ≤ b
  · rw [if_pos h, (WordCmp.cmpi_sle_ofNat_eq_one_iff (w := 32) (by omega) (by omega)).2 h]; rfl
  · rw [if_neg h, (WordCmp.cmpi_sle_ofNat_eq_zero_iff (w := 32) (by omega) (by omega)).2 h]; rfl

theorem pay6_at (q : FVec Ideal S192x512 .bf16) (kb : Vec Ideal S1x1x256x192 .bf16) (r : Fin 256) (j : Fin 512) :
    k0_pay6 (F := Ideal) q kb (ix2 r j) = ∑ d : Fin 192, kb (ix4 0 0 r d) * q (ix2 d j) := by
  pointwise [k0_pay6]

theorem pay11_at (m : FVec Ideal S1x512 .f32) (s : FVec Ideal S256x512 .f32) (j : Fin 512) :
    k0_pay11 (F := Ideal) m s (ix2 0 j) = max (m (ix2 0 j)) (Finset.univ.sup fun r : Fin 256 => s (ix2 r j)) := by
  pointwise [k0_pay11]
  rw [neg_inf]; rfl

theorem pay12_at (m : FVec Ideal S1x512 .f32) (s : FVec Ideal S256x512 .f32) (a : FVec Ideal S144x512 .f32)
    (v : Vec Ideal S1x1x1x144x256 .bf16) (d : Fin 144) (j : Fin 512) :
    k0_pay12 (F := Ideal) m s a v (ix2 d j) =
      Ideal.exp2 (m (ix2 0 j) - k0_pay11 (F := Ideal) m s (ix2 0 j)) * a (ix2 d j)
        + ∑ r : Fin 256, v (ix5 0 0 0 d r) * Ideal.exp2 (s (ix2 r j) - k0_pay11 (F := Ideal) m s (ix2 0 j)) := by
  pointwise [k0_pay12]
  rfl

theorem pay112_at (s : FVec Ideal S256x512 .f32) (r : Fin 256) (j : Fin 512) :
    k0_pay112 (F := Ideal) s (ix2 r j) = if r.val ≤ j.val then s (ix2 r j) else ⊥ := by
  pointwise [k0_pay112]
  have e : IntOp.addi (BitVec.ofNat 32 r.val) 0#32 = BitVec.ofNat 32 r.val := BitVec.add_zero _
  rw [e]
  exact select_le r.val j.val (by omega) (by omega) _

theorem pay113_eq (m : FVec Ideal S1x512 .f32) (s : FVec Ideal S256x512 .f32) :
    k0_pay113 (F := Ideal) m s = k0_pay11 (F := Ideal) m (k0_pay112 (F := Ideal) s) := rfl
theorem pay114_eq (m : FVec Ideal S1x512 .f32) (s : FVec Ideal S256x512 .f32) (a : FVec Ideal S144x512 .f32)
    (v : Vec Ideal S1x1x1x144x256 .bf16) :
    k0_pay114 (F := Ideal) m s a v = k0_pay12 (F := Ideal) m (k0_pay112 (F := Ideal) s) a v := rfl

/-- The second block on the diagonal: its keys are 256 after those of the first. -/
def mask2 (s : FVec Ideal S256x512 .f32) : FVec Ideal S256x512 .f32 :=
  select (cmpi .sle (addi (iota .tc S256x512 32 [0] iota_S256x512_d0_w32) (broadcast S256x512 256#32)) (iota .tc S256x512 32 [1] iota_S256x512_d1_w32)) s
    (broadcast S256x512 (Scalar.ofBits .f32 0xFF800000#32))
theorem mask2_at (s : FVec Ideal S256x512 .f32) (r : Fin 256) (j : Fin 512) :
    mask2 s (ix2 r j) = if 256 + r.val ≤ j.val then s (ix2 r j) else ⊥ := by
  pointwise [mask2]
  have e : IntOp.addi (BitVec.ofNat 32 r.val) 256#32 = BitVec.ofNat 32 (256 + r.val) := by
    rw [Nat.add_comm]; exact (BitVec.ofNat_add r.val 256).symm
  rw [e]
  exact select_le (256 + r.val) j.val (by omega) (by omega) _
theorem pay120_eq (m : FVec Ideal S1x512 .f32) (s : FVec Ideal S256x512 .f32) (a : FVec Ideal S144x512 .f32)
    (v : Vec Ideal S1x1x1x144x256 .bf16) :
    k0_pay120 (F := Ideal) m s a v = k0_pay12 (F := Ideal) m (mask2 s) a v := rfl

theorem pay4_at (n : Vec Ideal S128x512 .f32) (d : Vec Ideal S1x512 .f32) (r : Fin 512) (c : Fin 128) :
    k0_pay4 (F := Ideal) n d (ix3 0 r c) = Ideal.div (n (ix2 c r)) (d (ix2 0 r)) := by
  pointwise [k0_pay4]

theorem pay89_at (q : Vec Ideal S1x1x1x192x512 .bf16) (d : Fin 192) (j : Fin 512) :
    k0_pay89 (F := Ideal) q (ix2 d j) = q (ix5 0 0 0 d j) := by
  pointwise [k0_pay89]
theorem pay91_at (d : Fin 144) (j : Fin 512) : k0_pay91 (F := Ideal) (ix2 d j) = 0 := by
  pointwise [k0_pay91]
theorem pay93_at (j : Fin 512) : k0_pay93 (F := Ideal) (ix2 0 j) = ⊥ := by
  pointwise [k0_pay93]
  exact neg_inf

end Cert.Proof.AttnIdeal

end
-- ==== Proof.AttnIdealTile.lean ====
/-
  The tile of one head at one query tile over the extended reals: for query `512 t + j` it is the sum of the values over the
  keys up to the query, weighted by 2 to the score less the greatest score, over the sum of the weights.

  `rs` is the score of a key, `sg` the score with the keys after the query at −∞, `vl` a row of the values by key. `inv`
  is the state after `n` blocks below the diagonal: the maximum of the first `256 n` scores, the scores of the next block,
  the weighted sum of the first `256 n` values; `fin_at` adds the two blocks on the diagonal.
-/
module

public import proofs.«01_k».proof.Proof.AttnIdealPure

@[expose] public section

set_option maxRecDepth 16384

noncomputable section

namespace Cert.Proof.AttnIdeal

open Cert.AttnIdeal Cert.AttnIdeal.Gen Cert.Proof.Online
open Idealize.ShloMosaic Idealize.ShloMosaic.TcCoe Idealize.ShloMosaic.Tactic

/-! ## The reads -/

theorem qT_at (x2 : Vec Ideal S1x2x16x192x512 .bf16) (h : Fin 2) (t : Fin 16) (d : Fin 192) (j : Fin 512) :
    qT x2 h t.val (ix5 0 0 0 d j) = x2 (ix5 0 h t d j) := by
  have ht := t.isLt
  unfold qT
  exact congrArg x2 (funext fun a => Fin.ext (by
    fin_cases a
    · rfl
    · show h.val + 1 * 0 = h.val; omega
    · show t.val % 16 + 1 * 0 = t.val; omega
    · show 0 + 1 * d.val = d.val; omega
    · show 0 + 1 * j.val = j.val; omega))
theorem kT_at (x3 : Vec Ideal S1x2x8192x192 .bf16) (h : Fin 2) (n : ℕ) (hn : n < 32) (r : Fin 256) (d : Fin 192) :
    kT x3 h n (ix4 0 0 r d) = x3 (ix4 0 h ⟨(256 * n + r.val) % 8192, Nat.mod_lt _ (by decide)⟩ d) := by
  have hr := r.isLt
  unfold kT
  exact congrArg x3 (funext fun a => Fin.ext (by
    fin_cases a
    · rfl
    · show h.val + 1 * 0 = h.val; omega
    · show 256 * (n % 32) + 1 * r.val = (256 * n + r.val) % 8192; omega
    · show 0 + 1 * d.val = d.val; omega))
theorem vT_at (x4 : Vec Ideal S1x2x32x144x256 .bf16) (h : Fin 2) (n : ℕ) (hn : n < 32) (d : Fin 144) (r : Fin 256) :
    vT x4 h n (ix5 0 0 0 d r) = x4 (ix5 0 h ⟨(256 * n + r.val) / 256 % 32, Nat.mod_lt _ (by decide)⟩ d
      ⟨(256 * n + r.val) % 256, Nat.mod_lt _ (by decide)⟩) := by
  have hr := r.isLt
  unfold vT
  exact congrArg x4 (funext fun a => Fin.ext (by
    fin_cases a
    · rfl
    · show h.val + 1 * 0 = h.val; omega
    · show n % 32 + 1 * 0 = (256 * n + r.val) / 256 % 32; omega
    · show 0 + 1 * d.val = d.val; omega
    · show 0 + 1 * r.val = (256 * n + r.val) % 256; omega))

section Tile
variable (x2 : Vec Ideal S1x2x16x192x512 .bf16) (x3 : Vec Ideal S1x2x8192x192 .bf16) (x4 : Vec Ideal S1x2x32x144x256 .bf16)
variable (h : Fin 2) (t : Fin 16) (j : Fin 512)

/-- The score of key `n` for query `512 t + j`. -/
def rs (n : ℕ) : EReal := ∑ d : Fin 192, x3 (ix4 0 h ⟨n % 8192, Nat.mod_lt _ (by decide)⟩ d) * x2 (ix5 0 h t d j)
/-- The score, −∞ at a key after the query. -/
def sg (n : ℕ) : EReal := if n ≤ 512 * t.val + j.val then rs x2 x3 h t j n else ⊥
/-- Row `d` of the values, by key. -/
def vl (d : Fin 144) (n : ℕ) : EReal :=
  x4 (ix5 0 h ⟨n / 256 % 32, Nat.mod_lt _ (by decide)⟩ d ⟨n % 256, Nat.mod_lt _ (by decide)⟩)

theorem score_at (n : ℕ) (hn : n < 32) (r : Fin 256) :
    k0_pay6 (qm x2 h t.val) (kT x3 h n) (ix2 r j) = rs x2 x3 h t j (256 * n + r.val) := by
  rw [pay6_at]
  unfold rs qm
  refine Finset.sum_congr rfl fun d _ => ?_
  rw [kT_at x3 h n hn r d, pay89_at, qT_at]

/-- The entries are real numbers. -/
def Real' {s : Shape} (x : Vec Ideal s .bf16) : Prop := ∀ i, ∃ r : ℝ, x i = (r : EReal)

variable {x2 x3}
theorem rs_real (h2 : Real' x2) (h3 : Real' x3) (n : ℕ) : ∃ r : ℝ, rs x2 x3 h t j n = (r : EReal) := by
  choose f hf using h2
  choose g hg using h3
  refine ⟨∑ d : Fin 192, g (ix4 0 h ⟨n % 8192, Nat.mod_lt _ (by decide)⟩ d) * f (ix5 0 h t d j), ?_⟩
  rw [coe_sum]
  exact Finset.sum_congr rfl fun d _ => by rw [hg, hf, EReal.coe_mul]
theorem sg_ne_top (h2 : Real' x2) (h3 : Real' x3) (n : ℕ) : sg x2 x3 h t j n ≠ ⊤ := by
  unfold sg; split
  · obtain ⟨r, hr⟩ := rs_real h t j h2 h3 n; rw [hr]; exact EReal.coe_ne_top r
  · exact bot_ne_top
theorem sg_zero (h2 : Real' x2) (h3 : Real' x3) : sg x2 x3 h t j 0 ≠ ⊥ := by
  unfold sg; rw [if_pos (by omega)]
  obtain ⟨r, hr⟩ := rs_real h t j h2 h3 0; rw [hr]; exact EReal.coe_ne_bot r
theorem sg_after (n : ℕ) (hn : 512 * (t.val + 1) ≤ n) : sg x2 x3 h t j n = ⊥ := by
  unfold sg; exact if_neg (by have := j.isLt; omega)

/-! ## One block -/

section Block
variable {σ : ℕ → EReal} {m : FVec Ideal S1x512 .f32} {s : FVec Ideal S256x512 .f32} {N : ℕ} {j}
theorem max_at (hm : m (ix2 0 j) = top σ N) (hs : ∀ r : Fin 256, s (ix2 r j) = σ (N + r.val)) :
    k0_pay11 m s (ix2 0 j) = top σ (N + 256) := by
  rw [pay11_at, hm, ← top_add N 256]
  exact congrArg _ (congrArg _ (funext hs))
theorem acc_at (hσ : ∀ n, σ n ≠ ⊤) (h0 : σ 0 ≠ ⊥) (hm : m (ix2 0 j) = top σ N) (hs : ∀ r : Fin 256, s (ix2 r j) = σ (N + r.val))
    {w : ℕ → EReal} {a : FVec Ideal S144x512 .f32} {v : Vec Ideal S1x1x1x144x256 .bf16} {d : Fin 144}
    (ha : a (ix2 d j) = acc σ w N) (hv : ∀ r : Fin 256, v (ix5 0 0 0 d r) = w (N + r.val)) :
    k0_pay12 m s a v (ix2 d j) = acc σ w (N + 256) := by
  rw [pay12_at, max_at hm hs, hm, ha, ← acc_add hσ h0 w N 256 (by decide)]
  refine congrArg _ (Finset.sum_congr rfl fun r _ => ?_)
  rw [hs, hv]
end Block

/-! ## The blocks below the diagonal -/

/-- After `n` blocks below the diagonal. -/
theorem inv (h2 : Real' x2) (h3 : Real' x3) (n : ℕ) (hn : n ≤ 2 * t.val) :
    (S x2 x3 x4 h t.val n).m (ix2 0 j) = top (sg x2 x3 h t j) (256 * n)
    ∧ (∀ r : Fin 256, (S x2 x3 x4 h t.val n).s (ix2 r j) = rs x2 x3 h t j (256 * n + r.val))
    ∧ ∀ d : Fin 144, (S x2 x3 x4 h t.val n).a (ix2 d j) = acc (sg x2 x3 h t j) (vl x4 h d) (256 * n) := by
  have ht := t.isLt
  induction n with
  | zero =>
    refine ⟨?_, fun r => ?_, fun d => ?_⟩
    · exact (pay93_at j).trans top_zero.symm
    · exact score_at x2 x3 h t j 0 (by omega) r
    · exact (pay91_at d j).trans (acc_zero _).symm
  | succ n ih =>
    obtain ⟨hm, hs, ha⟩ := ih (by omega)
    have hs' : ∀ r : Fin 256, (S x2 x3 x4 h t.val n).s (ix2 r j) = sg x2 x3 h t j (256 * n + r.val) := fun r => by
      rw [hs r]; unfold sg; rw [if_pos (by have := r.isLt; omega)]
    refine ⟨?_, fun r => ?_, fun d => ?_⟩
    · exact max_at hm hs'
    · exact score_at x2 x3 h t j (n + 1) (by omega) r
    · exact acc_at (sg_ne_top h t j h2 h3) (sg_zero h t j h2 h3) hm hs' (ha d) fun r => vT_at x4 h n (by omega) d r

/-- After the two blocks on the diagonal. -/
theorem fin_at (h2 : Real' x2) (h3 : Real' x3) (d : Fin 144) :
    fin x2 x3 x4 h t.val (ix2 d j) = acc (sg x2 x3 h t j) (vl x4 h d) (512 * (t.val + 1)) := by
  have ht := t.isLt
  obtain ⟨hm, hs, ha⟩ := inv x4 h t j h2 h3 (2 * t.val) le_rfl
  have hσ := sg_ne_top h t j h2 h3
  have h0 := sg_zero h t j h2 h3
  have hs1 : ∀ r : Fin 256, (k0_pay112 (F := Ideal) (S x2 x3 x4 h t.val (2 * t.val)).s : FVec Ideal S256x512 .f32) (ix2 r j) = sg x2 x3 h t j (256 * (2 * t.val) + r.val) := fun r => by
    refine (pay112_at _ r j).trans ?_
    rw [hs r]; unfold sg
    by_cases c : r.val ≤ j.val
    · rw [if_pos c, if_pos (by omega)]
    · rw [if_neg c, if_neg (by omega)]
  have hs2 : ∀ r : Fin 256, mask2 (k0_pay6 (qm x2 h t.val) (kT x3 h (2 * t.val + 1))) (ix2 r j)
      = sg x2 x3 h t j (256 * (2 * t.val) + 256 + r.val) := fun r => by
    rw [mask2_at, score_at x2 x3 h t j (2 * t.val + 1) (by omega) r]; unfold sg
    by_cases c : 256 + r.val ≤ j.val
    · rw [if_pos c, if_pos (by omega)]; rfl
    · rw [if_neg c, if_neg (by omega)]
  have e : 512 * (t.val + 1) = 256 * (2 * t.val) + 256 + 256 := by omega
  rw [e]
  exact acc_at hσ h0 (max_at hm hs1) hs2
    (acc_at hσ h0 hm hs1 (ha d) fun r => vT_at x4 h (2 * t.val) (by omega) d r)
    fun r => vT_at x4 h (2 * t.val + 1) (by omega) d r

/-- An entry of the tile. -/
theorem tile_at (h2 : Real' x2) (h3 : Real' x3) (d : Fin 128) :
    tileV x2 x3 x4 h t.val (ix3 0 j d) =
      Ideal.div (acc (sg x2 x3 h t j) (vl x4 h ⟨d.val, by omega⟩) 8192) (acc (sg x2 x3 h t j) (vl x4 h ⟨128, by decide⟩) 8192) := by
  have ht := t.isLt
  have hσ := sg_ne_top h t j h2 h3
  have h0 := sg_zero h t j h2 h3
  unfold tileV
  rw [pay4_at, acc_masked hσ h0 _ _ 8192 (by omega) (by omega) (fun n hn => sg_after h t j n hn),
    acc_masked hσ h0 _ _ 8192 (by omega) (by omega) (fun n hn => sg_after h t j n hn), ← fin_at x4 h t j h2 h3, ← fin_at x4 h t j h2 h3]
  refine congrArg₂ Ideal.div (congrArg (fin x2 x3 x4 h t.val) (funext fun a => Fin.ext ?_)) (congrArg (fin x2 x3 x4 h t.val) (funext fun a => Fin.ext ?_))
  · fin_cases a
    · show 0 + 1 * d.val = d.val; omega
    · show 0 + 1 * j.val = j.val; omega
  · fin_cases a
    · rfl
    · show 0 + 1 * j.val = j.val; omega

end Tile

end Cert.Proof.AttnIdeal

end
-- ==== Proof.AttnIdealValue.lean ====
/-
  The result array of the attention kernel over the extended reals, as one function of its three arguments.

  At batch `b`, row `r` and column `128 H + d` it is, for head `H`, the sum over the keys up to `r` of the value at feature
  `d` times 2 to the score less the greatest score, over the same sum of the values' row 128. `G` is that function; a grid
  point writes its block of it (`point`), and the blocks cover the array (`final`).
-/
module

public import proofs.«01_k».proof.Proof.AttnIdealTile
public import proofs.«01_k».proof.Proof.AttnIdealFrame
public import proofs.«01_k».proof.Proof.AttnIdealBody
public import Idealize.ShloMosaic.Lib.Pipeline.ValueKit

@[expose] public section

set_option maxRecDepth 16384

noncomputable section

namespace Cert.Proof.AttnIdeal

open Cert.AttnIdeal Cert.AttnIdeal.Gen Cert.Proof.Online
open Idealize.ShloMosaic Idealize.ShloMosaic.TcCoe Idealize.ShloMosaic.Tactic
open Idealize.SL Idealize.SL.Sem
open Idealize.ShloMosaic.Pipeline (Dat)

/-! ## The result, of the three argument arrays -/

section Arr
variable (Q : FVec Ideal S4x8x16x192x512 .bf16) (K : FVec Ideal S4x8x8192x192 .bf16) (V' : FVec Ideal S4x8x32x144x256 .bf16)

/-- The score of key `n` for row `r`, in batch `b` and head `H`. -/
def score (b : Fin 4) (H : Fin 8) (r : Fin 8192) (n : ℕ) : EReal :=
  ∑ d : Fin 192, K (ix4 b H ⟨n % 8192, Nat.mod_lt _ (by decide)⟩ d)
    * Q (ix5 b H ⟨r.val / 512, by omega⟩ d ⟨r.val % 512, Nat.mod_lt _ (by decide)⟩)
def masked (b : Fin 4) (H : Fin 8) (r : Fin 8192) (n : ℕ) : EReal := if n ≤ r.val then score Q K b H r n else ⊥
/-- Feature `d` of the value of key `n`. -/
def value (b : Fin 4) (H : Fin 8) (d : Fin 144) (n : ℕ) : EReal :=
  V' (ix5 b H ⟨n / 256 % 32, Nat.mod_lt _ (by decide)⟩ d ⟨n % 256, Nat.mod_lt _ (by decide)⟩)
/-- One entry of the result. -/
def entry (b : Fin 4) (H : Fin 8) (r : Fin 8192) (d : Fin 128) : EReal :=
  Ideal.div (acc (masked Q K b H r) (value V' b H ⟨d.val, by omega⟩) 8192) (acc (masked Q K b H r) (value V' b H ⟨128, by decide⟩) 8192)
def G : FVec Ideal S4x8192x1024 .bf16 := fun i =>
  entry Q K V' ⟨(i 0).val, (i 0).isLt⟩ ⟨(i 2).val / 128 % 8, Nat.mod_lt _ (by decide)⟩ ⟨(i 1).val, (i 1).isLt⟩
    ⟨(i 2).val % 128, Nat.mod_lt _ (by decide)⟩
end Arr

/-! ## One grid point -/

variable (m : (ℓ : Loc nD τ sig) → Buf (Elt Ideal) ℓ)

/-- The block index of each window at a point. -/
theorem idx : ∀ t : Fin cfg0.N, win0_0.index t = ![t.val / 4, t.val % 4, 0, 0, 0] ∧ win0_1.index t = ![t.val / 4, t.val % 4, 0, 0]
    ∧ win0_2.index t = ![t.val / 4, t.val % 4, 0, 0, 0] ∧ win0_3.index t = ![t.val / 4, 0, t.val % 4] ∧ t.val / 4 < 4 :=
  (by decide +kernel : ∀ t : Fin grid0.N, _)

abbrev aQ (c : Dev nD) : FVec Ideal S4x8x16x192x512 .bf16 := m ((c : Thread nD τ).loc main_arg0)
abbrev aK (c : Dev nD) : FVec Ideal S4x8x8192x192 .bf16 := m ((c : Thread nD τ).loc main_arg1)
abbrev aV (c : Dev nD) : FVec Ideal S4x8x32x144x256 .bf16 := m ((c : Thread nD τ).loc main_arg2)

theorem blkQ (c : Dev nD) (t : Fin cfg0.N) (b : Fin 4) (H : Fin 8) (h : Fin 2) (eb : b.val = t.val / 4) (eH : H.val = 2 * (t.val % 4) + h.val)
    (q : Fin 16) (d : Fin 192) (j : Fin 512) : iblk m c 0 t (ix5 0 h q d j) = aQ m c (ix5 b H q d j) := by
  blk_ext [iblk, V, idx t]
theorem blkK (c : Dev nD) (t : Fin cfg0.N) (b : Fin 4) (H : Fin 8) (h : Fin 2) (eb : b.val = t.val / 4) (eH : H.val = 2 * (t.val % 4) + h.val)
    (n : Fin 8192) (d : Fin 192) : iblk m c 1 t (ix4 0 h n d) = aK m c (ix4 b H n d) := by
  blk_ext [iblk, V, idx t]
theorem blkV (c : Dev nD) (t : Fin cfg0.N) (b : Fin 4) (H : Fin 8) (h : Fin 2) (eb : b.val = t.val / 4) (eH : H.val = 2 * (t.val % 4) + h.val)
    (q : Fin 32) (d : Fin 144) (j : Fin 256) : iblk m c 2 t (ix5 0 h q d j) = aV m c (ix5 b H q d j) := by
  blk_ext [iblk, V, idx t]

theorem blkQ_real (c : Dev nD) (t : Fin cfg0.N) (hQ : Real' (aQ m c)) : Real' (s := S1x2x16x192x512) (iblk m c 0 t) := fun i => hQ _
theorem blkK_real (c : Dev nD) (t : Fin cfg0.N) (hK : Real' (aK m c)) : Real' (s := S1x2x8192x192) (iblk m c 1 t) := fun i => hK _

/-- What point `t` writes is its block of `G`. -/
theorem point (c : Dev nD) (hQ : Real' (aQ m c)) (hK : Real' (aK m c)) (t : Fin cfg0.N) (b : Fin 4) (r : Fin 8192) (col : Fin 1024)
    (y : S1x8192x256.Idx) (eb : b.val = t.val / 4) (er : r.val = (y 1).val) (ec : col.val = 256 * (t.val % 4) + (y 2).val) :
    outV (F := Ideal) (iblk m c 0 t) (iblk m c 1 t) (iblk m c 2 t) y = G (aQ m c) (aK m c) (aV m c) (ix3 b r col) := by
  have hy : (y 2).val < 256 := (y 2).isLt
  have hr := r.isLt
  rw [outV_at _ _ _ ⟨(y 2).val / 128, by omega⟩ (r.val / 512) y (ix3 0 ⟨r.val % 512, Nat.mod_lt _ (by decide)⟩ ⟨(y 2).val % 128, Nat.mod_lt _ (by decide)⟩)
    (by show (y 1).val = 512 * (r.val / 512) + r.val % 512; omega) (by show (y 2).val = 128 * ((y 2).val / 128) + (y 2).val % 128; omega)]
  refine (tile_at _ ⟨(y 2).val / 128, by omega⟩ ⟨r.val / 512, by omega⟩ ⟨r.val % 512, Nat.mod_lt _ (by decide)⟩ (blkQ_real m c t hQ) (blkK_real m c t hK)
    ⟨(y 2).val % 128, Nat.mod_lt _ (by decide)⟩).trans ?_
  show _ = entry (aQ m c) (aK m c) (aV m c) b ⟨col.val / 128 % 8, Nat.mod_lt _ (by decide)⟩ r ⟨col.val % 128, Nat.mod_lt _ (by decide)⟩
  have eH : col.val / 128 % 8 = 2 * (t.val % 4) + (y 2).val / 128 := by omega
  have eσ : sg (iblk m c 0 t) (iblk m c 1 t) ⟨(y 2).val / 128, by omega⟩ ⟨r.val / 512, by omega⟩ ⟨r.val % 512, Nat.mod_lt _ (by decide)⟩
      = masked (aQ m c) (aK m c) b ⟨col.val / 128 % 8, Nat.mod_lt _ (by decide)⟩ r := by
    funext n
    unfold sg masked
    have e : 512 * (r.val / 512) + r.val % 512 = r.val := by omega
    rw [e]
    refine if_congr Iff.rfl ?_ rfl
    unfold rs score
    refine Finset.sum_congr rfl fun d _ => ?_
    rw [blkK m c t b ⟨col.val / 128 % 8, Nat.mod_lt _ (by decide)⟩ ⟨(y 2).val / 128, by omega⟩ eb eH,
      blkQ m c t b ⟨col.val / 128 % 8, Nat.mod_lt _ (by decide)⟩ ⟨(y 2).val / 128, by omega⟩ eb eH]
  have eV : ∀ d d' : Fin 144, d.val = d'.val → vl (iblk m c 2 t) ⟨(y 2).val / 128, by omega⟩ d
      = value (aV m c) b ⟨col.val / 128 % 8, Nat.mod_lt _ (by decide)⟩ d' := fun d d' hd => by
    funext n
    obtain rfl : d = d' := Fin.ext hd
    exact blkV m c t b ⟨col.val / 128 % 8, Nat.mod_lt _ (by decide)⟩ ⟨(y 2).val / 128, by omega⟩ eb eH _ _ _
  unfold entry
  rw [eσ, eV _ ⟨col.val % 128, by omega⟩ (by show (y 2).val % 128 = col.val % 128; omega), eV ⟨128, by decide⟩ ⟨128, by decide⟩ rfl]

/-- The result array after the launch. -/
theorem final (c : Dev nD) (hQ : Real' (aQ m c)) (hK : Real' (aK m c)) :
    (dats m 0 c).arrAt 3 (cfgs 0).N = G (aQ m c) (aK m c) (aV m c) := by
  refine (dats m 0 c).arrAt_eq_of_covers 3 _ (by decide +kernel) fun t _ y => ?_
  blk_simp
  rw [after0_3]
  have h4 := (idx t).2.2.2.2
  have hi := (idx t).2.2.2.1
  have hy1 : (y 1).val < 8192 := (y 1).isLt
  have hy2 : (y 2).val < 256 := (y 2).isLt
  refine (point m c hQ hK t ⟨t.val / 4, h4⟩ ⟨(y 1).val, hy1⟩ ⟨256 * (t.val % 4) + (y 2).val, by omega⟩ y rfl rfl rfl).trans ?_
  blk_ext [idx t]

end Cert.Proof.AttnIdeal

end
-- ==== Proof.AttnRefValue.lean ====
/-
  The reference of the attention over the extended reals, entry by entry, and that it is the kernel's result.

  The reference multiplies the scores by the logarithm of 2, masks the keys after the query, and takes a softmax and the
  weighted sum of the values over all 8192 keys.
-/
module

public import proofs.«01_k».proof.Proof.AttnIdealValue
public import proofs.«01_k».proof.Proof.Gen.AttnRefIdeal.Read
public import Idealize.ShloMosaic.Lib.Pointwise

@[expose] public section

set_option maxRecDepth 16384

noncomputable section

namespace Cert.Proof.AttnRef

open Cert.AttnRefIdeal Cert.AttnRefIdeal.Read Cert.Proof.Online
open Cert.Proof.AttnIdeal (score masked value entry G Real' select_le neg_inf)
open Idealize.ShloMosaic Idealize.ShloMosaic.TcCoe Idealize.ShloMosaic.Tactic

/-! ## The operations of the reference, read at an index -/

theorem rmax_at (A B C N : ℕ) (h : (⟨4, ![A, B, C, N]⟩ : Shape).ReducesTo [3] ⟨3, ![A, B, C]⟩) (hr : (⟨4, ![A, B, C, N]⟩ : Shape).Reduces [3] ⟨3, ![A, B, C]⟩)
    (hu : 0 < S_.numel) (y : FVec Ideal ⟨4, ![A, B, C, N]⟩ .f32) (z : FVec Ideal S_ .f32) (b : Fin A) (H : Fin B) (r : Fin C) :
    Host.reduce (FloatOps.maximumf (F := Ideal) (φ := .f32)) y z h hu (ix3 b H r)
      = Finset.univ.fold max (z (Shape.Idx.first hu)) (fun n : Fin N => y (ix4 b H r n)) := by
  have e := Host.reduce_eq_fold_single (α := EReal) max y z h hr hu (ix3 b H r)
  refine e.trans ?_
  have e2 : (y ∘ hr.lift (ix3 b H r)) = fun n : Fin N => y (ix4 b H r n) :=
    funext fun n => congrArg y (funext fun a => Fin.ext (by fin_cases a <;> rfl))
  rw [e2]
  rfl
/-- The maximum over the last axis. -/
theorem rmax8 (h : S4x8x8192x8192.ReducesTo [3] S4x8x8192) (hu : 0 < S_.numel)
    (y : FVec Ideal S4x8x8192x8192 .f32) (z : FVec Ideal S_ .f32) (b : Fin 4) (H : Fin 8) (r : Fin 8192) :
    Host.reduce (FloatOps.maximumf (F := Ideal) (φ := .f32)) y z h hu (ix3 b H r)
      = Finset.univ.fold max (z (Shape.Idx.first hu)) (fun n : Fin 8192 => y (ix4 b H r n)) :=
  rmax_at 4 8 8192 8192 h (by decide) hu y z b H r

theorem two : Ideal.ofBits .f32 0x40000000#32 = ((2 : ℝ) : EReal) := by
  simp [Ideal.ofBits, Ideal.ieee, -EReal.coe_mul]; norm_num
theorem log_two : Ideal.log (Ideal.ofBits .f32 0x40000000#32) = (Real.log 2 : ℝ) := by
  rw [two, Ideal.log_coe, if_neg (by norm_num)]

section
variable (x0 : FVec Ideal S4x8x16x192x512 .bf16) (x1 : FVec Ideal S4x8x8192x192 .bf16) (x2 : FVec Ideal S4x8x32x144x256 .bf16)

theorem v8_at (b : Fin 4) (H : Fin 8) (r n : Fin 8192) :
    val_main_v8 (F := Ideal) x0 x1 (ix4 b H r n) = score x0 x1 b H r n.val := by
  pointwise [val_main_v8, val_main_v2, val_main_v1, val_main_v0, val_main_v3]
  unfold score
  have e : (⟨n.val % 8192, Nat.mod_lt _ (by decide)⟩ : Fin 8192) = n := Fin.ext (Nat.mod_eq_of_lt n.isLt)
  rw [e]
  exact Finset.sum_congr rfl fun d _ => mul_comm _ _
theorem v19_at (b : Fin 4) (H : Fin 8) (r n : Fin 8192) :
    val_main_v19 (F := Ideal) x0 x1 (ix4 b H r n) = masked x0 x1 b H r n.val * (Real.log 2 : ℝ) := by
  have e0 : val_main_call0_v0 (F := Ideal) ix0 = Ideal.ofBits .f32 0xFF800000#32 := rfl
  pointwise [val_main_v19, val_main_v11, val_main_v10, val_main_v9, val_main_cst, val_main_call0_v1, val_main_call0_v2, val_main_v18, val_main_v17, val_main_v16, val_main_v15, val_main_v14, val_main_v13, val_main_v12, val_main_cst_0]
  rw [e0, select_le n.val r.val (by omega) (by omega), log_two]
  unfold masked
  by_cases c : n.val ≤ r.val
  · rw [if_pos c, if_pos c]; exact congrArg (· * ((Real.log 2 : ℝ) : EReal)) (v8_at x0 x1 b H r n)
  · rw [if_neg c, if_neg c, EReal.bot_mul_coe_of_pos (Real.log_pos (by norm_num))]
theorem v20_at (b : Fin 4) (H : Fin 8) (r : Fin 8192) :
    val_main_v20 (F := Ideal) x0 x1 (ix3 b H r) = Finset.univ.sup fun n : Fin 8192 => masked x0 x1 b H r n.val * ((Real.log 2 : ℝ) : EReal) := by
  have e : (fun n : Fin 8192 => val_main_v19 (F := Ideal) x0 x1 (ix4 b H r n)) = fun n : Fin 8192 => masked x0 x1 b H r n.val * ((Real.log 2 : ℝ) : EReal) :=
    funext fun n => v19_at x0 x1 b H r n
  rw [← e]
  unfold val_main_v20
  generalize val_main_v19 (F := Ideal) x0 x1 = y
  refine (rmax8 _ _ y _ b H r).trans ?_
  have e1 : val_main_cst_1 (F := Ideal) (Shape.Idx.first Gen.h_S_) = ⊥ := neg_inf
  rw [e1]; rfl
theorem v22_at (b : Fin 4) (H : Fin 8) (r : Fin 8192) :
    val_main_v22 (F := Ideal) x0 x1 (ix3 b H r) = top (fun n => masked x0 x1 b H r n * ((Real.log 2 : ℝ) : EReal)) 8192 := by
  have e := v20_at x0 x1 b H r
  have e2 := top_add (σ := fun n => masked x0 x1 b H r n * ((Real.log 2 : ℝ) : EReal)) 0 8192
  rw [top_zero] at e2
  simp only [Nat.zero_add] at e2
  rw [← e2, val_main_v22_apply, e]
  have e1 : val_main_v21 (F := Ideal) (ix3 b H r) = ⊥ := by
    rw [val_main_v21_apply]; exact neg_inf
  rw [e1]; rfl
theorem v26_at (b : Fin 4) (H : Fin 8) (r n : Fin 8192) : val_main_v26 (F := Ideal) x0 x1 (ix4 b H r n)
    = Ideal.exp (masked x0 x1 b H r n.val * (Real.log 2 : ℝ) - top (fun n => masked x0 x1 b H r n * ((Real.log 2 : ℝ) : EReal)) 8192) := by
  rw [← v22_at, ← v19_at]
  pointwise [val_main_v26, val_main_v25, val_main_v24, val_main_v23]
theorem v30_at (b : Fin 4) (H : Fin 8) (r n : Fin 8192) : val_main_v30 (F := Ideal) x0 x1 (ix4 b H r n)
    = Ideal.div (val_main_v26 (F := Ideal) x0 x1 (ix4 b H r n)) (∑ l : Fin 8192, val_main_v26 (F := Ideal) x0 x1 (ix4 b H r l)) := by
  pointwise [val_main_v30, val_main_v29, val_main_v28, val_main_v27, val_main_cst_3]
theorem v7_at (b : Fin 4) (H : Fin 8) (n : Fin 8192) (d : Fin 128) :
    val_main_v7 (F := Ideal) x2 (ix4 b H n d) = value x2 b H ⟨d.val, by omega⟩ n.val := by
  pointwise [val_main_v7, val_main_v6, val_main_v5, val_main_v4]
  unfold value
  have e : (⟨n.val / 256 % 32, Nat.mod_lt _ (by decide)⟩ : Fin 32) = ⟨n.val / 256, by omega⟩ := Fin.ext (Nat.mod_eq_of_lt (by omega))
  rw [e]
theorem v34_at (b : Fin 4) (r : Fin 8192) (col : Fin 1024) : val_main_v34 (F := Ideal) x0 x1 x2 (ix3 b r col)
    = ∑ n : Fin 8192, val_main_v7 (F := Ideal) x2 (ix4 b ⟨col.val / 128, by omega⟩ n ⟨col.val % 128, Nat.mod_lt _ (by decide)⟩)
        * val_main_v30 (F := Ideal) x0 x1 (ix4 b ⟨col.val / 128, by omega⟩ r n) := by
  pointwise [val_main_v34, val_main_v33, val_main_v32, val_main_v31]

/-! ## The kernel's result is the reference's -/

theorem masked_ne_top (h0 : Real' (s := S4x8x16x192x512) x0) (h1 : Real' (s := S4x8x8192x192) x1) (b : Fin 4) (H : Fin 8) (r : Fin 8192) (n : ℕ) :
    masked x0 x1 b H r n ≠ ⊤ ∧ (n = 0 → masked x0 x1 b H r n ≠ ⊥) := by
  choose f hf using h0
  choose g hg using h1
  have e : ∃ s : ℝ, score x0 x1 b H r n = (s : EReal) :=
    ⟨∑ d : Fin 192, g (ix4 b H ⟨n % 8192, Nat.mod_lt _ (by decide)⟩ d) * f (ix5 b H ⟨r.val / 512, by omega⟩ d ⟨r.val % 512, Nat.mod_lt _ (by decide)⟩), by
      rw [coe_sum]; exact Finset.sum_congr rfl fun d _ => by rw [hg, hf, EReal.coe_mul]⟩
  obtain ⟨s, hs⟩ := e
  unfold masked
  refine ⟨?_, fun hn => ?_⟩
  · split
    · rw [hs]; exact EReal.coe_ne_top s
    · exact bot_ne_top
  · rw [if_pos (by omega), hs]; exact EReal.coe_ne_bot s

theorem ref_eq (h0 : Real' (s := S4x8x16x192x512) x0) (h1 : Real' (s := S4x8x8192x192) x1)
    (h2 : ∀ (b : Fin 4) (H : Fin 8) (q : Fin 32) (j : Fin 256), x2 (ix5 b H q 128 j) = 1) :
    val_main_v34 (F := Ideal) x0 x1 x2 = G x0 x1 x2 := by
  refine funext fun i => ?_
  obtain ⟨b, r, col, rfl⟩ : ∃ (b : Fin 4) (r : Fin 8192) (col : Fin 1024), i = ix3 b r col :=
    ⟨i 0, i 1, i 2, funext fun a => by fin_cases a <;> rfl⟩
  rw [v34_at]
  show _ = entry x0 x1 x2 b ⟨col.val / 128 % 8, Nat.mod_lt _ (by decide)⟩ r ⟨col.val % 128, Nat.mod_lt _ (by decide)⟩
  have eH : (⟨col.val / 128 % 8, Nat.mod_lt _ (by decide)⟩ : Fin 8) = ⟨col.val / 128, by omega⟩ := Fin.ext (Nat.mod_eq_of_lt (by omega))
  rw [eH]
  generalize (⟨col.val / 128, by omega⟩ : Fin 8) = H
  generalize (⟨col.val % 128, Nat.mod_lt _ (by decide)⟩ : Fin 128) = d
  have hσ : ∀ n, masked x0 x1 b H r n ≠ ⊤ := fun n => (masked_ne_top x0 x1 h0 h1 b H r n).1
  have hz : masked x0 x1 b H r 0 ≠ ⊥ := (masked_ne_top x0 x1 h0 h1 b H r 0).2 rfl
  have e1 : value x2 b H ⟨128, by decide⟩ = fun _ => (1 : EReal) := funext fun n => h2 _ _ _ _
  unfold entry
  rw [e1, acc_div hσ hz _ 8192 (by decide)]
  refine Finset.sum_congr rfl fun n _ => ?_
  rw [v7_at, v30_at, v26_at]
  refine congrArg _ (congrArg _ (Finset.sum_congr rfl fun l _ => v26_at x0 x1 b H r l))
end

end Cert.Proof.AttnRef

end
-- ==== Proof.AttnPre.lean ====
/-
  The claim's precondition, read: every query and every key is a real number, and the row of ones below each block of values
  holds ones.
-/
module

public import proofs.«01_k».proof.Pre_attention_inputs
public import proofs.«01_k».proof.Proof.AttnIdealTile
public import Idealize.ShloMosaic.Lib.ReduceAll
public import Idealize.ShloMosaic.Lib.Pointwise

@[expose] public section

set_option maxRecDepth 16384

noncomputable section

namespace Cert.Proof.AttnPre

open Idealize.ShloMosaic
open Cert.Pre_attention_inputs Cert.Pre_attention_inputs.Facts
open Cert.Proof.AttnIdeal (Real')

theorem bf16_inf : Ideal.ofBits .bf16 0x7F80#16 = ⊤ := by simp [Ideal.ofBits, Ideal.ieee]
theorem bf16_one : Ideal.ofBits .bf16 0x3F80#16 = 1 := Ideal.ofBits_one_bf16

theorem real_of (x : EReal) (h : Ideal.cmp .olt (max x (-x)) (Ideal.ofBits .bf16 0x7F80#16) = 1#1) : ∃ r : ℝ, x = r := by
  rw [bf16_inf] at h
  have h1 : max x (-x) < ⊤ := by
    by_contra c
    simp [Ideal.cmp, c] at h
  induction x with
  | bot => simp at h1
  | top => simp at h1
  | coe r => exact ⟨r, rfl⟩
theorem one_of (x : EReal) (h : Ideal.cmp .oeq x (Ideal.ofBits .bf16 0x3F80#16) = 1#1) : x = 1 := by
  rw [bf16_one] at h
  by_contra c
  simp [Ideal.cmp, c] at h

theorem read [Facts] (x0 : FVec Ideal S4x8x16x192x512 .bf16) (x1 : FVec Ideal S4x8x8192x192 .bf16) (x2 : FVec Ideal S4x8x32x144x256 .bf16)
    (h : fn (F := Ideal) x0 x1 x2 = fun _ => 1#1) :
    Real' (s := S4x8x16x192x512) x0 ∧ Real' (s := S4x8x8192x192) x1
      ∧ ∀ (b : Fin 4) (H : Fin 8) (q : Fin 32) (j : Fin 256), x2 (ix5 b H q 128 j) = (1 : EReal) := by
  have hs : Subsingleton S_.Idx := ⟨fun a b => funext fun k => k.elim0⟩
  have h0 := congrFun h (fun k => k.elim0)
  dsimp only [fn] at h0
  obtain ⟨h01, h2⟩ := IntOp.andi_eq_one.1 h0
  obtain ⟨h0, h1⟩ := IntOp.andi_eq_one.1 h01
  refine ⟨fun i => real_of _ ?_, fun i => real_of _ ?_, fun b H q j => one_of _ ?_⟩
  · exact Host.reduce_andi_all _ _ _ _ _ h0 i
  · exact Host.reduce_andi_all _ _ _ _ _ h1 i
  · have e := Host.reduce_andi_all _ _ _ _ _ h2 (ix4 b H q j)
    revert e
    pointwise []
    exact id
end Cert.Proof.AttnPre

end
-- ==== Proof.FfnBIdealBody.lean ====
/-
  The second feed-forward half step over the extended reals: what one grid point leaves in the output block and in the buffer of
  the rounded input.
-/
module

public import proofs.«01_k».proof.Proof.Gen.FfnBIdeal.Value
public import Idealize.ShloMosaic.Lib.Pipeline.ValueKit
public import Idealize.ShloMosaic.Lib.Pipeline.ReadBack
public import Idealize.ShloMosaic.Lib.VecWindow
public import Idealize.ShloMosaic.Lib.WritesUnit

@[expose] public section

set_option maxRecDepth 16384

noncomputable section

namespace Cert.Proof.FfnBIdeal

open Cert.FfnBIdeal Cert.FfnBIdeal.Gen Cert.FfnBIdeal.Value Idealize.ShloMosaic Idealize.ShloMosaic.TcCoe Idealize.SL.Sem
open Idealize.ShloMosaic.Pipeline (Dat)

variable (m : (ℓ : Loc nD τ sig) → Buf (Elt Ideal) ℓ)

theorem tripL_eq (c : Dev nD) (i : grid0.Coords) (a2 : Memref sig .tc .vmem S1024x2048 .f32) (h2 : a2.IsWhole) (a3 : Memref sig .tc .vmem S2048x512 .bf16) (h3 : a3.IsWhole) (a4 : Memref sig .tc .vmem S2048x512 .bf16) (h4 : a4.IsWhole) (a5 : Memref sig .tc .vmem S512x2048 .bf16) (h5 : a5.IsWhole) (a6 : Memref sig .tc .vmem S1x2048 .f32) (h6 : a6.IsWhole) (a7 : Memref sig .tc .vmem S1x2048 .f32) (h7 : a7.IsWhole) (a8 : Memref sig .tc .vmem S1024x2048 .f32) (h8 : a8.IsWhole) (a9 : Memref sig .tc .vmem S1024x2048 .bf16) (h9 : a9.IsWhole) (k2 : k0_cond2 i = 1#1)
    (X6 : BufTy.Contents (Elt Ideal) a6.view.ty) (X7 : BufTy.Contents (Elt Ideal) a7.view.ty) (k : Fin k0_t1_loop.trips) (f : BufTy.Contents (Elt Ideal) a8.view.ty) :
    tripL_k0_t1 (F := Ideal) Variants.none c none i a2 h2 a3 h3 a4 h4 a5 h5 a6 h6 a7 h7 a8 h8 a9 h9 k2 X6 X7 k f
      = [⟨Rect.unit (s := S1024x2048) (k0_off1 k) S256x2048.size (k0_off1_inb i k k2),
          k0_pay4 (F := Ideal) (a8.view.readAt (Elt Ideal) (Rect.unit (s := S1024x2048) (k0_off1 k) S256x2048.size (k0_off1_inb i k k2)).toLoadRect f)
            (a6.view.read (Elt Ideal) X6) (a7.view.read (Elt Ideal) X7)⟩] := by
  unfold tripL_k0_t1 trip_k0_t1
  dsimp only
  rw [View.readAt_full a6.view X6, View.readAt_full a7.view X7]

/-- The layer norm of one row, by the kernel's piece of 256 rows that holds it. -/
def lnPiece (B : Vec Ideal S1024x2048 .f32) (g b : Vec Ideal S1x2048 .f32) : Vec Ideal S1024x2048 .f32 := fun i =>
  k0_pay4 (F := Ideal) (fun y => B (ix2 ⟨256 * ((i 0).val / 256) + (y 0).val, by
      have h0 : (i 0).val < 1024 := (i 0).isLt
      have h1 : (y 0).val < 256 := (y 0).isLt
      omega⟩ (y 1))) g b (ix2 ⟨(i 0).val % 256, Nat.mod_lt _ (by decide)⟩ (i 1))

theorem off_eq : ∀ k : Fin k0_t1_loop.trips, k0_off1 k = ![256 * k.val, 0] := by decide +kernel

theorem loop_at (c : Dev nD) (i : grid0.Coords) (a2 : Memref sig .tc .vmem S1024x2048 .f32) (h2 : a2.IsWhole) (a3 : Memref sig .tc .vmem S2048x512 .bf16) (h3 : a3.IsWhole) (a4 : Memref sig .tc .vmem S2048x512 .bf16) (h4 : a4.IsWhole) (a5 : Memref sig .tc .vmem S512x2048 .bf16) (h5 : a5.IsWhole) (a6 : Memref sig .tc .vmem S1x2048 .f32) (h6 : a6.IsWhole) (a7 : Memref sig .tc .vmem S1x2048 .f32) (h7 : a7.IsWhole) (a8 : Memref sig .tc .vmem S1024x2048 .f32) (h8 : a8.IsWhole) (a9 : Memref sig .tc .vmem S1024x2048 .bf16) (h9 : a9.IsWhole) (k2 : k0_cond2 i = 1#1)
    (X6 : BufTy.Contents (Elt Ideal) a6.view.ty) (X7 : BufTy.Contents (Elt Ideal) a7.view.ty) (G : BufTy.Contents (Elt Ideal) a8.view.ty) :
    ∀ n, n ≤ 4 → ∀ (r : Fin 1024) (col : Fin 2048),
      a8.view.read (Elt Ideal) (a8.view.writes (Elt Ideal) G (pb_k0_t1 (F := Ideal) Variants.none c none i a2 h2 a3 h3 a4 h4 a5 h5 a6 h6 a7 h7 a8 h8 a9 h9 k2 X6 X7 G n)) (ix2 r col)
        = if r.val < 256 * n then lnPiece (a8.view.read (Elt Ideal) G) (a6.view.read (Elt Ideal) X6) (a7.view.read (Elt Ideal) X7) (ix2 r col)
          else a8.view.read (Elt Ideal) G (ix2 r col)
  | 0, _, r, col => by rw [if_neg (by omega)]; rfl
  | n + 1, hn, r, col => by
    have ih := loop_at c i a2 h2 a3 h3 a4 h4 a5 h5 a6 h6 a7 h7 a8 h8 a9 h9 k2 X6 X7 G n (by omega)
    have hr := r.isLt
    have hs := pb_k0_t1_succ (F := Ideal) Variants.none c none i a2 h2 a3 h3 a4 h4 a5 h5 a6 h6 a7 h7 a8 h8 a9 h9 k2 X6 X7 G ⟨n, lt_of_lt_of_eq (Nat.lt_of_succ_le hn) (by decide +kernel : 4 = k0_t1_loop.trips)⟩
    rw [tripL_eq, List.singleton_append] at hs
    rw [hs]
    by_cases hc : 256 * n ≤ r.val ∧ r.val < 256 * n + 256
    · rw [if_pos (by omega)]
      refine (View.read_writes_cons_rows_of_mem a8.view G _ _ _ (ix2 r col) (ix2 (⟨r.val - 256 * n, by omega⟩ : Fin 256) col) (off_eq _) ?_ rfl).trans ?_
      · show r.val = 256 * n + (r.val - 256 * n); omega
      unfold lnPiece
      have e : (⟨r.val - 256 * n, by omega⟩ : Fin 256) = ⟨r.val % 256, Nat.mod_lt _ (by decide)⟩ := Fin.ext (by show r.val - 256 * n = r.val % 256; omega)
      rw [e]
      refine congrFun (congrArg (fun v => k0_pay4 (F := Ideal) v (a6.view.read (Elt Ideal) X6) (a7.view.read (Elt Ideal) X7)) (funext fun y => ?_)) _
      rw [View.readAt_unit a8.view _ _ (off_eq _) (by rw [← off_eq]; exact k0_off1_inb i _ k2)]
      have hy : (y 0).val < 256 := (y 0).isLt
      have ej : ((Rect.unit (s := S1024x2048) ![256 * n, 0] S256x2048.size (by rw [← off_eq ⟨n, lt_of_lt_of_eq (Nat.lt_of_succ_le hn) (by decide +kernel : 4 = k0_t1_loop.trips)⟩]; exact k0_off1_inb i _ k2)).emb y)
          = ix2 (⟨256 * n + (y 0).val, by omega⟩ : Fin 1024) (y 1) := funext fun a => Fin.ext (by
        fin_cases a
        · show 256 * n + 1 * (y 0).val = _; simp [ix2]
        · show 0 + 1 * (y 1).val = _; simp [ix2])
      refine (congrArg _ ej).trans ((ih _ _).trans ?_)
      rw [if_neg (by show ¬ 256 * n + (y 0).val < 256 * n; omega)]
      exact congrArg _ (congrArg (fun z => ix2 z (y 1)) (Fin.ext (by show 256 * n + (y 0).val = 256 * (r.val / 256) + (y 0).val; omega)))
    · refine (View.read_writes_cons_rows_of_not_mem (W := 256) a8.view G _ _ _ (ix2 r col) (off_eq _) rfl ?_).trans ((ih r col).trans ?_)
      · show r.val < 256 * n ∨ 256 * n + 256 ≤ r.val; omega
      · by_cases h : r.val < 256 * n
        · rw [if_pos h, if_pos (by omega)]
        · rw [if_neg h, if_neg (by omega)]

theorem at_A (c : Dev nD) (t : Fin cfg0.N) (h0 : t.val % 11 = 0) (h1 : ¬t.val % 11 = 10) :
    outsAt0 m c t.val t.isLt = (k0_pay3 (k0_pay1 (iblk m c 0 t)) (iblk m c 1 t) (iblk m c 2 t) (k0_pay2 (iblk m c 0 t)) (iblk m c 3 t), k0_pay1 (iblk m c 0 t)) := by
  rw [outsAt0_A m c t h0 h1]
  frame_out
theorem at_B (c : Dev nD) (t : Fin cfg0.N) (h0 : ¬t.val % 11 = 0) (h1 : ¬t.val % 11 = 10) (x y) (hp : outsAt0 m c (t.val - 1) (Nat.lt_of_le_of_lt (Nat.sub_le _ _) t.isLt) = (x, y)) :
    outsAt0 m c t.val t.isLt = (k0_pay3 y (iblk m c 1 t) (iblk m c 2 t) x (iblk m c 3 t), y) := by
  rw [outsAt0_B m c t h0 h1, hp]
  frame_out
  simp only [read_unread_whole, sout0_B_0]
theorem at_C (c : Dev nD) (t : Fin cfg0.N) (h0 : ¬t.val % 11 = 0) (h1 : t.val % 11 = 10) (x y) (hp : outsAt0 m c (t.val - 1) (Nat.lt_of_le_of_lt (Nat.sub_le _ _) t.isLt) = (x, y)) :
    outsAt0 m c t.val t.isLt = (k0_pay3 y (iblk m c 1 t) (iblk m c 2 t) x (iblk m c 3 t) |> fun B => lnPiece B (iblk m c 4 t) (iblk m c 5 t), y) := by
  rw [outsAt0_C m c t h0 h1, hp]
  frame_out
  simp only [read_unread_whole, sout0_C_0]
  refine congrArg (fun z => (z, y)) ?_
  refine (View.read_writes_eq_canon (ms0_6 t).view (ms0_6 t).view.junk _ ?_).symm.trans ?_
  · intro y
    exact ⟨_, List.mem_append_right _ (List.mem_singleton.mpr rfl), by
      refine (Rect.mem_set_unit (inb := inb_S1024x2048_S1024x2048_0_0)).mpr fun (a : Fin 2) => ?_
      have := (y a).isLt
      fin_cases a
      · exact ⟨Nat.zero_le _, by simpa using this⟩
      · exact ⟨Nat.zero_le _, by simpa using this⟩⟩
  rw [View.writes_append]
  refine funext fun i => ?_
  obtain ⟨r, col, rfl⟩ : ∃ (r : Fin 1024) (col : Fin 2048), i = ix2 r col := ⟨i 0, i 1, funext fun a => by fin_cases a <;> rfl⟩
  refine (loop_at c (grid0.coords t) _ _ _ _ _ _ _ _ _ _ _ _ _ _ _ _ _ _ _ _ 4 le_rfl r col).trans ?_
  rw [if_pos r.isLt, Memref.IsWhole.read_unread, Memref.IsWhole.read_unread]
  refine congrFun (congrArg (fun v => lnPiece v (iblk m c 4 t) (iblk m c 5 t)) ?_) _
  exact View.read_writes_full (ms0_6 t).view _ inb_S1024x2048_S1024x2048_0_0 _ []

end Cert.Proof.FfnBIdeal

end
-- ==== Proof.FfnMath.lean ====
/-
  The feed-forward half step over the extended reals: its numbers, free of any array layout.

  `gated` is one entry of the gated projection, `act(s) · u` with `act(s) = s · σ(s)`; `term` is one term of the down
  projection; `ln` is one entry of the layer norm of a row. The kernel computes `σ(s)` as `½ · tanh(½ s) + ½`: `sigmoid_eq`.
-/
module

public import proofs.«01_k».proof.Proof.Online

@[expose] public section

noncomputable section

namespace Cert.Proof.Ffn

open Idealize.ShloMosaic

theorem half : Ideal.ofBits .f32 0x3F000000#32 = ((1 / 2 : ℝ) : EReal) := by
  simp [Ideal.ofBits, Ideal.ieee, -EReal.coe_mul]; norm_num

theorem sigmoid_real (r : ℝ) : 1 / 2 * Real.tanh (1 / 2 * r) + 1 / 2 = 1 / (1 + Real.exp (-r)) := by
  have e : Real.exp (-r) = Real.exp (-(1 / 2 * r)) / Real.exp (1 / 2 * r) := by
    rw [← Real.exp_sub]; congr 1; ring
  have h1 : 0 < Real.exp (1 / 2 * r) := Real.exp_pos _
  have h2 : 0 < Real.exp (-(1 / 2 * r)) := Real.exp_pos _
  rw [Real.tanh_eq_sinh_div_cosh, Real.sinh_eq, Real.cosh_eq, e]
  field_simp
  ring

/-- The logistic function, from the hyperbolic tangent of half the argument. -/
theorem sigmoid_eq (x : EReal) :
    Ideal.ofBits .f32 0x3F000000#32 * Ideal.tanh (Ideal.ofBits .f32 0x3F000000#32 * x) + Ideal.ofBits .f32 0x3F000000#32
      = Ideal.div 1 (1 + Ideal.exp (-x)) := by
  rw [half]
  induction x with
  | bot =>
    rw [EReal.coe_mul_bot_of_pos (by norm_num), EReal.neg_bot]
    show ((1 / 2 : ℝ) : EReal) * (-1) + ((1 / 2 : ℝ) : EReal) = Ideal.div 1 (1 + ⊤)
    have e : (1 : EReal) + ⊤ = ⊤ := EReal.coe_add_top 1
    rw [e, Ideal.div, if_neg EReal.top_ne_zero, EReal.inv_top, mul_zero]
    have e1 : (-1 : EReal) = ((-1 : ℝ) : EReal) := by norm_num
    rw [e1, ← EReal.coe_mul, ← EReal.coe_add]
    norm_num
  | top =>
    rw [EReal.coe_mul_top_of_pos (by norm_num), EReal.neg_top]
    show ((1 / 2 : ℝ) : EReal) * 1 + ((1 / 2 : ℝ) : EReal) = Ideal.div 1 (1 + 0)
    rw [add_zero, Ideal.div, if_neg one_ne_zero, mul_one, one_mul, ← EReal.coe_add]
    norm_num
  | coe r =>
    rw [← EReal.coe_mul]
    show ((1 / 2 : ℝ) : EReal) * ((Real.tanh (1 / 2 * r) : ℝ) : EReal) + ((1 / 2 : ℝ) : EReal) = Ideal.div 1 (1 + Ideal.exp (-(r : EReal)))
    rw [← EReal.coe_neg]
    show _ = Ideal.div 1 (1 + ((Real.exp (-r) : ℝ) : EReal))
    have h : (1 : EReal) + ((Real.exp (-r) : ℝ) : EReal) = ((1 + Real.exp (-r) : ℝ) : EReal) := by rw [EReal.coe_add, EReal.coe_one]
    have hp : (1 + Real.exp (-r) : ℝ) ≠ 0 := by have := Real.exp_pos (-r); positivity
    rw [h, Ideal.div, if_neg (by exact_mod_cast hp), one_mul, ← EReal.coe_mul, ← EReal.coe_add, sigmoid_real, ← EReal.coe_inv, one_div]

/-- One entry of the gated projection: the gate's preactivation `s`, the other projection `u`. -/
def gate (s u : EReal) : EReal := s * Ideal.div 1 (1 + Ideal.exp (-s)) * u

/-- One entry of the layer norm of the row `v`, with scale `g` and shift `b`. -/
def ln (v : Fin 2048 → EReal) (g b : EReal) (d : Fin 2048) : EReal :=
  (v d - Ideal.div (∑ k, v k) (Ideal.ofBits .f32 0x45000000#32))
      * Ideal.rsqrt (Ideal.div (∑ j, (v j - Ideal.div (∑ k, v k) (Ideal.ofBits .f32 0x45000000#32)) * (v j - Ideal.div (∑ k, v k) (Ideal.ofBits .f32 0x45000000#32)))
            (Ideal.ofBits .f32 0x45000000#32) + Ideal.ofBits .f32 0x3727C5AC#32)
      * g + b

section Row
variable (x : Fin 2048 → EReal) (Wg Wu : Fin 2048 → Fin 5632 → EReal) (Wd : Fin 5632 → Fin 2048 → EReal)

/-- Term `k` of the down projection of the row `x`, at column `d` (0 past the 5632 hidden entries). -/
def term (d : Fin 2048) (k : ℕ) : EReal :=
  if h : k < 5632 then gate (∑ j, x j * Wg j ⟨k, h⟩) (∑ j, x j * Wu j ⟨k, h⟩) * Wd ⟨k, h⟩ d else 0

/-- `α x` plus the first `n` terms of the down projection, at column `d`. -/
def pre (n : ℕ) (d : Fin 2048) : EReal := Ideal.ofBits .f32 0x3F9837F0#32 * x d + ∑ k ∈ Finset.range n, term x Wg Wu Wd d k

theorem pre_zero (d : Fin 2048) : pre x Wg Wu Wd 0 d = Ideal.ofBits .f32 0x3F9837F0#32 * x d := by
  unfold pre; rw [Finset.sum_range_zero, add_zero]

theorem pre_add (n b : ℕ) (d : Fin 2048) (f : Fin b → EReal) (h : ∀ q : Fin b, f q = term x Wg Wu Wd d (n + q.val)) :
    pre x Wg Wu Wd n d + ∑ q, f q = pre x Wg Wu Wd (n + b) d := by
  unfold pre
  rw [Online.sum_add, add_assoc]
  exact congrArg _ (congrArg _ (Finset.sum_congr rfl fun q _ => h q))

theorem pre_all (d : Fin 2048) :
    Ideal.ofBits .f32 0x3F9837F0#32 * x d + ∑ k : Fin 5632, gate (∑ j, x j * Wg j k) (∑ j, x j * Wu j k) * Wd k d = pre x Wg Wu Wd 5632 d := by
  unfold pre
  rw [Finset.sum_range]
  refine congrArg _ (Finset.sum_congr rfl fun k _ => ?_)
  unfold term
  rw [dif_pos k.isLt]

/-- One entry of the half step: the layer norm of `α x` plus the down projection. -/
def out (g b : EReal) (d : Fin 2048) : EReal := ln (pre x Wg Wu Wd 5632) g b d

end Row

end Cert.Proof.Ffn

end
-- ==== Proof.FfnBIdealPure.lean ====
/-
  The second feed-forward half step over the extended reals: what the kernel's stored values are at an index.
-/
module

public import proofs.«01_k».proof.Proof.FfnBIdealBody
public import proofs.«01_k».proof.Proof.FfnMath
public import Idealize.ShloMosaic.Lib.Pointwise

@[expose] public section

set_option maxRecDepth 16384

noncomputable section

namespace Cert.Proof.FfnBIdeal

open Cert.FfnBIdeal Cert.FfnBIdeal.Gen Idealize.ShloMosaic Idealize.ShloMosaic.TcCoe

theorem pay1_at (x : Vec Ideal S1024x2048 .f32) (r : Fin 1024) (d : Fin 2048) : k0_pay1 (F := Ideal) x (ix2 r d) = x (ix2 r d) := by
  pointwise [k0_pay1]
theorem pay2_at (x : Vec Ideal S1024x2048 .f32) (r : Fin 1024) (d : Fin 2048) :
    k0_pay2 (F := Ideal) x (ix2 r d) = Ideal.ofBits .f32 0x3F9837F0#32 * x (ix2 r d) := by
  pointwise [k0_pay2]
theorem pay3_at (x : Vec Ideal S1024x2048 .bf16) (wg wu : Vec Ideal S2048x512 .bf16) (a : Vec Ideal S1024x2048 .f32) (wd : Vec Ideal S512x2048 .bf16)
    (r : Fin 1024) (d : Fin 2048) : k0_pay3 (F := Ideal) x wg wu a wd (ix2 r d)
      = a (ix2 r d) + ∑ q : Fin 512, Ffn.gate (∑ j : Fin 2048, x (ix2 r j) * wg (ix2 j q)) (∑ j : Fin 2048, x (ix2 r j) * wu (ix2 j q)) * wd (ix2 q d) := by
  pointwise [k0_pay3]
  refine congrArg _ (Finset.sum_congr rfl fun q _ => ?_)
  rw [Ffn.sigmoid_eq]
  rfl
theorem pay4_at (x : Vec Ideal S256x2048 .f32) (g b : Vec Ideal S1x2048 .f32) (r : Fin 256) (d : Fin 2048) :
    k0_pay4 (F := Ideal) x g b (ix2 r d) = Ffn.ln (fun k => x (ix2 r k)) (g (ix2 0 d)) (b (ix2 0 d)) d := by
  pointwise [k0_pay4]
  rfl
theorem lnPiece_at (B : Vec Ideal S1024x2048 .f32) (g b : Vec Ideal S1x2048 .f32) (r : Fin 1024) (d : Fin 2048) :
    lnPiece B g b (ix2 r d) = Ffn.ln (fun k => B (ix2 r k)) (g (ix2 0 d)) (b (ix2 0 d)) d := by
  have hr := r.isLt
  unfold lnPiece
  refine (pay4_at _ g b _ _).trans ?_
  refine congrArg (fun v => Ffn.ln v (g (ix2 0 d)) (b (ix2 0 d)) d) (funext fun k => ?_)
  exact congrArg B (congrArg (fun z => ix2 z k) (Fin.ext (by show 256 * (r.val / 256) + r.val % 256 = r.val; omega)))

end Cert.Proof.FfnBIdeal

end
-- ==== Proof.FfnBIdealValue.lean ====
/-
  The result array of the second feed-forward half step over the extended reals, as one function of its six arguments.

  Grid point `11 i + j` works on the rows `1024 i, …` and on the hidden entries `512 j, …`. `state`: after it the output block
  is `α x` plus the terms of the down projection up to entry `512 (j + 1)`, and the scratch is the rounded rows of `x`. The
  last point of the eleven takes the layer norm of the block (`point`), and the 32 blocks cover the array (`final`).
-/
module

public import proofs.«01_k».proof.Proof.FfnBIdealPure
public import Idealize.ShloMosaic.Lib.Claim

@[expose] public section

set_option maxRecDepth 16384

noncomputable section

namespace Cert.Proof.FfnBIdeal

open Cert.FfnBIdeal Cert.FfnBIdeal.Gen Idealize.ShloMosaic Idealize.ShloMosaic.TcCoe Idealize.SL Idealize.SL.Sem Idealize.ShloMosaic.Tactic
open Idealize.ShloMosaic.Pipeline (Dat)

/-- The result, of the six argument arrays. -/
def G (X : FVec Ideal S32768x2048 .f32) (wg wu : FVec Ideal S2048x5632 .bf16) (wd : FVec Ideal S5632x2048 .bf16) (g b : FVec Ideal S2048 .f32) :
    FVec Ideal S32768x2048 .f32 := fun i =>
  Ffn.out (fun k => X (ix2 (i 0) k)) (fun j k => wg (ix2 j k)) (fun j k => wu (ix2 j k)) (fun k d => wd (ix2 k d)) (g (ix1 (i 1))) (b (ix1 (i 1))) (i 1)

variable (m : (ℓ : Loc nD τ sig) → Buf (Elt Ideal) ℓ)

/-- The block index of each window at a point. -/
theorem idx : ∀ t : Fin cfg0.N, win0_0.index t = ![t.val / 11, 0] ∧ win0_1.index t = ![0, t.val % 11] ∧ win0_2.index t = ![0, t.val % 11]
    ∧ win0_3.index t = ![t.val % 11, 0] ∧ win0_4.index t = ![0, 0] ∧ win0_5.index t = ![0, 0] ∧ win0_6.index t = ![t.val / 11, 0] ∧ t.val / 11 < 32 :=
  (by decide +kernel : ∀ t : Fin grid0.N, _)

abbrev aX (c : Dev nD) : FVec Ideal S32768x2048 .f32 := m ((c : Thread nD τ).loc main_arg0)
abbrev aG (c : Dev nD) : FVec Ideal S2048x5632 .bf16 := m ((c : Thread nD τ).loc main_arg1)
abbrev aU (c : Dev nD) : FVec Ideal S2048x5632 .bf16 := m ((c : Thread nD τ).loc main_arg2)
abbrev aD (c : Dev nD) : FVec Ideal S5632x2048 .bf16 := m ((c : Thread nD τ).loc main_arg3)
abbrev aS (c : Dev nD) : FVec Ideal S2048 .f32 := m ((c : Thread nD τ).loc main_arg4)
abbrev aB (c : Dev nD) : FVec Ideal S2048 .f32 := m ((c : Thread nD τ).loc main_arg5)

theorem blkX (c : Dev nD) (t : Fin cfg0.N) (R : Fin 32768) (r : Fin 1024) (e : R.val = 1024 * (t.val / 11) + r.val) (k : Fin 2048) :
    iblk m c 0 t (ix2 r k) = aX m c (ix2 R k) := by
  blk_ext [iblk, V, idx t]
theorem blkG (c : Dev nD) (t : Fin cfg0.N) (k : Fin 2048) (q : Fin 512) (K : Fin 5632) (e : K.val = 512 * (t.val % 11) + q.val) :
    iblk m c 1 t (ix2 k q) = aG m c (ix2 k K) := by
  blk_ext [iblk, V, idx t]
theorem blkU (c : Dev nD) (t : Fin cfg0.N) (k : Fin 2048) (q : Fin 512) (K : Fin 5632) (e : K.val = 512 * (t.val % 11) + q.val) :
    iblk m c 2 t (ix2 k q) = aU m c (ix2 k K) := by
  blk_ext [iblk, V, idx t]
theorem blkD (c : Dev nD) (t : Fin cfg0.N) (q : Fin 512) (d : Fin 2048) (K : Fin 5632) (e : K.val = 512 * (t.val % 11) + q.val) :
    iblk m c 3 t (ix2 q d) = aD m c (ix2 K d) := by
  blk_ext [iblk, V, idx t]
theorem row_at (v : FVec Ideal S2048 .f32) (d : Fin 2048) :
    (shapeCast S1x2048 v shapeCasts_S2048_S1x2048 : FVec Ideal S1x2048 .f32) (ix2 0 d) = v (ix1 d) := by
  pointwise []
theorem blkS (c : Dev nD) (t : Fin cfg0.N) (d : Fin 2048) : iblk m c 4 t (ix2 0 d) = aS m c (ix1 d) := by
  have e : ((V m c main_v0 : FVec Ideal S1x2048 .f32)) = shapeCast S1x2048 (aS m c) shapeCasts_S2048_S1x2048 := by
    entry_read; rfl
  refine Eq.trans ?_ ((congrFun e (ix2 0 d)).trans (row_at (aS m c) d))
  blk_ext [iblk, idx t]
theorem blkB (c : Dev nD) (t : Fin cfg0.N) (d : Fin 2048) : iblk m c 5 t (ix2 0 d) = aB m c (ix1 d) := by
  have e : ((V m c main_v1 : FVec Ideal S1x2048 .f32)) = shapeCast S1x2048 (aB m c) shapeCasts_S2048_S1x2048 := by
    entry_read; rfl
  refine Eq.trans ?_ ((congrFun e (ix2 0 d)).trans (row_at (aB m c) d))
  blk_ext [iblk, idx t]

/-- The row `R` of the input, and the weights, as functions of their positions. -/
abbrev xr (c : Dev nD) (R : Fin 32768) : Fin 2048 → EReal := fun k => aX m c (ix2 R k)
abbrev gm (c : Dev nD) : Fin 2048 → Fin 5632 → EReal := fun j k => aG m c (ix2 j k)
abbrev um (c : Dev nD) : Fin 2048 → Fin 5632 → EReal := fun j k => aU m c (ix2 j k)
abbrev dm (c : Dev nD) : Fin 5632 → Fin 2048 → EReal := fun k d => aD m c (ix2 k d)

/-- A point adds its 512 terms of the down projection to the output block. -/
theorem step (c : Dev nD) (t : Fin cfg0.N) (xb : Vec Ideal S1024x2048 .bf16) (a : Vec Ideal S1024x2048 .f32) (R : Fin 32768) (r : Fin 1024)
    (hx : ∀ k, xb (ix2 r k) = xr m c R k) (ha : ∀ d, a (ix2 r d) = Ffn.pre (xr m c R) (gm m c) (um m c) (dm m c) (512 * (t.val % 11)) d) (d : Fin 2048) :
    k0_pay3 (F := Ideal) xb (iblk m c 1 t) (iblk m c 2 t) a (iblk m c 3 t) (ix2 r d)
      = Ffn.pre (xr m c R) (gm m c) (um m c) (dm m c) (512 * (t.val % 11) + 512) d := by
  refine (pay3_at _ _ _ _ _ r d).trans ?_
  rw [ha d]
  refine Ffn.pre_add _ _ _ _ _ 512 d _ fun q => ?_
  have hq := q.isLt
  have hk : 512 * (t.val % 11) + q.val < 5632 := by omega
  unfold Ffn.term
  rw [dif_pos hk, blkD m c t q d ⟨_, hk⟩ rfl]
  refine congrArg (· * _) ?_
  refine congr (congrArg Ffn.gate ?_) ?_ <;> refine Finset.sum_congr rfl fun j _ => ?_
  · rw [hx j, blkG m c t j q ⟨_, hk⟩ rfl]
  · rw [hx j, blkU m c t j q ⟨_, hk⟩ rfl]

/-- What a point before the last of its eleven leaves: the partial sums, and the rounded rows. -/
theorem state (c : Dev nD) : ∀ (j i : ℕ) (hj : j < 10) (t : Fin cfg0.N) (ht : t.val = 11 * i + j) (R : Fin 32768) (r : Fin 1024)
    (e : R.val = 1024 * i + r.val),
    (∀ d, (outsAt0 m c t.val t.isLt).1 (ix2 r d) = Ffn.pre (xr m c R) (gm m c) (um m c) (dm m c) (512 * (t.val % 11) + 512) d)
      ∧ ∀ d, (outsAt0 m c t.val t.isLt).2 (ix2 r d) = xr m c R d
  | 0, i, hj, t, ht, R, r, e => by
    rw [at_A m c t (by omega) (by omega)]
    have hx : ∀ d, k0_pay1 (F := Ideal) (iblk m c 0 t) (ix2 r d) = xr m c R d := fun d =>
      (pay1_at _ r d).trans (blkX m c t R r (by omega) d)
    refine ⟨step m c t _ _ R r hx fun d => ?_, hx⟩
    have e0 : 512 * (t.val % 11) = 0 := by omega
    rw [e0, Ffn.pre_zero]
    exact (pay2_at _ r d).trans (congrArg _ (blkX m c t R r (by omega) d))
  | j + 1, i, hj, t, ht, R, r, e => by
    have hp := state c j i (by omega) ⟨t.val - 1, Nat.lt_of_le_of_lt (Nat.sub_le _ _) t.isLt⟩ (by show t.val - 1 = _; omega) R r e
    rw [at_B m c t (by omega) (by omega) _ _ rfl]
    have e1 : 512 * ((t.val - 1) % 11) + 512 = 512 * (t.val % 11) := by omega
    refine ⟨step m c t _ _ R r hp.2 fun d => (hp.1 d).trans ?_, hp.2⟩
    show Ffn.pre _ _ _ _ (512 * ((t.val - 1) % 11) + 512) d = _
    rw [e1]

/-- What the last point of eleven leaves is its block of `G`. -/
theorem point (c : Dev nD) (t : Fin cfg0.N) (h : t.val % 11 = 10) (R : Fin 32768) (r : Fin 1024) (e : R.val = 1024 * (t.val / 11) + r.val) (d : Fin 2048) :
    (outsAt0 m c t.val t.isLt).1 (ix2 r d) = G (aX m c) (aG m c) (aU m c) (aD m c) (aS m c) (aB m c) (ix2 R d) := by
  have hp := state m c 9 (t.val / 11) (by omega) ⟨t.val - 1, Nat.lt_of_le_of_lt (Nat.sub_le _ _) t.isLt⟩ (by show t.val - 1 = _; omega) R r e
  rw [at_C m c t (by omega) h _ _ rfl]
  refine (lnPiece_at _ _ _ r d).trans ?_
  show _ = Ffn.ln (Ffn.pre (xr m c R) (gm m c) (um m c) (dm m c) 5632) (aS m c (ix1 d)) (aB m c (ix1 d)) d
  have e1 : 512 * ((t.val - 1) % 11) + 512 = 512 * (t.val % 11) := by omega
  have e2 : 512 * (t.val % 11) + 512 = 5632 := by omega
  rw [blkS m c t d, blkB m c t d]
  refine congrArg (fun v => Ffn.ln v (aS m c (ix1 d)) (aB m c (ix1 d)) d) (funext fun k => ?_)
  rw [← e2]
  refine step m c t _ _ R r hp.2 (fun d => (hp.1 d).trans ?_) k
  show Ffn.pre _ _ _ _ (512 * ((t.val - 1) % 11) + 512) d = _
  rw [e1]

/-- The result array after the launch. -/
theorem final (c : Dev nD) : (dats m 0 c).arrAt 6 cfg0.N = G (aX m c) (aG m c) (aU m c) (aD m c) (aS m c) (aB m c) := by
  refine (dats m 0 c).arrAt_eq_of_covers 6 _ (by decide +kernel) fun t hf y => ?_
  blk_simp
  rw [after0_6]
  have h8 := (idx t).2.2.2.2.2.2.2
  have hi := (idx t).2.2.2.2.2.2.1
  have hy0 : (y 0).val < 1024 := (y 0).isLt
  have hy1 : (y 1).val < 2048 := (y 1).isLt
  have ey : y = ix2 (⟨(y 0).val, hy0⟩ : Fin 1024) (⟨(y 1).val, hy1⟩ : Fin 2048) := funext fun a => by fin_cases a <;> rfl
  rw [ey]
  refine (point m c t ((flush0_6 t).mp hf) ⟨1024 * (t.val / 11) + (y 0).val, by omega⟩ ⟨(y 0).val, hy0⟩ rfl ⟨(y 1).val, hy1⟩).trans ?_
  blk_ext [idx t]

end Cert.Proof.FfnBIdeal

end
-- ==== Proof.FfnBRefValue.lean ====
/-
  The reference of the second feed-forward half step over the extended reals, at an index.
-/
module

public import proofs.«01_k».proof.Proof.Gen.FfnBRefIdeal.Read
public import proofs.«01_k».proof.Proof.FfnMath
public import Idealize.ShloMosaic.Lib.Pointwise

@[expose] public section

set_option maxRecDepth 16384

noncomputable section

namespace Cert.Proof.FfnBRef

open Cert.FfnBRefIdeal Cert.FfnBRefIdeal.Read Idealize.ShloMosaic Idealize.ShloMosaic.TcCoe

variable (x : FVec Ideal S32768x2048 .f32) (wg wu : FVec Ideal S2048x5632 .bf16) (wd : FVec Ideal S5632x2048 .bf16) (g b : FVec Ideal S2048 .f32)

theorem pre_at (r : Fin 32768) (d : Fin 2048) : (val_main_v10 (F := Ideal) x wg wu wd : FVec Ideal S32768x2048 .f32) (ix2 r d)
    = Ffn.pre (fun k => x (ix2 r k)) (fun j k => wg (ix2 j k)) (fun j k => wu (ix2 j k)) (fun k d => wd (ix2 k d)) 5632 d := by
  refine Eq.trans ?_ (Ffn.pre_all (fun k => x (ix2 r k)) (fun j k => wg (ix2 j k)) (fun j k => wu (ix2 j k)) (fun k d => wd (ix2 k d)) d)
  pointwise [val_main_v10, val_main_v9, val_main_v8, val_main_v7, val_main_v6, val_main_v5, val_main_v4, val_main_v3, val_main_v2, val_main_v1, val_main_v0, val_main_cst,
    val_main_call0_v0, val_main_call0_v1, val_main_call0_v2, val_main_call0_v3, val_main_call0_v4, val_main_call0_v5, val_main_call0_cst, val_main_call0_cst_0]
  rfl

theorem out_at (r : Fin 32768) (d : Fin 2048) : (val_main_v32 (F := Ideal) x wg wu wd g b : FVec Ideal S32768x2048 .f32) (ix2 r d)
    = Ffn.out (fun k => x (ix2 r k)) (fun j k => wg (ix2 j k)) (fun j k => wu (ix2 j k)) (fun k d => wd (ix2 k d)) (g (ix1 d)) (b (ix1 d)) d := by
  unfold Ffn.out
  rw [← funext (pre_at x wg wu wd r)]
  pointwise [val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_cst_0, val_main_cst_1, val_main_cst_2, val_main_cst_3, val_main_cst_4]
  rfl

end Cert.Proof.FfnBRef

end
-- ==== Proof.FfnAIdealBody.lean ====
/-
  The first feed-forward half step over the extended reals: what one grid point leaves in the output block and in the buffer of
  the rounded input.
-/
module

public import proofs.«01_k».proof.Proof.Gen.FfnAIdeal.Value
public import Idealize.ShloMosaic.Lib.Pipeline.ValueKit
public import Idealize.ShloMosaic.Lib.Pipeline.ReadBack
public import Idealize.ShloMosaic.Lib.VecWindow
public import Idealize.ShloMosaic.Lib.WritesUnit

@[expose] public section

set_option maxRecDepth 16384

noncomputable section

namespace Cert.Proof.FfnAIdeal

open Cert.FfnAIdeal Cert.FfnAIdeal.Gen Cert.FfnAIdeal.Value Idealize.ShloMosaic Idealize.ShloMosaic.TcCoe Idealize.SL.Sem
open Idealize.ShloMosaic.Pipeline (Dat)

variable (m : (ℓ : Loc nD τ sig) → Buf (Elt Ideal) ℓ)

theorem tripL_eq (c : Dev nD) (i : grid0.Coords) (a2 : Memref sig .tc .vmem S1024x2048 .f32) (h2 : a2.IsWhole) (a3 : Memref sig .tc .vmem S2048x512 .bf16) (h3 : a3.IsWhole) (a4 : Memref sig .tc .vmem S2048x512 .bf16) (h4 : a4.IsWhole) (a5 : Memref sig .tc .vmem S512x2048 .bf16) (h5 : a5.IsWhole) (a6 : Memref sig .tc .vmem S1x2048 .f32) (h6 : a6.IsWhole) (a7 : Memref sig .tc .vmem S1x2048 .f32) (h7 : a7.IsWhole) (a8 : Memref sig .tc .vmem S64x512 .f32) (h8 : a8.IsWhole) (a9 : Memref sig .tc .vmem S64x512 .f32) (h9 : a9.IsWhole) (a10 : Memref sig .tc .vmem S16x2048 .f32) (h10 : a10.IsWhole) (a11 : Memref sig .tc .vmem S1024x2048 .f32) (h11 : a11.IsWhole) (a12 : Memref sig .tc .vmem S64x512 .bf16) (h12 : a12.IsWhole) (a13 : Memref sig .tc .vmem S64x512 .bf16) (h13 : a13.IsWhole) (a14 : Memref sig .tc .vmem S16x2048 .bf16) (h14 : a14.IsWhole) (a15 : Memref sig .tc .vmem S1024x2048 .bf16) (h15 : a15.IsWhole) (k2 : k0_cond2 i = 1#1)
    (X6 : BufTy.Contents (Elt Ideal) a6.view.ty) (X7 : BufTy.Contents (Elt Ideal) a7.view.ty) (k : Fin k0_t1_loop.trips) (f : BufTy.Contents (Elt Ideal) a11.view.ty) :
    tripL_k0_t1 (F := Ideal) Variants.none c none i a2 h2 a3 h3 a4 h4 a5 h5 a6 h6 a7 h7 a8 h8 a9 h9 a10 h10 a11 h11 a12 h12 a13 h13 a14 h14 a15 h15 k2 X6 X7 k f
      = [⟨Rect.unit (s := S1024x2048) (k0_off1 k) S256x2048.size (k0_off1_inb i k k2),
          k0_pay3 (F := Ideal) (a11.view.readAt (Elt Ideal) (Rect.unit (s := S1024x2048) (k0_off1 k) S256x2048.size (k0_off1_inb i k k2)).toLoadRect f)
            (a6.view.read (Elt Ideal) X6) (a7.view.read (Elt Ideal) X7)⟩] := by
  unfold tripL_k0_t1 trip_k0_t1
  dsimp only
  rw [View.readAt_full a6.view X6, View.readAt_full a7.view X7]

/-- The layer norm of one row, by the kernel's piece of 256 rows that holds it. -/
def lnPiece (B : Vec Ideal S1024x2048 .f32) (g b : Vec Ideal S1x2048 .f32) : Vec Ideal S1024x2048 .f32 := fun i =>
  k0_pay3 (F := Ideal) (fun y => B (ix2 ⟨256 * ((i 0).val / 256) + (y 0).val, by
      have h0 : (i 0).val < 1024 := (i 0).isLt
      have h1 : (y 0).val < 256 := (y 0).isLt
      omega⟩ (y 1))) g b (ix2 ⟨(i 0).val % 256, Nat.mod_lt _ (by decide)⟩ (i 1))

theorem off_eq : ∀ k : Fin k0_t1_loop.trips, k0_off1 k = ![256 * k.val, 0] := by decide +kernel

theorem loop_at (c : Dev nD) (i : grid0.Coords) (a2 : Memref sig .tc .vmem S1024x2048 .f32) (h2 : a2.IsWhole) (a3 : Memref sig .tc .vmem S2048x512 .bf16) (h3 : a3.IsWhole) (a4 : Memref sig .tc .vmem S2048x512 .bf16) (h4 : a4.IsWhole) (a5 : Memref sig .tc .vmem S512x2048 .bf16) (h5 : a5.IsWhole) (a6 : Memref sig .tc .vmem S1x2048 .f32) (h6 : a6.IsWhole) (a7 : Memref sig .tc .vmem S1x2048 .f32) (h7 : a7.IsWhole) (a8 : Memref sig .tc .vmem S64x512 .f32) (h8 : a8.IsWhole) (a9 : Memref sig .tc .vmem S64x512 .f32) (h9 : a9.IsWhole) (a10 : Memref sig .tc .vmem S16x2048 .f32) (h10 : a10.IsWhole) (a11 : Memref sig .tc .vmem S1024x2048 .f32) (h11 : a11.IsWhole) (a12 : Memref sig .tc .vmem S64x512 .bf16) (h12 : a12.IsWhole) (a13 : Memref sig .tc .vmem S64x512 .bf16) (h13 : a13.IsWhole) (a14 : Memref sig .tc .vmem S16x2048 .bf16) (h14 : a14.IsWhole) (a15 : Memref sig .tc .vmem S1024x2048 .bf16) (h15 : a15.IsWhole) (k2 : k0_cond2 i = 1#1)
    (X6 : BufTy.Contents (Elt Ideal) a6.view.ty) (X7 : BufTy.Contents (Elt Ideal) a7.view.ty) (G : BufTy.Contents (Elt Ideal) a11.view.ty) :
    ∀ n, n ≤ 4 → ∀ (r : Fin 1024) (col : Fin 2048),
      a11.view.read (Elt Ideal) (a11.view.writes (Elt Ideal) G (pb_k0_t1 (F := Ideal) Variants.none c none i a2 h2 a3 h3 a4 h4 a5 h5 a6 h6 a7 h7 a8 h8 a9 h9 a10 h10 a11 h11 a12 h12 a13 h13 a14 h14 a15 h15 k2 X6 X7 G n)) (ix2 r col)
        = if r.val < 256 * n then lnPiece (a11.view.read (Elt Ideal) G) (a6.view.read (Elt Ideal) X6) (a7.view.read (Elt Ideal) X7) (ix2 r col)
          else a11.view.read (Elt Ideal) G (ix2 r col)
  | 0, _, r, col => by rw [if_neg (by omega)]; rfl
  | n + 1, hn, r, col => by
    have ih := loop_at c i a2 h2 a3 h3 a4 h4 a5 h5 a6 h6 a7 h7 a8 h8 a9 h9 a10 h10 a11 h11 a12 h12 a13 h13 a14 h14 a15 h15 k2 X6 X7 G n (by omega)
    have hr := r.isLt
    have hs := pb_k0_t1_succ (F := Ideal) Variants.none c none i a2 h2 a3 h3 a4 h4 a5 h5 a6 h6 a7 h7 a8 h8 a9 h9 a10 h10 a11 h11 a12 h12 a13 h13 a14 h14 a15 h15 k2 X6 X7 G ⟨n, lt_of_lt_of_eq (Nat.lt_of_succ_le hn) (by decide +kernel : 4 = k0_t1_loop.trips)⟩
    rw [tripL_eq, List.singleton_append] at hs
    rw [hs]
    by_cases hc : 256 * n ≤ r.val ∧ r.val < 256 * n + 256
    · rw [if_pos (by omega)]
      refine (View.read_writes_cons_rows_of_mem a11.view G _ _ _ (ix2 r col) (ix2 (⟨r.val - 256 * n, by omega⟩ : Fin 256) col) (off_eq _) ?_ rfl).trans ?_
      · show r.val = 256 * n + (r.val - 256 * n); omega
      unfold lnPiece
      have e : (⟨r.val - 256 * n, by omega⟩ : Fin 256) = ⟨r.val % 256, Nat.mod_lt _ (by decide)⟩ := Fin.ext (by show r.val - 256 * n = r.val % 256; omega)
      rw [e]
      refine congrFun (congrArg (fun v => k0_pay3 (F := Ideal) v (a6.view.read (Elt Ideal) X6) (a7.view.read (Elt Ideal) X7)) (funext fun y => ?_)) _
      rw [View.readAt_unit a11.view _ _ (off_eq _) (by rw [← off_eq]; exact k0_off1_inb i _ k2)]
      have hy : (y 0).val < 256 := (y 0).isLt
      have ej : ((Rect.unit (s := S1024x2048) ![256 * n, 0] S256x2048.size (by rw [← off_eq ⟨n, lt_of_lt_of_eq (Nat.lt_of_succ_le hn) (by decide +kernel : 4 = k0_t1_loop.trips)⟩]; exact k0_off1_inb i _ k2)).emb y)
          = ix2 (⟨256 * n + (y 0).val, by omega⟩ : Fin 1024) (y 1) := funext fun a => Fin.ext (by
        fin_cases a
        · show 256 * n + 1 * (y 0).val = _; simp [ix2]
        · show 0 + 1 * (y 1).val = _; simp [ix2])
      refine (congrArg _ ej).trans ((ih _ _).trans ?_)
      rw [if_neg (by show ¬ 256 * n + (y 0).val < 256 * n; omega)]
      exact congrArg _ (congrArg (fun z => ix2 z (y 1)) (Fin.ext (by show 256 * n + (y 0).val = 256 * (r.val / 256) + (y 0).val; omega)))
    · refine (View.read_writes_cons_rows_of_not_mem (W := 256) a11.view G _ _ _ (ix2 r col) (off_eq _) rfl ?_).trans ((ih r col).trans ?_)
      · show r.val < 256 * n ∨ 256 * n + 256 ≤ r.val; omega
      · by_cases h : r.val < 256 * n
        · rw [if_pos h, if_pos (by omega)]
        · rw [if_neg h, if_neg (by omega)]

/-- The rounded block of a weight that each point leaves in each of the three further outputs. -/
abbrev casts (c : Dev nD) (t : Fin cfg0.N) (y : Vec Ideal S1024x2048 .bf16) : Vec Ideal S64x512 .bf16 × Vec Ideal S64x512 .bf16 × Vec Ideal S16x2048 .bf16 × Vec Ideal S1024x2048 .bf16 :=
  (k0_pay7 (iblk m c 6 t), k0_pay1 (iblk m c 7 t), k0_pay2 (iblk m c 8 t), y)

theorem at_A (c : Dev nD) (t : Fin cfg0.N) (h0 : t.val % 11 = 0) (h1 : ¬t.val % 11 = 10) :
    outsAt0 m c t.val t.isLt = (k0_pay6 (k0_pay4 (iblk m c 0 t)) (iblk m c 1 t) (iblk m c 2 t) (k0_pay5 (iblk m c 0 t)) (iblk m c 3 t), casts m c t (k0_pay4 (iblk m c 0 t))) := by
  rw [outsAt0_A m c t h0 h1]
  frame_out
theorem at_B (c : Dev nD) (t : Fin cfg0.N) (h0 : ¬t.val % 11 = 0) (h1 : ¬t.val % 11 = 10) (x) (w : Vec Ideal S64x512 .bf16 × Vec Ideal S64x512 .bf16 × Vec Ideal S16x2048 .bf16) (y) (hp : outsAt0 m c (t.val - 1) (Nat.lt_of_le_of_lt (Nat.sub_le _ _) t.isLt) = (x, w.1, w.2.1, w.2.2, y)) :
    outsAt0 m c t.val t.isLt = (k0_pay6 y (iblk m c 1 t) (iblk m c 2 t) x (iblk m c 3 t), casts m c t y) := by
  rw [outsAt0_B m c t h0 h1, hp]
  frame_out
  simp only [read_unread_whole, sout0_B_0]
theorem at_C (c : Dev nD) (t : Fin cfg0.N) (h0 : ¬t.val % 11 = 0) (h1 : t.val % 11 = 10) (x) (w : Vec Ideal S64x512 .bf16 × Vec Ideal S64x512 .bf16 × Vec Ideal S16x2048 .bf16) (y) (hp : outsAt0 m c (t.val - 1) (Nat.lt_of_le_of_lt (Nat.sub_le _ _) t.isLt) = (x, w.1, w.2.1, w.2.2, y)) :
    outsAt0 m c t.val t.isLt = (k0_pay6 y (iblk m c 1 t) (iblk m c 2 t) x (iblk m c 3 t) |> fun B => lnPiece B (iblk m c 4 t) (iblk m c 5 t), casts m c t y) := by
  rw [outsAt0_C m c t h0 h1, hp]
  frame_out
  simp only [read_unread_whole, sout0_C_0]
  refine congrArg (fun z => (z, casts m c t y)) ?_
  refine (View.read_writes_eq_canon (ms0_9 t).view (ms0_9 t).view.junk _ ?_).symm.trans ?_
  · intro y
    exact ⟨_, List.mem_append_right _ (List.mem_singleton.mpr rfl), by
      refine (Rect.mem_set_unit (inb := inb_S1024x2048_S1024x2048_0_0)).mpr fun (a : Fin 2) => ?_
      have := (y a).isLt
      fin_cases a
      · exact ⟨Nat.zero_le _, by simpa using this⟩
      · exact ⟨Nat.zero_le _, by simpa using this⟩⟩
  rw [View.writes_append]
  refine funext fun i => ?_
  obtain ⟨r, col, rfl⟩ : ∃ (r : Fin 1024) (col : Fin 2048), i = ix2 r col := ⟨i 0, i 1, funext fun a => by fin_cases a <;> rfl⟩
  refine (loop_at c (grid0.coords t) _ _ _ _ _ _ _ _ _ _ _ _ _ _ _ _ _ _ _ _ _ _ _ _ _ _ _ _ _ _ _ _ 4 le_rfl r col).trans ?_
  rw [if_pos r.isLt, Memref.IsWhole.read_unread, Memref.IsWhole.read_unread]
  refine congrFun (congrArg (fun v => lnPiece v (iblk m c 4 t) (iblk m c 5 t)) ?_) _
  exact View.read_writes_full (ms0_9 t).view _ inb_S1024x2048_S1024x2048_0_0 _ []

end Cert.Proof.FfnAIdeal

end
-- ==== Proof.FfnAIdealPure.lean ====
/-
  The first feed-forward half step over the extended reals: what the kernel's stored values are at an index.
-/
module

public import proofs.«01_k».proof.Proof.FfnAIdealBody
public import proofs.«01_k».proof.Proof.FfnMath
public import Idealize.ShloMosaic.Lib.Pointwise

@[expose] public section

set_option maxRecDepth 16384

noncomputable section

namespace Cert.Proof.FfnAIdeal

open Cert.FfnAIdeal Cert.FfnAIdeal.Gen Idealize.ShloMosaic Idealize.ShloMosaic.TcCoe

theorem pay4_at (x : Vec Ideal S1024x2048 .f32) (r : Fin 1024) (d : Fin 2048) : k0_pay4 (F := Ideal) x (ix2 r d) = x (ix2 r d) := by
  pointwise [k0_pay4]
theorem pay5_at (x : Vec Ideal S1024x2048 .f32) (r : Fin 1024) (d : Fin 2048) :
    k0_pay5 (F := Ideal) x (ix2 r d) = Ideal.ofBits .f32 0x3F9837F0#32 * x (ix2 r d) := by
  pointwise [k0_pay5]
theorem pay6_at (x : Vec Ideal S1024x2048 .bf16) (wg wu : Vec Ideal S2048x512 .bf16) (a : Vec Ideal S1024x2048 .f32) (wd : Vec Ideal S512x2048 .bf16)
    (r : Fin 1024) (d : Fin 2048) : k0_pay6 (F := Ideal) x wg wu a wd (ix2 r d)
      = a (ix2 r d) + ∑ q : Fin 512, Ffn.gate (∑ j : Fin 2048, x (ix2 r j) * wg (ix2 j q)) (∑ j : Fin 2048, x (ix2 r j) * wu (ix2 j q)) * wd (ix2 q d) := by
  pointwise [k0_pay6]
  refine congrArg _ (Finset.sum_congr rfl fun q _ => ?_)
  rw [Ffn.sigmoid_eq]
  rfl
theorem pay3_at (x : Vec Ideal S256x2048 .f32) (g b : Vec Ideal S1x2048 .f32) (r : Fin 256) (d : Fin 2048) :
    k0_pay3 (F := Ideal) x g b (ix2 r d) = Ffn.ln (fun k => x (ix2 r k)) (g (ix2 0 d)) (b (ix2 0 d)) d := by
  pointwise [k0_pay3]
  rfl
theorem pay1_at (x : Vec Ideal S64x512 .f32) (r : Fin 64) (d : Fin 512) : k0_pay1 (F := Ideal) x (ix2 r d) = x (ix2 r d) := by
  pointwise [k0_pay1]
theorem pay7_at (x : Vec Ideal S64x512 .f32) (r : Fin 64) (d : Fin 512) : k0_pay7 (F := Ideal) x (ix2 r d) = x (ix2 r d) := by
  pointwise [k0_pay7]
theorem pay2_at (x : Vec Ideal S16x2048 .f32) (r : Fin 16) (d : Fin 2048) :
    k0_pay2 (F := Ideal) x (ix2 r d) = Ideal.ofBits .f32 0x3F000000#32 * x (ix2 r d) := by
  pointwise [k0_pay2]
  exact mul_comm _ _
theorem lnPiece_at (B : Vec Ideal S1024x2048 .f32) (g b : Vec Ideal S1x2048 .f32) (r : Fin 1024) (d : Fin 2048) :
    lnPiece B g b (ix2 r d) = Ffn.ln (fun k => B (ix2 r k)) (g (ix2 0 d)) (b (ix2 0 d)) d := by
  have hr := r.isLt
  unfold lnPiece
  refine (pay3_at _ g b _ _).trans ?_
  refine congrArg (fun v => Ffn.ln v (g (ix2 0 d)) (b (ix2 0 d)) d) (funext fun k => ?_)
  exact congrArg B (congrArg (fun z => ix2 z k) (Fin.ext (by show 256 * (r.val / 256) + r.val % 256 = r.val; omega)))

end Cert.Proof.FfnAIdeal

end
-- ==== Proof.FfnAIdealValue.lean ====
/-
  The result arrays of the first feed-forward half step over the extended reals, as functions of its nine arguments.

  Grid point `11 i + j` works on the rows `1024 i, …` and on the hidden entries `512 j, …`. `state`: after it the output block
  is `α x` plus the terms of the down projection up to entry `512 (j + 1)`, and the scratch is the rounded rows of `x`. The
  last point of the eleven takes the layer norm of the block (`point`), and the 32 blocks cover the array (`final`). Every point
  also rounds one block of each weight of the second half step (`final_gate`, `final_up`, `final_down`).
-/
module

public import proofs.«01_k».proof.Proof.FfnAIdealPure
public import Idealize.ShloMosaic.Lib.Claim

@[expose] public section

set_option maxRecDepth 16384

noncomputable section

namespace Cert.Proof.FfnAIdeal

open Cert.FfnAIdeal Cert.FfnAIdeal.Gen Idealize.ShloMosaic Idealize.ShloMosaic.TcCoe Idealize.SL Idealize.SL.Sem Idealize.ShloMosaic.Tactic
open Idealize.ShloMosaic.Pipeline (Dat)

/-- The half step, of its six argument arrays. -/
def G (X : FVec Ideal S32768x2048 .f32) (wg wu : FVec Ideal S2048x5632 .f32) (wd : FVec Ideal S5632x2048 .f32) (g b : FVec Ideal S2048 .f32) :
    FVec Ideal S32768x2048 .f32 := fun i =>
  Ffn.out (fun k => X (ix2 (i 0) k)) (fun j k => wg (ix2 j k)) (fun j k => wu (ix2 j k)) (fun k d => Ideal.ofBits .f32 0x3F000000#32 * wd (ix2 k d)) (g (ix1 (i 1))) (b (ix1 (i 1))) (i 1)

variable (m : (ℓ : Loc nD τ sig) → Buf (Elt Ideal) ℓ)

/-- The block index of each window at a point. -/
theorem idx : ∀ t : Fin cfg0.N, win0_0.index t = ![t.val / 11, 0] ∧ win0_1.index t = ![0, t.val % 11] ∧ win0_2.index t = ![0, t.val % 11]
    ∧ win0_3.index t = ![t.val % 11, 0] ∧ win0_4.index t = ![0, 0] ∧ win0_5.index t = ![0, 0] ∧ win0_9.index t = ![t.val / 11, 0] ∧ t.val / 11 < 32 :=
  (by decide +kernel : ∀ t : Fin grid0.N, _)
theorem idx_cast : ∀ t : Fin cfg0.N, win0_6.index t = ![t.val / 11, t.val % 11] ∧ win0_7.index t = ![t.val / 11, t.val % 11] ∧ win0_8.index t = ![t.val, 0]
    ∧ win0_10.index t = ![t.val / 11, t.val % 11] ∧ win0_11.index t = ![t.val / 11, t.val % 11] ∧ win0_12.index t = ![t.val, 0] ∧ t.val < 352 :=
  (by decide +kernel : ∀ t : Fin grid0.N, _)

abbrev aX (c : Dev nD) : FVec Ideal S32768x2048 .f32 := m ((c : Thread nD τ).loc main_arg0)
abbrev aG (c : Dev nD) : FVec Ideal S2048x5632 .f32 := m ((c : Thread nD τ).loc main_arg1)
abbrev aU (c : Dev nD) : FVec Ideal S2048x5632 .f32 := m ((c : Thread nD τ).loc main_arg2)
abbrev aD (c : Dev nD) : FVec Ideal S5632x2048 .f32 := m ((c : Thread nD τ).loc main_arg3)
abbrev aS (c : Dev nD) : FVec Ideal S2048 .f32 := m ((c : Thread nD τ).loc main_arg4)
abbrev aB (c : Dev nD) : FVec Ideal S2048 .f32 := m ((c : Thread nD τ).loc main_arg5)
abbrev aNG (c : Dev nD) : FVec Ideal S2048x5632 .f32 := m ((c : Thread nD τ).loc main_arg6)
abbrev aNU (c : Dev nD) : FVec Ideal S2048x5632 .f32 := m ((c : Thread nD τ).loc main_arg7)
abbrev aND (c : Dev nD) : FVec Ideal S5632x2048 .f32 := m ((c : Thread nD τ).loc main_arg8)

theorem blkX (c : Dev nD) (t : Fin cfg0.N) (R : Fin 32768) (r : Fin 1024) (e : R.val = 1024 * (t.val / 11) + r.val) (k : Fin 2048) :
    iblk m c 0 t (ix2 r k) = aX m c (ix2 R k) := by
  blk_ext [iblk, V, idx t]
theorem cast_at (w : FVec Ideal S2048x5632 .f32) (k : Fin 2048) (q : Fin 5632) :
    (truncf .bf16 w bitsLt_bf16_f32 : FVec Ideal S2048x5632 .bf16) (ix2 k q) = w (ix2 k q) := by
  pointwise []
theorem half_at (w : FVec Ideal S5632x2048 .f32) (k : Fin 5632) (q : Fin 2048) :
    (truncf .bf16 (mulf (broadcastInDim S5632x2048 ![] bcast_S_S5632x2048 (constant S_ .f32 0x3F000000#32)) w) bitsLt_bf16_f32 : FVec Ideal S5632x2048 .bf16) (ix2 k q)
      = Ideal.ofBits .f32 0x3F000000#32 * w (ix2 k q) := by
  pointwise []
theorem blkG (c : Dev nD) (t : Fin cfg0.N) (k : Fin 2048) (q : Fin 512) (K : Fin 5632) (e : K.val = 512 * (t.val % 11) + q.val) :
    iblk m c 1 t (ix2 k q) = aG m c (ix2 k K) := by
  have h : ((V m c main_v0 : FVec Ideal S2048x5632 .bf16)) = truncf .bf16 (aG m c) bitsLt_bf16_f32 := by
    entry_read; rfl
  refine Eq.trans ?_ ((congrFun h (ix2 k K)).trans (cast_at (aG m c) k K))
  blk_ext [iblk, idx t]
theorem blkU (c : Dev nD) (t : Fin cfg0.N) (k : Fin 2048) (q : Fin 512) (K : Fin 5632) (e : K.val = 512 * (t.val % 11) + q.val) :
    iblk m c 2 t (ix2 k q) = aU m c (ix2 k K) := by
  have h : ((V m c main_v1 : FVec Ideal S2048x5632 .bf16)) = truncf .bf16 (aU m c) bitsLt_bf16_f32 := by
    entry_read; rfl
  refine Eq.trans ?_ ((congrFun h (ix2 k K)).trans (cast_at (aU m c) k K))
  blk_ext [iblk, idx t]
theorem blkD (c : Dev nD) (t : Fin cfg0.N) (q : Fin 512) (d : Fin 2048) (K : Fin 5632) (e : K.val = 512 * (t.val % 11) + q.val) :
    iblk m c 3 t (ix2 q d) = Ideal.ofBits .f32 0x3F000000#32 * aD m c (ix2 K d) := by
  have h : ((V m c main_v4 : FVec Ideal S5632x2048 .bf16))
      = truncf .bf16 (mulf (broadcastInDim S5632x2048 ![] bcast_S_S5632x2048 (constant S_ .f32 0x3F000000#32)) (aD m c)) bitsLt_bf16_f32 := by
    entry_read; rfl
  refine Eq.trans ?_ ((congrFun h (ix2 K d)).trans (half_at (aD m c) K d))
  blk_ext [iblk, idx t]
theorem row_at (v : FVec Ideal S2048 .f32) (d : Fin 2048) :
    (shapeCast S1x2048 v shapeCasts_S2048_S1x2048 : FVec Ideal S1x2048 .f32) (ix2 0 d) = v (ix1 d) := by
  pointwise []
theorem blkS (c : Dev nD) (t : Fin cfg0.N) (d : Fin 2048) : iblk m c 4 t (ix2 0 d) = aS m c (ix1 d) := by
  have e : ((V m c main_v5 : FVec Ideal S1x2048 .f32)) = shapeCast S1x2048 (aS m c) shapeCasts_S2048_S1x2048 := by
    entry_read; rfl
  refine Eq.trans ?_ ((congrFun e (ix2 0 d)).trans (row_at (aS m c) d))
  blk_ext [iblk, idx t]
theorem blkB (c : Dev nD) (t : Fin cfg0.N) (d : Fin 2048) : iblk m c 5 t (ix2 0 d) = aB m c (ix1 d) := by
  have e : ((V m c main_v6 : FVec Ideal S1x2048 .f32)) = shapeCast S1x2048 (aB m c) shapeCasts_S2048_S1x2048 := by
    entry_read; rfl
  refine Eq.trans ?_ ((congrFun e (ix2 0 d)).trans (row_at (aB m c) d))
  blk_ext [iblk, idx t]

/-- The row `R` of the input, and the weights, as functions of their positions. -/
abbrev xr (c : Dev nD) (R : Fin 32768) : Fin 2048 → EReal := fun k => aX m c (ix2 R k)
abbrev gm (c : Dev nD) : Fin 2048 → Fin 5632 → EReal := fun j k => aG m c (ix2 j k)
abbrev um (c : Dev nD) : Fin 2048 → Fin 5632 → EReal := fun j k => aU m c (ix2 j k)
abbrev dm (c : Dev nD) : Fin 5632 → Fin 2048 → EReal := fun k d => Ideal.ofBits .f32 0x3F000000#32 * aD m c (ix2 k d)

/-- A point adds its 512 terms of the down projection to the output block. -/
theorem step (c : Dev nD) (t : Fin cfg0.N) (xb : Vec Ideal S1024x2048 .bf16) (a : Vec Ideal S1024x2048 .f32) (R : Fin 32768) (r : Fin 1024)
    (hx : ∀ k, xb (ix2 r k) = xr m c R k) (ha : ∀ d, a (ix2 r d) = Ffn.pre (xr m c R) (gm m c) (um m c) (dm m c) (512 * (t.val % 11)) d) (d : Fin 2048) :
    k0_pay6 (F := Ideal) xb (iblk m c 1 t) (iblk m c 2 t) a (iblk m c 3 t) (ix2 r d)
      = Ffn.pre (xr m c R) (gm m c) (um m c) (dm m c) (512 * (t.val % 11) + 512) d := by
  refine (pay6_at _ _ _ _ _ r d).trans ?_
  rw [ha d]
  refine Ffn.pre_add _ _ _ _ _ 512 d _ fun q => ?_
  have hq := q.isLt
  have hk : 512 * (t.val % 11) + q.val < 5632 := by omega
  unfold Ffn.term
  rw [dif_pos hk, blkD m c t q d ⟨_, hk⟩ rfl]
  refine congrArg (· * _) ?_
  refine congr (congrArg Ffn.gate ?_) ?_ <;> refine Finset.sum_congr rfl fun j _ => ?_
  · rw [hx j, blkG m c t j q ⟨_, hk⟩ rfl]
  · rw [hx j, blkU m c t j q ⟨_, hk⟩ rfl]

/-- What a point before the last of its eleven leaves: the partial sums, and the rounded rows. -/
theorem state (c : Dev nD) : ∀ (j i : ℕ) (hj : j < 10) (t : Fin cfg0.N) (ht : t.val = 11 * i + j) (R : Fin 32768) (r : Fin 1024)
    (e : R.val = 1024 * i + r.val),
    (∀ d, (outsAt0 m c t.val t.isLt).1 (ix2 r d) = Ffn.pre (xr m c R) (gm m c) (um m c) (dm m c) (512 * (t.val % 11) + 512) d)
      ∧ ∀ d, (outsAt0 m c t.val t.isLt).2.2.2.2 (ix2 r d) = xr m c R d
  | 0, i, hj, t, ht, R, r, e => by
    rw [at_A m c t (by omega) (by omega)]
    have hx : ∀ d, k0_pay4 (F := Ideal) (iblk m c 0 t) (ix2 r d) = xr m c R d := fun d =>
      (pay4_at _ r d).trans (blkX m c t R r (by omega) d)
    refine ⟨step m c t _ _ R r hx fun d => ?_, hx⟩
    have e0 : 512 * (t.val % 11) = 0 := by omega
    rw [e0, Ffn.pre_zero]
    exact (pay5_at _ r d).trans (congrArg _ (blkX m c t R r (by omega) d))
  | j + 1, i, hj, t, ht, R, r, e => by
    have hp := state c j i (by omega) ⟨t.val - 1, Nat.lt_of_le_of_lt (Nat.sub_le _ _) t.isLt⟩ (by show t.val - 1 = _; omega) R r e
    rw [at_B m c t (by omega) (by omega) _ ((outsAt0 m c (t.val - 1) (Nat.lt_of_le_of_lt (Nat.sub_le _ _) t.isLt)).2.1, (outsAt0 m c (t.val - 1) (Nat.lt_of_le_of_lt (Nat.sub_le _ _) t.isLt)).2.2.1, (outsAt0 m c (t.val - 1) (Nat.lt_of_le_of_lt (Nat.sub_le _ _) t.isLt)).2.2.2.1) _ rfl]
    have e1 : 512 * ((t.val - 1) % 11) + 512 = 512 * (t.val % 11) := by omega
    refine ⟨step m c t _ _ R r hp.2 fun d => (hp.1 d).trans ?_, hp.2⟩
    show Ffn.pre _ _ _ _ (512 * ((t.val - 1) % 11) + 512) d = _
    rw [e1]

/-- What the last point of eleven leaves is its block of `G`. -/
theorem point (c : Dev nD) (t : Fin cfg0.N) (h : t.val % 11 = 10) (R : Fin 32768) (r : Fin 1024) (e : R.val = 1024 * (t.val / 11) + r.val) (d : Fin 2048) :
    (outsAt0 m c t.val t.isLt).1 (ix2 r d) = G (aX m c) (aG m c) (aU m c) (aD m c) (aS m c) (aB m c) (ix2 R d) := by
  have hp := state m c 9 (t.val / 11) (by omega) ⟨t.val - 1, Nat.lt_of_le_of_lt (Nat.sub_le _ _) t.isLt⟩ (by show t.val - 1 = _; omega) R r e
  rw [at_C m c t (by omega) h _ ((outsAt0 m c (t.val - 1) (Nat.lt_of_le_of_lt (Nat.sub_le _ _) t.isLt)).2.1, (outsAt0 m c (t.val - 1) (Nat.lt_of_le_of_lt (Nat.sub_le _ _) t.isLt)).2.2.1, (outsAt0 m c (t.val - 1) (Nat.lt_of_le_of_lt (Nat.sub_le _ _) t.isLt)).2.2.2.1) _ rfl]
  refine (lnPiece_at _ _ _ r d).trans ?_
  show _ = Ffn.ln (Ffn.pre (xr m c R) (gm m c) (um m c) (dm m c) 5632) (aS m c (ix1 d)) (aB m c (ix1 d)) d
  have e1 : 512 * ((t.val - 1) % 11) + 512 = 512 * (t.val % 11) := by omega
  have e2 : 512 * (t.val % 11) + 512 = 5632 := by omega
  rw [blkS m c t d, blkB m c t d]
  refine congrArg (fun v => Ffn.ln v (aS m c (ix1 d)) (aB m c (ix1 d)) d) (funext fun k => ?_)
  rw [← e2]
  refine step m c t _ _ R r hp.2 (fun d => (hp.1 d).trans ?_) k
  show Ffn.pre _ _ _ _ (512 * ((t.val - 1) % 11) + 512) d = _
  rw [e1]

/-- The result array after the launch. -/
theorem final (c : Dev nD) : (dats m 0 c).arrAt 9 cfg0.N = G (aX m c) (aG m c) (aU m c) (aD m c) (aS m c) (aB m c) := by
  refine (dats m 0 c).arrAt_eq_of_covers 9 _ (by decide +kernel) fun t hf y => ?_
  blk_simp
  rw [after0_9]
  have h8 := (idx t).2.2.2.2.2.2.2
  have hi := (idx t).2.2.2.2.2.2.1
  have hy0 : (y 0).val < 1024 := (y 0).isLt
  have hy1 : (y 1).val < 2048 := (y 1).isLt
  have ey : y = ix2 (⟨(y 0).val, hy0⟩ : Fin 1024) (⟨(y 1).val, hy1⟩ : Fin 2048) := funext fun a => by fin_cases a <;> rfl
  rw [ey]
  refine (point m c t ((flush0_9 t).mp hf) ⟨1024 * (t.val / 11) + (y 0).val, by omega⟩ ⟨(y 0).val, hy0⟩ rfl ⟨(y 1).val, hy1⟩).trans ?_
  blk_ext [idx t]

/-- What each point leaves in the three further outputs: the rounded block of its weight. -/
theorem casts_at (c : Dev nD) (t : Fin cfg0.N) : (outsAt0 m c t.val t.isLt).2.1 = k0_pay7 (F := Ideal) (iblk m c 6 t)
    ∧ (outsAt0 m c t.val t.isLt).2.2.1 = k0_pay1 (F := Ideal) (iblk m c 7 t) ∧ (outsAt0 m c t.val t.isLt).2.2.2.1 = k0_pay2 (F := Ideal) (iblk m c 8 t) := by
  by_cases h0 : t.val % 11 = 0
  · rw [at_A m c t h0 (by omega)]
    exact ⟨rfl, rfl, rfl⟩
  · by_cases h1 : t.val % 11 = 10
    · rw [at_C m c t h0 h1 _ (_, _, _) _ rfl]
      exact ⟨rfl, rfl, rfl⟩
    · rw [at_B m c t h0 h1 _ (_, _, _) _ rfl]
      exact ⟨rfl, rfl, rfl⟩

theorem final_gate (c : Dev nD) : (dats m 0 c).arrAt 10 cfg0.N = (fun i => aNG m c i : FVec Ideal S2048x5632 .bf16) := by
  refine (dats m 0 c).arrAt_eq_of_covers 10 _ (by decide +kernel) fun t hf y => ?_
  blk_simp
  rw [after0_10, (casts_at m c t).1]
  have hy0 : (y 0).val < 64 := (y 0).isLt
  have hy1 : (y 1).val < 512 := (y 1).isLt
  have ey : y = ix2 (⟨(y 0).val, hy0⟩ : Fin 64) (⟨(y 1).val, hy1⟩ : Fin 512) := funext fun a => by fin_cases a <;> rfl
  rw [ey]
  refine (pay7_at _ _ _).trans ?_
  blk_ext [iblk, V, idx_cast t]
theorem final_up (c : Dev nD) : (dats m 0 c).arrAt 11 cfg0.N = (fun i => aNU m c i : FVec Ideal S2048x5632 .bf16) := by
  refine (dats m 0 c).arrAt_eq_of_covers 11 _ (by decide +kernel) fun t hf y => ?_
  blk_simp
  rw [after0_11, (casts_at m c t).2.1]
  have hy0 : (y 0).val < 64 := (y 0).isLt
  have hy1 : (y 1).val < 512 := (y 1).isLt
  have ey : y = ix2 (⟨(y 0).val, hy0⟩ : Fin 64) (⟨(y 1).val, hy1⟩ : Fin 512) := funext fun a => by fin_cases a <;> rfl
  rw [ey]
  refine (pay1_at _ _ _).trans ?_
  blk_ext [iblk, V, idx_cast t]
theorem final_down (c : Dev nD) :
    (dats m 0 c).arrAt 12 cfg0.N = (fun i => Ideal.ofBits .f32 0x3F000000#32 * aND m c i : FVec Ideal S5632x2048 .bf16) := by
  refine (dats m 0 c).arrAt_eq_of_covers 12 _ (by decide +kernel) fun t hf y => ?_
  blk_simp
  rw [after0_12, (casts_at m c t).2.2]
  have hy0 : (y 0).val < 16 := (y 0).isLt
  have hy1 : (y 1).val < 2048 := (y 1).isLt
  have ey : y = ix2 (⟨(y 0).val, hy0⟩ : Fin 16) (⟨(y 1).val, hy1⟩ : Fin 2048) := funext fun a => by fin_cases a <;> rfl
  rw [ey]
  refine (pay2_at _ _ _).trans (congrArg _ ?_)
  blk_ext [iblk, V, idx_cast t]

end Cert.Proof.FfnAIdeal

end
-- ==== Proof.FfnARefValue.lean ====
/-
  The reference of the first feed-forward half step over the extended reals, at an index.
-/
module

public import proofs.«01_k».proof.Proof.Gen.FfnARefIdeal.Read
public import proofs.«01_k».proof.Proof.FfnMath
public import Idealize.ShloMosaic.Lib.Pointwise

@[expose] public section

set_option maxRecDepth 16384

noncomputable section

namespace Cert.Proof.FfnARef

open Cert.FfnARefIdeal Cert.FfnARefIdeal.Read Idealize.ShloMosaic Idealize.ShloMosaic.TcCoe

variable (x : FVec Ideal S32768x2048 .f32) (wg wu : FVec Ideal S2048x5632 .f32) (wd : FVec Ideal S5632x2048 .f32) (g b : FVec Ideal S2048 .f32)

theorem half_sum (f : Fin 5632 → EReal) : Ideal.ofBits .f32 0x3F000000#32 * ∑ k, f k = ∑ k, Ideal.ofBits .f32 0x3F000000#32 * f k := by
  rw [Ffn.half]
  exact Online.coe_mul_sum _ _ (by norm_num) _

theorem pre_at (r : Fin 32768) (d : Fin 2048) : (val_main_v9 (F := Ideal) x wg wu wd : FVec Ideal S32768x2048 .f32) (ix2 r d)
    = Ffn.pre (fun k => x (ix2 r k)) (fun j k => wg (ix2 j k)) (fun j k => wu (ix2 j k)) (fun k d => Ideal.ofBits .f32 0x3F000000#32 * wd (ix2 k d)) 5632 d := by
  refine Eq.trans ?_ (Ffn.pre_all (fun k => x (ix2 r k)) (fun j k => wg (ix2 j k)) (fun j k => wu (ix2 j k)) (fun k d => Ideal.ofBits .f32 0x3F000000#32 * wd (ix2 k d)) d)
  pointwise [val_main_v9, val_main_v8, val_main_v7, val_main_v6, val_main_v5, val_main_v4, val_main_v3, val_main_v2, val_main_v1, val_main_v0, val_main_cst, val_main_cst_0,
    val_main_call0_v0, val_main_call0_v1, val_main_call0_v2, val_main_call0_v3, val_main_call0_v4, val_main_call0_v5, val_main_call0_cst, val_main_call0_cst_0]
  refine congrArg _ ((half_sum _).trans (Finset.sum_congr rfl fun k _ => mul_left_comm _ _ _))

theorem out_at (r : Fin 32768) (d : Fin 2048) : (val_main_v31 (F := Ideal) x wg wu wd g b : FVec Ideal S32768x2048 .f32) (ix2 r d)
    = Ffn.out (fun k => x (ix2 r k)) (fun j k => wg (ix2 j k)) (fun j k => wu (ix2 j k)) (fun k d => Ideal.ofBits .f32 0x3F000000#32 * wd (ix2 k d)) (g (ix1 d)) (b (ix1 d)) d := by
  unfold Ffn.out
  rw [← funext (pre_at x wg wu wd r)]
  pointwise [val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_cst_1, val_main_cst_2, val_main_cst_3, val_main_cst_4, val_main_cst_5]
  rfl

end Cert.Proof.FfnARef

end
-- ==== Proof.PleIdealValue.lean ====
/-
  The result array of the gated embedding over the extended reals, as one function of its seven arguments.

  Grid point `i` works on the rows `512 i, …`, in two pieces of 256 rows: `row` is one entry of a piece, `point` the block that
  a point leaves, `final` the array that the 64 blocks cover.
-/
module

public import proofs.«01_k».proof.Proof.Gen.PleIdeal.Value
public import proofs.«01_k».proof.Proof.FfnMath
public import Idealize.ShloMosaic.Lib.Pipeline.ValueKit
public import Idealize.ShloMosaic.Lib.Pointwise
public import Idealize.ShloMosaic.Lib.Claim

@[expose] public section

set_option maxRecDepth 16384

noncomputable section

namespace Cert.Proof.PleIdeal

open Cert.PleIdeal Cert.PleIdeal.Gen Idealize.ShloMosaic Idealize.ShloMosaic.TcCoe Idealize.SL Idealize.SL.Sem Idealize.ShloMosaic.Tactic
open Idealize.ShloMosaic.Pipeline (Dat)

/-- One entry of the result, from its row of the stream and of the embedding: the layer norm of `α x` plus the gate times the
    projected embedding. -/
def row (x : Fin 2048 → EReal) (p : Fin 256 → EReal) (wg : Fin 2048 → Fin 2048 → EReal) (bg : Fin 2048 → EReal) (wp : Fin 256 → Fin 2048 → EReal) (g b : EReal)
    (d : Fin 2048) : EReal :=
  Ffn.ln (fun k => Ideal.ofBits .f32 0x3F9837F0#32 * x k + Ideal.div 1 (1 + Ideal.exp (-(∑ j, x j * wg j k + bg k))) * ∑ j, p j * wp j k) g b d

theorem first_at (x : Vec Ideal S256x2048 .f32) (wg : Vec Ideal S2048x2048 .bf16) (bg : Vec Ideal S1x2048 .f32) (p : Vec Ideal S256x256 .f32) (wp : Vec Ideal S256x2048 .bf16)
    (g b : Vec Ideal S1x2048 .f32) (r : Fin 256) (d : Fin 2048) :
    k0_pay6 (F := Ideal) (k0_pay2 g) (k0_pay3 b) (k0_pay4 x wg bg p wp) (k0_pay5 x wg bg p wp) (ix2 r d)
      = row (fun k => x (ix2 r k)) (fun j => p (ix2 r j)) (fun j k => wg (ix2 j k)) (fun k => bg (ix2 0 k)) (fun j k => wp (ix2 j k)) (g (ix2 0 d)) (b (ix2 0 d)) d := by
  unfold row
  simp only [← Ffn.sigmoid_eq]
  pointwise [k0_pay6, k0_pay2, k0_pay3, k0_pay4, k0_pay5]
  rfl
theorem second_at (x : Vec Ideal S256x2048 .f32) (wg : Vec Ideal S2048x2048 .bf16) (bg : Vec Ideal S1x2048 .f32) (p : Vec Ideal S256x256 .f32) (wp : Vec Ideal S256x2048 .bf16)
    (g b : Vec Ideal S1x2048 .f32) (r : Fin 256) (d : Fin 2048) :
    k0_pay1 (F := Ideal) (k0_pay7 x wg bg p wp) g b (ix2 r d)
      = row (fun k => x (ix2 r k)) (fun j => p (ix2 r j)) (fun j k => wg (ix2 j k)) (fun k => bg (ix2 0 k)) (fun j k => wp (ix2 j k)) (g (ix2 0 d)) (b (ix2 0 d)) d := by
  unfold row
  simp only [← Ffn.sigmoid_eq]
  pointwise [k0_pay1, k0_pay7]
  rfl
theorem row_congr {x x' : Fin 2048 → EReal} {p p' : Fin 256 → EReal} {wg wg' : Fin 2048 → Fin 2048 → EReal} {bg bg' : Fin 2048 → EReal} {wp wp' : Fin 256 → Fin 2048 → EReal}
    {g g' b b' : EReal} {d d' : Fin 2048}
    (hx : ∀ k, x k = x' k) (hp : ∀ j, p j = p' j) (hwg : ∀ j k, wg j k = wg' j k) (hbg : ∀ k, bg k = bg' k) (hwp : ∀ j k, wp j k = wp' j k) (hg : g = g') (hb : b = b')
    (hd : d = d') : row x p wg bg wp g b d = row x' p' wg' bg' wp' g' b' d' := by
  rw [funext hx, funext hp, funext fun j => funext (hwg j), funext hbg, funext fun j => funext (hwp j), hg, hb, hd]

/-- The block that a point leaves, at an index. -/
theorem block_at (x : Vec Ideal S512x2048 .f32) (p : Vec Ideal S512x256 .f32) (wg : Vec Ideal S2048x2048 .bf16) (bg : Vec Ideal S1x2048 .f32) (wp : Vec Ideal S256x2048 .bf16)
    (g b : Vec Ideal S1x2048 .f32) (y : S512x2048.Idx) : out0_7 (F := Ideal) x p wg bg wp g b y
      = row (fun k => x (ix2 (y 0) k)) (fun j => p (ix2 (y 0) j)) (fun j k => wg (ix2 j k)) (fun k => bg (ix2 0 k)) (fun j k => wp (ix2 j k))
          (g (ix2 0 (y 1))) (b (ix2 0 (y 1))) (y 1) := by
  unfold out0_7
  canon_tiles z h
  all_goals have h1' : y 1 = z 1 := Fin.ext h1
  all_goals have ez : z = ix2 (z 0) (z 1) := funext fun a => by fin_cases a <;> rfl
  all_goals rw [h1', ez]
  · refine (second_at _ _ _ _ _ _ _ (z 0) (z 1)).trans (row_congr (fun k => ?_) (fun j => ?_) (fun j k => ?_) (fun k => ?_) (fun j k => ?_) ?_ ?_ rfl)
    all_goals pointwise [h0]
    all_goals exact congrArg _ (congrArg (fun q => ix2 q _) (Fin.ext h0.symm))
  · refine (first_at _ _ _ _ _ _ _ (z 0) (z 1)).trans (row_congr (fun k => ?_) (fun j => ?_) (fun j k => ?_) (fun k => ?_) (fun j k => ?_) ?_ ?_ rfl)
    all_goals pointwise [h0]
    all_goals exact congrArg _ (congrArg (fun q => ix2 q _) (Fin.ext h0.symm))

/-- The result, of the seven argument arrays. -/
def G (X : FVec Ideal S32768x2048 .f32) (p : FVec Ideal S32768x256 .f32) (wg : FVec Ideal S2048x2048 .f32) (bg : FVec Ideal S2048 .f32) (wp : FVec Ideal S256x2048 .f32)
    (g b : FVec Ideal S2048 .f32) : FVec Ideal S32768x2048 .f32 := fun i =>
  row (fun k => X (ix2 (i 0) k)) (fun j => p (ix2 (i 0) j)) (fun j k => wg (ix2 j k)) (fun k => bg (ix1 k)) (fun j k => wp (ix2 j k)) (g (ix1 (i 1))) (b (ix1 (i 1))) (i 1)

variable (m : (ℓ : Loc nD τ sig) → Buf (Elt Ideal) ℓ)

/-- The block index of each window at a point. -/
theorem idx : ∀ t : Fin cfg0.N, win0_0.index t = ![t.val, 0] ∧ win0_1.index t = ![t.val, 0] ∧ win0_2.index t = ![0, 0]
    ∧ win0_3.index t = ![0, 0] ∧ win0_4.index t = ![0, 0] ∧ win0_5.index t = ![0, 0] ∧ win0_6.index t = ![0, 0] ∧ win0_7.index t = ![t.val, 0] ∧ t.val < 64 :=
  (by decide +kernel : ∀ t : Fin grid0.N, _)

abbrev aX (c : Dev nD) : FVec Ideal S32768x2048 .f32 := m ((c : Thread nD τ).loc main_arg0)
abbrev aP (c : Dev nD) : FVec Ideal S32768x256 .f32 := m ((c : Thread nD τ).loc main_arg1)
abbrev aG (c : Dev nD) : FVec Ideal S2048x2048 .f32 := m ((c : Thread nD τ).loc main_arg2)
abbrev aH (c : Dev nD) : FVec Ideal S2048 .f32 := m ((c : Thread nD τ).loc main_arg3)
abbrev aE (c : Dev nD) : FVec Ideal S256x2048 .f32 := m ((c : Thread nD τ).loc main_arg4)
abbrev aS (c : Dev nD) : FVec Ideal S2048 .f32 := m ((c : Thread nD τ).loc main_arg5)
abbrev aB (c : Dev nD) : FVec Ideal S2048 .f32 := m ((c : Thread nD τ).loc main_arg6)

theorem blkX (c : Dev nD) (t : Fin cfg0.N) (R : Fin 32768) (r : Fin 512) (e : R.val = 512 * t.val + r.val) (k : Fin 2048) :
    iblk m c 0 t (ix2 r k) = aX m c (ix2 R k) := by
  blk_ext [iblk, V, idx t]
theorem blkP (c : Dev nD) (t : Fin cfg0.N) (R : Fin 32768) (r : Fin 512) (e : R.val = 512 * t.val + r.val) (k : Fin 256) :
    iblk m c 1 t (ix2 r k) = aP m c (ix2 R k) := by
  blk_ext [iblk, V, idx t]
theorem gate_at (w : FVec Ideal S2048x2048 .f32) (k q : Fin 2048) :
    (truncf .bf16 w bitsLt_bf16_f32 : FVec Ideal S2048x2048 .bf16) (ix2 k q) = w (ix2 k q) := by
  pointwise []
theorem proj_at (w : FVec Ideal S256x2048 .f32) (k : Fin 256) (q : Fin 2048) :
    (truncf .bf16 w bitsLt_bf16_f32 : FVec Ideal S256x2048 .bf16) (ix2 k q) = w (ix2 k q) := by
  pointwise []
theorem row_at (v : FVec Ideal S2048 .f32) (d : Fin 2048) :
    (shapeCast S1x2048 v shapeCasts_S2048_S1x2048 : FVec Ideal S1x2048 .f32) (ix2 0 d) = v (ix1 d) := by
  pointwise []
theorem blkG (c : Dev nD) (t : Fin cfg0.N) (k q : Fin 2048) : iblk m c 2 t (ix2 k q) = aG m c (ix2 k q) := by
  have h : ((V m c main_v0 : FVec Ideal S2048x2048 .bf16)) = truncf .bf16 (aG m c) bitsLt_bf16_f32 := by
    entry_read; rfl
  refine Eq.trans ?_ ((congrFun h (ix2 k q)).trans (gate_at (aG m c) k q))
  blk_ext [iblk, idx t]
theorem blkH (c : Dev nD) (t : Fin cfg0.N) (d : Fin 2048) : iblk m c 3 t (ix2 0 d) = aH m c (ix1 d) := by
  have e : ((V m c main_v1 : FVec Ideal S1x2048 .f32)) = shapeCast S1x2048 (aH m c) shapeCasts_S2048_S1x2048 := by
    entry_read; rfl
  refine Eq.trans ?_ ((congrFun e (ix2 0 d)).trans (row_at (aH m c) d))
  blk_ext [iblk, idx t]
theorem blkE (c : Dev nD) (t : Fin cfg0.N) (k : Fin 256) (q : Fin 2048) : iblk m c 4 t (ix2 k q) = aE m c (ix2 k q) := by
  have h : ((V m c main_v2 : FVec Ideal S256x2048 .bf16)) = truncf .bf16 (aE m c) bitsLt_bf16_f32 := by
    entry_read; rfl
  refine Eq.trans ?_ ((congrFun h (ix2 k q)).trans (proj_at (aE m c) k q))
  blk_ext [iblk, idx t]
theorem blkS (c : Dev nD) (t : Fin cfg0.N) (d : Fin 2048) : iblk m c 5 t (ix2 0 d) = aS m c (ix1 d) := by
  have e : ((V m c main_v3 : FVec Ideal S1x2048 .f32)) = shapeCast S1x2048 (aS m c) shapeCasts_S2048_S1x2048 := by
    entry_read; rfl
  refine Eq.trans ?_ ((congrFun e (ix2 0 d)).trans (row_at (aS m c) d))
  blk_ext [iblk, idx t]
theorem blkB (c : Dev nD) (t : Fin cfg0.N) (d : Fin 2048) : iblk m c 6 t (ix2 0 d) = aB m c (ix1 d) := by
  have e : ((V m c main_v4 : FVec Ideal S1x2048 .f32)) = shapeCast S1x2048 (aB m c) shapeCasts_S2048_S1x2048 := by
    entry_read; rfl
  refine Eq.trans ?_ ((congrFun e (ix2 0 d)).trans (row_at (aB m c) d))
  blk_ext [iblk, idx t]

/-- What a point leaves is its block of `G`. -/
theorem point (c : Dev nD) (t : Fin cfg0.N) (R : Fin 32768) (r : Fin 512) (e : R.val = 512 * t.val + r.val) (d : Fin 2048) :
    out0_7 (F := Ideal) (iblk m c 0 t) (iblk m c 1 t) (iblk m c 2 t) (iblk m c 3 t) (iblk m c 4 t) (iblk m c 5 t) (iblk m c 6 t) (ix2 r d)
      = G (aX m c) (aP m c) (aG m c) (aH m c) (aE m c) (aS m c) (aB m c) (ix2 R d) :=
  (block_at _ _ _ _ _ _ _ _).trans (row_congr (fun k => blkX m c t R r e k) (fun j => blkP m c t R r e j) (fun j k => blkG m c t j k)
    (fun k => blkH m c t k) (fun j k => blkE m c t j k) (blkS m c t d) (blkB m c t d) rfl)

/-- The result array after the launch. -/
theorem final (c : Dev nD) : (dats m 0 c).arrAt 7 cfg0.N = G (aX m c) (aP m c) (aG m c) (aH m c) (aE m c) (aS m c) (aB m c) := by
  refine (dats m 0 c).arrAt_eq_of_covers 7 _ (by decide +kernel) fun t hf y => ?_
  blk_simp
  rw [after0_7]
  have h8 := (idx t).2.2.2.2.2.2.2.2
  have hy0 : (y 0).val < 512 := (y 0).isLt
  have hy1 : (y 1).val < 2048 := (y 1).isLt
  have ey : y = ix2 (⟨(y 0).val, hy0⟩ : Fin 512) (⟨(y 1).val, hy1⟩ : Fin 2048) := funext fun a => by fin_cases a <;> rfl
  rw [ey]
  refine (point m c t ⟨512 * t.val + (y 0).val, by omega⟩ ⟨(y 0).val, hy0⟩ rfl ⟨(y 1).val, hy1⟩).trans ?_
  blk_ext [idx t]

end Cert.Proof.PleIdeal

end
-- ==== Proof.PleRefValue.lean ====
/-
  The reference of the gated embedding over the extended reals, at an index.
-/
module

public import proofs.«01_k».proof.Proof.Gen.PleRefIdeal.Read
public import proofs.«01_k».proof.Proof.PleIdealValue
public import Idealize.ShloMosaic.Lib.Pointwise

@[expose] public section

set_option maxRecDepth 16384

noncomputable section

namespace Cert.Proof.PleRef

open Cert.PleRefIdeal Cert.PleRefIdeal.Read Idealize.ShloMosaic Idealize.ShloMosaic.TcCoe

variable (x : FVec Ideal S32768x2048 .f32) (p : FVec Ideal S32768x256 .f32) (wg : FVec Ideal S2048x2048 .f32) (bg : FVec Ideal S2048 .f32)
  (wp : FVec Ideal S256x2048 .f32) (g b : FVec Ideal S2048 .f32)

theorem out_at (r : Fin 32768) (d : Fin 2048) : (val_main_v36 (F := Ideal) x p wg bg wp g b : FVec Ideal S32768x2048 .f32) (ix2 r d)
    = PleIdeal.row (fun k => x (ix2 r k)) (fun j => p (ix2 r j)) (fun j k => wg (ix2 j k)) (fun k => bg (ix1 k)) (fun j k => wp (ix2 j k)) (g (ix1 d)) (b (ix1 d)) d := by
  pointwise [val_main_v36, val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6]
  rfl

end Cert.Proof.PleRef

end
-- ==== Proof.OutProjIdealValue.lean ====
/-
  The result array of the output projection over the extended reals, as one function of its six arguments.

  Grid point `i` works on the rows `512 i, …`, in two pieces of 256 rows: `row` is one entry of a piece, `point` the block that
  a point leaves, `final` the array that the 64 blocks cover.
-/
module

public import proofs.«01_k».proof.Proof.Gen.OutProjIdeal.Value
public import proofs.«01_k».proof.Proof.FfnMath
public import Idealize.ShloMosaic.Lib.Pipeline.ValueKit
public import Idealize.ShloMosaic.Lib.Pointwise
public import Idealize.ShloMosaic.Lib.Claim

@[expose] public section

set_option maxRecDepth 16384

noncomputable section

namespace Cert.Proof.OutProjIdeal

open Cert.OutProjIdeal Cert.OutProjIdeal.Gen Idealize.ShloMosaic Idealize.ShloMosaic.TcCoe Idealize.SL Idealize.SL.Sem Idealize.ShloMosaic.Tactic
open Idealize.ShloMosaic.Pipeline (Dat)

/-- One entry of the result, from its row of the stream and of the two head groups: the layer norm of `α x` plus the projection. -/
def row (x : Fin 2048 → EReal) (yl ym : Fin 1024 → EReal) (wl wm : Fin 1024 → Fin 2048 → EReal) (g b : EReal) (d : Fin 2048) : EReal :=
  Ffn.ln (fun k => Ideal.ofBits .f32 0x3F9837F0#32 * x k + (∑ j, yl j * wl j k + ∑ j, ym j * wm j k)) g b d

theorem first_at (yl ym : Vec Ideal S256x1024 .bf16) (wl wm : Vec Ideal S1024x2048 .bf16) (x : Vec Ideal S256x2048 .f32) (g b : Vec Ideal S1x2048 .f32)
    (r : Fin 256) (d : Fin 2048) : k0_pay2 (F := Ideal) yl wl ym wm x g b (ix2 r d)
      = row (fun k => x (ix2 r k)) (fun j => yl (ix2 r j)) (fun j => ym (ix2 r j)) (fun j k => wl (ix2 j k)) (fun j k => wm (ix2 j k)) (g (ix2 0 d)) (b (ix2 0 d)) d := by
  pointwise [k0_pay2]
  rfl
theorem second_at (yl ym : Vec Ideal S256x1024 .bf16) (wl wm : Vec Ideal S1024x2048 .bf16) (x : Vec Ideal S256x2048 .f32) (g b : Vec Ideal S1x2048 .f32)
    (r : Fin 256) (d : Fin 2048) : k0_pay1 (F := Ideal) (k0_pay3 b) (k0_pay4 yl wl ym wm x) (k0_pay5 g) (ix2 r d)
      = row (fun k => x (ix2 r k)) (fun j => yl (ix2 r j)) (fun j => ym (ix2 r j)) (fun j k => wl (ix2 j k)) (fun j k => wm (ix2 j k)) (g (ix2 0 d)) (b (ix2 0 d)) d := by
  pointwise [k0_pay1, k0_pay3, k0_pay4, k0_pay5]
  rfl

theorem row_congr {x x' : Fin 2048 → EReal} {yl yl' ym ym' : Fin 1024 → EReal} {wl wl' wm wm' : Fin 1024 → Fin 2048 → EReal} {g g' b b' : EReal} {d d' : Fin 2048}
    (hx : ∀ k, x k = x' k) (hl : ∀ j, yl j = yl' j) (hm : ∀ j, ym j = ym' j) (hwl : ∀ j k, wl j k = wl' j k) (hwm : ∀ j k, wm j k = wm' j k) (hg : g = g') (hb : b = b')
    (hd : d = d') : row x yl ym wl wm g b d = row x' yl' ym' wl' wm' g' b' d' := by
  rw [funext hx, funext hl, funext hm, funext fun j => funext (hwl j), funext fun j => funext (hwm j), hg, hb, hd]

/-- The block that a point leaves, at an index. -/
theorem block_at (x : Vec Ideal S512x2048 .f32) (yl ym : Vec Ideal S512x1024 .bf16) (w : Vec Ideal S2048x2048 .bf16) (g b : Vec Ideal S1x2048 .f32)
    (y : S512x2048.Idx) : out0_6 (F := Ideal) x yl ym w g b y
      = row (fun k => x (ix2 (y 0) k)) (fun j => yl (ix2 (y 0) j)) (fun j => ym (ix2 (y 0) j)) (fun j k => w (ix2 ⟨j.val, by omega⟩ k))
          (fun j k => w (ix2 ⟨1024 + j.val, by omega⟩ k)) (g (ix2 0 (y 1))) (b (ix2 0 (y 1))) (y 1) := by
  unfold out0_6
  canon_tiles z h
  all_goals have h1' : y 1 = z 1 := Fin.ext h1
  all_goals have ez : z = ix2 (z 0) (z 1) := funext fun a => by fin_cases a <;> rfl
  all_goals rw [h1', ez]
  · refine (second_at _ _ _ _ _ _ _ (z 0) (z 1)).trans (row_congr (fun k => ?_) (fun j => ?_) (fun j => ?_) (fun j k => ?_) (fun j k => ?_) ?_ ?_ rfl)
    all_goals pointwise [h0]
    all_goals exact congrArg _ (congrArg (fun q => ix2 q _) (Fin.ext h0.symm))
  · refine (first_at _ _ _ _ _ _ _ (z 0) (z 1)).trans (row_congr (fun k => ?_) (fun j => ?_) (fun j => ?_) (fun j k => ?_) (fun j k => ?_) ?_ ?_ rfl)
    all_goals pointwise [h0]
    all_goals exact congrArg _ (congrArg (fun q => ix2 q _) (Fin.ext h0.symm))

/-- The result, of the six argument arrays. -/
def G (X : FVec Ideal S32768x2048 .f32) (yl ym : FVec Ideal S32768x1024 .bf16) (w : FVec Ideal S2048x2048 .f32) (g b : FVec Ideal S2048 .f32) :
    FVec Ideal S32768x2048 .f32 := fun i =>
  row (fun k => X (ix2 (i 0) k)) (fun j => yl (ix2 (i 0) j)) (fun j => ym (ix2 (i 0) j)) (fun j k => w (ix2 ⟨j.val, by omega⟩ k))
    (fun j k => w (ix2 ⟨1024 + j.val, by omega⟩ k)) (g (ix1 (i 1))) (b (ix1 (i 1))) (i 1)

variable (m : (ℓ : Loc nD τ sig) → Buf (Elt Ideal) ℓ)

/-- The block index of each window at a point. -/
theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![0, 0] ∧ win0_6.index t = ![t.val, 0] ∧ t.val < 64 :=
  (by decide +kernel : ∀ t : Fin grid0.N, _)

abbrev aX (c : Dev nD) : FVec Ideal S32768x2048 .f32 := m ((c : Thread nD τ).loc main_arg0)
abbrev aL (c : Dev nD) : FVec Ideal S32768x1024 .bf16 := m ((c : Thread nD τ).loc main_arg1)
abbrev aM (c : Dev nD) : FVec Ideal S32768x1024 .bf16 := m ((c : Thread nD τ).loc main_arg2)
abbrev aW (c : Dev nD) : FVec Ideal S2048x2048 .f32 := m ((c : Thread nD τ).loc main_arg3)
abbrev aS (c : Dev nD) : FVec Ideal S2048 .f32 := m ((c : Thread nD τ).loc main_arg4)
abbrev aB (c : Dev nD) : FVec Ideal S2048 .f32 := m ((c : Thread nD τ).loc main_arg5)

theorem blkX (c : Dev nD) (t : Fin cfg0.N) (R : Fin 32768) (r : Fin 512) (e : R.val = 512 * t.val + r.val) (k : Fin 2048) :
    iblk m c 0 t (ix2 r k) = aX m c (ix2 R k) := by
  blk_ext [iblk, V, idx t]
theorem blkL (c : Dev nD) (t : Fin cfg0.N) (R : Fin 32768) (r : Fin 512) (e : R.val = 512 * t.val + r.val) (k : Fin 1024) :
    iblk m c 1 t (ix2 r k) = aL m c (ix2 R k) := by
  blk_ext [iblk, V, idx t]
theorem blkM (c : Dev nD) (t : Fin cfg0.N) (R : Fin 32768) (r : Fin 512) (e : R.val = 512 * t.val + r.val) (k : Fin 1024) :
    iblk m c 2 t (ix2 r k) = aM m c (ix2 R k) := by
  blk_ext [iblk, V, idx t]
theorem cast_at (w : FVec Ideal S2048x2048 .f32) (k q : Fin 2048) :
    (truncf .bf16 w bitsLt_bf16_f32 : FVec Ideal S2048x2048 .bf16) (ix2 k q) = w (ix2 k q) := by
  pointwise []
theorem blkW (c : Dev nD) (t : Fin cfg0.N) (k q : Fin 2048) : iblk m c 3 t (ix2 k q) = aW m c (ix2 k q) := by
  have h : ((V m c main_v0 : FVec Ideal S2048x2048 .bf16)) = truncf .bf16 (aW m c) bitsLt_bf16_f32 := by
    entry_read; rfl
  refine Eq.trans ?_ ((congrFun h (ix2 k q)).trans (cast_at (aW m c) k q))
  blk_ext [iblk, idx t]
theorem row_at (v : FVec Ideal S2048 .f32) (d : Fin 2048) :
    (shapeCast S1x2048 v shapeCasts_S2048_S1x2048 : FVec Ideal S1x2048 .f32) (ix2 0 d) = v (ix1 d) := by
  pointwise []
theorem blkS (c : Dev nD) (t : Fin cfg0.N) (d : Fin 2048) : iblk m c 4 t (ix2 0 d) = aS m c (ix1 d) := by
  have e : ((V m c main_v1 : FVec Ideal S1x2048 .f32)) = shapeCast S1x2048 (aS m c) shapeCasts_S2048_S1x2048 := by
    entry_read; rfl
  refine Eq.trans ?_ ((congrFun e (ix2 0 d)).trans (row_at (aS m c) d))
  blk_ext [iblk, idx t]
theorem blkB (c : Dev nD) (t : Fin cfg0.N) (d : Fin 2048) : iblk m c 5 t (ix2 0 d) = aB m c (ix1 d) := by
  have e : ((V m c main_v2 : FVec Ideal S1x2048 .f32)) = shapeCast S1x2048 (aB m c) shapeCasts_S2048_S1x2048 := by
    entry_read; rfl
  refine Eq.trans ?_ ((congrFun e (ix2 0 d)).trans (row_at (aB m c) d))
  blk_ext [iblk, idx t]

/-- What a point leaves is its block of `G`. -/
theorem point (c : Dev nD) (t : Fin cfg0.N) (R : Fin 32768) (r : Fin 512) (e : R.val = 512 * t.val + r.val) (d : Fin 2048) :
    out0_6 (F := Ideal) (iblk m c 0 t) (iblk m c 1 t) (iblk m c 2 t) (iblk m c 3 t) (iblk m c 4 t) (iblk m c 5 t) (ix2 r d)
      = G (aX m c) (aL m c) (aM m c) (aW m c) (aS m c) (aB m c) (ix2 R d) :=
  (block_at _ _ _ _ _ _ _).trans (row_congr (fun k => blkX m c t R r e k) (fun j => blkL m c t R r e j) (fun j => blkM m c t R r e j)
    (fun j k => blkW m c t _ k) (fun j k => blkW m c t _ k) (blkS m c t d) (blkB m c t d) rfl)

/-- The result array after the launch. -/
theorem final (c : Dev nD) : (dats m 0 c).arrAt 6 cfg0.N = G (aX m c) (aL m c) (aM m c) (aW m c) (aS m c) (aB m c) := by
  refine (dats m 0 c).arrAt_eq_of_covers 6 _ (by decide +kernel) fun t hf y => ?_
  blk_simp
  rw [after0_6]
  have h8 := (idx t).2.2.2.2.2.2.2
  have hy0 : (y 0).val < 512 := (y 0).isLt
  have hy1 : (y 1).val < 2048 := (y 1).isLt
  have ey : y = ix2 (⟨(y 0).val, hy0⟩ : Fin 512) (⟨(y 1).val, hy1⟩ : Fin 2048) := funext fun a => by fin_cases a <;> rfl
  rw [ey]
  refine (point m c t ⟨512 * t.val + (y 0).val, by omega⟩ ⟨(y 0).val, hy0⟩ rfl ⟨(y 1).val, hy1⟩).trans ?_
  blk_ext [idx t]

end Cert.Proof.OutProjIdeal

end
-- ==== Proof.OutProjRefValue.lean ====
/-
  The reference of the output projection over the extended reals, at an index.
-/
module

public import proofs.«01_k».proof.Proof.Gen.OutProjRefIdeal.Read
public import proofs.«01_k».proof.Proof.OutProjIdealValue
public import Idealize.ShloMosaic.Lib.Pointwise

@[expose] public section

set_option maxRecDepth 16384

noncomputable section

namespace Cert.Proof.OutProjRef

open Cert.OutProjRefIdeal Cert.OutProjRefIdeal.Read Idealize.ShloMosaic Idealize.ShloMosaic.TcCoe

variable (x : FVec Ideal S32768x2048 .f32) (yl ym : FVec Ideal S32768x1024 .bf16) (w : FVec Ideal S2048x2048 .f32) (g b : FVec Ideal S2048 .f32)

/-- The two head groups side by side. -/
theorem join_at (r : Fin 32768) (j : Fin 2048) : (val_main_v2 (F := Ideal) yl ym : FVec Ideal S32768x2048 .f32) (ix2 r j)
    = if h : j.val < 1024 then yl (ix2 r ⟨j.val, h⟩) else ym (ix2 r ⟨j.val - 1024, by omega⟩) := by
  pointwise [val_main_v2, val_main_v1, val_main_v0]

theorem mix_at (r : Fin 32768) (d : Fin 2048) : (val_main_v3 (F := Ideal) yl ym w : FVec Ideal S32768x2048 .f32) (ix2 r d)
    = ∑ j : Fin 1024, yl (ix2 r j) * w (ix2 ⟨j.val, by omega⟩ d) + ∑ j : Fin 1024, ym (ix2 r j) * w (ix2 ⟨1024 + j.val, by omega⟩ d) := by
  have e : (val_main_v3 (F := Ideal) yl ym w : FVec Ideal S32768x2048 .f32) (ix2 r d)
      = ∑ j : Fin 2048, (val_main_v2 (F := Ideal) yl ym : FVec Ideal S32768x2048 .f32) (ix2 r j) * w (ix2 j d) := by
    pointwise [val_main_v3]
  rw [e]
  simp only [join_at]
  refine (Fin.sum_univ_add (a := 1024) (b := 1024) _).trans ?_
  refine congr (congrArg _ (Finset.sum_congr rfl fun j _ => ?_)) (Finset.sum_congr rfl fun j _ => ?_)
  · rw [dif_pos (by show j.val < 1024; omega)]
    rfl
  · rw [dif_neg (by show ¬ 1024 + j.val < 1024; omega)]
    exact congrArg (· * _) (congrArg _ (congrArg (ix2 r) (Fin.ext (by show 1024 + j.val - 1024 = j.val; omega))))

theorem out_at (r : Fin 32768) (d : Fin 2048) : (val_main_v28 (F := Ideal) x yl ym w g b : FVec Ideal S32768x2048 .f32) (ix2 r d)
    = OutProjIdeal.row (fun k => x (ix2 r k)) (fun j => yl (ix2 r j)) (fun j => ym (ix2 r j)) (fun j k => w (ix2 ⟨j.val, by omega⟩ k))
        (fun j k => w (ix2 ⟨1024 + j.val, by omega⟩ k)) (g (ix1 d)) (b (ix1 d)) d := by
  unfold OutProjIdeal.row
  simp only [← mix_at]
  pointwise [val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_cst, val_main_cst_0, val_main_cst_1, val_main_cst_2, val_main_cst_3, val_main_cst_4]
  rfl

end Cert.Proof.OutProjRef

end
-- ==== Proof.InMath.lean ====
/-
  The arithmetic of one entry of the input projection: the root mean square norm of a row, the gate's activation, the rotation
  of a pair, and the one law the kernel uses, that a rotation is two products with the rows of the table.
-/
module

public import Idealize.ShloMosaic.Lib.Pointwise
public import Idealize.ShloMosaic.Lib.Claim

@[expose] public section

set_option maxRecDepth 16384

noncomputable section

namespace Cert.Proof.In

open Idealize.ShloMosaic

/-- One entry of the root mean square norm of the row `u`, with scale `g`. -/
def norm (u : Fin 512 → EReal) (g : EReal) (k : Fin 512) : EReal :=
  u k * Ideal.rsqrt (Ideal.div (∑ j, u j * u j) (Ideal.ofBits .f32 0x44000000#32) + Ideal.ofBits .f32 0x358637BD#32) * g

/-- The gate's activation, by its tanh form. -/
def gelu (a : EReal) : EReal :=
  a * (Ideal.ofBits .f32 0x3F000000#32 * (1 + Ideal.tanh (Ideal.ofBits .f32 0x3F4C422A#32 * (a + Ideal.ofBits .f32 0x3D372713#32 * (a * (a * a))))))

/-- The rotation of the 32 pairs `(p e, p (32 + e))`. -/
def rot (p : Fin 64 → EReal) (cos sin : Fin 32 → EReal) (e : Fin 64) : EReal :=
  if h : e.val < 32 then p e * cos ⟨e.val, h⟩ - p ⟨32 + e.val, by omega⟩ * sin ⟨e.val, h⟩
  else p e * cos ⟨e.val - 32, by omega⟩ + p ⟨e.val - 32, by omega⟩ * sin ⟨e.val - 32, by omega⟩

/-- The same with a column of the table: `p` and its two halves swapped, each by its 64 rows. -/
def rotTab (p p' : Fin 64 → EReal) (t : Fin 128 → EReal) (e : Fin 64) : EReal :=
  p e * t ⟨e.val, by omega⟩ + p' e * t ⟨64 + e.val, by omega⟩

/-- What a column of the table holds. -/
structure Rows (t : Fin 128 → EReal) : Prop where
  cos : ∀ e : Fin 32, t ⟨32 + e.val, by omega⟩ = t ⟨e.val, by omega⟩
  sin : ∀ e : Fin 32, t ⟨64 + e.val, by omega⟩ = -t ⟨96 + e.val, by omega⟩

theorem rotTab_eq (p p' : Fin 64 → EReal) (t : Fin 128 → EReal) (ht : Rows t) (hlo : ∀ e : Fin 32, p' ⟨e.val, by omega⟩ = p ⟨32 + e.val, by omega⟩)
    (hhi : ∀ e : Fin 32, p' ⟨32 + e.val, by omega⟩ = p ⟨e.val, by omega⟩) (e : Fin 64) :
    rotTab p p' t e = rot p (fun q => t ⟨q.val, by omega⟩) (fun q => t ⟨96 + q.val, by omega⟩) e := by
  unfold rotTab rot
  split
  next h =>
    have h1 := hlo ⟨e.val, h⟩
    have h2 := ht.sin ⟨e.val, h⟩
    simp only [Fin.eta] at h1 h2
    rw [h1, h2, mul_neg, ← sub_eq_add_neg]
  next h =>
    obtain ⟨q, hq⟩ : ∃ q : Fin 32, e.val = 32 + q.val := ⟨⟨e.val - 32, by omega⟩, by show e.val = 32 + (e.val - 32); omega⟩
    obtain ⟨e, he⟩ := e
    obtain rfl : e = 32 + q.val := hq
    have h1 := hhi q
    have h2 := ht.cos q
    have e3 : (⟨64 + (32 + q.val), by omega⟩ : Fin 128) = ⟨96 + q.val, by omega⟩ := Fin.ext (by show 64 + (32 + q.val) = 96 + q.val; omega)
    simp only [Nat.add_sub_cancel_left, e3, h1, h2]

/-- One entry of a head of the queries, from the head's 192 products. -/
def query (s : Fin 192 → EReal) (cos sin : Fin 32 → EReal) (d : Fin 192) : EReal :=
  (if h : d.val < 128 then s d else rot (fun e => s ⟨128 + e.val, by omega⟩) cos sin ⟨d.val - 128, by omega⟩) * Ideal.ofBits .f32 0x3DD53B95#32

/-- The same from 256 products, the last 64 those of the rotated part with its halves swapped. -/
def queryTab (s : Fin 256 → EReal) (t : Fin 128 → EReal) (d : Fin 192) : EReal :=
  (if h : d.val < 128 then s ⟨d.val, by omega⟩
    else rotTab (fun e => s ⟨128 + e.val, by omega⟩) (fun e => s ⟨128 + (64 + e.val), by omega⟩) t ⟨d.val - 128, by omega⟩) * Ideal.ofBits .f32 0x3DD53B95#32

theorem queryTab_eq (s' : Fin 256 → EReal) (s : Fin 192 → EReal) (t : Fin 128 → EReal) (ht : Rows t) (hs : ∀ d : Fin 192, s' ⟨d.val, by omega⟩ = s d)
    (hlo : ∀ e : Fin 32, s' ⟨192 + e.val, by omega⟩ = s ⟨160 + e.val, by omega⟩) (hhi : ∀ e : Fin 32, s' ⟨224 + e.val, by omega⟩ = s ⟨128 + e.val, by omega⟩)
    (d : Fin 192) : queryTab s' t d = query s (fun q => t ⟨q.val, by omega⟩) (fun q => t ⟨96 + q.val, by omega⟩) d := by
  unfold queryTab query
  split
  next h => rw [hs d]
  next h =>
    rw [rotTab_eq _ _ t ht (fun e => ?_) (fun e => ?_)]
    · have hp : (fun e : Fin 64 => s' ⟨128 + e.val, by omega⟩) = fun e => s ⟨128 + e.val, by omega⟩ := funext fun e => hs ⟨128 + e.val, by omega⟩
      rw [hp]
    · refine (Eq.trans ?_ (hlo e)).trans (Eq.trans ?_ (hs ⟨128 + (32 + e.val), by omega⟩).symm)
      · exact congrArg s' (Fin.ext (by show 128 + (64 + e.val) = 192 + e.val; omega))
      · exact congrArg s (Fin.ext (by show 160 + e.val = 128 + (32 + e.val); omega))
    · refine (Eq.trans ?_ (hhi e)).trans (hs ⟨128 + e.val, by omega⟩).symm
      exact congrArg s' (Fin.ext (by show 128 + (64 + (32 + e.val)) = 224 + e.val; omega))

/-- One entry of a head of the keys: the head's 128 products, then the rotated part, which the heads share. -/
def key (s : Fin 128 → EReal) (p : Fin 64 → EReal) (d : Fin 192) : EReal := if h : d.val < 128 then s ⟨d.val, h⟩ else p ⟨d.val - 128, by omega⟩

end Cert.Proof.In

end
-- ==== Proof.InProjIdealValue.lean ====
/-
  The result arrays of the input projection over the extended reals, each as a function of the argument arrays.

  Grid point `i` works on the rows `512 i, …`. It writes the recurrent input and the gate as blocks of 512 rows, and the queries,
  the keys and the values head by head: the eight heads of an array are one term at eight column blocks of its weights.
-/
module

public import proofs.«01_k».proof.Proof.Gen.InProjIdeal.Value
public import proofs.«01_k».proof.Proof.InMath
public import Idealize.ShloMosaic.Lib.Pipeline.ValueKit
public import Idealize.ShloMosaic.Lib.Pipeline.ReadBack
public import Idealize.ShloMosaic.Lib.VecWindow
public import Idealize.ShloMosaic.Lib.WritesUnit
public import Idealize.ShloMosaic.Lib.Pointwise
public import Idealize.ShloMosaic.Lib.Claim

@[expose] public section

set_option maxRecDepth 16384

noncomputable section

namespace Cert.Proof.InProjIdeal

open Cert.InProjIdeal Cert.InProjIdeal.Gen Idealize.ShloMosaic Idealize.ShloMosaic.TcCoe Idealize.SL Idealize.SL.Sem Idealize.ShloMosaic.Tactic
open Idealize.ShloMosaic.Pipeline (Dat)

variable (m : (ℓ : Loc nD τ sig) → Buf (Elt Ideal) ℓ)

/-! ## The pieces, at an index -/

theorem rec_at (x : Vec Ideal S512x2048 .f32) (w : Vec Ideal S2048x1024 .bf16) (r : Fin 512) (j : Fin 1024) :
    k0_pay8 (F := Ideal) x w (ix2 r j) = ∑ k, x (ix2 r k) * w (ix2 k j) := by
  pointwise [k0_pay8, k0_pay6]
theorem gate_at (x : Vec Ideal S512x2048 .f32) (w : Vec Ideal S2048x1024 .bf16) (r : Fin 512) (j : Fin 1024) :
    k0_pay9 (F := Ideal) x w (ix2 r j) = In.gelu (∑ k, x (ix2 r k) * w (ix2 k j)) := by
  unfold In.gelu
  pointwise [k0_pay9, k0_pay6]
theorem qrow_at (x : Vec Ideal S512x2048 .f32) (w : Vec Ideal S2048x512 .bf16) (g : Vec Ideal S1x512 .f32) (r : Fin 512) (j : Fin 512) :
    k0_pay13 (F := Ideal) (k0_pay10 x w) g (ix2 r j) = In.norm (fun j => ∑ k, x (ix2 r k) * w (ix2 k j)) (g (ix2 0 j)) j := by
  unfold In.norm
  pointwise [k0_pay13, k0_pay10, k0_pay6]
theorem kvrow_at (x : Vec Ideal S512x2048 .f32) (w : Vec Ideal S2048x512 .bf16) (g : Vec Ideal S1x512 .f32) (r : Fin 512) (j : Fin 512) :
    k0_pay14 (F := Ideal) (k0_pay11 x w) g (ix2 r j) = In.norm (fun j => ∑ k, x (ix2 r k) * w (ix2 k j)) (g (ix2 0 j)) j := by
  unfold In.norm
  pointwise [k0_pay14, k0_pay11, k0_pay6]
/-- The shared rotated part of the keys. -/
theorem kpe_at (x : Vec Ideal S512x2048 .f32) (tab : Vec Ideal S128x512 .f32) (w : Vec Ideal S2048x64 .bf16) (r : Fin 512) (e : Fin 64) :
    k0_pay12 (F := Ideal) (k0_pay6 x) (k0_pay7 tab) w (ix2 r e)
      = In.rotTab (fun e => ∑ k, x (ix2 r k) * w (ix2 k e))
          (fun e => if h : e.val < 32 then ∑ k, x (ix2 r k) * w (ix2 k ⟨32 + e.val, by omega⟩) else ∑ k, x (ix2 r k) * w (ix2 k ⟨e.val - 32, by omega⟩))
          (fun a => tab (ix2 a r)) e := by
  unfold In.rotTab
  pointwise [k0_pay12, k0_pay6, k0_pay7]
theorem query_at (tab : Vec Ideal S128x512 .f32) (u : FVec Ideal S512x512 .bf16) (w : Vec Ideal S512x256 .bf16) (d : Fin 192) (r : Fin 512) :
    k0_pay26 (F := Ideal) (k0_pay7 tab) u w (ix5 0 0 0 d r) = In.queryTab (fun q => ∑ k, u (ix2 r k) * w (ix2 k q)) (fun a => tab (ix2 a r)) d := by
  unfold In.queryTab In.rotTab
  pointwise [k0_pay26, k0_pay7]
theorem key_at (p : FVec Ideal S512x64 .f32) (u : FVec Ideal S512x512 .bf16) (w : Vec Ideal S512x256 .bf16) (r : Fin 512) (d : Fin 192) :
    k0_pay20 (F := Ideal) p u w (ix4 0 0 r d) = In.key (fun q => ∑ k, u (ix2 r k) * w (ix2 k ⟨q.val, by omega⟩)) (fun e => p (ix2 r e)) d := by
  unfold In.key
  pointwise [k0_pay20, k0_pay19]
theorem valLo_at (u : FVec Ideal S512x512 .bf16) (w : Vec Ideal S512x256 .bf16) (d : Fin 128) (r : Fin 256) :
    k0_pay22 (F := Ideal) u w (ix5 0 0 0 d r) = ∑ k, u (ix2 ⟨r.val, by omega⟩ k) * w (ix2 k ⟨128 + d.val, by omega⟩) := by
  pointwise [k0_pay22, k0_pay21, k0_pay19]
theorem valHi_at (u : FVec Ideal S512x512 .bf16) (w : Vec Ideal S512x256 .bf16) (d : Fin 128) (r : Fin 256) :
    k0_pay24 (F := Ideal) (k0_pay21 u w) (ix5 0 0 0 d r) = ∑ k, u (ix2 ⟨256 + r.val, by omega⟩ k) * w (ix2 k ⟨128 + d.val, by omega⟩) := by
  pointwise [k0_pay24, k0_pay21, k0_pay19]
theorem one_at (d : Fin 16) (r : Fin 256) : k0_pay23 (F := Ideal) (ix5 0 0 0 d r) = 1 := by
  pointwise [k0_pay23]

/-! ## The terms of the eight heads are one term -/

section Same
variable (T : FVec Ideal S512x128 .f32) (a : FVec Ideal S512x512 .f32) (g : Vec Ideal S1x512 .f32) (p : FVec Ideal S512x64 .f32) (u : FVec Ideal S512x512 .bf16) (w : Vec Ideal S512x256 .bf16)

theorem q0 : k0_pay18 (F := Ideal) T (k0_pay16 a g w) (k0_pay17 a g w) = k0_pay26 T (k0_pay13 a g) w := rfl
theorem q2 : k0_pay39 (F := Ideal) (k0_pay36 u w) (k0_pay37 T u w) (k0_pay38 T u w) = k0_pay26 T u w := rfl
theorem q3 : k0_pay48 (F := Ideal) T u w = k0_pay26 T u w := rfl
theorem q4 : k0_pay60 (F := Ideal) (k0_pay58 u w) (k0_pay59 T u w) = k0_pay26 T u w := rfl
theorem q5 : k0_pay69 (F := Ideal) T u w = k0_pay26 T u w := rfl
theorem q6 : k0_pay78 (F := Ideal) (k0_pay77 T u w) (Scalar.ofBits .f32 0x3DD53B95#32) = k0_pay26 T u w := rfl
theorem q7 : k0_pay87 (F := Ideal) T u w = k0_pay26 T u w := rfl
theorem k1 : k0_pay29 (F := Ideal) (k0_pay28 p u w) = k0_pay20 p u w := rfl
theorem k2 : k0_pay41 (F := Ideal) p u w = k0_pay20 p u w := rfl
theorem k3 : k0_pay51 (F := Ideal) (k0_pay50 p u w) = k0_pay20 p u w := rfl
theorem k4 : k0_pay62 (F := Ideal) p u w = k0_pay20 p u w := rfl
theorem k5 : k0_pay71 (F := Ideal) p u w = k0_pay20 p u w := rfl
theorem k6 : k0_pay80 (F := Ideal) p u w = k0_pay20 p u w := rfl
theorem k7 : k0_pay89 (F := Ideal) p u w = k0_pay20 p u w := rfl
theorem v1 : k0_pay31 (F := Ideal) (k0_pay27 u w) = k0_pay22 u w := rfl
theorem v2 : k0_pay43 (F := Ideal) u w = k0_pay22 u w := rfl
theorem v3 : k0_pay53 (F := Ideal) (k0_pay49 u w) = k0_pay22 u w := rfl
theorem v4 : k0_pay64 (F := Ideal) u w = k0_pay22 u w := rfl
theorem v5 : k0_pay73 (F := Ideal) (k0_pay70 u w) = k0_pay22 u w := rfl
theorem v6 : k0_pay82 (F := Ideal) u w = k0_pay22 u w := rfl
theorem v7 : k0_pay2 (F := Ideal) (k0_pay90 u w) = k0_pay22 u w := rfl
theorem w1 : k0_pay33 (F := Ideal) (k0_pay27 u w) = k0_pay24 (k0_pay21 u w) := rfl
theorem w2 : k0_pay46 (F := Ideal) (k0_pay45 u w) = k0_pay24 (k0_pay21 u w) := rfl
theorem w3 : k0_pay55 (F := Ideal) (k0_pay49 u w) = k0_pay24 (k0_pay21 u w) := rfl
theorem w4 : k0_pay67 (F := Ideal) (k0_pay66 u w) = k0_pay24 (k0_pay21 u w) := rfl
theorem w5 : k0_pay75 (F := Ideal) (k0_pay70 u w) = k0_pay24 (k0_pay21 u w) := rfl
theorem w6 : k0_pay85 (F := Ideal) (k0_pay84 u w) = k0_pay24 (k0_pay21 u w) := rfl
theorem w7 : k0_pay4 (F := Ideal) (k0_pay90 u w) = k0_pay24 (k0_pay21 u w) := rfl
end Same

/-! ## What a point leaves in each array -/

/-- The blocks of the seven inputs at a point. -/
abbrev bX (c : Dev nD) (t : Fin cfg0.N) : Vec Ideal S512x2048 .f32 := iblk m c 0 t
abbrev bW (c : Dev nD) (t : Fin cfg0.N) : Vec Ideal S2048x3136 .bf16 := iblk m c 1 t
abbrev bQ (c : Dev nD) (t : Fin cfg0.N) : Vec Ideal S512x2048 .bf16 := iblk m c 2 t
abbrev bK (c : Dev nD) (t : Fin cfg0.N) : Vec Ideal S512x2048 .bf16 := iblk m c 3 t
abbrev bG (c : Dev nD) (t : Fin cfg0.N) : Vec Ideal S1x512 .f32 := iblk m c 4 t
abbrev bH (c : Dev nD) (t : Fin cfg0.N) : Vec Ideal S1x512 .f32 := iblk m c 5 t
abbrev bT (c : Dev nD) (t : Fin cfg0.N) : Vec Ideal S128x512 .f32 := iblk m c 6 t

/-- Entry `k` of the normed latent row of the queries, and of the keys and values, at row `r` of a point's block. -/
def qrow (c : Dev nD) (t : Fin cfg0.N) (r : Fin 512) (k : Fin 512) : EReal :=
  In.norm (fun j => ∑ i : Fin 2048, bX m c t (ix2 r i) * bW m c t (ix2 i ⟨2048 + j.val, by omega⟩)) (bG m c t (ix2 0 k)) k
def kvrow (c : Dev nD) (t : Fin cfg0.N) (r : Fin 512) (k : Fin 512) : EReal :=
  In.norm (fun j => ∑ i : Fin 2048, bX m c t (ix2 r i) * bW m c t (ix2 i ⟨2560 + j.val, by omega⟩)) (bH m c t (ix2 0 k)) k

theorem qrow_eq (c : Dev nD) (t : Fin cfg0.N) (r k : Fin 512) :
    k0_pay13 (F := Ideal) (k0_pay10 (iblk m c 0 t) (View.ld (iblk m c 1 t) (Rect.unit ![0, 2048] ![2048, 512] inb_S2048x3136_S2048x512_0_2048))) (iblk m c 4 t) (ix2 r k)
      = qrow m c t r k := by
  refine (qrow_at _ _ _ r k).trans (congrArg (fun u => In.norm u _ k) (funext fun j => Finset.sum_congr rfl fun i _ => congrArg _ ?_))
  pointwise []
theorem kvrow_eq (c : Dev nD) (t : Fin cfg0.N) (r k : Fin 512) :
    k0_pay14 (F := Ideal) (k0_pay11 (iblk m c 0 t) (View.ld (iblk m c 1 t) (Rect.unit ![0, 2560] ![2048, 512] inb_S2048x3136_S2048x512_0_2560))) (iblk m c 5 t) (ix2 r k)
      = kvrow m c t r k := by
  refine (kvrow_at _ _ _ r k).trans (congrArg (fun u => In.norm u _ k) (funext fun j => Finset.sum_congr rfl fun i _ => congrArg _ ?_))
  pointwise []

theorem left_rec (c : Dev nD) (t : Fin cfg0.N) (r : Fin 512) (j : Fin 1024) :
    (outsAt0 m c t).1 (ix2 r j) = ∑ i : Fin 2048, bX m c t (ix2 r i) * bW m c t (ix2 i ⟨j.val, by omega⟩) := by
  unfold outsAt0
  frame_out
  refine (rec_at _ _ r j).trans (Finset.sum_congr rfl fun k _ => congrArg _ ?_)
  pointwise []

theorem left_gate (c : Dev nD) (t : Fin cfg0.N) (r : Fin 512) (j : Fin 1024) :
    (outsAt0 m c t).2.1 (ix2 r j) = In.gelu (∑ i : Fin 2048, bX m c t (ix2 r i) * bW m c t (ix2 i ⟨1024 + j.val, by omega⟩)) := by
  unfold outsAt0
  frame_out
  refine (gate_at _ _ r j).trans (congrArg _ (Finset.sum_congr rfl fun k _ => congrArg _ ?_))
  pointwise []

theorem left_query (c : Dev nD) (t : Fin cfg0.N) (y : S1x8x1x192x512.Idx) :
    (outsAt0 m c t).2.2.1 y = In.queryTab (fun q => ∑ k, qrow m c t (y 4) k * bQ m c t (ix2 k ⟨256 * (y 1).val + q.val, by have : (y 1).val < 8 := (y 1).isLt; omega⟩))
      (fun a => bT m c t (ix2 a (y 4))) (y 3) := by
  unfold outsAt0
  frame_out
  simp only [q0, q2, q3, q4, q5, q6, q7]
  canon_tiles z h
  all_goals have ez : z = ix5 0 0 0 (z 3) (z 4) := funext fun a => by fin_cases a <;> first | rfl | exact Fin.ext (Nat.lt_one_iff.mp (z _).isLt)
  all_goals have h3' : y 3 = z 3 := Fin.ext h3
  all_goals have h4' : y 4 = z 4 := Fin.ext h4
  all_goals rw [h3', h4']
  all_goals refine (congrArg _ ez).trans ((query_at _ _ _ (z 3) (z 4)).trans ?_)
  all_goals refine congrArg (fun s => In.queryTab s _ _) (funext fun q => Finset.sum_congr rfl fun k _ => congr (congrArg _ (qrow_eq m c t (z 4) k)) ?_)
  all_goals pointwise []
  all_goals exact congrArg _ (congrArg (ix2 k) (Fin.ext (by dsimp only; omega)))

/-- Entry `e` of the keys' rotated part at row `r` of a point's block. -/
def kpe (c : Dev nD) (t : Fin cfg0.N) (r : Fin 512) (e : Fin 64) : EReal :=
  In.rotTab (fun e => ∑ i : Fin 2048, bX m c t (ix2 r i) * bW m c t (ix2 i ⟨3072 + e.val, by omega⟩))
    (fun e => if h : e.val < 32 then ∑ i : Fin 2048, bX m c t (ix2 r i) * bW m c t (ix2 i ⟨3072 + (32 + e.val), by omega⟩)
      else ∑ i : Fin 2048, bX m c t (ix2 r i) * bW m c t (ix2 i ⟨3072 + (e.val - 32), by omega⟩))
    (fun a => bT m c t (ix2 a r)) e
theorem kpe_eq (c : Dev nD) (t : Fin cfg0.N) (r : Fin 512) (e : Fin 64) :
    k0_pay12 (F := Ideal) (k0_pay6 (iblk m c 0 t)) (k0_pay7 (iblk m c 6 t)) (View.ld (iblk m c 1 t) (Rect.unit ![0, 3072] ![2048, 64] inb_S2048x3136_S2048x64_0_3072)) (ix2 r e)
      = kpe m c t r e := by
  have hl : ∀ (i : Fin 2048) (e : Fin 64), (View.ld (iblk m c 1 t) (Rect.unit ![0, 3072] ![2048, 64] inb_S2048x3136_S2048x64_0_3072)) (ix2 i e)
      = bW m c t (ix2 i ⟨3072 + e.val, by omega⟩) := fun i e => by pointwise []
  refine (kpe_at _ _ _ r e).trans ?_
  simp only [hl]
  rfl

theorem left_key (c : Dev nD) (t : Fin cfg0.N) (y : S1x8x512x192.Idx) :
    (outsAt0 m c t).2.2.2.1 y = In.key (fun q => ∑ k, kvrow m c t (y 2) k * bK m c t (ix2 k ⟨256 * (y 1).val + q.val, by have : (y 1).val < 8 := (y 1).isLt; omega⟩))
      (kpe m c t (y 2)) (y 3) := by
  unfold outsAt0
  frame_out
  simp only [k1, k2, k3, k4, k5, k6, k7]
  canon_tiles z h
  all_goals have ez : z = ix4 0 0 (z 2) (z 3) := funext fun a => by fin_cases a <;> first | rfl | exact Fin.ext (Nat.lt_one_iff.mp (z _).isLt)
  all_goals have h2' : y 2 = z 2 := Fin.ext h2
  all_goals have h3' : y 3 = z 3 := Fin.ext h3
  all_goals rw [h2', h3']
  all_goals refine (congrArg _ ez).trans ((key_at _ _ _ (z 2) (z 3)).trans ?_)
  all_goals refine congr (congr (congrArg In.key (funext fun q => Finset.sum_congr rfl fun k _ => congr (congrArg _ (kvrow_eq m c t (z 2) k)) ?_)) (funext fun e => kpe_eq m c t (z 2) e)) rfl
  all_goals pointwise []
  all_goals exact congrArg _ (congrArg (ix2 k) (Fin.ext (by dsimp only; omega)))

theorem lo_piece (c : Dev nD) (t : Fin cfg0.N) (o : ℕ) (inb : ∀ a, ![0, o] a + ![512, 256] a ≤ S512x2048.size a) (z : S1x1x1x128x256.Idx) (R : Fin 512) (hR : R.val = (z 4).val)
    (C : Fin 2048) (hC : C.val = o + (128 + (z 3).val)) :
    k0_pay22 (F := Ideal) (k0_pay14 (k0_pay11 (iblk m c 0 t) (View.ld (iblk m c 1 t) (Rect.unit ![0, 2560] ![2048, 512] inb_S2048x3136_S2048x512_0_2560))) (iblk m c 5 t))
      (View.ld (iblk m c 3 t) (Rect.unit ![0, o] ![512, 256] inb)) z = ∑ k, kvrow m c t R k * bK m c t (ix2 k C) := by
  have ez : z = ix5 0 0 0 (z 3) (z 4) := funext fun a => by fin_cases a <;> first | rfl | exact Fin.ext (Nat.lt_one_iff.mp (z _).isLt)
  refine (congrArg _ ez).trans ((valLo_at _ _ (z 3) (z 4)).trans (Finset.sum_congr rfl fun k _ => congr (congrArg _ ?_) ?_))
  · exact (kvrow_eq m c t _ k).trans (congrArg (kvrow m c t · k) (Fin.ext hR.symm))
  · pointwise []
    exact congrArg _ (congrArg (ix2 k) (Fin.ext hC.symm))
theorem hi_piece (c : Dev nD) (t : Fin cfg0.N) (o : ℕ) (inb : ∀ a, ![0, o] a + ![512, 256] a ≤ S512x2048.size a) (z : S1x1x1x128x256.Idx) (R : Fin 512) (hR : R.val = 256 + (z 4).val)
    (C : Fin 2048) (hC : C.val = o + (128 + (z 3).val)) :
    k0_pay24 (F := Ideal) (k0_pay21 (k0_pay14 (k0_pay11 (iblk m c 0 t) (View.ld (iblk m c 1 t) (Rect.unit ![0, 2560] ![2048, 512] inb_S2048x3136_S2048x512_0_2560))) (iblk m c 5 t))
      (View.ld (iblk m c 3 t) (Rect.unit ![0, o] ![512, 256] inb))) z = ∑ k, kvrow m c t R k * bK m c t (ix2 k C) := by
  have ez : z = ix5 0 0 0 (z 3) (z 4) := funext fun a => by fin_cases a <;> first | rfl | exact Fin.ext (Nat.lt_one_iff.mp (z _).isLt)
  refine (congrArg _ ez).trans ((valHi_at _ _ (z 3) (z 4)).trans (Finset.sum_congr rfl fun k _ => congr (congrArg _ ?_) ?_))
  · exact (kvrow_eq m c t _ k).trans (congrArg (kvrow m c t · k) (Fin.ext hR.symm))
  · pointwise []
    exact congrArg _ (congrArg (ix2 k) (Fin.ext hC.symm))
theorem one_piece (z : S1x1x1x16x256.Idx) : k0_pay23 (F := Ideal) z = 1 := by
  have ez : z = ix5 0 0 0 (z 3) (z 4) := funext fun a => by fin_cases a <;> first | rfl | exact Fin.ext (Nat.lt_one_iff.mp (z _).isLt)
  exact (congrArg _ ez).trans (one_at (z 3) (z 4))

set_option maxHeartbeats 2000000 in
theorem left_value (c : Dev nD) (t : Fin cfg0.N) (y : S1x8x2x144x256.Idx) :
    (outsAt0 m c t).2.2.2.2 y = if h : (y 3).val < 128 then
        ∑ k, kvrow m c t ⟨256 * (y 2).val + (y 4).val, by have : (y 2).val < 2 := (y 2).isLt; have : (y 4).val < 256 := (y 4).isLt; omega⟩ k
          * bK m c t (ix2 k ⟨256 * (y 1).val + (128 + (y 3).val), by have : (y 1).val < 8 := (y 1).isLt; omega⟩)
      else 1 := by
  unfold outsAt0
  frame_out
  simp only [v1, v2, v3, v4, v5, v6, v7, w1, w2, w3, w4, w5, w6, w7]
  canon_tiles z h using View.cover_of_tiledBy _ ![1, 1, 1, 16, 256] (by sl_kernel_rfl) y
  all_goals first
    | rw [dif_neg (by omega)]; exact one_piece z
    | have : (y 2).val = 1 + (z 2).val := h2
      rw [dif_pos (by omega)]; exact hi_piece m c t _ _ z _ (by dsimp only; omega) _ (by dsimp only; omega)
    | rw [dif_pos (by omega)]; exact lo_piece m c t _ _ z _ (by dsimp only; omega) _ (by dsimp only; omega)

end Cert.Proof.InProjIdeal

end
-- ==== Proof.InProjIdealFinal.lean ====
/-
  The result arrays of the input projection over the extended reals: the blocks that the 64 points leave, joined, each a function
  of the seven argument arrays.
-/
module

public import proofs.«01_k».proof.Proof.Gen.InProjIdeal.Value
public import proofs.«01_k».proof.Proof.InProjIdealValue
public import Idealize.ShloMosaic.Lib.Pipeline.ValueKit
public import Idealize.ShloMosaic.Lib.Pipeline.ReadBack
public import Idealize.ShloMosaic.Lib.VecWindow
public import Idealize.ShloMosaic.Lib.WritesUnit
public import Idealize.ShloMosaic.Lib.Pointwise
public import Idealize.ShloMosaic.Lib.Claim

@[expose] public section

set_option maxRecDepth 16384

noncomputable section

namespace Cert.Proof.InProjIdeal

open Cert.InProjIdeal Cert.InProjIdeal.Gen Idealize.ShloMosaic Idealize.ShloMosaic.TcCoe Idealize.SL Idealize.SL.Sem Idealize.ShloMosaic.Tactic
open Idealize.ShloMosaic.Pipeline (Dat)

/-! ## The results, of the argument arrays -/

section Results
variable (X : FVec Ideal S32768x2048 .f32) (T : FVec Ideal S128x32768 .f32) (W : FVec Ideal S2048x3136 .f32) (g : FVec Ideal S512 .f32) (Wq : FVec Ideal S512x1536 .f32)
  (b : FVec Ideal S512 .f32) (Wk : FVec Ideal S512x2048 .f32)

/-- Entry `j` of the combined projection of row `R`. -/
def comb (R : Fin 32768) (j : Fin 3136) : EReal := ∑ i : Fin 2048, X (ix2 R i) * W (ix2 i j)
/-- The normed latent rows of the queries, and of the keys and values. -/
def latQ (R : Fin 32768) (k : Fin 512) : EReal := In.norm (fun j => comb X W R ⟨2048 + j.val, by omega⟩) (g (ix1 k)) k
def latKV (R : Fin 32768) (k : Fin 512) : EReal := In.norm (fun j => comb X W R ⟨2560 + j.val, by omega⟩) (b (ix1 k)) k
/-- The cosines and the sines at row `R`. -/
def cosAt (R : Fin 32768) (e : Fin 32) : EReal := T (ix2 ⟨e.val, by omega⟩ R)
def sinAt (R : Fin 32768) (e : Fin 32) : EReal := T (ix2 ⟨96 + e.val, by omega⟩ R)

def queryE (R : Fin 32768) (h : Fin 8) (d : Fin 192) : EReal :=
  In.query (fun d => ∑ k : Fin 512, latQ X W g R k * Wq (ix2 k ⟨192 * h.val + d.val, by omega⟩)) (cosAt T R) (sinAt T R) d
def keyE (R : Fin 32768) (h : Fin 8) (d : Fin 192) : EReal :=
  In.key (fun q => ∑ k : Fin 512, latKV X W b R k * Wk (ix2 k ⟨256 * h.val + q.val, by omega⟩)) (In.rot (fun e => comb X W R ⟨3072 + e.val, by omega⟩) (cosAt T R) (sinAt T R)) d
def valueE (R : Fin 32768) (h : Fin 8) (d : Fin 144) : EReal :=
  if hd : d.val < 128 then ∑ k : Fin 512, latKV X W b R k * Wk (ix2 k ⟨256 * h.val + (128 + d.val), by omega⟩) else 1

def GRec : FVec Ideal S32768x1024 .f32 := fun i => comb X W (i 0) ⟨(i 1).val, by have : (i 1).val < 1024 := (i 1).isLt; omega⟩
def GGate : FVec Ideal S32768x1024 .bf16 := fun i => In.gelu (comb X W (i 0) ⟨1024 + (i 1).val, by have : (i 1).val < 1024 := (i 1).isLt; omega⟩)
def GQuery : FVec Ideal S4x8x16x192x512 .bf16 := fun i => queryE X T W g Wq
  ⟨8192 * (i 0).val + 512 * (i 2).val + (i 4).val, by
    have : (i 0).val < 4 := (i 0).isLt; have : (i 2).val < 16 := (i 2).isLt; have : (i 4).val < 512 := (i 4).isLt; omega⟩ (i 1) (i 3)
def GKey : FVec Ideal S4x8x8192x192 .bf16 := fun i => keyE X T W b Wk
  ⟨8192 * (i 0).val + (i 2).val, by have : (i 0).val < 4 := (i 0).isLt; have : (i 2).val < 8192 := (i 2).isLt; omega⟩ (i 1) (i 3)
def GValue : FVec Ideal S4x8x32x144x256 .bf16 := fun i => valueE X W b Wk
  ⟨8192 * (i 0).val + 256 * (i 2).val + (i 4).val, by
    have : (i 0).val < 4 := (i 0).isLt; have : (i 2).val < 32 := (i 2).isLt; have : (i 4).val < 256 := (i 4).isLt; omega⟩ (i 1) (i 3)
end Results

variable (m : (ℓ : Loc nD τ sig) → Buf (Elt Ideal) ℓ)

/-! ## The blocks of the inputs, of the argument arrays -/

/-- The block index of each window at a point. -/
theorem idx : ∀ t : Fin cfg0.N, win0_0.index t = ![t.val, 0] ∧ win0_1.index t = ![0, 0] ∧ win0_2.index t = ![0, 0] ∧ win0_3.index t = ![0, 0]
    ∧ win0_4.index t = ![0, 0] ∧ win0_5.index t = ![0, 0] ∧ win0_6.index t = ![0, t.val] ∧ win0_7.index t = ![t.val, 0] ∧ win0_8.index t = ![t.val, 0]
    ∧ win0_9.index t = ![t.val / 16, 0, t.val % 16, 0, 0] ∧ win0_10.index t = ![t.val / 16, 0, t.val % 16, 0] ∧ win0_11.index t = ![t.val / 16, 0, t.val % 16, 0, 0] ∧ t.val < 64 :=
  (by decide +kernel : ∀ t : Fin grid0.N, _)

abbrev aX (c : Dev nD) : FVec Ideal S32768x2048 .f32 := m ((c : Thread nD τ).loc main_arg0)
abbrev aT (c : Dev nD) : FVec Ideal S128x32768 .f32 := m ((c : Thread nD τ).loc main_arg1)
abbrev aW (c : Dev nD) : FVec Ideal S2048x3136 .f32 := m ((c : Thread nD τ).loc main_arg2)
abbrev aG (c : Dev nD) : FVec Ideal S512 .f32 := m ((c : Thread nD τ).loc main_arg3)
abbrev aQ (c : Dev nD) : FVec Ideal S512x1536 .f32 := m ((c : Thread nD τ).loc main_arg4)
abbrev aH (c : Dev nD) : FVec Ideal S512 .f32 := m ((c : Thread nD τ).loc main_arg5)
abbrev aK (c : Dev nD) : FVec Ideal S512x2048 .f32 := m ((c : Thread nD τ).loc main_arg6)

theorem blkX (c : Dev nD) (t : Fin cfg0.N) (R : Fin 32768) (r : Fin 512) (e : R.val = 512 * t.val + r.val) (k : Fin 2048) :
    bX m c t (ix2 r k) = aX m c (ix2 R k) := by
  blk_ext [iblk, V, idx t]
theorem blkT (c : Dev nD) (t : Fin cfg0.N) (R : Fin 32768) (r : Fin 512) (e : R.val = 512 * t.val + r.val) (k : Fin 128) :
    bT m c t (ix2 k r) = aT m c (ix2 k R) := by
  blk_ext [iblk, V, idx t]
theorem comb_at (w : FVec Ideal S2048x3136 .f32) (k : Fin 2048) (q : Fin 3136) :
    (truncf .bf16 w bitsLt_bf16_f32 : FVec Ideal S2048x3136 .bf16) (ix2 k q) = w (ix2 k q) := by
  pointwise []
theorem kv_at (w : FVec Ideal S512x2048 .f32) (k : Fin 512) (q : Fin 2048) :
    (truncf .bf16 w bitsLt_bf16_f32 : FVec Ideal S512x2048 .bf16) (ix2 k q) = w (ix2 k q) := by
  pointwise []
theorem scale_at (v : FVec Ideal S512 .f32) (d : Fin 512) :
    (shapeCast S1x512 v shapeCasts_S512_S1x512 : FVec Ideal S1x512 .f32) (ix2 0 d) = v (ix1 d) := by
  pointwise []
theorem blkW (c : Dev nD) (t : Fin cfg0.N) (k : Fin 2048) (q : Fin 3136) : bW m c t (ix2 k q) = aW m c (ix2 k q) := by
  have h : ((V m c main_v8 : FVec Ideal S2048x3136 .bf16)) = truncf .bf16 (aW m c) bitsLt_bf16_f32 := by
    entry_read; rfl
  refine Eq.trans ?_ ((congrFun h (ix2 k q)).trans (comb_at (aW m c) k q))
  blk_ext [iblk, idx t]
theorem blkK (c : Dev nD) (t : Fin cfg0.N) (k : Fin 512) (q : Fin 2048) : bK m c t (ix2 k q) = aK m c (ix2 k q) := by
  have h : ((V m c main_v9 : FVec Ideal S512x2048 .bf16)) = truncf .bf16 (aK m c) bitsLt_bf16_f32 := by
    entry_read; rfl
  refine Eq.trans ?_ ((congrFun h (ix2 k q)).trans (kv_at (aK m c) k q))
  blk_ext [iblk, idx t]
theorem blkG (c : Dev nD) (t : Fin cfg0.N) (d : Fin 512) : bG m c t (ix2 0 d) = aG m c (ix1 d) := by
  have e : ((V m c main_v10 : FVec Ideal S1x512 .f32)) = shapeCast S1x512 (aG m c) shapeCasts_S512_S1x512 := by
    entry_read; rfl
  refine Eq.trans ?_ ((congrFun e (ix2 0 d)).trans (scale_at (aG m c) d))
  blk_ext [iblk, idx t]
theorem blkH (c : Dev nD) (t : Fin cfg0.N) (d : Fin 512) : bH m c t (ix2 0 d) = aH m c (ix1 d) := by
  have e : ((V m c main_v11 : FVec Ideal S1x512 .f32)) = shapeCast S1x512 (aH m c) shapeCasts_S512_S1x512 := by
    entry_read; rfl
  refine Eq.trans ?_ ((congrFun e (ix2 0 d)).trans (scale_at (aH m c) d))
  blk_ext [iblk, idx t]

/-- The extended weights of the queries: each head's 192 columns, then its last 64 with their halves swapped. -/
def heads (w : FVec Ideal S512x1536 .f32) : FVec Ideal S512x8x192 .bf16 := shapeCast S512x8x192 (truncf .bf16 w bitsLt_bf16_f32) shapeCasts_S512x1536_S512x8x192
def turned (w : FVec Ideal S512x1536 .f32) : FVec Ideal S512x8x64 .bf16 := extractStridedSlice S512x8x64 ![0, 0, 128] (heads w) slices_S512x8x192_S512x8x64_0_0_128
def swapped (w : FVec Ideal S512x1536 .f32) : FVec Ideal S512x8x64 .bf16 := concatenate S512x8x64 2
  [⟨S512x8x32, extractStridedSlice S512x8x32 ![0, 0, 32] (turned w) slices_S512x8x64_S512x8x32_0_0_32⟩,
    ⟨S512x8x32, extractStridedSlice S512x8x32 ![0, 0, 0] (turned w) slices_S512x8x64_S512x8x32_0_0_0⟩] concatenates_S512x8x32_S512x8x32_S512x8x64_d2
def wide (w : FVec Ideal S512x1536 .f32) : FVec Ideal S512x8x256 .bf16 :=
  concatenate S512x8x256 2 [⟨S512x8x192, heads w⟩, ⟨S512x8x64, swapped w⟩] concatenates_S512x8x192_S512x8x64_S512x8x256_d2
def ext (w : FVec Ideal S512x1536 .f32) : FVec Ideal S512x2048 .bf16 := shapeCast S512x2048 (wide w) shapeCasts_S512x8x256_S512x2048

theorem heads_at (w : FVec Ideal S512x1536 .f32) (k : Fin 512) (h : Fin 8) (d : Fin 192) : heads w (ix3 k h d) = w (ix2 k ⟨192 * h.val + d.val, by omega⟩) := by
  pointwise [heads]
  exact congrArg w (congrArg (ix2 k) (Fin.ext (by show h.val * 192 + d.val = 192 * h.val + d.val; omega)))
theorem swapped_at (w : FVec Ideal S512x1536 .f32) (k : Fin 512) (h : Fin 8) (d : Fin 64) : swapped w (ix3 k h d)
    = if hd : d.val < 32 then heads w (ix3 k h ⟨128 + (32 + d.val), by omega⟩) else heads w (ix3 k h ⟨128 + (d.val - 32), by omega⟩) := by
  pointwise [swapped, turned]
theorem wide_at (w : FVec Ideal S512x1536 .f32) (k : Fin 512) (h : Fin 8) (d : Fin 256) : wide w (ix3 k h d)
    = if hd : d.val < 192 then heads w (ix3 k h ⟨d.val, hd⟩) else swapped w (ix3 k h ⟨d.val - 192, by omega⟩) := by
  pointwise [wide]
theorem ext_at (w : FVec Ideal S512x1536 .f32) (k : Fin 512) (h : Fin 8) (q : Fin 256) : ext w (ix2 k ⟨256 * h.val + q.val, by omega⟩) = wide w (ix3 k h q) := by
  pointwise [ext]

theorem blkQ (c : Dev nD) (t : Fin cfg0.N) (k : Fin 512) (q : Fin 2048) : bQ m c t (ix2 k q) = ext (aQ m c) (ix2 k q) := by
  have e : ((V m c main_v7 : FVec Ideal S512x2048 .bf16)) = ext (aQ m c) := by
    entry_read; rfl
  refine Eq.trans ?_ (congrFun e (ix2 k q))
  blk_ext [iblk, idx t]

/-! ## What a point leaves, of the argument arrays -/

section Point
variable (c : Dev nD) (t : Fin cfg0.N) (R : Fin 32768) (r : Fin 512) (e : R.val = 512 * t.val + r.val)
include e

theorem comb_eq (j : Fin 3136) : ∑ i : Fin 2048, bX m c t (ix2 r i) * bW m c t (ix2 i j) = comb (aX m c) (aW m c) R j :=
  Finset.sum_congr rfl fun i _ => congr (congrArg _ (blkX m c t R r e i)) (blkW m c t i j)
theorem latQ_eq (k : Fin 512) : qrow m c t r k = latQ (aX m c) (aW m c) (aG m c) R k := by
  unfold qrow latQ
  rw [blkG m c t k]
  exact congrArg (fun u => In.norm u _ k) (funext fun j => comb_eq m c t R r e _)
theorem latKV_eq (k : Fin 512) : kvrow m c t r k = latKV (aX m c) (aW m c) (aH m c) R k := by
  unfold kvrow latKV
  rw [blkH m c t k]
  exact congrArg (fun u => In.norm u _ k) (funext fun j => comb_eq m c t R r e _)
theorem tab_eq : (fun a => bT m c t (ix2 a r)) = fun a => aT m c (ix2 a R) := funext fun a => blkT m c t R r e a

theorem point_query (ht : In.Rows fun a => aT m c (ix2 a R)) (h : Fin 8) (d : Fin 192) :
    (outsAt0 m c t).2.2.1 (ix5 0 h 0 d r) = queryE (aX m c) (aT m c) (aW m c) (aG m c) (aQ m c) R h d := by
  have hs : ∀ (q : Fin 256) (j : Fin 192), (∀ k, wide (aQ m c) (ix3 k h q) = aQ m c (ix2 k ⟨192 * h.val + j.val, by omega⟩)) →
      (∑ k, qrow m c t r k * bQ m c t (ix2 k ⟨256 * h.val + q.val, by omega⟩))
        = ∑ k, latQ (aX m c) (aW m c) (aG m c) R k * aQ m c (ix2 k ⟨192 * h.val + j.val, by omega⟩) := fun q j hw =>
    Finset.sum_congr rfl fun k _ => congr (congrArg _ (latQ_eq m c t R r e k)) ((blkQ m c t k _).trans ((ext_at _ k h q).trans (hw k)))
  refine (left_query m c t _).trans ?_
  refine (congrArg (fun tb => In.queryTab _ tb d) (tab_eq m c t R r e)).trans (In.queryTab_eq _ _ _ ht (fun j => ?_) (fun j => ?_) (fun j => ?_) d)
  · refine hs ⟨j.val, by omega⟩ j fun k => ?_
    rw [wide_at, dif_pos j.isLt]
    exact heads_at _ k h j
  · refine hs ⟨192 + j.val, by omega⟩ ⟨160 + j.val, by omega⟩ fun k => ?_
    rw [wide_at, dif_neg (by show ¬ 192 + j.val < 192; omega), swapped_at, dif_pos (by show 192 + j.val - 192 < 32; omega), heads_at]
    exact congrArg _ (congrArg (ix2 k) (Fin.ext (by show 192 * h.val + (128 + (32 + (192 + j.val - 192))) = 192 * h.val + (160 + j.val); omega)))
  · refine hs ⟨224 + j.val, by omega⟩ ⟨128 + j.val, by omega⟩ fun k => ?_
    rw [wide_at, dif_neg (by show ¬ 224 + j.val < 192; omega), swapped_at, dif_neg (by show ¬ 224 + j.val - 192 < 32; omega), heads_at]
    exact congrArg _ (congrArg (ix2 k) (Fin.ext (by show 192 * h.val + (128 + (224 + j.val - 192 - 32)) = 192 * h.val + (128 + j.val); omega)))

theorem kpe_rot (ht : In.Rows fun a => aT m c (ix2 a R)) (q : Fin 64) :
    kpe m c t r q = In.rot (fun q => comb (aX m c) (aW m c) R ⟨3072 + q.val, by omega⟩) (cosAt (aT m c) R) (sinAt (aT m c) R) q := by
  unfold kpe
  simp only [comb_eq m c t R r e]
  refine (congrArg (fun tb => In.rotTab _ _ tb q) (tab_eq m c t R r e)).trans (In.rotTab_eq _ _ _ ht (fun j => ?_) (fun j => ?_) q)
  · rw [dif_pos (by show j.val < 32; omega)]
  · rw [dif_neg (by show ¬ 32 + j.val < 32; omega)]
    exact congrArg _ (Fin.ext (by show 3072 + (32 + j.val - 32) = 3072 + j.val; omega))

theorem point_key (ht : In.Rows fun a => aT m c (ix2 a R)) (h : Fin 8) (d : Fin 192) :
    (outsAt0 m c t).2.2.2.1 (ix4 0 h r d) = keyE (aX m c) (aT m c) (aW m c) (aH m c) (aK m c) R h d := by
  unfold keyE
  refine (left_key m c t _).trans (congr (congr (congrArg In.key (funext fun q => Finset.sum_congr rfl fun k _ => ?_)) (funext fun q => kpe_rot m c t R r e ht q)) rfl)
  exact congr (congrArg _ (latKV_eq m c t R r e k)) (blkK m c t k _)
end Point

theorem point_value (c : Dev nD) (t : Fin cfg0.N) (R : Fin 32768) (u : Fin 2) (r : Fin 256) (e : R.val = 512 * t.val + (256 * u.val + r.val)) (h : Fin 8) (d : Fin 144) :
    (outsAt0 m c t).2.2.2.2 (ix5 0 h u d r) = valueE (aX m c) (aW m c) (aH m c) (aK m c) R h d := by
  refine (left_value m c t _).trans ?_
  unfold valueE
  show (if hd : d.val < 128 then _ else _) = _
  split
  next hd => exact Finset.sum_congr rfl fun k _ => congr (congrArg _ (latKV_eq m c t R ⟨256 * u.val + r.val, by omega⟩ e k)) (blkK m c t k _)
  next hd => rfl

/-! ## The arrays after the launch -/

theorem final_rec (c : Dev nD) : (dats m 0 c).arrAt 7 cfg0.N = GRec (aX m c) (aW m c) := by
  refine (dats m 0 c).arrAt_eq_of_covers 7 _ (by decide +kernel) fun t hf y => ?_
  blk_simp
  rw [after0_7]
  have ht := (idx t).2.2.2.2.2.2.2.2.2.2.2.2
  have hy0 : (y 0).val < 512 := (y 0).isLt
  have hy1 : (y 1).val < 1024 := (y 1).isLt
  have ey : y = ix2 (⟨(y 0).val, hy0⟩ : Fin 512) (⟨(y 1).val, hy1⟩ : Fin 1024) := funext fun a => by fin_cases a <;> rfl
  rw [ey]
  refine (left_rec m c t _ _).trans ((comb_eq m c t ⟨512 * t.val + (y 0).val, by omega⟩ ⟨(y 0).val, hy0⟩ rfl _).trans ?_)
  show GRec (aX m c) (aW m c) (ix2 ⟨512 * t.val + (y 0).val, by omega⟩ ⟨(y 1).val, hy1⟩) = _
  blk_ext [idx t]
theorem final_gate (c : Dev nD) : (dats m 0 c).arrAt 8 cfg0.N = GGate (aX m c) (aW m c) := by
  refine (dats m 0 c).arrAt_eq_of_covers 8 _ (by decide +kernel) fun t hf y => ?_
  blk_simp
  rw [after0_8]
  have ht := (idx t).2.2.2.2.2.2.2.2.2.2.2.2
  have hy0 : (y 0).val < 512 := (y 0).isLt
  have hy1 : (y 1).val < 1024 := (y 1).isLt
  have ey : y = ix2 (⟨(y 0).val, hy0⟩ : Fin 512) (⟨(y 1).val, hy1⟩ : Fin 1024) := funext fun a => by fin_cases a <;> rfl
  rw [ey]
  refine (left_gate m c t _ _).trans ((congrArg In.gelu (comb_eq m c t ⟨512 * t.val + (y 0).val, by omega⟩ ⟨(y 0).val, hy0⟩ rfl _)).trans ?_)
  show GGate (aX m c) (aW m c) (ix2 ⟨512 * t.val + (y 0).val, by omega⟩ ⟨(y 1).val, hy1⟩) = _
  blk_ext [idx t]
theorem final_query (c : Dev nD) (hT : ∀ R, In.Rows fun a => aT m c (ix2 a R)) :
    (dats m 0 c).arrAt 9 cfg0.N = GQuery (aX m c) (aT m c) (aW m c) (aG m c) (aQ m c) := by
  refine (dats m 0 c).arrAt_eq_of_covers 9 _ (by decide +kernel) fun t hf y => ?_
  blk_simp
  rw [after0_9]
  have ht := (idx t).2.2.2.2.2.2.2.2.2.2.2.2
  have hy0 : (y 0).val < 1 := (y 0).isLt
  have hy1 : (y 1).val < 8 := (y 1).isLt
  have hy2 : (y 2).val < 1 := (y 2).isLt
  have hy3 : (y 3).val < 192 := (y 3).isLt
  have hy4 : (y 4).val < 512 := (y 4).isLt
  have ey : y = ix5 0 (⟨(y 1).val, hy1⟩ : Fin 8) 0 (⟨(y 3).val, hy3⟩ : Fin 192) (⟨(y 4).val, hy4⟩ : Fin 512) :=
    funext fun a => by fin_cases a <;> first | rfl | exact Fin.ext (Nat.lt_one_iff.mp (y _).isLt)
  rw [ey]
  refine (point_query m c t ⟨8192 * (t.val / 16) + 512 * (t.val % 16) + (y 4).val, by omega⟩ ⟨(y 4).val, hy4⟩
    (by show 8192 * (t.val / 16) + 512 * (t.val % 16) + (y 4).val = 512 * t.val + (y 4).val; omega) (hT _) _ _).trans ?_
  show GQuery (aX m c) (aT m c) (aW m c) (aG m c) (aQ m c)
    (ix5 ⟨t.val / 16, by omega⟩ ⟨(y 1).val, hy1⟩ ⟨t.val % 16, by omega⟩ ⟨(y 3).val, hy3⟩ ⟨(y 4).val, hy4⟩) = _
  blk_ext [idx t]
theorem final_key (c : Dev nD) (hT : ∀ R, In.Rows fun a => aT m c (ix2 a R)) :
    (dats m 0 c).arrAt 10 cfg0.N = GKey (aX m c) (aT m c) (aW m c) (aH m c) (aK m c) := by
  refine (dats m 0 c).arrAt_eq_of_covers 10 _ (by decide +kernel) fun t hf y => ?_
  blk_simp
  rw [after0_10]
  have ht := (idx t).2.2.2.2.2.2.2.2.2.2.2.2
  have hy1 : (y 1).val < 8 := (y 1).isLt
  have hy2 : (y 2).val < 512 := (y 2).isLt
  have hy3 : (y 3).val < 192 := (y 3).isLt
  have ey : y = ix4 0 (⟨(y 1).val, hy1⟩ : Fin 8) (⟨(y 2).val, hy2⟩ : Fin 512) (⟨(y 3).val, hy3⟩ : Fin 192) :=
    funext fun a => by fin_cases a <;> first | rfl | exact Fin.ext (Nat.lt_one_iff.mp (y _).isLt)
  rw [ey]
  refine (point_key m c t ⟨8192 * (t.val / 16) + (512 * (t.val % 16) + (y 2).val), by omega⟩ ⟨(y 2).val, hy2⟩
    (by show 8192 * (t.val / 16) + (512 * (t.val % 16) + (y 2).val) = 512 * t.val + (y 2).val; omega) (hT _) _ _).trans ?_
  show GKey (aX m c) (aT m c) (aW m c) (aH m c) (aK m c)
    (ix4 ⟨t.val / 16, by omega⟩ ⟨(y 1).val, hy1⟩ ⟨512 * (t.val % 16) + (y 2).val, by omega⟩ ⟨(y 3).val, hy3⟩) = _
  blk_ext [idx t]
theorem final_value (c : Dev nD) : (dats m 0 c).arrAt 11 cfg0.N = GValue (aX m c) (aW m c) (aH m c) (aK m c) := by
  refine (dats m 0 c).arrAt_eq_of_covers 11 _ (by decide +kernel) fun t hf y => ?_
  blk_simp
  rw [after0_11]
  have ht := (idx t).2.2.2.2.2.2.2.2.2.2.2.2
  have hy1 : (y 1).val < 8 := (y 1).isLt
  have hy2 : (y 2).val < 2 := (y 2).isLt
  have hy3 : (y 3).val < 144 := (y 3).isLt
  have hy4 : (y 4).val < 256 := (y 4).isLt
  have ey : y = ix5 0 (⟨(y 1).val, hy1⟩ : Fin 8) (⟨(y 2).val, hy2⟩ : Fin 2) (⟨(y 3).val, hy3⟩ : Fin 144) (⟨(y 4).val, hy4⟩ : Fin 256) :=
    funext fun a => by fin_cases a <;> first | rfl | exact Fin.ext (Nat.lt_one_iff.mp (y _).isLt)
  rw [ey]
  refine (point_value m c t ⟨8192 * (t.val / 16) + 256 * (2 * (t.val % 16) + (y 2).val) + (y 4).val, by omega⟩ ⟨(y 2).val, hy2⟩ ⟨(y 4).val, hy4⟩
    (by show 8192 * (t.val / 16) + 256 * (2 * (t.val % 16) + (y 2).val) + (y 4).val = 512 * t.val + (256 * (y 2).val + (y 4).val); omega) _ _).trans ?_
  show GValue (aX m c) (aW m c) (aH m c) (aK m c)
    (ix5 ⟨t.val / 16, by omega⟩ ⟨(y 1).val, hy1⟩ ⟨2 * (t.val % 16) + (y 2).val, by omega⟩ ⟨(y 3).val, hy3⟩ ⟨(y 4).val, hy4⟩) = _
  blk_ext [idx t]

end Cert.Proof.InProjIdeal

end
-- ==== Proof.InProjRefValue.lean ====
/-
  The reference of the input projection over the extended reals, each of its results at an index.
-/
module

public import proofs.«01_k».proof.Proof.Gen.InProjRefIdeal.Read
public import proofs.«01_k».proof.Proof.InProjIdealFinal
public import Idealize.ShloMosaic.Lib.Pointwise

@[expose] public section

set_option maxRecDepth 16384

noncomputable section

namespace Cert.Proof.InProjRef

open Cert.InProjRefIdeal Cert.InProjRefIdeal.Gen Cert.InProjRefIdeal.Read Idealize.ShloMosaic Idealize.ShloMosaic.TcCoe
open Cert.Proof.InProjIdeal (comb latQ latKV cosAt sinAt queryE keyE valueE)

theorem swap_at (v : FVec Ideal S4x8192x8x192 .f32) (B : Fin 4) (h : Fin 8) (s : Fin 8192) (d : Fin 192) :
    (transpose S4x8x8192x192 [0, 2, 1, 3] v transposes_S4x8192x8x192_S4x8x8192x192_0_2_1_3 : FVec Ideal S4x8x8192x192 .f32) (ix4 B h s d) = v (ix4 B s h d) := by
  pointwise []

theorem split_at (v : FVec Ideal S32768x8x192 .f32) (B : Fin 4) (h : Fin 8) (s : Fin 8192) (d : Fin 192) :
    (shapeCast _ v shapeCasts_S32768x8x192_S4x8192x8x192 : FVec Ideal S4x8192x8x192 .f32) (ix4 B s h d) = v (ix3 ⟨8192 * B.val + s.val, by omega⟩ h d) := by
  pointwise []
  exact congrArg v (congrArg (fun z => ix3 z h d) (Fin.ext (by show B.val * 8192 + s.val = 8192 * B.val + s.val; omega)))

theorem rows_at (v : FVec Ideal S32768x8x192 .f32) (B : Fin 4) (h : Fin 8) (s : Fin 8192) (d : Fin 192) :
    (truncf .bf16 (transpose S4x8x8192x192 [0, 2, 1, 3] (shapeCast _ v shapeCasts_S32768x8x192_S4x8192x8x192 : FVec Ideal S4x8192x8x192 .f32)
      transposes_S4x8192x8x192_S4x8x8192x192_0_2_1_3) bitsLt_bf16_f32 : FVec Ideal S4x8x8192x192 .bf16) (ix4 B h s d) = v (ix3 ⟨8192 * B.val + s.val, by omega⟩ h d) :=
  (swap_at _ B h s d).trans (split_at v B h s d)

variable (x : FVec Ideal S32768x2048 .f32) (tab : FVec Ideal S128x32768 .f32) (w : FVec Ideal S2048x3136 .f32) (g : FVec Ideal S512 .f32) (wq : FVec Ideal S512x1536 .f32)
  (b : FVec Ideal S512 .f32) (wk : FVec Ideal S512x2048 .f32)

theorem comb_at (R : Fin 32768) (j : Fin 3136) : (val_main_v4 (F := Ideal) x w : FVec Ideal S32768x3136 .f32) (ix2 R j) = comb x w R j := by
  unfold comb
  pointwise [val_main_v4]

theorem rec_at (R : Fin 32768) (j : Fin 1024) : (val_main_v5 (F := Ideal) x w : FVec Ideal S32768x1024 .f32) (ix2 R j) = comb x w R ⟨j.val, by omega⟩ := by
  rw [← comb_at]
  pointwise [val_main_v5]

theorem pregate_at (R : Fin 32768) (j : Fin 1024) : (val_main_v6 (F := Ideal) x w : FVec Ideal S32768x1024 .f32) (ix2 R j) = comb x w R ⟨1024 + j.val, by omega⟩ := by
  rw [← comb_at]
  pointwise [val_main_v6]

theorem gate_at (R : Fin 32768) (j : Fin 1024) : (val_main_v95 (F := Ideal) x w : FVec Ideal S32768x1024 .bf16) (ix2 R j) = In.gelu (comb x w R ⟨1024 + j.val, by omega⟩) := by
  rw [← pregate_at]
  unfold In.gelu
  pointwise [val_main_v95, val_main_v94, val_main_v93, val_main_v92, val_main_v91, val_main_v90, val_main_v89, val_main_v88, val_main_v87, val_main_v86, val_main_v85, val_main_v84, val_main_v83, val_main_v82, val_main_cst_7, val_main_cst_8, val_main_cst_9, val_main_cst_10]
  exact congrArg (fun z : EReal => (_ * (_ * (_ + Ideal.tanh (_ * (_ + _ * z))))) ) (mul_assoc _ _ _)

theorem latQ_at (R : Fin 32768) (k : Fin 512) : (val_main_v22 (F := Ideal) x w g : FVec Ideal S32768x512 .f32) (ix2 R k) = latQ x w g R k := by
  have h : ∀ j : Fin 512, (val_main_v7 (F := Ideal) x w : FVec Ideal S32768x512 .f32) (ix2 R j) = comb x w R ⟨2048 + j.val, by omega⟩ := fun j => by
    rw [← comb_at]
    pointwise [val_main_v7]
  unfold latQ In.norm
  simp only [← h]
  pointwise [val_main_v22, val_main_v21, val_main_v20, val_main_v19, val_main_v18, val_main_v17, val_main_v16, val_main_v15, val_main_v14, val_main_v13, val_main_v12, val_main_v11, val_main_v10, val_main_cst, val_main_cst_0, val_main_cst_1]

theorem latKV_at (R : Fin 32768) (k : Fin 512) : (val_main_v57 (F := Ideal) x w b : FVec Ideal S32768x512 .f32) (ix2 R k) = latKV x w b R k := by
  have h : ∀ j : Fin 512, (val_main_v8 (F := Ideal) x w : FVec Ideal S32768x512 .f32) (ix2 R j) = comb x w R ⟨2560 + j.val, by omega⟩ := fun j => by
    rw [← comb_at]
    pointwise [val_main_v8]
  unfold latKV In.norm
  simp only [← h]
  pointwise [val_main_v57, val_main_v56, val_main_v55, val_main_v54, val_main_v53, val_main_v52, val_main_v51, val_main_v50, val_main_v49, val_main_v48, val_main_v47, val_main_v46, val_main_v45, val_main_cst_3, val_main_cst_4, val_main_cst_5]

theorem up_at (R : Fin 32768) (h : Fin 8) (d : Fin 192) : (val_main_v24 (F := Ideal) x w g wq : FVec Ideal S32768x8x192 .f32) (ix3 R h d)
    = ∑ k : Fin 512, latQ x w g R k * wq (ix2 k ⟨192 * h.val + d.val, by omega⟩) := by
  simp only [← latQ_at]
  pointwise [val_main_v24, val_main_v23]
  exact Finset.sum_congr rfl fun k _ => congrArg (fun z => _ * wq z) (congrArg (ix2 k) (Fin.ext (by show h.val * 192 + d.val = 192 * h.val + d.val; omega)))

theorem turn_at (R : Fin 32768) (h : Fin 8) (e : Fin 64) : (val_main_v40 (F := Ideal) x tab w g wq : FVec Ideal S32768x8x64 .f32) (ix3 R h e)
    = In.rot (fun e => (val_main_v24 (F := Ideal) x w g wq : FVec Ideal S32768x8x192 .f32) (ix3 R h ⟨128 + e.val, by omega⟩)) (cosAt tab R) (sinAt tab R) e := by
  unfold In.rot cosAt sinAt
  pointwise [val_main_v40, val_main_v39, val_main_v38, val_main_v37, val_main_v36, val_main_v35, val_main_v34, val_main_v33, val_main_v32, val_main_v31, val_main_v30, val_main_v29, val_main_v28, val_main_v27, val_main_v26, val_main_v25, val_main_v3, val_main_v2, val_main_v1, val_main_v0]
  by_cases hc : e.val < 32
  · rw [dif_pos hc, dif_pos hc]
  · rw [dif_neg hc, dif_neg hc]
    have e1 : 32 + (e.val - 32) = e.val := by omega
    simp only [e1]

theorem query_at (R : Fin 32768) (h : Fin 8) (d : Fin 192) : (val_main_v44 (F := Ideal) x tab w g wq : FVec Ideal S32768x8x192 .f32) (ix3 R h d) = queryE x tab w g wq R h d := by
  unfold queryE In.query
  have hu : (fun d : Fin 192 => ∑ k : Fin 512, latQ x w g R k * wq (ix2 k ⟨192 * h.val + d.val, by omega⟩))
      = fun d => (val_main_v24 (F := Ideal) x w g wq : FVec Ideal S32768x8x192 .f32) (ix3 R h d) := funext fun d => (up_at x w g wq R h d).symm
  rw [hu]
  simp only [← turn_at]
  pointwise [val_main_v44, val_main_v43, val_main_v42, val_main_v41, val_main_cst_2]

theorem kvup_at (R : Fin 32768) (h : Fin 8) (d : Fin 256) : (val_main_v59 (F := Ideal) x w b wk : FVec Ideal S32768x8x256 .f32) (ix3 R h d)
    = ∑ k : Fin 512, latKV x w b R k * wk (ix2 k ⟨256 * h.val + d.val, by omega⟩) := by
  simp only [← latKV_at]
  pointwise [val_main_v59, val_main_v58]
  exact Finset.sum_congr rfl fun k _ => congrArg (fun z => _ * wk z) (congrArg (ix2 k) (Fin.ext (by show h.val * 256 + d.val = 256 * h.val + d.val; omega)))

theorem kturn_at (R : Fin 32768) (e : Fin 64) : (val_main_v68 (F := Ideal) x tab w : FVec Ideal S32768x64 .f32) (ix2 R e)
    = In.rot (fun e => comb x w R ⟨3072 + e.val, by omega⟩) (cosAt tab R) (sinAt tab R) e := by
  have h : ∀ j : Fin 64, (val_main_v9 (F := Ideal) x w : FVec Ideal S32768x64 .f32) (ix2 R j) = comb x w R ⟨3072 + j.val, by omega⟩ := fun j => by
    rw [← comb_at]
    pointwise [val_main_v9]
  rw [← funext h]
  unfold In.rot cosAt sinAt
  pointwise [val_main_v68, val_main_v67, val_main_v66, val_main_v65, val_main_v64, val_main_v63, val_main_v62, val_main_v61, val_main_v60, val_main_v3, val_main_v2, val_main_v1, val_main_v0]
  by_cases hc : e.val < 32
  · rw [dif_pos hc, dif_pos hc]
  · rw [dif_neg hc, dif_neg hc]
    have e1 : 32 + (e.val - 32) = e.val := by omega
    simp only [e1]

theorem key_at (R : Fin 32768) (h : Fin 8) (d : Fin 192) : (val_main_v72 (F := Ideal) x tab w b wk : FVec Ideal S32768x8x192 .f32) (ix3 R h d) = keyE x tab w b wk R h d := by
  unfold keyE In.key
  simp only [← kturn_at]
  pointwise [val_main_v72, val_main_v71, val_main_v70, val_main_v69]
  by_cases hc : d.val < 128
  · rw [dif_pos hc, dif_pos hc]
    exact kvup_at x w b wk R h ⟨d.val, by omega⟩
  · rw [dif_neg hc, dif_neg hc]

theorem query_out (B : Fin 4) (h : Fin 8) (q : Fin 16) (d : Fin 192) (r : Fin 512) :
    (val_main_v96 (F := Ideal) x tab w g wq : FVec Ideal S4x8x16x192x512 .bf16) (ix5 B h q d r) = queryE x tab w g wq ⟨8192 * B.val + 512 * q.val + r.val, by omega⟩ h d := by
  rw [← query_at]
  pointwise [val_main_v96, val_main_v74, val_main_v73]
  exact congrArg (val_main_v44 (F := Ideal) x tab w g wq) (congrArg (fun z => ix3 z h d) (Fin.ext (by show B.val * 8192 + q.val * 512 + r.val = 8192 * B.val + 512 * q.val + r.val; omega)))

theorem key_move (B : Fin 4) (h : Fin 8) (s : Fin 8192) (d : Fin 192) :
    (val_main_v97 (F := Ideal) x tab w b wk : FVec Ideal S4x8x8192x192 .bf16) (ix4 B h s d)
      = (val_main_v72 (F := Ideal) x tab w b wk : FVec Ideal S32768x8x192 .f32) (ix3 ⟨8192 * B.val + s.val, by omega⟩ h d) := by
  unfold val_main_v97 val_main_v76 val_main_v75
  generalize val_main_v72 (F := Ideal) x tab w b wk = v
  exact rows_at v B h s d

theorem key_out (B : Fin 4) (h : Fin 8) (s : Fin 8192) (d : Fin 192) :
    (val_main_v97 (F := Ideal) x tab w b wk : FVec Ideal S4x8x8192x192 .bf16) (ix4 B h s d) = keyE x tab w b wk ⟨8192 * B.val + s.val, by omega⟩ h d :=
  (key_move x tab w b wk B h s d).trans (key_at x tab w b wk ⟨8192 * B.val + s.val, by omega⟩ h d)

theorem value_out (B : Fin 4) (h : Fin 8) (u : Fin 32) (d : Fin 144) (r : Fin 256) :
    (val_main_v98 (F := Ideal) x w b wk : FVec Ideal S4x8x32x144x256 .bf16) (ix5 B h u d r) = valueE x w b wk ⟨8192 * B.val + 256 * u.val + r.val, by omega⟩ h d := by
  unfold valueE
  pointwise [val_main_v98, val_main_v81, val_main_v80, val_main_v79, val_main_v78, val_main_v77, val_main_cst_6]
  split_ifs with hc
  · refine Eq.trans ?_ (kvup_at x w b wk ⟨8192 * B.val + 256 * u.val + r.val, by omega⟩ h ⟨128 + d.val, by omega⟩)
    exact congrArg (val_main_v59 (F := Ideal) x w b wk) (congrArg (fun z => ix3 z h ⟨128 + d.val, by omega⟩) (Fin.ext (by show B.val * 8192 + u.val * 256 + r.val = 8192 * B.val + 256 * u.val + r.val; omega)))
  · rfl

theorem rec_eq : (val_main_v5 (F := Ideal) x w : FVec Ideal S32768x1024 .f32) = InProjIdeal.GRec x w := by
  refine funext fun i => ?_
  obtain ⟨r, d, rfl⟩ : ∃ (r : Fin 32768) (d : Fin 1024), i = ix2 r d := ⟨i 0, i 1, funext fun a => by fin_cases a <;> rfl⟩
  exact rec_at x w r d

theorem gate_eq : (val_main_v95 (F := Ideal) x w : FVec Ideal S32768x1024 .bf16) = InProjIdeal.GGate x w := by
  refine funext fun i => ?_
  obtain ⟨r, d, rfl⟩ : ∃ (r : Fin 32768) (d : Fin 1024), i = ix2 r d := ⟨i 0, i 1, funext fun a => by fin_cases a <;> rfl⟩
  exact gate_at x w r d

theorem query_eq : (val_main_v96 (F := Ideal) x tab w g wq : FVec Ideal S4x8x16x192x512 .bf16) = InProjIdeal.GQuery x tab w g wq := by
  refine funext fun i => ?_
  obtain ⟨B, h, q, d, r, rfl⟩ : ∃ (B : Fin 4) (h : Fin 8) (q : Fin 16) (d : Fin 192) (r : Fin 512), i = ix5 B h q d r :=
    ⟨i 0, i 1, i 2, i 3, i 4, funext fun a => by fin_cases a <;> rfl⟩
  exact query_out x tab w g wq B h q d r

theorem key_eq : (val_main_v97 (F := Ideal) x tab w b wk : FVec Ideal S4x8x8192x192 .bf16) = InProjIdeal.GKey x tab w b wk := by
  refine funext fun i => ?_
  obtain ⟨B, h, s, d, rfl⟩ : ∃ (B : Fin 4) (h : Fin 8) (s : Fin 8192) (d : Fin 192), i = ix4 B h s d :=
    ⟨i 0, i 1, i 2, i 3, funext fun a => by fin_cases a <;> rfl⟩
  exact key_out x tab w b wk B h s d

theorem value_eq : (val_main_v98 (F := Ideal) x w b wk : FVec Ideal S4x8x32x144x256 .bf16) = InProjIdeal.GValue x w b wk := by
  refine funext fun i => ?_
  obtain ⟨B, h, u, d, r, rfl⟩ : ∃ (B : Fin 4) (h : Fin 8) (u : Fin 32) (d : Fin 144) (r : Fin 256), i = ix5 B h u d r :=
    ⟨i 0, i 1, i 2, i 3, i 4, funext fun a => by fin_cases a <;> rfl⟩
  exact value_out x w b wk B h u d r

end Cert.Proof.InProjRef

end
-- ==== Proof.InProjPre.lean ====
/-
  The claim's precondition, read: the table holds the cosines twice, and the sines negated before the sines.
-/
module

public import proofs.«01_k».proof.Pre_rope_rows
public import proofs.«01_k».proof.Proof.InMath
public import Idealize.ShloMosaic.Lib.ReduceAll
public import Idealize.ShloMosaic.Lib.Pointwise

@[expose] public section

set_option maxRecDepth 16384

noncomputable section

namespace Cert.Proof.InProjPre

open Idealize.ShloMosaic
open Cert.Pre_rope_rows Cert.Pre_rope_rows.Facts

theorem eq_of (x y : EReal) (h : Ideal.cmp .oeq x y = 1#1) : x = y := by
  by_contra c
  simp [Ideal.cmp, c] at h

theorem read [Facts] (x0 : FVec Ideal S32768x2048 .f32) (x1 : FVec Ideal S128x32768 .f32) (x2 : FVec Ideal S2048x3136 .f32) (x3 : FVec Ideal S512 .f32)
    (x4 : FVec Ideal S512x1536 .f32) (x5 : FVec Ideal S512 .f32) (x6 : FVec Ideal S512x2048 .f32) (h : fn (F := Ideal) x0 x1 x2 x3 x4 x5 x6 = fun _ => 1#1) (R : Fin 32768) :
    In.Rows fun a => x1 (ix2 a R) := by
  have hs : Subsingleton S_.Idx := ⟨fun a b => funext fun k => k.elim0⟩
  have h0 := congrFun h (fun k => k.elim0)
  dsimp only [fn] at h0
  obtain ⟨h1, h2⟩ := IntOp.andi_eq_one.1 h0
  refine ⟨fun j => eq_of _ _ ?_, fun j => eq_of _ _ ?_⟩
  · have e := Host.reduce_andi_all _ _ _ _ _ h1 (ix2 j R)
    revert e
    pointwise []
    exact id
  · have e := Host.reduce_andi_all _ _ _ _ _ h2 (ix2 j R)
    revert e
    pointwise []
    exact id

end Cert.Proof.InProjPre

end
-- ==== Proof.lean ====
/-
  The claims about the kernel, assembled.
-/
module

public import proofs.«01_k».proof.Defs
public import proofs.«01_k».proof.Proof.AttnFrame
public import proofs.«01_k».proof.Proof.AttnIdealFrame
public import proofs.«01_k».proof.Proof.AttnIdealValue
public import proofs.«01_k».proof.Proof.AttnRefValue
public import proofs.«01_k».proof.Proof.AttnPre
public import proofs.«01_k».proof.Proof.Gen.AttnRefIdeal.Run
public import proofs.«01_k».proof.Proof.Gen.AttnRefIdeal.Read
public import proofs.«01_k».proof.Proof.Gen.Pre_attention_inputs
public import proofs.«01_k».proof.Proof.FfnBIdealValue
public import proofs.«01_k».proof.Proof.FfnBRefValue
public import proofs.«01_k».proof.Proof.Gen.FfnB.Frame
public import proofs.«01_k».proof.Proof.Gen.FfnBIdeal.Value
public import proofs.«01_k».proof.Proof.Gen.FfnBRefIdeal.Run
public import proofs.«01_k».proof.Proof.Gen.FfnBRefIdeal.Read
public import proofs.«01_k».proof.Proof.FfnAIdealValue
public import proofs.«01_k».proof.Proof.FfnARefValue
public import proofs.«01_k».proof.Proof.PleIdealValue
public import proofs.«01_k».proof.Proof.PleRefValue
public import proofs.«01_k».proof.Proof.OutProjIdealValue
public import proofs.«01_k».proof.Proof.OutProjRefValue
public import proofs.«01_k».proof.Proof.Gen.FfnA.Frame
public import proofs.«01_k».proof.Proof.Gen.FfnAIdeal.Value
public import proofs.«01_k».proof.Proof.Gen.FfnARefIdeal.Run
public import proofs.«01_k».proof.Proof.Gen.FfnARefIdeal.Read
public import proofs.«01_k».proof.Proof.Gen.Ple.Frame
public import proofs.«01_k».proof.Proof.Gen.PleIdeal.Value
public import proofs.«01_k».proof.Proof.Gen.PleRefIdeal.Run
public import proofs.«01_k».proof.Proof.Gen.PleRefIdeal.Read
public import proofs.«01_k».proof.Proof.Gen.OutProj.Frame
public import proofs.«01_k».proof.Proof.Gen.OutProjIdeal.Value
public import proofs.«01_k».proof.Proof.Gen.OutProjRefIdeal.Run
public import proofs.«01_k».proof.Proof.Gen.OutProjRefIdeal.Read
public import proofs.«01_k».proof.Proof.InProjIdealFinal
public import proofs.«01_k».proof.Proof.InProjRefValue
public import proofs.«01_k».proof.Proof.InProjPre
public import proofs.«01_k».proof.Proof.Gen.Pre_rope_rows
public import proofs.«01_k».proof.Proof.Gen.InProj.Frame
public import proofs.«01_k».proof.Proof.Gen.InProjIdeal.Value
public import proofs.«01_k».proof.Proof.Gen.InProjRefIdeal.Run
public import proofs.«01_k».proof.Proof.Gen.InProjRefIdeal.Read
public import Idealize.ShloMosaic.Lib.Claim

@[expose] public section

set_option maxRecDepth 16384

open Idealize.ShloMosaic Idealize.ShloMosaic.TcCoe Idealize.SL.Sem

/-- The reference's frame: its generated run, read at the arguments and the counters. -/
theorem Cert.Proof.frame_ri : Cert.quiescent_AttnRefIdeal := fun m ρ _ =>
  (θ_run Cert.AttnRefIdeal.defs _ _).mono (fun r h => ⟨fun c => ⟨(h c).2.1, (h c).2.2.1, (h c).2.2.2⟩,
      Idealize.ShloMosaic.sem_eq_zero_of_no_sems (by decide) r.2⟩)
    (Cert.AttnRefIdeal.Value.run m ρ)

/-- The kernel and the reference end with equal results. -/
theorem Cert.Proof.attn_eq : Cert.algebraic_AttnIdeal_AttnRefIdeal_pre_attention_inputs := by
  pair_intro
  · run_from Cert.Proof.AttnIdeal.run_main m g
  · run_from Cert.AttnRefIdeal.Value.run m' g'
    obtain ⟨h0, h1, h2⟩ := Cert.Proof.AttnPre.read _ _ _ (hpre c)
    rw [Cert.Proof.AttnIdeal.final m c h0 h1, Cert.AttnRefIdeal.Read.val_main_v34_eq]
    obtain ⟨e0, e1, e2⟩ := hagree c
    rw [e0, e1, e2]
    exact Cert.Proof.AttnRef.ref_eq _ _ _ h0 h1 h2

theorem Cert.Proof.frame_ffn2_ri : Cert.quiescent_FfnBRefIdeal := fun m ρ _ =>
  (θ_run Cert.FfnBRefIdeal.defs _ _).mono (fun r h => ⟨fun c => ⟨(h c).2.1, (h c).2.2.1, (h c).2.2.2.1, (h c).2.2.2.2.1, (h c).2.2.2.2.2.1, (h c).2.2.2.2.2.2⟩,
      Idealize.ShloMosaic.sem_eq_zero_of_no_sems (by decide) r.2⟩)
    (Cert.FfnBRefIdeal.Value.run m ρ)

theorem Cert.Proof.ffn2_ref_eq (x : FVec Ideal Cert.FfnBIdeal.S32768x2048 .f32) (wg wu : FVec Ideal Cert.FfnBIdeal.S2048x5632 .bf16)
    (wd : FVec Ideal Cert.FfnBIdeal.S5632x2048 .bf16) (g b : FVec Ideal Cert.FfnBIdeal.S2048 .f32) :
    Cert.Proof.FfnBIdeal.G x wg wu wd g b = Cert.FfnBRefIdeal.Read.val_main_v32 (F := Ideal) x wg wu wd g b := by
  refine funext fun i => ?_
  obtain ⟨r, d, rfl⟩ : ∃ (r : Fin 32768) (d : Fin 2048), i = ix2 r d := ⟨i 0, i 1, funext fun a => by fin_cases a <;> rfl⟩
  exact (Cert.Proof.FfnBRef.out_at x wg wu wd g b r d).symm

/-- The second feed-forward half step and its reference end with equal results. -/
theorem Cert.Proof.ffn2_eq : Cert.algebraic_FfnBIdeal_FfnBRefIdeal := by
  pair_intro
  · run_from Cert.FfnBIdeal.Value.run_blocks m g
  · run_from Cert.FfnBRefIdeal.Value.run m' g'
    rw [Cert.Proof.FfnBIdeal.final m c, Cert.FfnBRefIdeal.Read.val_main_v32_eq]
    obtain ⟨e0, e1, e2, e3, e4, e5⟩ := hagree c
    rw [e0, e1, e2, e3, e4, e5]
    exact (Cert.Proof.ffn2_ref_eq _ _ _ _ _ _).symm

theorem Cert.Proof.frame_ffn1_ri : Cert.quiescent_FfnARefIdeal := fun m ρ _ =>
  (θ_run Cert.FfnARefIdeal.defs _ _).mono (fun r h => ⟨fun c => ⟨(h c).2.2.2.2.1, (h c).2.2.2.2.2.1, (h c).2.2.2.2.2.2.1, (h c).2.2.2.2.2.2.2.1, (h c).2.2.2.2.2.2.2.2.1, (h c).2.2.2.2.2.2.2.2.2.1, (h c).2.2.2.2.2.2.2.2.2.2.1, (h c).2.2.2.2.2.2.2.2.2.2.2.1, (h c).2.2.2.2.2.2.2.2.2.2.2.2⟩,
      Idealize.ShloMosaic.sem_eq_zero_of_no_sems (by decide) r.2⟩)
    (Cert.FfnARefIdeal.Value.run m ρ)

theorem Cert.Proof.ffn1_ref_eq (x : FVec Ideal Cert.FfnAIdeal.S32768x2048 .f32) (wg wu : FVec Ideal Cert.FfnAIdeal.S2048x5632 .f32)
    (wd : FVec Ideal Cert.FfnAIdeal.S5632x2048 .f32) (g b : FVec Ideal Cert.FfnAIdeal.S2048 .f32) :
    Cert.Proof.FfnAIdeal.G x wg wu wd g b = Cert.FfnARefIdeal.Read.val_main_v31 (F := Ideal) x wg wu wd g b := by
  refine funext fun i => ?_
  obtain ⟨r, d, rfl⟩ : ∃ (r : Fin 32768) (d : Fin 2048), i = ix2 r d := ⟨i 0, i 1, funext fun a => by fin_cases a <;> rfl⟩
  exact (Cert.Proof.FfnARef.out_at x wg wu wd g b r d).symm

theorem Cert.Proof.cast_eq (w : FVec Ideal Cert.FfnAIdeal.S2048x5632 .f32) :
    (truncf .bf16 w Cert.FfnARefIdeal.Gen.bitsLt_bf16_f32 : FVec Ideal Cert.FfnAIdeal.S2048x5632 .bf16) = fun i => w i := by
  refine funext fun i => ?_
  obtain ⟨r, d, rfl⟩ : ∃ (r : Fin 2048) (d : Fin 5632), i = ix2 r d := ⟨i 0, i 1, funext fun a => by fin_cases a <;> rfl⟩
  exact Cert.Proof.FfnAIdeal.cast_at w r d

theorem Cert.Proof.half_cast_eq (w : FVec Ideal Cert.FfnAIdeal.S5632x2048 .f32) :
    (truncf .bf16 (mulf (broadcastInDim Cert.FfnARefIdeal.S5632x2048 ![] Cert.FfnARefIdeal.Gen.bcast_S_S5632x2048 (constant Cert.FfnARefIdeal.S_ .f32 0x3F000000#32)) w)
      Cert.FfnARefIdeal.Gen.bitsLt_bf16_f32 : FVec Ideal Cert.FfnAIdeal.S5632x2048 .bf16) = fun i => Ideal.ofBits .f32 0x3F000000#32 * w i := by
  refine funext fun i => ?_
  obtain ⟨r, d, rfl⟩ : ∃ (r : Fin 5632) (d : Fin 2048), i = ix2 r d := ⟨i 0, i 1, funext fun a => by fin_cases a <;> rfl⟩
  exact Cert.Proof.FfnAIdeal.half_at w r d

/-- The first feed-forward half step, with the rounded weights of the second, and its reference end with equal results. -/
theorem Cert.Proof.ffn1_eq : Cert.algebraic_FfnAIdeal_FfnARefIdeal := by
  pair_intro
  · run_from Cert.FfnAIdeal.Value.run_blocks m g
  · run_from Cert.FfnARefIdeal.Value.run m' g'
    · rw [Cert.Proof.FfnAIdeal.final m c, Cert.FfnARefIdeal.Read.val_main_v31_eq]
      obtain ⟨e0, e1, e2, e3, e4, e5, e6, e7, e8⟩ := hagree c
      rw [e0, e1, e2, e3, e4, e5]
      exact (Cert.Proof.ffn1_ref_eq _ _ _ _ _ _).symm
    · rw [Cert.Proof.FfnAIdeal.final_gate m c]
      exact Cert.Proof.cast_eq _
    · rw [Cert.Proof.FfnAIdeal.final_up m c]
      exact Cert.Proof.cast_eq _
    · rw [Cert.Proof.FfnAIdeal.final_down m c]
      exact Cert.Proof.half_cast_eq _

theorem Cert.Proof.frame_ple_ri : Cert.quiescent_PleRefIdeal := fun m ρ _ =>
  (θ_run Cert.PleRefIdeal.defs _ _).mono (fun r h => ⟨fun c => ⟨(h c).2.1, (h c).2.2.1, (h c).2.2.2.1, (h c).2.2.2.2.1, (h c).2.2.2.2.2.1, (h c).2.2.2.2.2.2.1, (h c).2.2.2.2.2.2.2⟩,
      Idealize.ShloMosaic.sem_eq_zero_of_no_sems (by decide) r.2⟩)
    (Cert.PleRefIdeal.Value.run m ρ)

theorem Cert.Proof.ple_ref_eq (x : FVec Ideal Cert.PleIdeal.S32768x2048 .f32) (p : FVec Ideal Cert.PleIdeal.S32768x256 .f32)
    (wg : FVec Ideal Cert.PleIdeal.S2048x2048 .f32) (bg : FVec Ideal Cert.PleIdeal.S2048 .f32) (wp : FVec Ideal Cert.PleIdeal.S256x2048 .f32)
    (g b : FVec Ideal Cert.PleIdeal.S2048 .f32) :
    Cert.Proof.PleIdeal.G x p wg bg wp g b = Cert.PleRefIdeal.Read.val_main_v36 (F := Ideal) x p wg bg wp g b := by
  refine funext fun i => ?_
  obtain ⟨r, d, rfl⟩ : ∃ (r : Fin 32768) (d : Fin 2048), i = ix2 r d := ⟨i 0, i 1, funext fun a => by fin_cases a <;> rfl⟩
  exact (Cert.Proof.PleRef.out_at x p wg bg wp g b r d).symm

/-- The gated embedding and its reference end with equal results. -/
theorem Cert.Proof.ple_eq : Cert.algebraic_PleIdeal_PleRefIdeal := by
  pair_intro
  · run_from Cert.PleIdeal.Value.run_blocks m g
  · run_from Cert.PleRefIdeal.Value.run m' g'
    rw [Cert.Proof.PleIdeal.final m c, Cert.PleRefIdeal.Read.val_main_v36_eq]
    obtain ⟨e0, e1, e2, e3, e4, e5, e6⟩ := hagree c
    rw [e0, e1, e2, e3, e4, e5, e6]
    exact (Cert.Proof.ple_ref_eq _ _ _ _ _ _ _).symm

theorem Cert.Proof.frame_out_ri : Cert.quiescent_OutProjRefIdeal := fun m ρ _ =>
  (θ_run Cert.OutProjRefIdeal.defs _ _).mono (fun r h => ⟨fun c => ⟨(h c).2.1, (h c).2.2.1, (h c).2.2.2.1, (h c).2.2.2.2.1, (h c).2.2.2.2.2.1, (h c).2.2.2.2.2.2⟩,
      Idealize.ShloMosaic.sem_eq_zero_of_no_sems (by decide) r.2⟩)
    (Cert.OutProjRefIdeal.Value.run m ρ)

theorem Cert.Proof.out_ref_eq (x : FVec Ideal Cert.OutProjIdeal.S32768x2048 .f32) (yl ym : FVec Ideal Cert.OutProjIdeal.S32768x1024 .bf16)
    (w : FVec Ideal Cert.OutProjIdeal.S2048x2048 .f32) (g b : FVec Ideal Cert.OutProjIdeal.S2048 .f32) :
    Cert.Proof.OutProjIdeal.G x yl ym w g b = Cert.OutProjRefIdeal.Read.val_main_v28 (F := Ideal) x yl ym w g b := by
  refine funext fun i => ?_
  obtain ⟨r, d, rfl⟩ : ∃ (r : Fin 32768) (d : Fin 2048), i = ix2 r d := ⟨i 0, i 1, funext fun a => by fin_cases a <;> rfl⟩
  exact (Cert.Proof.OutProjRef.out_at x yl ym w g b r d).symm

/-- The output projection and its reference end with equal results. -/
theorem Cert.Proof.out_eq : Cert.algebraic_OutProjIdeal_OutProjRefIdeal := by
  pair_intro
  · run_from Cert.OutProjIdeal.Value.run_blocks m g
  · run_from Cert.OutProjRefIdeal.Value.run m' g'
    rw [Cert.Proof.OutProjIdeal.final m c, Cert.OutProjRefIdeal.Read.val_main_v28_eq]
    obtain ⟨e0, e1, e2, e3, e4, e5⟩ := hagree c
    rw [e0, e1, e2, e3, e4, e5]
    exact (Cert.Proof.out_ref_eq _ _ _ _ _ _).symm

theorem Cert.Proof.frame_in_ri : Cert.quiescent_InProjRefIdeal := fun m ρ _ =>
  (θ_run Cert.InProjRefIdeal.defs _ _).mono (fun r h => ⟨fun c => ⟨(h c).2.2.2.2.2.1, (h c).2.2.2.2.2.2.1, (h c).2.2.2.2.2.2.2.1, (h c).2.2.2.2.2.2.2.2.1, (h c).2.2.2.2.2.2.2.2.2.1, (h c).2.2.2.2.2.2.2.2.2.2.1, (h c).2.2.2.2.2.2.2.2.2.2.2⟩,
      Idealize.ShloMosaic.sem_eq_zero_of_no_sems (by decide) r.2⟩)
    (Cert.InProjRefIdeal.Value.run m ρ)

/-- The input projection and its reference end with equal results. -/
theorem Cert.Proof.in_eq : Cert.algebraic_InProjIdeal_InProjRefIdeal_pre_rope_rows := by
  pair_intro
  · run_from Cert.InProjIdeal.Value.run_blocks m g
  · run_from Cert.InProjRefIdeal.Value.run m' g'
    · obtain ⟨e0, e1, e2, e3, e4, e5, e6⟩ := hagree c
      rw [Cert.Proof.InProjIdeal.final_rec m c, Cert.InProjRefIdeal.Read.val_main_v5_eq]
      exact Cert.Proof.InProjRef.rec_eq _ _
    · obtain ⟨e0, e1, e2, e3, e4, e5, e6⟩ := hagree c
      rw [Cert.Proof.InProjIdeal.final_gate m c, Cert.InProjRefIdeal.Read.val_main_v95_eq]
      exact Cert.Proof.InProjRef.gate_eq _ _
    · obtain ⟨e0, e1, e2, e3, e4, e5, e6⟩ := hagree c
      have hT := Cert.Proof.InProjPre.read _ _ _ _ _ _ _ (hpre c)
      rw [Cert.Proof.InProjIdeal.final_query m c hT, Cert.InProjRefIdeal.Read.val_main_v96_eq, e0, e1, e2, e3, e4]
      exact Cert.Proof.InProjRef.query_eq _ _ _ _ _
    · obtain ⟨e0, e1, e2, e3, e4, e5, e6⟩ := hagree c
      have hT := Cert.Proof.InProjPre.read _ _ _ _ _ _ _ (hpre c)
      rw [Cert.Proof.InProjIdeal.final_key m c hT, Cert.InProjRefIdeal.Read.val_main_v97_eq, e0, e1, e2, e5, e6]
      exact Cert.Proof.InProjRef.key_eq _ _ _ _ _
    · obtain ⟨e0, e1, e2, e3, e4, e5, e6⟩ := hagree c
      rw [Cert.Proof.InProjIdeal.final_value m c, Cert.InProjRefIdeal.Read.val_main_v98_eq, e2, e5, e6]
      exact Cert.Proof.InProjRef.value_eq _ _ _ _

theorem Cert.Proof.claim : Cert.Claim :=
  ⟨Cert.Attn.Gen.facts, Cert.AttnIdeal.Gen.facts, Cert.AttnRefIdeal.Gen.facts, Cert.FfnB.Gen.facts, Cert.FfnBIdeal.Gen.facts,
    Cert.FfnBRefIdeal.Gen.facts, Cert.FfnA.Gen.facts, Cert.FfnAIdeal.Gen.facts, Cert.FfnARefIdeal.Gen.facts,
    Cert.Ple.Gen.facts, Cert.PleIdeal.Gen.facts, Cert.PleRefIdeal.Gen.facts,
    Cert.OutProj.Gen.facts, Cert.OutProjIdeal.Gen.facts, Cert.OutProjRefIdeal.Gen.facts,
    Cert.InProj.Gen.facts, Cert.InProjIdeal.Gen.facts, Cert.InProjRefIdeal.Gen.facts,
    Cert.Pre_attention_inputs.Gen.facts, Cert.Pre_rope_rows.Gen.facts,
    fun m ρ _ => Cert.Proof.Attn.frame_claim m ρ, fun m ρ _ => Cert.Proof.AttnIdeal.frame_claim m ρ,
    fun m ρ _ => Cert.Proof.AttnIdeal.frame_claim m ρ, Cert.Proof.frame_ri, fun m ρ _ => Cert.Proof.frame_ri m ρ trivial,
    fun m ρ _ => Cert.FfnB.Gen.frame m ρ, fun m ρ _ => Cert.FfnBIdeal.Gen.frame m ρ, Cert.Proof.frame_ffn2_ri,
    fun m ρ _ => Cert.FfnA.Gen.frame m ρ, fun m ρ _ => Cert.FfnAIdeal.Gen.frame m ρ, Cert.Proof.frame_ffn1_ri,
    fun m ρ _ => Cert.Ple.Gen.frame m ρ, fun m ρ _ => Cert.PleIdeal.Gen.frame m ρ, Cert.Proof.frame_ple_ri,
    fun m ρ _ => Cert.OutProj.Gen.frame m ρ, fun m ρ _ => Cert.OutProjIdeal.Gen.frame m ρ, Cert.Proof.frame_out_ri,
    fun m ρ _ => Cert.InProj.Gen.frame m ρ, fun m ρ _ => Cert.InProjIdeal.Gen.frame m ρ,
    fun m ρ _ => Cert.InProjIdeal.Gen.frame m ρ, Cert.Proof.frame_in_ri, fun m ρ _ => Cert.Proof.frame_in_ri m ρ trivial,
    trivial, Cert.Proof.attn_eq, trivial, Cert.Proof.ffn2_eq, trivial, Cert.Proof.ffn1_eq, trivial, Cert.Proof.ple_eq, trivial, Cert.Proof.out_eq, trivial, Cert.Proof.in_eq⟩
